-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))) = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_gate_finite [hPre_gate_finite : Cert.Pre_gate_finite.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_gate_finite.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4))) = (fun _ => 1#1)

def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInKernelIdeal_ffnin_finite [hPre_ffnin_finite : Cert.Pre_ffnin_finite.Facts] (m : (ℓ : Loc Cert.FfnInKernelIdeal.nD Cert.FfnInKernelIdeal.τ Cert.FfnInKernelIdeal.sig) → Buf (Elt Ideal) ℓ) : Prop :=
  ∀ c : Dev Cert.FfnInKernelIdeal.nD,
    (Cert.Pre_ffnin_finite.fn (F := Ideal) (m ((c.tc : Thread Cert.FfnInKernelIdeal.nD Cert.FfnInKernelIdeal.τ).loc Cert.FfnInKernelIdeal.main_arg0)) (m ((c.tc : Thread Cert.FfnInKernelIdeal.nD Cert.FfnInKernelIdeal.τ).loc Cert.FfnInKernelIdeal.main_arg1)) (m ((c.tc : Thread Cert.FfnInKernelIdeal.nD Cert.FfnInKernelIdeal.τ).loc Cert.FfnInKernelIdeal.main_arg2)) (m ((c.tc : Thread Cert.FfnInKernelIdeal.nD Cert.FfnInKernelIdeal.τ).loc Cert.FfnInKernelIdeal.main_arg3)) (m ((c.tc : Thread Cert.FfnInKernelIdeal.nD Cert.FfnInKernelIdeal.τ).loc Cert.FfnInKernelIdeal.main_arg4)) (m ((c.tc : Thread Cert.FfnInKernelIdeal.nD Cert.FfnInKernelIdeal.τ).loc Cert.FfnInKernelIdeal.main_arg5)) (m ((c.tc : Thread Cert.FfnInKernelIdeal.nD Cert.FfnInKernelIdeal.τ).loc Cert.FfnInKernelIdeal.main_arg6))) = (fun _ => 1#1)

def Pre_FfnInReferenceIdeal (m : (ℓ : Loc Cert.FfnInReferenceIdeal.nD Cert.FfnInReferenceIdeal.τ Cert.FfnInReferenceIdeal.sig) → Buf (Elt Ideal) ℓ) : Prop :=
  True

def Pre_FfnInReferenceIdeal_ffnin_finite [hPre_ffnin_finite : Cert.Pre_ffnin_finite.Facts] (m : (ℓ : Loc Cert.FfnInReferenceIdeal.nD Cert.FfnInReferenceIdeal.τ Cert.FfnInReferenceIdeal.sig) → Buf (Elt Ideal) ℓ) : Prop :=
  ∀ c : Dev Cert.FfnInReferenceIdeal.nD,
    (Cert.Pre_ffnin_finite.fn (F := Ideal) (m ((c.tc : Thread Cert.FfnInReferenceIdeal.nD Cert.FfnInReferenceIdeal.τ).loc Cert.FfnInReferenceIdeal.main_arg0)) (m ((c.tc : Thread Cert.FfnInReferenceIdeal.nD Cert.FfnInReferenceIdeal.τ).loc Cert.FfnInReferenceIdeal.main_arg1)) (m ((c.tc : Thread Cert.FfnInReferenceIdeal.nD Cert.FfnInReferenceIdeal.τ).loc Cert.FfnInReferenceIdeal.main_arg2)) (m ((c.tc : Thread Cert.FfnInReferenceIdeal.nD Cert.FfnInReferenceIdeal.τ).loc Cert.FfnInReferenceIdeal.main_arg3)) (m ((c.tc : Thread Cert.FfnInReferenceIdeal.nD Cert.FfnInReferenceIdeal.τ).loc Cert.FfnInReferenceIdeal.main_arg4)) (m ((c.tc : Thread Cert.FfnInReferenceIdeal.nD Cert.FfnInReferenceIdeal.τ).loc Cert.FfnInReferenceIdeal.main_arg5)) (m ((c.tc : Thread Cert.FfnInReferenceIdeal.nD Cert.FfnInReferenceIdeal.τ).loc Cert.FfnInReferenceIdeal.main_arg6))) = (fun _ => 1#1)

def Pre_FfnIn1Kernel (m : (ℓ : Loc Cert.FfnIn1Kernel.nD Cert.FfnIn1Kernel.τ Cert.FfnIn1Kernel.sig) → Buf (Elt Bits) ℓ) : Prop :=
  True

def Pre_FfnIn1KernelIdeal (m : (ℓ : Loc Cert.FfnIn1KernelIdeal.nD Cert.FfnIn1KernelIdeal.τ Cert.FfnIn1KernelIdeal.sig) → Buf (Elt Ideal) ℓ) : Prop :=
  True

def Pre_FfnIn1KernelIdeal_ffnin1_finite [hPre_ffnin1_finite : Cert.Pre_ffnin1_finite.Facts] (m : (ℓ : Loc Cert.FfnIn1KernelIdeal.nD Cert.FfnIn1KernelIdeal.τ Cert.FfnIn1KernelIdeal.sig) → Buf (Elt Ideal) ℓ) : Prop :=
  ∀ c : Dev Cert.FfnIn1KernelIdeal.nD,
    (Cert.Pre_ffnin1_finite.fn (F := Ideal) (m ((c.tc : Thread Cert.FfnIn1KernelIdeal.nD Cert.FfnIn1KernelIdeal.τ).loc Cert.FfnIn1KernelIdeal.main_arg0)) (m ((c.tc : Thread Cert.FfnIn1KernelIdeal.nD Cert.FfnIn1KernelIdeal.τ).loc Cert.FfnIn1KernelIdeal.main_arg1)) (m ((c.tc : Thread Cert.FfnIn1KernelIdeal.nD Cert.FfnIn1KernelIdeal.τ).loc Cert.FfnIn1KernelIdeal.main_arg2)) (m ((c.tc : Thread Cert.FfnIn1KernelIdeal.nD Cert.FfnIn1KernelIdeal.τ).loc Cert.FfnIn1KernelIdeal.main_arg3)) (m ((c.tc : Thread Cert.FfnIn1KernelIdeal.nD Cert.FfnIn1KernelIdeal.τ).loc Cert.FfnIn1KernelIdeal.main_arg4)) (m ((c.tc : Thread Cert.FfnIn1KernelIdeal.nD Cert.FfnIn1KernelIdeal.τ).loc Cert.FfnIn1KernelIdeal.main_arg5)) (m ((c.tc : Thread Cert.FfnIn1KernelIdeal.nD Cert.FfnIn1KernelIdeal.τ).loc Cert.FfnIn1KernelIdeal.main_arg6))) = (fun _ => 1#1)

def Pre_FfnIn1ReferenceIdeal (m : (ℓ : Loc Cert.FfnIn1ReferenceIdeal.nD Cert.FfnIn1ReferenceIdeal.τ Cert.FfnIn1ReferenceIdeal.sig) → Buf (Elt Ideal) ℓ) : Prop :=
  True

def Pre_FfnIn1ReferenceIdeal_ffnin1_finite [hPre_ffnin1_finite : Cert.Pre_ffnin1_finite.Facts] (m : (ℓ : Loc Cert.FfnIn1ReferenceIdeal.nD Cert.FfnIn1ReferenceIdeal.τ Cert.FfnIn1ReferenceIdeal.sig) → Buf (Elt Ideal) ℓ) : Prop :=
  ∀ c : Dev Cert.FfnIn1ReferenceIdeal.nD,
    (Cert.Pre_ffnin1_finite.fn (F := Ideal) (m ((c.tc : Thread Cert.FfnIn1ReferenceIdeal.nD Cert.FfnIn1ReferenceIdeal.τ).loc Cert.FfnIn1ReferenceIdeal.main_arg0)) (m ((c.tc : Thread Cert.FfnIn1ReferenceIdeal.nD Cert.FfnIn1ReferenceIdeal.τ).loc Cert.FfnIn1ReferenceIdeal.main_arg1)) (m ((c.tc : Thread Cert.FfnIn1ReferenceIdeal.nD Cert.FfnIn1ReferenceIdeal.τ).loc Cert.FfnIn1ReferenceIdeal.main_arg2)) (m ((c.tc : Thread Cert.FfnIn1ReferenceIdeal.nD Cert.FfnIn1ReferenceIdeal.τ).loc Cert.FfnIn1ReferenceIdeal.main_arg3)) (m ((c.tc : Thread Cert.FfnIn1ReferenceIdeal.nD Cert.FfnIn1ReferenceIdeal.τ).loc Cert.FfnIn1ReferenceIdeal.main_arg4)) (m ((c.tc : Thread Cert.FfnIn1ReferenceIdeal.nD Cert.FfnIn1ReferenceIdeal.τ).loc Cert.FfnIn1ReferenceIdeal.main_arg5)) (m ((c.tc : Thread Cert.FfnIn1ReferenceIdeal.nD Cert.FfnIn1ReferenceIdeal.τ).loc Cert.FfnIn1ReferenceIdeal.main_arg6))) = (fun _ => 1#1)

def Pre_ParamKernel (m : (ℓ : Loc Cert.ParamKernel.nD Cert.ParamKernel.τ Cert.ParamKernel.sig) → Buf (Elt Bits) ℓ) : Prop :=
  True

def Pre_ParamKernelIdeal (m : (ℓ : Loc Cert.ParamKernelIdeal.nD Cert.ParamKernelIdeal.τ Cert.ParamKernelIdeal.sig) → Buf (Elt Ideal) ℓ) : Prop :=
  True

def Pre_ParamKernelIdeal_param_finite [hPre_param_finite : Cert.Pre_param_finite.Facts] (m : (ℓ : Loc Cert.ParamKernelIdeal.nD Cert.ParamKernelIdeal.τ Cert.ParamKernelIdeal.sig) → Buf (Elt Ideal) ℓ) : Prop :=
  ∀ c : Dev Cert.ParamKernelIdeal.nD,
    (Cert.Pre_param_finite.fn (F := Ideal) (m ((c.tc : Thread Cert.ParamKernelIdeal.nD Cert.ParamKernelIdeal.τ).loc Cert.ParamKernelIdeal.main_arg0)) (m ((c.tc : Thread Cert.ParamKernelIdeal.nD Cert.ParamKernelIdeal.τ).loc Cert.ParamKernelIdeal.main_arg1)) (m ((c.tc : Thread Cert.ParamKernelIdeal.nD Cert.ParamKernelIdeal.τ).loc Cert.ParamKernelIdeal.main_arg2)) (m ((c.tc : Thread Cert.ParamKernelIdeal.nD Cert.ParamKernelIdeal.τ).loc Cert.ParamKernelIdeal.main_arg3)) (m ((c.tc : Thread Cert.ParamKernelIdeal.nD Cert.ParamKernelIdeal.τ).loc Cert.ParamKernelIdeal.main_arg4)) (m ((c.tc : Thread Cert.ParamKernelIdeal.nD Cert.ParamKernelIdeal.τ).loc Cert.ParamKernelIdeal.main_arg5)) (m ((c.tc : Thread Cert.ParamKernelIdeal.nD Cert.ParamKernelIdeal.τ).loc Cert.ParamKernelIdeal.main_arg6)) (m ((c.tc : Thread Cert.ParamKernelIdeal.nD Cert.ParamKernelIdeal.τ).loc Cert.ParamKernelIdeal.main_arg7)) (m ((c.tc : Thread Cert.ParamKernelIdeal.nD Cert.ParamKernelIdeal.τ).loc Cert.ParamKernelIdeal.main_arg8))) = (fun _ => 1#1)

def Pre_ParamReferenceIdeal (m : (ℓ : Loc Cert.ParamReferenceIdeal.nD Cert.ParamReferenceIdeal.τ Cert.ParamReferenceIdeal.sig) → Buf (Elt Ideal) ℓ) : Prop :=
  True

def Pre_ParamReferenceIdeal_param_finite [hPre_param_finite : Cert.Pre_param_finite.Facts] (m : (ℓ : Loc Cert.ParamReferenceIdeal.nD Cert.ParamReferenceIdeal.τ Cert.ParamReferenceIdeal.sig) → Buf (Elt Ideal) ℓ) : Prop :=
  ∀ c : Dev Cert.ParamReferenceIdeal.nD,
    (Cert.Pre_param_finite.fn (F := Ideal) (m ((c.tc : Thread Cert.ParamReferenceIdeal.nD Cert.ParamReferenceIdeal.τ).loc Cert.ParamReferenceIdeal.main_arg0)) (m ((c.tc : Thread Cert.ParamReferenceIdeal.nD Cert.ParamReferenceIdeal.τ).loc Cert.ParamReferenceIdeal.main_arg1)) (m ((c.tc : Thread Cert.ParamReferenceIdeal.nD Cert.ParamReferenceIdeal.τ).loc Cert.ParamReferenceIdeal.main_arg2)) (m ((c.tc : Thread Cert.ParamReferenceIdeal.nD Cert.ParamReferenceIdeal.τ).loc Cert.ParamReferenceIdeal.main_arg3)) (m ((c.tc : Thread Cert.ParamReferenceIdeal.nD Cert.ParamReferenceIdeal.τ).loc Cert.ParamReferenceIdeal.main_arg4)) (m ((c.tc : Thread Cert.ParamReferenceIdeal.nD Cert.ParamReferenceIdeal.τ).loc Cert.ParamReferenceIdeal.main_arg5)) (m ((c.tc : Thread Cert.ParamReferenceIdeal.nD Cert.ParamReferenceIdeal.τ).loc Cert.ParamReferenceIdeal.main_arg6)) (m ((c.tc : Thread Cert.ParamReferenceIdeal.nD Cert.ParamReferenceIdeal.τ).loc Cert.ParamReferenceIdeal.main_arg7)) (m ((c.tc : Thread Cert.ParamReferenceIdeal.nD Cert.ParamReferenceIdeal.τ).loc Cert.ParamReferenceIdeal.main_arg8))) = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6))) = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_FfnWKernel (m : (ℓ : Loc Cert.FfnWKernel.nD Cert.FfnWKernel.τ Cert.FfnWKernel.sig) → Buf (Elt Bits) ℓ) : Prop :=
  True

def Pre_FfnWKernelIdeal (m : (ℓ : Loc Cert.FfnWKernelIdeal.nD Cert.FfnWKernelIdeal.τ Cert.FfnWKernelIdeal.sig) → Buf (Elt Ideal) ℓ) : Prop :=
  True

def Pre_FfnWReferenceIdeal (m : (ℓ : Loc Cert.FfnWReferenceIdeal.nD Cert.FfnWReferenceIdeal.τ Cert.FfnWReferenceIdeal.sig) → Buf (Elt Ideal) ℓ) : Prop :=
  True

def Pre_AttnFKernel (m : (ℓ : Loc Cert.AttnFKernel.nD Cert.AttnFKernel.τ Cert.AttnFKernel.sig) → Buf (Elt Bits) ℓ) : Prop :=
  True

def Pre_AttnFKernelIdeal (m : (ℓ : Loc Cert.AttnFKernelIdeal.nD Cert.AttnFKernelIdeal.τ Cert.AttnFKernelIdeal.sig) → Buf (Elt Ideal) ℓ) : Prop :=
  True

def Pre_AttnFKernelIdeal_attnf_finite [hPre_attnf_finite : Cert.Pre_attnf_finite.Facts] (m : (ℓ : Loc Cert.AttnFKernelIdeal.nD Cert.AttnFKernelIdeal.τ Cert.AttnFKernelIdeal.sig) → Buf (Elt Ideal) ℓ) : Prop :=
  ∀ c : Dev Cert.AttnFKernelIdeal.nD,
    (Cert.Pre_attnf_finite.fn (F := Ideal) (m ((c.tc : Thread Cert.AttnFKernelIdeal.nD Cert.AttnFKernelIdeal.τ).loc Cert.AttnFKernelIdeal.main_arg0)) (m ((c.tc : Thread Cert.AttnFKernelIdeal.nD Cert.AttnFKernelIdeal.τ).loc Cert.AttnFKernelIdeal.main_arg1))) = (fun _ => 1#1)

def Pre_AttnFReferenceIdeal (m : (ℓ : Loc Cert.AttnFReferenceIdeal.nD Cert.AttnFReferenceIdeal.τ Cert.AttnFReferenceIdeal.sig) → Buf (Elt Ideal) ℓ) : Prop :=
  True

def Pre_AttnFReferenceIdeal_attnf_finite [hPre_attnf_finite : Cert.Pre_attnf_finite.Facts] (m : (ℓ : Loc Cert.AttnFReferenceIdeal.nD Cert.AttnFReferenceIdeal.τ Cert.AttnFReferenceIdeal.sig) → Buf (Elt Ideal) ℓ) : Prop :=
  ∀ c : Dev Cert.AttnFReferenceIdeal.nD,
    (Cert.Pre_attnf_finite.fn (F := Ideal) (m ((c.tc : Thread Cert.AttnFReferenceIdeal.nD Cert.AttnFReferenceIdeal.τ).loc Cert.AttnFReferenceIdeal.main_arg0)) (m ((c.tc : Thread Cert.AttnFReferenceIdeal.nD Cert.AttnFReferenceIdeal.τ).loc Cert.AttnFReferenceIdeal.main_arg1))) = (fun _ => 1#1)

def Pre_MixFKernel (m : (ℓ : Loc Cert.MixFKernel.nD Cert.MixFKernel.τ Cert.MixFKernel.sig) → Buf (Elt Bits) ℓ) : Prop :=
  True

def Pre_MixFKernelIdeal (m : (ℓ : Loc Cert.MixFKernelIdeal.nD Cert.MixFKernelIdeal.τ Cert.MixFKernelIdeal.sig) → Buf (Elt Ideal) ℓ) : Prop :=
  True

def Pre_MixFReferenceIdeal (m : (ℓ : Loc Cert.MixFReferenceIdeal.nD Cert.MixFReferenceIdeal.τ Cert.MixFReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_gate_finite [hGateReferenceIdeal : Cert.GateReferenceIdeal.Facts] [hPre_gate_finite : Cert.Pre_gate_finite.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_gate_finite m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1)
      ∧ r.2.mem ((c.tc : Thread Cert.FfnInKernel.nD Cert.FfnInKernel.τ).loc Cert.FfnInKernel.main_arg2) = m ((c.tc : Thread Cert.FfnInKernel.nD Cert.FfnInKernel.τ).loc Cert.FfnInKernel.main_arg2)
      ∧ r.2.mem ((c.tc : Thread Cert.FfnInKernel.nD Cert.FfnInKernel.τ).loc Cert.FfnInKernel.main_arg3) = m ((c.tc : Thread Cert.FfnInKernel.nD Cert.FfnInKernel.τ).loc Cert.FfnInKernel.main_arg3)
      ∧ r.2.mem ((c.tc : Thread Cert.FfnInKernel.nD Cert.FfnInKernel.τ).loc Cert.FfnInKernel.main_arg4) = m ((c.tc : Thread Cert.FfnInKernel.nD Cert.FfnInKernel.τ).loc Cert.FfnInKernel.main_arg4)
      ∧ r.2.mem ((c.tc : Thread Cert.FfnInKernel.nD Cert.FfnInKernel.τ).loc Cert.FfnInKernel.main_arg5) = m ((c.tc : Thread Cert.FfnInKernel.nD Cert.FfnInKernel.τ).loc Cert.FfnInKernel.main_arg5)
      ∧ r.2.mem ((c.tc : Thread Cert.FfnInKernel.nD Cert.FfnInKernel.τ).loc Cert.FfnInKernel.main_arg6) = m ((c.tc : Thread Cert.FfnInKernel.nD Cert.FfnInKernel.τ).loc Cert.FfnInKernel.main_arg6))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
      ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ r.2.sem = fun _ => 0)

def quiescent_FfnInKernelIdeal_pre_ffnin_finite [hFfnInKernelIdeal : Cert.FfnInKernelIdeal.Facts] [hPre_ffnin_finite : Cert.Pre_ffnin_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal_ffnin_finite m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
      ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6))
      ∧ r.2.sem = fun _ => 0)

def quiescent_FfnInReferenceIdeal_pre_ffnin_finite [hFfnInReferenceIdeal : Cert.FfnInReferenceIdeal.Facts] [hPre_ffnin_finite : Cert.Pre_ffnin_finite.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal_ffnin_finite m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6))
      ∧ r.2.sem = fun _ => 0)

def quiescent_FfnIn1Kernel [hFfnIn1Kernel : Cert.FfnIn1Kernel.Facts] : Prop :=
  ∀ (m : (ℓ : Loc Cert.FfnIn1Kernel.nD Cert.FfnIn1Kernel.τ Cert.FfnIn1Kernel.sig) → Buf (Elt Bits) ℓ) (g : Dev Cert.FfnIn1Kernel.nD → PrngReg), Pre_FfnIn1Kernel m →
    θ_run (Cert.FfnIn1Kernel.defs (F := Bits)) (onTc (τ := Cert.FfnIn1Kernel.τ) (Cert.FfnIn1Kernel.main (F := Bits))) ⟨m, fun _ => 0, g⟩ (fun r => (∀ c : Dev Cert.FfnIn1Kernel.nD,
      r.2.mem ((c.tc : Thread Cert.FfnIn1Kernel.nD Cert.FfnIn1Kernel.τ).loc Cert.FfnIn1Kernel.main_arg0) = m ((c.tc : Thread Cert.FfnIn1Kernel.nD Cert.FfnIn1Kernel.τ).loc Cert.FfnIn1Kernel.main_arg0)
      ∧ r.2.mem ((c.tc : Thread Cert.FfnIn1Kernel.nD Cert.FfnIn1Kernel.τ).loc Cert.FfnIn1Kernel.main_arg1) = m ((c.tc : Thread Cert.FfnIn1Kernel.nD Cert.FfnIn1Kernel.τ).loc Cert.FfnIn1Kernel.main_arg1)
      ∧ r.2.mem ((c.tc : Thread Cert.FfnIn1Kernel.nD Cert.FfnIn1Kernel.τ).loc Cert.FfnIn1Kernel.main_arg2) = m ((c.tc : Thread Cert.FfnIn1Kernel.nD Cert.FfnIn1Kernel.τ).loc Cert.FfnIn1Kernel.main_arg2)
      ∧ r.2.mem ((c.tc : Thread Cert.FfnIn1Kernel.nD Cert.FfnIn1Kernel.τ).loc Cert.FfnIn1Kernel.main_arg3) = m ((c.tc : Thread Cert.FfnIn1Kernel.nD Cert.FfnIn1Kernel.τ).loc Cert.FfnIn1Kernel.main_arg3)
      ∧ r.2.mem ((c.tc : Thread Cert.FfnIn1Kernel.nD Cert.FfnIn1Kernel.τ).loc Cert.FfnIn1Kernel.main_arg4) = m ((c.tc : Thread Cert.FfnIn1Kernel.nD Cert.FfnIn1Kernel.τ).loc Cert.FfnIn1Kernel.main_arg4)
      ∧ r.2.mem ((c.tc : Thread Cert.FfnIn1Kernel.nD Cert.FfnIn1Kernel.τ).loc Cert.FfnIn1Kernel.main_arg5) = m ((c.tc : Thread Cert.FfnIn1Kernel.nD Cert.FfnIn1Kernel.τ).loc Cert.FfnIn1Kernel.main_arg5)
      ∧ r.2.mem ((c.tc : Thread Cert.FfnIn1Kernel.nD Cert.FfnIn1Kernel.τ).loc Cert.FfnIn1Kernel.main_arg6) = m ((c.tc : Thread Cert.FfnIn1Kernel.nD Cert.FfnIn1Kernel.τ).loc Cert.FfnIn1Kernel.main_arg6))
      ∧ r.2.sem = fun _ => 0)

def quiescent_FfnIn1KernelIdeal [hFfnIn1KernelIdeal : Cert.FfnIn1KernelIdeal.Facts] : Prop :=
  ∀ (m : (ℓ : Loc Cert.FfnIn1KernelIdeal.nD Cert.FfnIn1KernelIdeal.τ Cert.FfnIn1KernelIdeal.sig) → Buf (Elt Ideal) ℓ) (g : Dev Cert.FfnIn1KernelIdeal.nD → PrngReg), Pre_FfnIn1KernelIdeal m →
    θ_run (Cert.FfnIn1KernelIdeal.defs (F := Ideal)) (onTc (τ := Cert.FfnIn1KernelIdeal.τ) (Cert.FfnIn1KernelIdeal.main (F := Ideal))) ⟨m, fun _ => 0, g⟩ (fun r => (∀ c : Dev Cert.FfnIn1KernelIdeal.nD,
      r.2.mem ((c.tc : Thread Cert.FfnIn1KernelIdeal.nD Cert.FfnIn1KernelIdeal.τ).loc Cert.FfnIn1KernelIdeal.main_arg0) = m ((c.tc : Thread Cert.FfnIn1KernelIdeal.nD Cert.FfnIn1KernelIdeal.τ).loc Cert.FfnIn1KernelIdeal.main_arg0)
      ∧ r.2.mem ((c.tc : Thread Cert.FfnIn1KernelIdeal.nD Cert.FfnIn1KernelIdeal.τ).loc Cert.FfnIn1KernelIdeal.main_arg1) = m ((c.tc : Thread Cert.FfnIn1KernelIdeal.nD Cert.FfnIn1KernelIdeal.τ).loc Cert.FfnIn1KernelIdeal.main_arg1)
      ∧ r.2.mem ((c.tc : Thread Cert.FfnIn1KernelIdeal.nD Cert.FfnIn1KernelIdeal.τ).loc Cert.FfnIn1KernelIdeal.main_arg2) = m ((c.tc : Thread Cert.FfnIn1KernelIdeal.nD Cert.FfnIn1KernelIdeal.τ).loc Cert.FfnIn1KernelIdeal.main_arg2)
      ∧ r.2.mem ((c.tc : Thread Cert.FfnIn1KernelIdeal.nD Cert.FfnIn1KernelIdeal.τ).loc Cert.FfnIn1KernelIdeal.main_arg3) = m ((c.tc : Thread Cert.FfnIn1KernelIdeal.nD Cert.FfnIn1KernelIdeal.τ).loc Cert.FfnIn1KernelIdeal.main_arg3)
      ∧ r.2.mem ((c.tc : Thread Cert.FfnIn1KernelIdeal.nD Cert.FfnIn1KernelIdeal.τ).loc Cert.FfnIn1KernelIdeal.main_arg4) = m ((c.tc : Thread Cert.FfnIn1KernelIdeal.nD Cert.FfnIn1KernelIdeal.τ).loc Cert.FfnIn1KernelIdeal.main_arg4)
      ∧ r.2.mem ((c.tc : Thread Cert.FfnIn1KernelIdeal.nD Cert.FfnIn1KernelIdeal.τ).loc Cert.FfnIn1KernelIdeal.main_arg5) = m ((c.tc : Thread Cert.FfnIn1KernelIdeal.nD Cert.FfnIn1KernelIdeal.τ).loc Cert.FfnIn1KernelIdeal.main_arg5)
      ∧ r.2.mem ((c.tc : Thread Cert.FfnIn1KernelIdeal.nD Cert.FfnIn1KernelIdeal.τ).loc Cert.FfnIn1KernelIdeal.main_arg6) = m ((c.tc : Thread Cert.FfnIn1KernelIdeal.nD Cert.FfnIn1KernelIdeal.τ).loc Cert.FfnIn1KernelIdeal.main_arg6))
      ∧ r.2.sem = fun _ => 0)

def quiescent_FfnIn1KernelIdeal_pre_ffnin1_finite [hFfnIn1KernelIdeal : Cert.FfnIn1KernelIdeal.Facts] [hPre_ffnin1_finite : Cert.Pre_ffnin1_finite.Facts] : Prop :=
  ∀ (m : (ℓ : Loc Cert.FfnIn1KernelIdeal.nD Cert.FfnIn1KernelIdeal.τ Cert.FfnIn1KernelIdeal.sig) → Buf (Elt Ideal) ℓ) (g : Dev Cert.FfnIn1KernelIdeal.nD → PrngReg), Pre_FfnIn1KernelIdeal_ffnin1_finite m →
    θ_run (Cert.FfnIn1KernelIdeal.defs (F := Ideal)) (onTc (τ := Cert.FfnIn1KernelIdeal.τ) (Cert.FfnIn1KernelIdeal.main (F := Ideal))) ⟨m, fun _ => 0, g⟩ (fun r => (∀ c : Dev Cert.FfnIn1KernelIdeal.nD,
      r.2.mem ((c.tc : Thread Cert.FfnIn1KernelIdeal.nD Cert.FfnIn1KernelIdeal.τ).loc Cert.FfnIn1KernelIdeal.main_arg0) = m ((c.tc : Thread Cert.FfnIn1KernelIdeal.nD Cert.FfnIn1KernelIdeal.τ).loc Cert.FfnIn1KernelIdeal.main_arg0)
      ∧ r.2.mem ((c.tc : Thread Cert.FfnIn1KernelIdeal.nD Cert.FfnIn1KernelIdeal.τ).loc Cert.FfnIn1KernelIdeal.main_arg1) = m ((c.tc : Thread Cert.FfnIn1KernelIdeal.nD Cert.FfnIn1KernelIdeal.τ).loc Cert.FfnIn1KernelIdeal.main_arg1)
      ∧ r.2.mem ((c.tc : Thread Cert.FfnIn1KernelIdeal.nD Cert.FfnIn1KernelIdeal.τ).loc Cert.FfnIn1KernelIdeal.main_arg2) = m ((c.tc : Thread Cert.FfnIn1KernelIdeal.nD Cert.FfnIn1KernelIdeal.τ).loc Cert.FfnIn1KernelIdeal.main_arg2)
      ∧ r.2.mem ((c.tc : Thread Cert.FfnIn1KernelIdeal.nD Cert.FfnIn1KernelIdeal.τ).loc Cert.FfnIn1KernelIdeal.main_arg3) = m ((c.tc : Thread Cert.FfnIn1KernelIdeal.nD Cert.FfnIn1KernelIdeal.τ).loc Cert.FfnIn1KernelIdeal.main_arg3)
      ∧ r.2.mem ((c.tc : Thread Cert.FfnIn1KernelIdeal.nD Cert.FfnIn1KernelIdeal.τ).loc Cert.FfnIn1KernelIdeal.main_arg4) = m ((c.tc : Thread Cert.FfnIn1KernelIdeal.nD Cert.FfnIn1KernelIdeal.τ).loc Cert.FfnIn1KernelIdeal.main_arg4)
      ∧ r.2.mem ((c.tc : Thread Cert.FfnIn1KernelIdeal.nD Cert.FfnIn1KernelIdeal.τ).loc Cert.FfnIn1KernelIdeal.main_arg5) = m ((c.tc : Thread Cert.FfnIn1KernelIdeal.nD Cert.FfnIn1KernelIdeal.τ).loc Cert.FfnIn1KernelIdeal.main_arg5)
      ∧ r.2.mem ((c.tc : Thread Cert.FfnIn1KernelIdeal.nD Cert.FfnIn1KernelIdeal.τ).loc Cert.FfnIn1KernelIdeal.main_arg6) = m ((c.tc : Thread Cert.FfnIn1KernelIdeal.nD Cert.FfnIn1KernelIdeal.τ).loc Cert.FfnIn1KernelIdeal.main_arg6))
      ∧ r.2.sem = fun _ => 0)

def quiescent_FfnIn1ReferenceIdeal [hFfnIn1ReferenceIdeal : Cert.FfnIn1ReferenceIdeal.Facts] : Prop :=
  ∀ (m : (ℓ : Loc Cert.FfnIn1ReferenceIdeal.nD Cert.FfnIn1ReferenceIdeal.τ Cert.FfnIn1ReferenceIdeal.sig) → Buf (Elt Ideal) ℓ) (g : Dev Cert.FfnIn1ReferenceIdeal.nD → PrngReg), Pre_FfnIn1ReferenceIdeal m →
    θ_run (Cert.FfnIn1ReferenceIdeal.defs (F := Ideal)) (onTc (τ := Cert.FfnIn1ReferenceIdeal.τ) (Cert.FfnIn1ReferenceIdeal.main (F := Ideal))) ⟨m, fun _ => 0, g⟩ (fun r => (∀ c : Dev Cert.FfnIn1ReferenceIdeal.nD,
      r.2.mem ((c.tc : Thread Cert.FfnIn1ReferenceIdeal.nD Cert.FfnIn1ReferenceIdeal.τ).loc Cert.FfnIn1ReferenceIdeal.main_arg0) = m ((c.tc : Thread Cert.FfnIn1ReferenceIdeal.nD Cert.FfnIn1ReferenceIdeal.τ).loc Cert.FfnIn1ReferenceIdeal.main_arg0)
      ∧ r.2.mem ((c.tc : Thread Cert.FfnIn1ReferenceIdeal.nD Cert.FfnIn1ReferenceIdeal.τ).loc Cert.FfnIn1ReferenceIdeal.main_arg1) = m ((c.tc : Thread Cert.FfnIn1ReferenceIdeal.nD Cert.FfnIn1ReferenceIdeal.τ).loc Cert.FfnIn1ReferenceIdeal.main_arg1)
      ∧ r.2.mem ((c.tc : Thread Cert.FfnIn1ReferenceIdeal.nD Cert.FfnIn1ReferenceIdeal.τ).loc Cert.FfnIn1ReferenceIdeal.main_arg2) = m ((c.tc : Thread Cert.FfnIn1ReferenceIdeal.nD Cert.FfnIn1ReferenceIdeal.τ).loc Cert.FfnIn1ReferenceIdeal.main_arg2)
      ∧ r.2.mem ((c.tc : Thread Cert.FfnIn1ReferenceIdeal.nD Cert.FfnIn1ReferenceIdeal.τ).loc Cert.FfnIn1ReferenceIdeal.main_arg3) = m ((c.tc : Thread Cert.FfnIn1ReferenceIdeal.nD Cert.FfnIn1ReferenceIdeal.τ).loc Cert.FfnIn1ReferenceIdeal.main_arg3)
      ∧ r.2.mem ((c.tc : Thread Cert.FfnIn1ReferenceIdeal.nD Cert.FfnIn1ReferenceIdeal.τ).loc Cert.FfnIn1ReferenceIdeal.main_arg4) = m ((c.tc : Thread Cert.FfnIn1ReferenceIdeal.nD Cert.FfnIn1ReferenceIdeal.τ).loc Cert.FfnIn1ReferenceIdeal.main_arg4)
      ∧ r.2.mem ((c.tc : Thread Cert.FfnIn1ReferenceIdeal.nD Cert.FfnIn1ReferenceIdeal.τ).loc Cert.FfnIn1ReferenceIdeal.main_arg5) = m ((c.tc : Thread Cert.FfnIn1ReferenceIdeal.nD Cert.FfnIn1ReferenceIdeal.τ).loc Cert.FfnIn1ReferenceIdeal.main_arg5)
      ∧ r.2.mem ((c.tc : Thread Cert.FfnIn1ReferenceIdeal.nD Cert.FfnIn1ReferenceIdeal.τ).loc Cert.FfnIn1ReferenceIdeal.main_arg6) = m ((c.tc : Thread Cert.FfnIn1ReferenceIdeal.nD Cert.FfnIn1ReferenceIdeal.τ).loc Cert.FfnIn1ReferenceIdeal.main_arg6))
      ∧ r.2.sem = fun _ => 0)

def quiescent_FfnIn1ReferenceIdeal_pre_ffnin1_finite [hFfnIn1ReferenceIdeal : Cert.FfnIn1ReferenceIdeal.Facts] [hPre_ffnin1_finite : Cert.Pre_ffnin1_finite.Facts] : Prop :=
  ∀ (m : (ℓ : Loc Cert.FfnIn1ReferenceIdeal.nD Cert.FfnIn1ReferenceIdeal.τ Cert.FfnIn1ReferenceIdeal.sig) → Buf (Elt Ideal) ℓ) (g : Dev Cert.FfnIn1ReferenceIdeal.nD → PrngReg), Pre_FfnIn1ReferenceIdeal_ffnin1_finite m →
    θ_run (Cert.FfnIn1ReferenceIdeal.defs (F := Ideal)) (onTc (τ := Cert.FfnIn1ReferenceIdeal.τ) (Cert.FfnIn1ReferenceIdeal.main (F := Ideal))) ⟨m, fun _ => 0, g⟩ (fun r => (∀ c : Dev Cert.FfnIn1ReferenceIdeal.nD,
      r.2.mem ((c.tc : Thread Cert.FfnIn1ReferenceIdeal.nD Cert.FfnIn1ReferenceIdeal.τ).loc Cert.FfnIn1ReferenceIdeal.main_arg0) = m ((c.tc : Thread Cert.FfnIn1ReferenceIdeal.nD Cert.FfnIn1ReferenceIdeal.τ).loc Cert.FfnIn1ReferenceIdeal.main_arg0)
      ∧ r.2.mem ((c.tc : Thread Cert.FfnIn1ReferenceIdeal.nD Cert.FfnIn1ReferenceIdeal.τ).loc Cert.FfnIn1ReferenceIdeal.main_arg1) = m ((c.tc : Thread Cert.FfnIn1ReferenceIdeal.nD Cert.FfnIn1ReferenceIdeal.τ).loc Cert.FfnIn1ReferenceIdeal.main_arg1)
      ∧ r.2.mem ((c.tc : Thread Cert.FfnIn1ReferenceIdeal.nD Cert.FfnIn1ReferenceIdeal.τ).loc Cert.FfnIn1ReferenceIdeal.main_arg2) = m ((c.tc : Thread Cert.FfnIn1ReferenceIdeal.nD Cert.FfnIn1ReferenceIdeal.τ).loc Cert.FfnIn1ReferenceIdeal.main_arg2)
      ∧ r.2.mem ((c.tc : Thread Cert.FfnIn1ReferenceIdeal.nD Cert.FfnIn1ReferenceIdeal.τ).loc Cert.FfnIn1ReferenceIdeal.main_arg3) = m ((c.tc : Thread Cert.FfnIn1ReferenceIdeal.nD Cert.FfnIn1ReferenceIdeal.τ).loc Cert.FfnIn1ReferenceIdeal.main_arg3)
      ∧ r.2.mem ((c.tc : Thread Cert.FfnIn1ReferenceIdeal.nD Cert.FfnIn1ReferenceIdeal.τ).loc Cert.FfnIn1ReferenceIdeal.main_arg4) = m ((c.tc : Thread Cert.FfnIn1ReferenceIdeal.nD Cert.FfnIn1ReferenceIdeal.τ).loc Cert.FfnIn1ReferenceIdeal.main_arg4)
      ∧ r.2.mem ((c.tc : Thread Cert.FfnIn1ReferenceIdeal.nD Cert.FfnIn1ReferenceIdeal.τ).loc Cert.FfnIn1ReferenceIdeal.main_arg5) = m ((c.tc : Thread Cert.FfnIn1ReferenceIdeal.nD Cert.FfnIn1ReferenceIdeal.τ).loc Cert.FfnIn1ReferenceIdeal.main_arg5)
      ∧ r.2.mem ((c.tc : Thread Cert.FfnIn1ReferenceIdeal.nD Cert.FfnIn1ReferenceIdeal.τ).loc Cert.FfnIn1ReferenceIdeal.main_arg6) = m ((c.tc : Thread Cert.FfnIn1ReferenceIdeal.nD Cert.FfnIn1ReferenceIdeal.τ).loc Cert.FfnIn1ReferenceIdeal.main_arg6))
      ∧ r.2.sem = fun _ => 0)

def quiescent_ParamKernel [hParamKernel : Cert.ParamKernel.Facts] : Prop :=
  ∀ (m : (ℓ : Loc Cert.ParamKernel.nD Cert.ParamKernel.τ Cert.ParamKernel.sig) → Buf (Elt Bits) ℓ) (g : Dev Cert.ParamKernel.nD → PrngReg), Pre_ParamKernel m →
    θ_run (Cert.ParamKernel.defs (F := Bits)) (onTc (τ := Cert.ParamKernel.τ) (Cert.ParamKernel.main (F := Bits))) ⟨m, fun _ => 0, g⟩ (fun r => (∀ c : Dev Cert.ParamKernel.nD,
      r.2.mem ((c.tc : Thread Cert.ParamKernel.nD Cert.ParamKernel.τ).loc Cert.ParamKernel.main_arg0) = m ((c.tc : Thread Cert.ParamKernel.nD Cert.ParamKernel.τ).loc Cert.ParamKernel.main_arg0)
      ∧ r.2.mem ((c.tc : Thread Cert.ParamKernel.nD Cert.ParamKernel.τ).loc Cert.ParamKernel.main_arg1) = m ((c.tc : Thread Cert.ParamKernel.nD Cert.ParamKernel.τ).loc Cert.ParamKernel.main_arg1)
      ∧ r.2.mem ((c.tc : Thread Cert.ParamKernel.nD Cert.ParamKernel.τ).loc Cert.ParamKernel.main_arg2) = m ((c.tc : Thread Cert.ParamKernel.nD Cert.ParamKernel.τ).loc Cert.ParamKernel.main_arg2)
      ∧ r.2.mem ((c.tc : Thread Cert.ParamKernel.nD Cert.ParamKernel.τ).loc Cert.ParamKernel.main_arg3) = m ((c.tc : Thread Cert.ParamKernel.nD Cert.ParamKernel.τ).loc Cert.ParamKernel.main_arg3)
      ∧ r.2.mem ((c.tc : Thread Cert.ParamKernel.nD Cert.ParamKernel.τ).loc Cert.ParamKernel.main_arg4) = m ((c.tc : Thread Cert.ParamKernel.nD Cert.ParamKernel.τ).loc Cert.ParamKernel.main_arg4)
      ∧ r.2.mem ((c.tc : Thread Cert.ParamKernel.nD Cert.ParamKernel.τ).loc Cert.ParamKernel.main_arg5) = m ((c.tc : Thread Cert.ParamKernel.nD Cert.ParamKernel.τ).loc Cert.ParamKernel.main_arg5)
      ∧ r.2.mem ((c.tc : Thread Cert.ParamKernel.nD Cert.ParamKernel.τ).loc Cert.ParamKernel.main_arg6) = m ((c.tc : Thread Cert.ParamKernel.nD Cert.ParamKernel.τ).loc Cert.ParamKernel.main_arg6)
      ∧ r.2.mem ((c.tc : Thread Cert.ParamKernel.nD Cert.ParamKernel.τ).loc Cert.ParamKernel.main_arg7) = m ((c.tc : Thread Cert.ParamKernel.nD Cert.ParamKernel.τ).loc Cert.ParamKernel.main_arg7)
      ∧ r.2.mem ((c.tc : Thread Cert.ParamKernel.nD Cert.ParamKernel.τ).loc Cert.ParamKernel.main_arg8) = m ((c.tc : Thread Cert.ParamKernel.nD Cert.ParamKernel.τ).loc Cert.ParamKernel.main_arg8))
      ∧ r.2.sem = fun _ => 0)

def quiescent_ParamKernelIdeal [hParamKernelIdeal : Cert.ParamKernelIdeal.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg), Pre_ParamKernelIdeal m →
    θ_run (Cert.ParamKernelIdeal.defs (F := Ideal)) (onTc (τ := Cert.ParamKernelIdeal.τ) (Cert.ParamKernelIdeal.main (F := Ideal))) ⟨m, fun _ => 0, g⟩ (fun r => (∀ c : Dev Cert.ParamKernelIdeal.nD,
      r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
      ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
      ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
      ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
      ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
      ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
      ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
      ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
      ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ r.2.sem = fun _ => 0)

def quiescent_ParamKernelIdeal_pre_param_finite [hParamKernelIdeal : Cert.ParamKernelIdeal.Facts] [hPre_param_finite : Cert.Pre_param_finite.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg), Pre_ParamKernelIdeal_param_finite m →
    θ_run (Cert.ParamKernelIdeal.defs (F := Ideal)) (onTc (τ := Cert.ParamKernelIdeal.τ) (Cert.ParamKernelIdeal.main (F := Ideal))) ⟨m, fun _ => 0, g⟩ (fun r => (∀ c : Dev Cert.ParamKernelIdeal.nD,
      r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
      ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
      ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
      ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
      ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
      ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
      ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
      ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
      ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ r.2.sem = fun _ => 0)

def quiescent_ParamReferenceIdeal [hParamReferenceIdeal : Cert.ParamReferenceIdeal.Facts] : Prop :=
  ∀ (m : (ℓ : Loc Cert.ParamReferenceIdeal.nD Cert.ParamReferenceIdeal.τ Cert.ParamReferenceIdeal.sig) → Buf (Elt Ideal) ℓ) (g : Dev Cert.ParamReferenceIdeal.nD → PrngReg), Pre_ParamReferenceIdeal m →
    θ_run (Cert.ParamReferenceIdeal.defs (F := Ideal)) (onTc (τ := Cert.ParamReferenceIdeal.τ) (Cert.ParamReferenceIdeal.main (F := Ideal))) ⟨m, fun _ => 0, g⟩ (fun r => (∀ c : Dev Cert.ParamReferenceIdeal.nD,
      r.2.mem ((c.tc : Thread Cert.ParamReferenceIdeal.nD Cert.ParamReferenceIdeal.τ).loc Cert.ParamReferenceIdeal.main_arg0) = m ((c.tc : Thread Cert.ParamReferenceIdeal.nD Cert.ParamReferenceIdeal.τ).loc Cert.ParamReferenceIdeal.main_arg0)
      ∧ r.2.mem ((c.tc : Thread Cert.ParamReferenceIdeal.nD Cert.ParamReferenceIdeal.τ).loc Cert.ParamReferenceIdeal.main_arg1) = m ((c.tc : Thread Cert.ParamReferenceIdeal.nD Cert.ParamReferenceIdeal.τ).loc Cert.ParamReferenceIdeal.main_arg1)
      ∧ r.2.mem ((c.tc : Thread Cert.ParamReferenceIdeal.nD Cert.ParamReferenceIdeal.τ).loc Cert.ParamReferenceIdeal.main_arg2) = m ((c.tc : Thread Cert.ParamReferenceIdeal.nD Cert.ParamReferenceIdeal.τ).loc Cert.ParamReferenceIdeal.main_arg2)
      ∧ r.2.mem ((c.tc : Thread Cert.ParamReferenceIdeal.nD Cert.ParamReferenceIdeal.τ).loc Cert.ParamReferenceIdeal.main_arg3) = m ((c.tc : Thread Cert.ParamReferenceIdeal.nD Cert.ParamReferenceIdeal.τ).loc Cert.ParamReferenceIdeal.main_arg3)
      ∧ r.2.mem ((c.tc : Thread Cert.ParamReferenceIdeal.nD Cert.ParamReferenceIdeal.τ).loc Cert.ParamReferenceIdeal.main_arg4) = m ((c.tc : Thread Cert.ParamReferenceIdeal.nD Cert.ParamReferenceIdeal.τ).loc Cert.ParamReferenceIdeal.main_arg4)
      ∧ r.2.mem ((c.tc : Thread Cert.ParamReferenceIdeal.nD Cert.ParamReferenceIdeal.τ).loc Cert.ParamReferenceIdeal.main_arg5) = m ((c.tc : Thread Cert.ParamReferenceIdeal.nD Cert.ParamReferenceIdeal.τ).loc Cert.ParamReferenceIdeal.main_arg5)
      ∧ r.2.mem ((c.tc : Thread Cert.ParamReferenceIdeal.nD Cert.ParamReferenceIdeal.τ).loc Cert.ParamReferenceIdeal.main_arg6) = m ((c.tc : Thread Cert.ParamReferenceIdeal.nD Cert.ParamReferenceIdeal.τ).loc Cert.ParamReferenceIdeal.main_arg6)
      ∧ r.2.mem ((c.tc : Thread Cert.ParamReferenceIdeal.nD Cert.ParamReferenceIdeal.τ).loc Cert.ParamReferenceIdeal.main_arg7) = m ((c.tc : Thread Cert.ParamReferenceIdeal.nD Cert.ParamReferenceIdeal.τ).loc Cert.ParamReferenceIdeal.main_arg7)
      ∧ r.2.mem ((c.tc : Thread Cert.ParamReferenceIdeal.nD Cert.ParamReferenceIdeal.τ).loc Cert.ParamReferenceIdeal.main_arg8) = m ((c.tc : Thread Cert.ParamReferenceIdeal.nD Cert.ParamReferenceIdeal.τ).loc Cert.ParamReferenceIdeal.main_arg8))
      ∧ r.2.sem = fun _ => 0)

def quiescent_ParamReferenceIdeal_pre_param_finite [hParamReferenceIdeal : Cert.ParamReferenceIdeal.Facts] [hPre_param_finite : Cert.Pre_param_finite.Facts] : Prop :=
  ∀ (m : (ℓ : Loc Cert.ParamReferenceIdeal.nD Cert.ParamReferenceIdeal.τ Cert.ParamReferenceIdeal.sig) → Buf (Elt Ideal) ℓ) (g : Dev Cert.ParamReferenceIdeal.nD → PrngReg), Pre_ParamReferenceIdeal_param_finite m →
    θ_run (Cert.ParamReferenceIdeal.defs (F := Ideal)) (onTc (τ := Cert.ParamReferenceIdeal.τ) (Cert.ParamReferenceIdeal.main (F := Ideal))) ⟨m, fun _ => 0, g⟩ (fun r => (∀ c : Dev Cert.ParamReferenceIdeal.nD,
      r.2.mem ((c.tc : Thread Cert.ParamReferenceIdeal.nD Cert.ParamReferenceIdeal.τ).loc Cert.ParamReferenceIdeal.main_arg0) = m ((c.tc : Thread Cert.ParamReferenceIdeal.nD Cert.ParamReferenceIdeal.τ).loc Cert.ParamReferenceIdeal.main_arg0)
      ∧ r.2.mem ((c.tc : Thread Cert.ParamReferenceIdeal.nD Cert.ParamReferenceIdeal.τ).loc Cert.ParamReferenceIdeal.main_arg1) = m ((c.tc : Thread Cert.ParamReferenceIdeal.nD Cert.ParamReferenceIdeal.τ).loc Cert.ParamReferenceIdeal.main_arg1)
      ∧ r.2.mem ((c.tc : Thread Cert.ParamReferenceIdeal.nD Cert.ParamReferenceIdeal.τ).loc Cert.ParamReferenceIdeal.main_arg2) = m ((c.tc : Thread Cert.ParamReferenceIdeal.nD Cert.ParamReferenceIdeal.τ).loc Cert.ParamReferenceIdeal.main_arg2)
      ∧ r.2.mem ((c.tc : Thread Cert.ParamReferenceIdeal.nD Cert.ParamReferenceIdeal.τ).loc Cert.ParamReferenceIdeal.main_arg3) = m ((c.tc : Thread Cert.ParamReferenceIdeal.nD Cert.ParamReferenceIdeal.τ).loc Cert.ParamReferenceIdeal.main_arg3)
      ∧ r.2.mem ((c.tc : Thread Cert.ParamReferenceIdeal.nD Cert.ParamReferenceIdeal.τ).loc Cert.ParamReferenceIdeal.main_arg4) = m ((c.tc : Thread Cert.ParamReferenceIdeal.nD Cert.ParamReferenceIdeal.τ).loc Cert.ParamReferenceIdeal.main_arg4)
      ∧ r.2.mem ((c.tc : Thread Cert.ParamReferenceIdeal.nD Cert.ParamReferenceIdeal.τ).loc Cert.ParamReferenceIdeal.main_arg5) = m ((c.tc : Thread Cert.ParamReferenceIdeal.nD Cert.ParamReferenceIdeal.τ).loc Cert.ParamReferenceIdeal.main_arg5)
      ∧ r.2.mem ((c.tc : Thread Cert.ParamReferenceIdeal.nD Cert.ParamReferenceIdeal.τ).loc Cert.ParamReferenceIdeal.main_arg6) = m ((c.tc : Thread Cert.ParamReferenceIdeal.nD Cert.ParamReferenceIdeal.τ).loc Cert.ParamReferenceIdeal.main_arg6)
      ∧ r.2.mem ((c.tc : Thread Cert.ParamReferenceIdeal.nD Cert.ParamReferenceIdeal.τ).loc Cert.ParamReferenceIdeal.main_arg7) = m ((c.tc : Thread Cert.ParamReferenceIdeal.nD Cert.ParamReferenceIdeal.τ).loc Cert.ParamReferenceIdeal.main_arg7)
      ∧ r.2.mem ((c.tc : Thread Cert.ParamReferenceIdeal.nD Cert.ParamReferenceIdeal.τ).loc Cert.ParamReferenceIdeal.main_arg8) = m ((c.tc : Thread Cert.ParamReferenceIdeal.nD Cert.ParamReferenceIdeal.τ).loc Cert.ParamReferenceIdeal.main_arg8))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_FfnWKernel [hFfnWKernel : Cert.FfnWKernel.Facts] : Prop :=
  ∀ (m : (ℓ : Loc Cert.FfnWKernel.nD Cert.FfnWKernel.τ Cert.FfnWKernel.sig) → Buf (Elt Bits) ℓ) (g : Dev Cert.FfnWKernel.nD → PrngReg), Pre_FfnWKernel m →
    θ_run (Cert.FfnWKernel.defs (F := Bits)) (onTc (τ := Cert.FfnWKernel.τ) (Cert.FfnWKernel.main (F := Bits))) ⟨m, fun _ => 0, g⟩ (fun r => (∀ c : Dev Cert.FfnWKernel.nD,
      r.2.mem ((c.tc : Thread Cert.FfnWKernel.nD Cert.FfnWKernel.τ).loc Cert.FfnWKernel.main_arg0) = m ((c.tc : Thread Cert.FfnWKernel.nD Cert.FfnWKernel.τ).loc Cert.FfnWKernel.main_arg0)
      ∧ r.2.mem ((c.tc : Thread Cert.FfnWKernel.nD Cert.FfnWKernel.τ).loc Cert.FfnWKernel.main_arg1) = m ((c.tc : Thread Cert.FfnWKernel.nD Cert.FfnWKernel.τ).loc Cert.FfnWKernel.main_arg1)
      ∧ r.2.mem ((c.tc : Thread Cert.FfnWKernel.nD Cert.FfnWKernel.τ).loc Cert.FfnWKernel.main_arg2) = m ((c.tc : Thread Cert.FfnWKernel.nD Cert.FfnWKernel.τ).loc Cert.FfnWKernel.main_arg2)
      ∧ r.2.mem ((c.tc : Thread Cert.FfnWKernel.nD Cert.FfnWKernel.τ).loc Cert.FfnWKernel.main_arg3) = m ((c.tc : Thread Cert.FfnWKernel.nD Cert.FfnWKernel.τ).loc Cert.FfnWKernel.main_arg3)
      ∧ r.2.mem ((c.tc : Thread Cert.FfnWKernel.nD Cert.FfnWKernel.τ).loc Cert.FfnWKernel.main_arg4) = m ((c.tc : Thread Cert.FfnWKernel.nD Cert.FfnWKernel.τ).loc Cert.FfnWKernel.main_arg4)
      ∧ r.2.mem ((c.tc : Thread Cert.FfnWKernel.nD Cert.FfnWKernel.τ).loc Cert.FfnWKernel.main_arg5) = m ((c.tc : Thread Cert.FfnWKernel.nD Cert.FfnWKernel.τ).loc Cert.FfnWKernel.main_arg5))
      ∧ r.2.sem = fun _ => 0)

def quiescent_FfnWKernelIdeal [hFfnWKernelIdeal : Cert.FfnWKernelIdeal.Facts] : Prop :=
  ∀ (m : (ℓ : Loc Cert.FfnWKernelIdeal.nD Cert.FfnWKernelIdeal.τ Cert.FfnWKernelIdeal.sig) → Buf (Elt Ideal) ℓ) (g : Dev Cert.FfnWKernelIdeal.nD → PrngReg), Pre_FfnWKernelIdeal m →
    θ_run (Cert.FfnWKernelIdeal.defs (F := Ideal)) (onTc (τ := Cert.FfnWKernelIdeal.τ) (Cert.FfnWKernelIdeal.main (F := Ideal))) ⟨m, fun _ => 0, g⟩ (fun r => (∀ c : Dev Cert.FfnWKernelIdeal.nD,
      r.2.mem ((c.tc : Thread Cert.FfnWKernelIdeal.nD Cert.FfnWKernelIdeal.τ).loc Cert.FfnWKernelIdeal.main_arg0) = m ((c.tc : Thread Cert.FfnWKernelIdeal.nD Cert.FfnWKernelIdeal.τ).loc Cert.FfnWKernelIdeal.main_arg0)
      ∧ r.2.mem ((c.tc : Thread Cert.FfnWKernelIdeal.nD Cert.FfnWKernelIdeal.τ).loc Cert.FfnWKernelIdeal.main_arg1) = m ((c.tc : Thread Cert.FfnWKernelIdeal.nD Cert.FfnWKernelIdeal.τ).loc Cert.FfnWKernelIdeal.main_arg1)
      ∧ r.2.mem ((c.tc : Thread Cert.FfnWKernelIdeal.nD Cert.FfnWKernelIdeal.τ).loc Cert.FfnWKernelIdeal.main_arg2) = m ((c.tc : Thread Cert.FfnWKernelIdeal.nD Cert.FfnWKernelIdeal.τ).loc Cert.FfnWKernelIdeal.main_arg2)
      ∧ r.2.mem ((c.tc : Thread Cert.FfnWKernelIdeal.nD Cert.FfnWKernelIdeal.τ).loc Cert.FfnWKernelIdeal.main_arg3) = m ((c.tc : Thread Cert.FfnWKernelIdeal.nD Cert.FfnWKernelIdeal.τ).loc Cert.FfnWKernelIdeal.main_arg3)
      ∧ r.2.mem ((c.tc : Thread Cert.FfnWKernelIdeal.nD Cert.FfnWKernelIdeal.τ).loc Cert.FfnWKernelIdeal.main_arg4) = m ((c.tc : Thread Cert.FfnWKernelIdeal.nD Cert.FfnWKernelIdeal.τ).loc Cert.FfnWKernelIdeal.main_arg4)
      ∧ r.2.mem ((c.tc : Thread Cert.FfnWKernelIdeal.nD Cert.FfnWKernelIdeal.τ).loc Cert.FfnWKernelIdeal.main_arg5) = m ((c.tc : Thread Cert.FfnWKernelIdeal.nD Cert.FfnWKernelIdeal.τ).loc Cert.FfnWKernelIdeal.main_arg5))
      ∧ r.2.sem = fun _ => 0)

def quiescent_FfnWReferenceIdeal [hFfnWReferenceIdeal : Cert.FfnWReferenceIdeal.Facts] : Prop :=
  ∀ (m : (ℓ : Loc Cert.FfnWReferenceIdeal.nD Cert.FfnWReferenceIdeal.τ Cert.FfnWReferenceIdeal.sig) → Buf (Elt Ideal) ℓ) (g : Dev Cert.FfnWReferenceIdeal.nD → PrngReg), Pre_FfnWReferenceIdeal m →
    θ_run (Cert.FfnWReferenceIdeal.defs (F := Ideal)) (onTc (τ := Cert.FfnWReferenceIdeal.τ) (Cert.FfnWReferenceIdeal.main (F := Ideal))) ⟨m, fun _ => 0, g⟩ (fun r => (∀ c : Dev Cert.FfnWReferenceIdeal.nD,
      r.2.mem ((c.tc : Thread Cert.FfnWReferenceIdeal.nD Cert.FfnWReferenceIdeal.τ).loc Cert.FfnWReferenceIdeal.main_arg0) = m ((c.tc : Thread Cert.FfnWReferenceIdeal.nD Cert.FfnWReferenceIdeal.τ).loc Cert.FfnWReferenceIdeal.main_arg0)
      ∧ r.2.mem ((c.tc : Thread Cert.FfnWReferenceIdeal.nD Cert.FfnWReferenceIdeal.τ).loc Cert.FfnWReferenceIdeal.main_arg1) = m ((c.tc : Thread Cert.FfnWReferenceIdeal.nD Cert.FfnWReferenceIdeal.τ).loc Cert.FfnWReferenceIdeal.main_arg1)
      ∧ r.2.mem ((c.tc : Thread Cert.FfnWReferenceIdeal.nD Cert.FfnWReferenceIdeal.τ).loc Cert.FfnWReferenceIdeal.main_arg2) = m ((c.tc : Thread Cert.FfnWReferenceIdeal.nD Cert.FfnWReferenceIdeal.τ).loc Cert.FfnWReferenceIdeal.main_arg2)
      ∧ r.2.mem ((c.tc : Thread Cert.FfnWReferenceIdeal.nD Cert.FfnWReferenceIdeal.τ).loc Cert.FfnWReferenceIdeal.main_arg3) = m ((c.tc : Thread Cert.FfnWReferenceIdeal.nD Cert.FfnWReferenceIdeal.τ).loc Cert.FfnWReferenceIdeal.main_arg3)
      ∧ r.2.mem ((c.tc : Thread Cert.FfnWReferenceIdeal.nD Cert.FfnWReferenceIdeal.τ).loc Cert.FfnWReferenceIdeal.main_arg4) = m ((c.tc : Thread Cert.FfnWReferenceIdeal.nD Cert.FfnWReferenceIdeal.τ).loc Cert.FfnWReferenceIdeal.main_arg4)
      ∧ r.2.mem ((c.tc : Thread Cert.FfnWReferenceIdeal.nD Cert.FfnWReferenceIdeal.τ).loc Cert.FfnWReferenceIdeal.main_arg5) = m ((c.tc : Thread Cert.FfnWReferenceIdeal.nD Cert.FfnWReferenceIdeal.τ).loc Cert.FfnWReferenceIdeal.main_arg5))
      ∧ r.2.sem = fun _ => 0)

def quiescent_AttnFKernel [hAttnFKernel : Cert.AttnFKernel.Facts] : Prop :=
  ∀ (m : (ℓ : Loc Cert.AttnFKernel.nD Cert.AttnFKernel.τ Cert.AttnFKernel.sig) → Buf (Elt Bits) ℓ) (g : Dev Cert.AttnFKernel.nD → PrngReg), Pre_AttnFKernel m →
    θ_run (Cert.AttnFKernel.defs (F := Bits)) (onTc (τ := Cert.AttnFKernel.τ) (Cert.AttnFKernel.main (F := Bits))) ⟨m, fun _ => 0, g⟩ (fun r => (∀ c : Dev Cert.AttnFKernel.nD,
      r.2.mem ((c.tc : Thread Cert.AttnFKernel.nD Cert.AttnFKernel.τ).loc Cert.AttnFKernel.main_arg0) = m ((c.tc : Thread Cert.AttnFKernel.nD Cert.AttnFKernel.τ).loc Cert.AttnFKernel.main_arg0)
      ∧ r.2.mem ((c.tc : Thread Cert.AttnFKernel.nD Cert.AttnFKernel.τ).loc Cert.AttnFKernel.main_arg1) = m ((c.tc : Thread Cert.AttnFKernel.nD Cert.AttnFKernel.τ).loc Cert.AttnFKernel.main_arg1))
      ∧ r.2.sem = fun _ => 0)

def quiescent_AttnFKernelIdeal [hAttnFKernelIdeal : Cert.AttnFKernelIdeal.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1))
      ∧ r.2.sem = fun _ => 0)

def quiescent_AttnFKernelIdeal_pre_attnf_finite [hAttnFKernelIdeal : Cert.AttnFKernelIdeal.Facts] [hPre_attnf_finite : Cert.Pre_attnf_finite.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg), Pre_AttnFKernelIdeal_attnf_finite m →
    θ_run (Cert.AttnFKernelIdeal.defs (F := Ideal)) (onTc (τ := Cert.AttnFKernelIdeal.τ) (Cert.AttnFKernelIdeal.main (F := Ideal))) ⟨m, fun _ => 0, g⟩ (fun r => (∀ c : Dev Cert.AttnFKernelIdeal.nD,
      r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
      ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1))
      ∧ r.2.sem = fun _ => 0)

def quiescent_AttnFReferenceIdeal [hAttnFReferenceIdeal : Cert.AttnFReferenceIdeal.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1))
      ∧ r.2.sem = fun _ => 0)

def quiescent_AttnFReferenceIdeal_pre_attnf_finite [hAttnFReferenceIdeal : Cert.AttnFReferenceIdeal.Facts] [hPre_attnf_finite : Cert.Pre_attnf_finite.Facts] : Prop :=
  ∀ (m : (ℓ : Loc Cert.AttnFReferenceIdeal.nD Cert.AttnFReferenceIdeal.τ Cert.AttnFReferenceIdeal.sig) → Buf (Elt Ideal) ℓ) (g : Dev Cert.AttnFReferenceIdeal.nD → PrngReg), Pre_AttnFReferenceIdeal_attnf_finite m →
    θ_run (Cert.AttnFReferenceIdeal.defs (F := Ideal)) (onTc (τ := Cert.AttnFReferenceIdeal.τ) (Cert.AttnFReferenceIdeal.main (F := Ideal))) ⟨m, fun _ => 0, g⟩ (fun r => (∀ c : Dev Cert.AttnFReferenceIdeal.nD,
      r.2.mem ((c.tc : Thread Cert.AttnFReferenceIdeal.nD Cert.AttnFReferenceIdeal.τ).loc Cert.AttnFReferenceIdeal.main_arg0) = m ((c.tc : Thread Cert.AttnFReferenceIdeal.nD Cert.AttnFReferenceIdeal.τ).loc Cert.AttnFReferenceIdeal.main_arg0)
      ∧ r.2.mem ((c.tc : Thread Cert.AttnFReferenceIdeal.nD Cert.AttnFReferenceIdeal.τ).loc Cert.AttnFReferenceIdeal.main_arg1) = m ((c.tc : Thread Cert.AttnFReferenceIdeal.nD Cert.AttnFReferenceIdeal.τ).loc Cert.AttnFReferenceIdeal.main_arg1))
      ∧ r.2.sem = fun _ => 0)

def quiescent_MixFKernel [hMixFKernel : Cert.MixFKernel.Facts] : Prop :=
  ∀ (m : (ℓ : Loc Cert.MixFKernel.nD Cert.MixFKernel.τ Cert.MixFKernel.sig) → Buf (Elt Bits) ℓ) (g : Dev Cert.MixFKernel.nD → PrngReg), Pre_MixFKernel m →
    θ_run (Cert.MixFKernel.defs (F := Bits)) (onTc (τ := Cert.MixFKernel.τ) (Cert.MixFKernel.main (F := Bits))) ⟨m, fun _ => 0, g⟩ (fun r => (∀ c : Dev Cert.MixFKernel.nD,
      r.2.mem ((c.tc : Thread Cert.MixFKernel.nD Cert.MixFKernel.τ).loc Cert.MixFKernel.main_arg0) = m ((c.tc : Thread Cert.MixFKernel.nD Cert.MixFKernel.τ).loc Cert.MixFKernel.main_arg0)
      ∧ r.2.mem ((c.tc : Thread Cert.MixFKernel.nD Cert.MixFKernel.τ).loc Cert.MixFKernel.main_arg1) = m ((c.tc : Thread Cert.MixFKernel.nD Cert.MixFKernel.τ).loc Cert.MixFKernel.main_arg1)
      ∧ r.2.mem ((c.tc : Thread Cert.MixFKernel.nD Cert.MixFKernel.τ).loc Cert.MixFKernel.main_arg2) = m ((c.tc : Thread Cert.MixFKernel.nD Cert.MixFKernel.τ).loc Cert.MixFKernel.main_arg2))
      ∧ r.2.sem = fun _ => 0)

def quiescent_MixFKernelIdeal [hMixFKernelIdeal : Cert.MixFKernelIdeal.Facts] : Prop :=
  ∀ (m : (ℓ : Loc Cert.MixFKernelIdeal.nD Cert.MixFKernelIdeal.τ Cert.MixFKernelIdeal.sig) → Buf (Elt Ideal) ℓ) (g : Dev Cert.MixFKernelIdeal.nD → PrngReg), Pre_MixFKernelIdeal m →
    θ_run (Cert.MixFKernelIdeal.defs (F := Ideal)) (onTc (τ := Cert.MixFKernelIdeal.τ) (Cert.MixFKernelIdeal.main (F := Ideal))) ⟨m, fun _ => 0, g⟩ (fun r => (∀ c : Dev Cert.MixFKernelIdeal.nD,
      r.2.mem ((c.tc : Thread Cert.MixFKernelIdeal.nD Cert.MixFKernelIdeal.τ).loc Cert.MixFKernelIdeal.main_arg0) = m ((c.tc : Thread Cert.MixFKernelIdeal.nD Cert.MixFKernelIdeal.τ).loc Cert.MixFKernelIdeal.main_arg0)
      ∧ r.2.mem ((c.tc : Thread Cert.MixFKernelIdeal.nD Cert.MixFKernelIdeal.τ).loc Cert.MixFKernelIdeal.main_arg1) = m ((c.tc : Thread Cert.MixFKernelIdeal.nD Cert.MixFKernelIdeal.τ).loc Cert.MixFKernelIdeal.main_arg1)
      ∧ r.2.mem ((c.tc : Thread Cert.MixFKernelIdeal.nD Cert.MixFKernelIdeal.τ).loc Cert.MixFKernelIdeal.main_arg2) = m ((c.tc : Thread Cert.MixFKernelIdeal.nD Cert.MixFKernelIdeal.τ).loc Cert.MixFKernelIdeal.main_arg2))
      ∧ r.2.sem = fun _ => 0)

def quiescent_MixFReferenceIdeal [hMixFReferenceIdeal : Cert.MixFReferenceIdeal.Facts] : Prop :=
  ∀ (m : (ℓ : Loc Cert.MixFReferenceIdeal.nD Cert.MixFReferenceIdeal.τ Cert.MixFReferenceIdeal.sig) → Buf (Elt Ideal) ℓ) (g : Dev Cert.MixFReferenceIdeal.nD → PrngReg), Pre_MixFReferenceIdeal m →
    θ_run (Cert.MixFReferenceIdeal.defs (F := Ideal)) (onTc (τ := Cert.MixFReferenceIdeal.τ) (Cert.MixFReferenceIdeal.main (F := Ideal))) ⟨m, fun _ => 0, g⟩ (fun r => (∀ c : Dev Cert.MixFReferenceIdeal.nD,
      r.2.mem ((c.tc : Thread Cert.MixFReferenceIdeal.nD Cert.MixFReferenceIdeal.τ).loc Cert.MixFReferenceIdeal.main_arg0) = m ((c.tc : Thread Cert.MixFReferenceIdeal.nD Cert.MixFReferenceIdeal.τ).loc Cert.MixFReferenceIdeal.main_arg0)
      ∧ r.2.mem ((c.tc : Thread Cert.MixFReferenceIdeal.nD Cert.MixFReferenceIdeal.τ).loc Cert.MixFReferenceIdeal.main_arg1) = m ((c.tc : Thread Cert.MixFReferenceIdeal.nD Cert.MixFReferenceIdeal.τ).loc Cert.MixFReferenceIdeal.main_arg1)
      ∧ r.2.mem ((c.tc : Thread Cert.MixFReferenceIdeal.nD Cert.MixFReferenceIdeal.τ).loc Cert.MixFReferenceIdeal.main_arg2) = m ((c.tc : Thread Cert.MixFReferenceIdeal.nD Cert.MixFReferenceIdeal.τ).loc Cert.MixFReferenceIdeal.main_arg2))
      ∧ r.2.sem = fun _ => 0)

def preserves_GateKernel_GateKernelIdeal : Prop :=
  True

def algebraic_GateKernelIdeal_GateReferenceIdeal_pre_gate_finite [hGateKernelIdeal : Cert.GateKernelIdeal.Facts] [hGateReferenceIdeal : Cert.GateReferenceIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_gate_finite m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v4_0)) (v1 : (c : Dev Cert.GateKernelIdeal.nD) → Buf (Elt Ideal) ((c.tc : Thread Cert.GateKernelIdeal.nD Cert.GateKernelIdeal.τ).loc Cert.GateKernelIdeal.main_v4_1)) (v2 : (c : Dev Cert.GateKernelIdeal.nD) → Buf (Elt Ideal) ((c.tc : Thread Cert.GateKernelIdeal.nD Cert.GateKernelIdeal.τ).loc Cert.GateKernelIdeal.main_v4_2)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v4_0) = v0 c
          ∧ r.2.mem ((c.tc : Thread Cert.GateKernelIdeal.nD Cert.GateKernelIdeal.τ).loc Cert.GateKernelIdeal.main_v4_1) = v1 c
          ∧ r.2.mem ((c.tc : Thread Cert.GateKernelIdeal.nD Cert.GateKernelIdeal.τ).loc Cert.GateKernelIdeal.main_v4_2) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v13) = v0 c
          ∧ r.2.mem ((c.tc : Thread Cert.GateReferenceIdeal.nD Cert.GateReferenceIdeal.τ).loc Cert.GateReferenceIdeal.main_v14) = v1 c
          ∧ r.2.mem ((c.tc : Thread Cert.GateReferenceIdeal.nD Cert.GateReferenceIdeal.τ).loc Cert.GateReferenceIdeal.main_v17) = v2 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v2_0)) (v1 : (c : Dev Cert.MixKernelIdeal.nD) → Buf (Elt Ideal) ((c.tc : Thread Cert.MixKernelIdeal.nD Cert.MixKernelIdeal.τ).loc Cert.MixKernelIdeal.main_v2_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v2_0) = v0 c
          ∧ r.2.mem ((c.tc : Thread Cert.MixKernelIdeal.nD Cert.MixKernelIdeal.τ).loc Cert.MixKernelIdeal.main_v2_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v41) = v0 c
          ∧ r.2.mem ((c.tc : Thread Cert.MixReferenceIdeal.nD Cert.MixReferenceIdeal.τ).loc Cert.MixReferenceIdeal.main_v42) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_FfnInKernel_FfnInKernelIdeal : Prop :=
  True

def algebraic_FfnInKernelIdeal_FfnInReferenceIdeal_pre_ffnin_finite [hFfnInKernelIdeal : Cert.FfnInKernelIdeal.Facts] [hFfnInReferenceIdeal : Cert.FfnInReferenceIdeal.Facts] [hPre_ffnin_finite : Cert.Pre_ffnin_finite.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal_ffnin_finite m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)
      ∧ m' ((c.tc : Thread Cert.FfnInReferenceIdeal.nD Cert.FfnInReferenceIdeal.τ).loc Cert.FfnInReferenceIdeal.main_arg2) = m ((c.tc : Thread Cert.FfnInKernelIdeal.nD Cert.FfnInKernelIdeal.τ).loc Cert.FfnInKernelIdeal.main_arg2)
      ∧ m' ((c.tc : Thread Cert.FfnInReferenceIdeal.nD Cert.FfnInReferenceIdeal.τ).loc Cert.FfnInReferenceIdeal.main_arg3) = m ((c.tc : Thread Cert.FfnInKernelIdeal.nD Cert.FfnInKernelIdeal.τ).loc Cert.FfnInKernelIdeal.main_arg3)
      ∧ m' ((c.tc : Thread Cert.FfnInReferenceIdeal.nD Cert.FfnInReferenceIdeal.τ).loc Cert.FfnInReferenceIdeal.main_arg4) = m ((c.tc : Thread Cert.FfnInKernelIdeal.nD Cert.FfnInKernelIdeal.τ).loc Cert.FfnInKernelIdeal.main_arg4)
      ∧ m' ((c.tc : Thread Cert.FfnInReferenceIdeal.nD Cert.FfnInReferenceIdeal.τ).loc Cert.FfnInReferenceIdeal.main_arg5) = m ((c.tc : Thread Cert.FfnInKernelIdeal.nD Cert.FfnInKernelIdeal.τ).loc Cert.FfnInKernelIdeal.main_arg5)
      ∧ m' ((c.tc : Thread Cert.FfnInReferenceIdeal.nD Cert.FfnInReferenceIdeal.τ).loc Cert.FfnInReferenceIdeal.main_arg6) = m ((c.tc : Thread Cert.FfnInKernelIdeal.nD Cert.FfnInKernelIdeal.τ).loc Cert.FfnInKernelIdeal.main_arg6)) →
    ∃ (v0 : (c : Dev Cert.FfnInKernelIdeal.nD) → Buf (Elt Ideal) ((c.tc : Thread Cert.FfnInKernelIdeal.nD Cert.FfnInKernelIdeal.τ).loc Cert.FfnInKernelIdeal.main_v7_0)) (v1 : (c : Dev Cert.FfnInKernelIdeal.nD) → Buf (Elt Ideal) ((c.tc : Thread Cert.FfnInKernelIdeal.nD Cert.FfnInKernelIdeal.τ).loc Cert.FfnInKernelIdeal.main_v7_1)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v7_0) = v0 c
          ∧ r.2.mem ((c.tc : Thread Cert.FfnInKernelIdeal.nD Cert.FfnInKernelIdeal.τ).loc Cert.FfnInKernelIdeal.main_v7_1) = v1 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
          ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
          ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
          ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
          ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
          ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v46) = v0 c
          ∧ r.2.mem ((c.tc : Thread Cert.FfnInReferenceIdeal.nD Cert.FfnInReferenceIdeal.τ).loc Cert.FfnInReferenceIdeal.main_v47) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4)
          ∧ r.2.mem ((c.tc : Thread Cert.FfnInReferenceIdeal.nD Cert.FfnInReferenceIdeal.τ).loc Cert.FfnInReferenceIdeal.main_arg5) = m' ((c.tc : Thread Cert.FfnInReferenceIdeal.nD Cert.FfnInReferenceIdeal.τ).loc Cert.FfnInReferenceIdeal.main_arg5)
          ∧ r.2.mem ((c.tc : Thread Cert.FfnInReferenceIdeal.nD Cert.FfnInReferenceIdeal.τ).loc Cert.FfnInReferenceIdeal.main_arg6) = m' ((c.tc : Thread Cert.FfnInReferenceIdeal.nD Cert.FfnInReferenceIdeal.τ).loc Cert.FfnInReferenceIdeal.main_arg6))

def preserves_FfnIn1Kernel_FfnIn1KernelIdeal : Prop :=
  True

def algebraic_FfnIn1KernelIdeal_FfnIn1ReferenceIdeal_pre_ffnin1_finite [hFfnIn1KernelIdeal : Cert.FfnIn1KernelIdeal.Facts] [hFfnIn1ReferenceIdeal : Cert.FfnIn1ReferenceIdeal.Facts] [hPre_ffnin1_finite : Cert.Pre_ffnin1_finite.Facts] : Prop :=
  ∀ (m : (ℓ : Loc Cert.FfnIn1KernelIdeal.nD Cert.FfnIn1KernelIdeal.τ Cert.FfnIn1KernelIdeal.sig) → Buf (Elt Ideal) ℓ) (g : Dev Cert.FfnIn1KernelIdeal.nD → PrngReg)
    (m' : (ℓ : Loc Cert.FfnIn1ReferenceIdeal.nD Cert.FfnIn1ReferenceIdeal.τ Cert.FfnIn1ReferenceIdeal.sig) → Buf (Elt Ideal) ℓ) (g' : Dev Cert.FfnIn1ReferenceIdeal.nD → PrngReg), Pre_FfnIn1KernelIdeal_ffnin1_finite m →
    (∀ c : Dev Cert.FfnIn1KernelIdeal.nD,
      m' ((c.tc : Thread Cert.FfnIn1ReferenceIdeal.nD Cert.FfnIn1ReferenceIdeal.τ).loc Cert.FfnIn1ReferenceIdeal.main_arg0) = m ((c.tc : Thread Cert.FfnIn1KernelIdeal.nD Cert.FfnIn1KernelIdeal.τ).loc Cert.FfnIn1KernelIdeal.main_arg0)
      ∧ m' ((c.tc : Thread Cert.FfnIn1ReferenceIdeal.nD Cert.FfnIn1ReferenceIdeal.τ).loc Cert.FfnIn1ReferenceIdeal.main_arg1) = m ((c.tc : Thread Cert.FfnIn1KernelIdeal.nD Cert.FfnIn1KernelIdeal.τ).loc Cert.FfnIn1KernelIdeal.main_arg1)
      ∧ m' ((c.tc : Thread Cert.FfnIn1ReferenceIdeal.nD Cert.FfnIn1ReferenceIdeal.τ).loc Cert.FfnIn1ReferenceIdeal.main_arg2) = m ((c.tc : Thread Cert.FfnIn1KernelIdeal.nD Cert.FfnIn1KernelIdeal.τ).loc Cert.FfnIn1KernelIdeal.main_arg2)
      ∧ m' ((c.tc : Thread Cert.FfnIn1ReferenceIdeal.nD Cert.FfnIn1ReferenceIdeal.τ).loc Cert.FfnIn1ReferenceIdeal.main_arg3) = m ((c.tc : Thread Cert.FfnIn1KernelIdeal.nD Cert.FfnIn1KernelIdeal.τ).loc Cert.FfnIn1KernelIdeal.main_arg3)
      ∧ m' ((c.tc : Thread Cert.FfnIn1ReferenceIdeal.nD Cert.FfnIn1ReferenceIdeal.τ).loc Cert.FfnIn1ReferenceIdeal.main_arg4) = m ((c.tc : Thread Cert.FfnIn1KernelIdeal.nD Cert.FfnIn1KernelIdeal.τ).loc Cert.FfnIn1KernelIdeal.main_arg4)
      ∧ m' ((c.tc : Thread Cert.FfnIn1ReferenceIdeal.nD Cert.FfnIn1ReferenceIdeal.τ).loc Cert.FfnIn1ReferenceIdeal.main_arg5) = m ((c.tc : Thread Cert.FfnIn1KernelIdeal.nD Cert.FfnIn1KernelIdeal.τ).loc Cert.FfnIn1KernelIdeal.main_arg5)
      ∧ m' ((c.tc : Thread Cert.FfnIn1ReferenceIdeal.nD Cert.FfnIn1ReferenceIdeal.τ).loc Cert.FfnIn1ReferenceIdeal.main_arg6) = m ((c.tc : Thread Cert.FfnIn1KernelIdeal.nD Cert.FfnIn1KernelIdeal.τ).loc Cert.FfnIn1KernelIdeal.main_arg6)) →
    ∃ (v0 : (c : Dev Cert.FfnIn1KernelIdeal.nD) → Buf (Elt Ideal) ((c.tc : Thread Cert.FfnIn1KernelIdeal.nD Cert.FfnIn1KernelIdeal.τ).loc Cert.FfnIn1KernelIdeal.main_v7_0)) (v1 : (c : Dev Cert.FfnIn1KernelIdeal.nD) → Buf (Elt Ideal) ((c.tc : Thread Cert.FfnIn1KernelIdeal.nD Cert.FfnIn1KernelIdeal.τ).loc Cert.FfnIn1KernelIdeal.main_v7_1)) (v2 : (c : Dev Cert.FfnIn1KernelIdeal.nD) → Buf (Elt Ideal) ((c.tc : Thread Cert.FfnIn1KernelIdeal.nD Cert.FfnIn1KernelIdeal.τ).loc Cert.FfnIn1KernelIdeal.main_v7_2)),
      θ_run (Cert.FfnIn1KernelIdeal.defs (F := Ideal)) (onTc (τ := Cert.FfnIn1KernelIdeal.τ) (Cert.FfnIn1KernelIdeal.main (F := Ideal))) ⟨m, fun _ => 0, g⟩ (fun r => ∀ c : Dev Cert.FfnIn1KernelIdeal.nD,
          r.2.mem ((c.tc : Thread Cert.FfnIn1KernelIdeal.nD Cert.FfnIn1KernelIdeal.τ).loc Cert.FfnIn1KernelIdeal.main_v7_0) = v0 c
          ∧ r.2.mem ((c.tc : Thread Cert.FfnIn1KernelIdeal.nD Cert.FfnIn1KernelIdeal.τ).loc Cert.FfnIn1KernelIdeal.main_v7_1) = v1 c
          ∧ r.2.mem ((c.tc : Thread Cert.FfnIn1KernelIdeal.nD Cert.FfnIn1KernelIdeal.τ).loc Cert.FfnIn1KernelIdeal.main_v7_2) = v2 c
          ∧ r.2.mem ((c.tc : Thread Cert.FfnIn1KernelIdeal.nD Cert.FfnIn1KernelIdeal.τ).loc Cert.FfnIn1KernelIdeal.main_arg0) = m ((c.tc : Thread Cert.FfnIn1KernelIdeal.nD Cert.FfnIn1KernelIdeal.τ).loc Cert.FfnIn1KernelIdeal.main_arg0)
          ∧ r.2.mem ((c.tc : Thread Cert.FfnIn1KernelIdeal.nD Cert.FfnIn1KernelIdeal.τ).loc Cert.FfnIn1KernelIdeal.main_arg1) = m ((c.tc : Thread Cert.FfnIn1KernelIdeal.nD Cert.FfnIn1KernelIdeal.τ).loc Cert.FfnIn1KernelIdeal.main_arg1)
          ∧ r.2.mem ((c.tc : Thread Cert.FfnIn1KernelIdeal.nD Cert.FfnIn1KernelIdeal.τ).loc Cert.FfnIn1KernelIdeal.main_arg2) = m ((c.tc : Thread Cert.FfnIn1KernelIdeal.nD Cert.FfnIn1KernelIdeal.τ).loc Cert.FfnIn1KernelIdeal.main_arg2)
          ∧ r.2.mem ((c.tc : Thread Cert.FfnIn1KernelIdeal.nD Cert.FfnIn1KernelIdeal.τ).loc Cert.FfnIn1KernelIdeal.main_arg3) = m ((c.tc : Thread Cert.FfnIn1KernelIdeal.nD Cert.FfnIn1KernelIdeal.τ).loc Cert.FfnIn1KernelIdeal.main_arg3)
          ∧ r.2.mem ((c.tc : Thread Cert.FfnIn1KernelIdeal.nD Cert.FfnIn1KernelIdeal.τ).loc Cert.FfnIn1KernelIdeal.main_arg4) = m ((c.tc : Thread Cert.FfnIn1KernelIdeal.nD Cert.FfnIn1KernelIdeal.τ).loc Cert.FfnIn1KernelIdeal.main_arg4)
          ∧ r.2.mem ((c.tc : Thread Cert.FfnIn1KernelIdeal.nD Cert.FfnIn1KernelIdeal.τ).loc Cert.FfnIn1KernelIdeal.main_arg5) = m ((c.tc : Thread Cert.FfnIn1KernelIdeal.nD Cert.FfnIn1KernelIdeal.τ).loc Cert.FfnIn1KernelIdeal.main_arg5)
          ∧ r.2.mem ((c.tc : Thread Cert.FfnIn1KernelIdeal.nD Cert.FfnIn1KernelIdeal.τ).loc Cert.FfnIn1KernelIdeal.main_arg6) = m ((c.tc : Thread Cert.FfnIn1KernelIdeal.nD Cert.FfnIn1KernelIdeal.τ).loc Cert.FfnIn1KernelIdeal.main_arg6))
      ∧ θ_run (Cert.FfnIn1ReferenceIdeal.defs (F := Ideal)) (onTc (τ := Cert.FfnIn1ReferenceIdeal.τ) (Cert.FfnIn1ReferenceIdeal.main (F := Ideal))) ⟨m', fun _ => 0, g'⟩ (fun r => ∀ c : Dev Cert.FfnIn1ReferenceIdeal.nD,
          r.2.mem ((c.tc : Thread Cert.FfnIn1ReferenceIdeal.nD Cert.FfnIn1ReferenceIdeal.τ).loc Cert.FfnIn1ReferenceIdeal.main_v55) = v0 c
          ∧ r.2.mem ((c.tc : Thread Cert.FfnIn1ReferenceIdeal.nD Cert.FfnIn1ReferenceIdeal.τ).loc Cert.FfnIn1ReferenceIdeal.main_v56) = v1 c
          ∧ r.2.mem ((c.tc : Thread Cert.FfnIn1ReferenceIdeal.nD Cert.FfnIn1ReferenceIdeal.τ).loc Cert.FfnIn1ReferenceIdeal.main_v54) = v2 c
          ∧ r.2.mem ((c.tc : Thread Cert.FfnIn1ReferenceIdeal.nD Cert.FfnIn1ReferenceIdeal.τ).loc Cert.FfnIn1ReferenceIdeal.main_arg0) = m' ((c.tc : Thread Cert.FfnIn1ReferenceIdeal.nD Cert.FfnIn1ReferenceIdeal.τ).loc Cert.FfnIn1ReferenceIdeal.main_arg0)
          ∧ r.2.mem ((c.tc : Thread Cert.FfnIn1ReferenceIdeal.nD Cert.FfnIn1ReferenceIdeal.τ).loc Cert.FfnIn1ReferenceIdeal.main_arg1) = m' ((c.tc : Thread Cert.FfnIn1ReferenceIdeal.nD Cert.FfnIn1ReferenceIdeal.τ).loc Cert.FfnIn1ReferenceIdeal.main_arg1)
          ∧ r.2.mem ((c.tc : Thread Cert.FfnIn1ReferenceIdeal.nD Cert.FfnIn1ReferenceIdeal.τ).loc Cert.FfnIn1ReferenceIdeal.main_arg2) = m' ((c.tc : Thread Cert.FfnIn1ReferenceIdeal.nD Cert.FfnIn1ReferenceIdeal.τ).loc Cert.FfnIn1ReferenceIdeal.main_arg2)
          ∧ r.2.mem ((c.tc : Thread Cert.FfnIn1ReferenceIdeal.nD Cert.FfnIn1ReferenceIdeal.τ).loc Cert.FfnIn1ReferenceIdeal.main_arg3) = m' ((c.tc : Thread Cert.FfnIn1ReferenceIdeal.nD Cert.FfnIn1ReferenceIdeal.τ).loc Cert.FfnIn1ReferenceIdeal.main_arg3)
          ∧ r.2.mem ((c.tc : Thread Cert.FfnIn1ReferenceIdeal.nD Cert.FfnIn1ReferenceIdeal.τ).loc Cert.FfnIn1ReferenceIdeal.main_arg4) = m' ((c.tc : Thread Cert.FfnIn1ReferenceIdeal.nD Cert.FfnIn1ReferenceIdeal.τ).loc Cert.FfnIn1ReferenceIdeal.main_arg4)
          ∧ r.2.mem ((c.tc : Thread Cert.FfnIn1ReferenceIdeal.nD Cert.FfnIn1ReferenceIdeal.τ).loc Cert.FfnIn1ReferenceIdeal.main_arg5) = m' ((c.tc : Thread Cert.FfnIn1ReferenceIdeal.nD Cert.FfnIn1ReferenceIdeal.τ).loc Cert.FfnIn1ReferenceIdeal.main_arg5)
          ∧ r.2.mem ((c.tc : Thread Cert.FfnIn1ReferenceIdeal.nD Cert.FfnIn1ReferenceIdeal.τ).loc Cert.FfnIn1ReferenceIdeal.main_arg6) = m' ((c.tc : Thread Cert.FfnIn1ReferenceIdeal.nD Cert.FfnIn1ReferenceIdeal.τ).loc Cert.FfnIn1ReferenceIdeal.main_arg6))

def preserves_ParamKernel_ParamKernelIdeal : Prop :=
  True

def algebraic_ParamKernelIdeal_ParamReferenceIdeal_pre_param_finite [hParamKernelIdeal : Cert.ParamKernelIdeal.Facts] [hParamReferenceIdeal : Cert.ParamReferenceIdeal.Facts] [hPre_param_finite : Cert.Pre_param_finite.Facts] : Prop :=
  ∀ (m : (ℓ : Loc Cert.ParamKernelIdeal.nD Cert.ParamKernelIdeal.τ Cert.ParamKernelIdeal.sig) → Buf (Elt Ideal) ℓ) (g : Dev Cert.ParamKernelIdeal.nD → PrngReg)
    (m' : (ℓ : Loc Cert.ParamReferenceIdeal.nD Cert.ParamReferenceIdeal.τ Cert.ParamReferenceIdeal.sig) → Buf (Elt Ideal) ℓ) (g' : Dev Cert.ParamReferenceIdeal.nD → PrngReg), Pre_ParamKernelIdeal_param_finite m →
    (∀ c : Dev Cert.ParamKernelIdeal.nD,
      m' ((c.tc : Thread Cert.ParamReferenceIdeal.nD Cert.ParamReferenceIdeal.τ).loc Cert.ParamReferenceIdeal.main_arg0) = m ((c.tc : Thread Cert.ParamKernelIdeal.nD Cert.ParamKernelIdeal.τ).loc Cert.ParamKernelIdeal.main_arg0)
      ∧ m' ((c.tc : Thread Cert.ParamReferenceIdeal.nD Cert.ParamReferenceIdeal.τ).loc Cert.ParamReferenceIdeal.main_arg1) = m ((c.tc : Thread Cert.ParamKernelIdeal.nD Cert.ParamKernelIdeal.τ).loc Cert.ParamKernelIdeal.main_arg1)
      ∧ m' ((c.tc : Thread Cert.ParamReferenceIdeal.nD Cert.ParamReferenceIdeal.τ).loc Cert.ParamReferenceIdeal.main_arg2) = m ((c.tc : Thread Cert.ParamKernelIdeal.nD Cert.ParamKernelIdeal.τ).loc Cert.ParamKernelIdeal.main_arg2)
      ∧ m' ((c.tc : Thread Cert.ParamReferenceIdeal.nD Cert.ParamReferenceIdeal.τ).loc Cert.ParamReferenceIdeal.main_arg3) = m ((c.tc : Thread Cert.ParamKernelIdeal.nD Cert.ParamKernelIdeal.τ).loc Cert.ParamKernelIdeal.main_arg3)
      ∧ m' ((c.tc : Thread Cert.ParamReferenceIdeal.nD Cert.ParamReferenceIdeal.τ).loc Cert.ParamReferenceIdeal.main_arg4) = m ((c.tc : Thread Cert.ParamKernelIdeal.nD Cert.ParamKernelIdeal.τ).loc Cert.ParamKernelIdeal.main_arg4)
      ∧ m' ((c.tc : Thread Cert.ParamReferenceIdeal.nD Cert.ParamReferenceIdeal.τ).loc Cert.ParamReferenceIdeal.main_arg5) = m ((c.tc : Thread Cert.ParamKernelIdeal.nD Cert.ParamKernelIdeal.τ).loc Cert.ParamKernelIdeal.main_arg5)
      ∧ m' ((c.tc : Thread Cert.ParamReferenceIdeal.nD Cert.ParamReferenceIdeal.τ).loc Cert.ParamReferenceIdeal.main_arg6) = m ((c.tc : Thread Cert.ParamKernelIdeal.nD Cert.ParamKernelIdeal.τ).loc Cert.ParamKernelIdeal.main_arg6)
      ∧ m' ((c.tc : Thread Cert.ParamReferenceIdeal.nD Cert.ParamReferenceIdeal.τ).loc Cert.ParamReferenceIdeal.main_arg7) = m ((c.tc : Thread Cert.ParamKernelIdeal.nD Cert.ParamKernelIdeal.τ).loc Cert.ParamKernelIdeal.main_arg7)
      ∧ m' ((c.tc : Thread Cert.ParamReferenceIdeal.nD Cert.ParamReferenceIdeal.τ).loc Cert.ParamReferenceIdeal.main_arg8) = m ((c.tc : Thread Cert.ParamKernelIdeal.nD Cert.ParamKernelIdeal.τ).loc Cert.ParamKernelIdeal.main_arg8)) →
    ∃ (v0 : (c : Dev Cert.ParamKernelIdeal.nD) → Buf (Elt Ideal) ((c.tc : Thread Cert.ParamKernelIdeal.nD Cert.ParamKernelIdeal.τ).loc Cert.ParamKernelIdeal.main_v24_0)) (v1 : (c : Dev Cert.ParamKernelIdeal.nD) → Buf (Elt Ideal) ((c.tc : Thread Cert.ParamKernelIdeal.nD Cert.ParamKernelIdeal.τ).loc Cert.ParamKernelIdeal.main_v24_1)) (v2 : (c : Dev Cert.ParamKernelIdeal.nD) → Buf (Elt Ideal) ((c.tc : Thread Cert.ParamKernelIdeal.nD Cert.ParamKernelIdeal.τ).loc Cert.ParamKernelIdeal.main_v24_2)) (v3 : (c : Dev Cert.ParamKernelIdeal.nD) → Buf (Elt Ideal) ((c.tc : Thread Cert.ParamKernelIdeal.nD Cert.ParamKernelIdeal.τ).loc Cert.ParamKernelIdeal.main_v24_3)) (v4 : (c : Dev Cert.ParamKernelIdeal.nD) → Buf (Elt Ideal) ((c.tc : Thread Cert.ParamKernelIdeal.nD Cert.ParamKernelIdeal.τ).loc Cert.ParamKernelIdeal.main_v24_4)),
      θ_run (Cert.ParamKernelIdeal.defs (F := Ideal)) (onTc (τ := Cert.ParamKernelIdeal.τ) (Cert.ParamKernelIdeal.main (F := Ideal))) ⟨m, fun _ => 0, g⟩ (fun r => ∀ c : Dev Cert.ParamKernelIdeal.nD,
          r.2.mem ((c.tc : Thread Cert.ParamKernelIdeal.nD Cert.ParamKernelIdeal.τ).loc Cert.ParamKernelIdeal.main_v24_0) = v0 c
          ∧ r.2.mem ((c.tc : Thread Cert.ParamKernelIdeal.nD Cert.ParamKernelIdeal.τ).loc Cert.ParamKernelIdeal.main_v24_1) = v1 c
          ∧ r.2.mem ((c.tc : Thread Cert.ParamKernelIdeal.nD Cert.ParamKernelIdeal.τ).loc Cert.ParamKernelIdeal.main_v24_2) = v2 c
          ∧ r.2.mem ((c.tc : Thread Cert.ParamKernelIdeal.nD Cert.ParamKernelIdeal.τ).loc Cert.ParamKernelIdeal.main_v24_3) = v3 c
          ∧ r.2.mem ((c.tc : Thread Cert.ParamKernelIdeal.nD Cert.ParamKernelIdeal.τ).loc Cert.ParamKernelIdeal.main_v24_4) = v4 c
          ∧ r.2.mem ((c.tc : Thread Cert.ParamKernelIdeal.nD Cert.ParamKernelIdeal.τ).loc Cert.ParamKernelIdeal.main_arg0) = m ((c.tc : Thread Cert.ParamKernelIdeal.nD Cert.ParamKernelIdeal.τ).loc Cert.ParamKernelIdeal.main_arg0)
          ∧ r.2.mem ((c.tc : Thread Cert.ParamKernelIdeal.nD Cert.ParamKernelIdeal.τ).loc Cert.ParamKernelIdeal.main_arg1) = m ((c.tc : Thread Cert.ParamKernelIdeal.nD Cert.ParamKernelIdeal.τ).loc Cert.ParamKernelIdeal.main_arg1)
          ∧ r.2.mem ((c.tc : Thread Cert.ParamKernelIdeal.nD Cert.ParamKernelIdeal.τ).loc Cert.ParamKernelIdeal.main_arg2) = m ((c.tc : Thread Cert.ParamKernelIdeal.nD Cert.ParamKernelIdeal.τ).loc Cert.ParamKernelIdeal.main_arg2)
          ∧ r.2.mem ((c.tc : Thread Cert.ParamKernelIdeal.nD Cert.ParamKernelIdeal.τ).loc Cert.ParamKernelIdeal.main_arg3) = m ((c.tc : Thread Cert.ParamKernelIdeal.nD Cert.ParamKernelIdeal.τ).loc Cert.ParamKernelIdeal.main_arg3)
          ∧ r.2.mem ((c.tc : Thread Cert.ParamKernelIdeal.nD Cert.ParamKernelIdeal.τ).loc Cert.ParamKernelIdeal.main_arg4) = m ((c.tc : Thread Cert.ParamKernelIdeal.nD Cert.ParamKernelIdeal.τ).loc Cert.ParamKernelIdeal.main_arg4)
          ∧ r.2.mem ((c.tc : Thread Cert.ParamKernelIdeal.nD Cert.ParamKernelIdeal.τ).loc Cert.ParamKernelIdeal.main_arg5) = m ((c.tc : Thread Cert.ParamKernelIdeal.nD Cert.ParamKernelIdeal.τ).loc Cert.ParamKernelIdeal.main_arg5)
          ∧ r.2.mem ((c.tc : Thread Cert.ParamKernelIdeal.nD Cert.ParamKernelIdeal.τ).loc Cert.ParamKernelIdeal.main_arg6) = m ((c.tc : Thread Cert.ParamKernelIdeal.nD Cert.ParamKernelIdeal.τ).loc Cert.ParamKernelIdeal.main_arg6)
          ∧ r.2.mem ((c.tc : Thread Cert.ParamKernelIdeal.nD Cert.ParamKernelIdeal.τ).loc Cert.ParamKernelIdeal.main_arg7) = m ((c.tc : Thread Cert.ParamKernelIdeal.nD Cert.ParamKernelIdeal.τ).loc Cert.ParamKernelIdeal.main_arg7)
          ∧ r.2.mem ((c.tc : Thread Cert.ParamKernelIdeal.nD Cert.ParamKernelIdeal.τ).loc Cert.ParamKernelIdeal.main_arg8) = m ((c.tc : Thread Cert.ParamKernelIdeal.nD Cert.ParamKernelIdeal.τ).loc Cert.ParamKernelIdeal.main_arg8))
      ∧ θ_run (Cert.ParamReferenceIdeal.defs (F := Ideal)) (onTc (τ := Cert.ParamReferenceIdeal.τ) (Cert.ParamReferenceIdeal.main (F := Ideal))) ⟨m', fun _ => 0, g'⟩ (fun r => ∀ c : Dev Cert.ParamReferenceIdeal.nD,
          r.2.mem ((c.tc : Thread Cert.ParamReferenceIdeal.nD Cert.ParamReferenceIdeal.τ).loc Cert.ParamReferenceIdeal.main_v143) = v0 c
          ∧ r.2.mem ((c.tc : Thread Cert.ParamReferenceIdeal.nD Cert.ParamReferenceIdeal.τ).loc Cert.ParamReferenceIdeal.main_v144) = v1 c
          ∧ r.2.mem ((c.tc : Thread Cert.ParamReferenceIdeal.nD Cert.ParamReferenceIdeal.τ).loc Cert.ParamReferenceIdeal.main_v146) = v2 c
          ∧ r.2.mem ((c.tc : Thread Cert.ParamReferenceIdeal.nD Cert.ParamReferenceIdeal.τ).loc Cert.ParamReferenceIdeal.main_v140) = v3 c
          ∧ r.2.mem ((c.tc : Thread Cert.ParamReferenceIdeal.nD Cert.ParamReferenceIdeal.τ).loc Cert.ParamReferenceIdeal.main_v142) = v4 c
          ∧ r.2.mem ((c.tc : Thread Cert.ParamReferenceIdeal.nD Cert.ParamReferenceIdeal.τ).loc Cert.ParamReferenceIdeal.main_arg0) = m' ((c.tc : Thread Cert.ParamReferenceIdeal.nD Cert.ParamReferenceIdeal.τ).loc Cert.ParamReferenceIdeal.main_arg0)
          ∧ r.2.mem ((c.tc : Thread Cert.ParamReferenceIdeal.nD Cert.ParamReferenceIdeal.τ).loc Cert.ParamReferenceIdeal.main_arg1) = m' ((c.tc : Thread Cert.ParamReferenceIdeal.nD Cert.ParamReferenceIdeal.τ).loc Cert.ParamReferenceIdeal.main_arg1)
          ∧ r.2.mem ((c.tc : Thread Cert.ParamReferenceIdeal.nD Cert.ParamReferenceIdeal.τ).loc Cert.ParamReferenceIdeal.main_arg2) = m' ((c.tc : Thread Cert.ParamReferenceIdeal.nD Cert.ParamReferenceIdeal.τ).loc Cert.ParamReferenceIdeal.main_arg2)
          ∧ r.2.mem ((c.tc : Thread Cert.ParamReferenceIdeal.nD Cert.ParamReferenceIdeal.τ).loc Cert.ParamReferenceIdeal.main_arg3) = m' ((c.tc : Thread Cert.ParamReferenceIdeal.nD Cert.ParamReferenceIdeal.τ).loc Cert.ParamReferenceIdeal.main_arg3)
          ∧ r.2.mem ((c.tc : Thread Cert.ParamReferenceIdeal.nD Cert.ParamReferenceIdeal.τ).loc Cert.ParamReferenceIdeal.main_arg4) = m' ((c.tc : Thread Cert.ParamReferenceIdeal.nD Cert.ParamReferenceIdeal.τ).loc Cert.ParamReferenceIdeal.main_arg4)
          ∧ r.2.mem ((c.tc : Thread Cert.ParamReferenceIdeal.nD Cert.ParamReferenceIdeal.τ).loc Cert.ParamReferenceIdeal.main_arg5) = m' ((c.tc : Thread Cert.ParamReferenceIdeal.nD Cert.ParamReferenceIdeal.τ).loc Cert.ParamReferenceIdeal.main_arg5)
          ∧ r.2.mem ((c.tc : Thread Cert.ParamReferenceIdeal.nD Cert.ParamReferenceIdeal.τ).loc Cert.ParamReferenceIdeal.main_arg6) = m' ((c.tc : Thread Cert.ParamReferenceIdeal.nD Cert.ParamReferenceIdeal.τ).loc Cert.ParamReferenceIdeal.main_arg6)
          ∧ r.2.mem ((c.tc : Thread Cert.ParamReferenceIdeal.nD Cert.ParamReferenceIdeal.τ).loc Cert.ParamReferenceIdeal.main_arg7) = m' ((c.tc : Thread Cert.ParamReferenceIdeal.nD Cert.ParamReferenceIdeal.τ).loc Cert.ParamReferenceIdeal.main_arg7)
          ∧ r.2.mem ((c.tc : Thread Cert.ParamReferenceIdeal.nD Cert.ParamReferenceIdeal.τ).loc Cert.ParamReferenceIdeal.main_arg8) = m' ((c.tc : Thread Cert.ParamReferenceIdeal.nD Cert.ParamReferenceIdeal.τ).loc Cert.ParamReferenceIdeal.main_arg8))

def preserves_MergeKernel_MergeKernelIdeal : Prop :=
  IdealRules.named_const.Statement Cert.MergeKernelIdeal.κ "gelu_k" .f32 0x3D372713#32 ((8943 / 200000 : ℝ) : EReal)
  ∧ IdealRules.named_const.Statement Cert.MergeKernelIdeal.κ "gelu_3k" .f32 0x3E095D4F#32 ((26829 / 200000 : ℝ) : EReal)

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)) →
    ∃ (v0 : (c : Dev Cert.MergeKernelIdeal.nD) → Buf (Elt Ideal) ((c.tc : Thread Cert.MergeKernelIdeal.nD Cert.MergeKernelIdeal.τ).loc Cert.MergeKernelIdeal.main_v6_0)) (v1 : (c : Dev Cert.MergeKernelIdeal.nD) → Buf (Elt Ideal) ((c.tc : Thread Cert.MergeKernelIdeal.nD Cert.MergeKernelIdeal.τ).loc Cert.MergeKernelIdeal.main_v6_1)) (v2 : (c : Dev Cert.MergeKernelIdeal.nD) → Buf (Elt Ideal) ((c.tc : Thread Cert.MergeKernelIdeal.nD Cert.MergeKernelIdeal.τ).loc Cert.MergeKernelIdeal.main_v7)) (v3 : (c : Dev Cert.MergeKernelIdeal.nD) → Buf (Elt Ideal) ((c.tc : Thread Cert.MergeKernelIdeal.nD Cert.MergeKernelIdeal.τ).loc Cert.MergeKernelIdeal.main_v6_3)) (v4 : (c : Dev Cert.MergeKernelIdeal.nD) → Buf (Elt Ideal) ((c.tc : Thread Cert.MergeKernelIdeal.nD Cert.MergeKernelIdeal.τ).loc Cert.MergeKernelIdeal.main_v6_4)) (v5 : (c : Dev Cert.MergeKernelIdeal.nD) → Buf (Elt Ideal) ((c.tc : Thread Cert.MergeKernelIdeal.nD Cert.MergeKernelIdeal.τ).loc Cert.MergeKernelIdeal.main_v6_5)) (v6 : (c : Dev Cert.MergeKernelIdeal.nD) → Buf (Elt Ideal) ((c.tc : Thread Cert.MergeKernelIdeal.nD Cert.MergeKernelIdeal.τ).loc Cert.MergeKernelIdeal.main_v6_6)) (v7 : (c : Dev Cert.MergeKernelIdeal.nD) → Buf (Elt Ideal) ((c.tc : Thread Cert.MergeKernelIdeal.nD Cert.MergeKernelIdeal.τ).loc Cert.MergeKernelIdeal.main_v6_7)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v6_0) = v0 c
          ∧ r.2.mem ((c.tc : Thread Cert.MergeKernelIdeal.nD Cert.MergeKernelIdeal.τ).loc Cert.MergeKernelIdeal.main_v6_1) = v1 c
          ∧ r.2.mem ((c.tc : Thread Cert.MergeKernelIdeal.nD Cert.MergeKernelIdeal.τ).loc Cert.MergeKernelIdeal.main_v7) = v2 c
          ∧ r.2.mem ((c.tc : Thread Cert.MergeKernelIdeal.nD Cert.MergeKernelIdeal.τ).loc Cert.MergeKernelIdeal.main_v6_3) = v3 c
          ∧ r.2.mem ((c.tc : Thread Cert.MergeKernelIdeal.nD Cert.MergeKernelIdeal.τ).loc Cert.MergeKernelIdeal.main_v6_4) = v4 c
          ∧ r.2.mem ((c.tc : Thread Cert.MergeKernelIdeal.nD Cert.MergeKernelIdeal.τ).loc Cert.MergeKernelIdeal.main_v6_5) = v5 c
          ∧ r.2.mem ((c.tc : Thread Cert.MergeKernelIdeal.nD Cert.MergeKernelIdeal.τ).loc Cert.MergeKernelIdeal.main_v6_6) = v6 c
          ∧ r.2.mem ((c.tc : Thread Cert.MergeKernelIdeal.nD Cert.MergeKernelIdeal.τ).loc Cert.MergeKernelIdeal.main_v6_7) = v7 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v98) = v0 c
          ∧ r.2.mem ((c.tc : Thread Cert.MergeReferenceIdeal.nD Cert.MergeReferenceIdeal.τ).loc Cert.MergeReferenceIdeal.main_v99) = v1 c
          ∧ r.2.mem ((c.tc : Thread Cert.MergeReferenceIdeal.nD Cert.MergeReferenceIdeal.τ).loc Cert.MergeReferenceIdeal.main_v100) = v2 c
          ∧ r.2.mem ((c.tc : Thread Cert.MergeReferenceIdeal.nD Cert.MergeReferenceIdeal.τ).loc Cert.MergeReferenceIdeal.main_v101) = v3 c
          ∧ r.2.mem ((c.tc : Thread Cert.MergeReferenceIdeal.nD Cert.MergeReferenceIdeal.τ).loc Cert.MergeReferenceIdeal.main_v102) = v4 c
          ∧ r.2.mem ((c.tc : Thread Cert.MergeReferenceIdeal.nD Cert.MergeReferenceIdeal.τ).loc Cert.MergeReferenceIdeal.main_v103) = v5 c
          ∧ r.2.mem ((c.tc : Thread Cert.MergeReferenceIdeal.nD Cert.MergeReferenceIdeal.τ).loc Cert.MergeReferenceIdeal.main_v104) = v6 c
          ∧ r.2.mem ((c.tc : Thread Cert.MergeReferenceIdeal.nD Cert.MergeReferenceIdeal.τ).loc Cert.MergeReferenceIdeal.main_v105) = v7 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v54) = v0 c
          ∧ r.2.mem ((c.tc : Thread Cert.LossReferenceIdeal.nD Cert.LossReferenceIdeal.τ).loc Cert.LossReferenceIdeal.main_v55) = v1 c
          ∧ r.2.mem ((c.tc : Thread Cert.LossReferenceIdeal.nD Cert.LossReferenceIdeal.τ).loc Cert.LossReferenceIdeal.main_v56) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_FfnWKernel_FfnWKernelIdeal : Prop :=
  True

def algebraic_FfnWKernelIdeal_FfnWReferenceIdeal [hFfnWKernelIdeal : Cert.FfnWKernelIdeal.Facts] [hFfnWReferenceIdeal : Cert.FfnWReferenceIdeal.Facts] : Prop :=
  ∀ (m : (ℓ : Loc Cert.FfnWKernelIdeal.nD Cert.FfnWKernelIdeal.τ Cert.FfnWKernelIdeal.sig) → Buf (Elt Ideal) ℓ) (g : Dev Cert.FfnWKernelIdeal.nD → PrngReg)
    (m' : (ℓ : Loc Cert.FfnWReferenceIdeal.nD Cert.FfnWReferenceIdeal.τ Cert.FfnWReferenceIdeal.sig) → Buf (Elt Ideal) ℓ) (g' : Dev Cert.FfnWReferenceIdeal.nD → PrngReg), Pre_FfnWKernelIdeal m →
    (∀ c : Dev Cert.FfnWKernelIdeal.nD,
      m' ((c.tc : Thread Cert.FfnWReferenceIdeal.nD Cert.FfnWReferenceIdeal.τ).loc Cert.FfnWReferenceIdeal.main_arg0) = m ((c.tc : Thread Cert.FfnWKernelIdeal.nD Cert.FfnWKernelIdeal.τ).loc Cert.FfnWKernelIdeal.main_arg0)
      ∧ m' ((c.tc : Thread Cert.FfnWReferenceIdeal.nD Cert.FfnWReferenceIdeal.τ).loc Cert.FfnWReferenceIdeal.main_arg1) = m ((c.tc : Thread Cert.FfnWKernelIdeal.nD Cert.FfnWKernelIdeal.τ).loc Cert.FfnWKernelIdeal.main_arg1)
      ∧ m' ((c.tc : Thread Cert.FfnWReferenceIdeal.nD Cert.FfnWReferenceIdeal.τ).loc Cert.FfnWReferenceIdeal.main_arg2) = m ((c.tc : Thread Cert.FfnWKernelIdeal.nD Cert.FfnWKernelIdeal.τ).loc Cert.FfnWKernelIdeal.main_arg2)
      ∧ m' ((c.tc : Thread Cert.FfnWReferenceIdeal.nD Cert.FfnWReferenceIdeal.τ).loc Cert.FfnWReferenceIdeal.main_arg3) = m ((c.tc : Thread Cert.FfnWKernelIdeal.nD Cert.FfnWKernelIdeal.τ).loc Cert.FfnWKernelIdeal.main_arg3)
      ∧ m' ((c.tc : Thread Cert.FfnWReferenceIdeal.nD Cert.FfnWReferenceIdeal.τ).loc Cert.FfnWReferenceIdeal.main_arg4) = m ((c.tc : Thread Cert.FfnWKernelIdeal.nD Cert.FfnWKernelIdeal.τ).loc Cert.FfnWKernelIdeal.main_arg4)
      ∧ m' ((c.tc : Thread Cert.FfnWReferenceIdeal.nD Cert.FfnWReferenceIdeal.τ).loc Cert.FfnWReferenceIdeal.main_arg5) = m ((c.tc : Thread Cert.FfnWKernelIdeal.nD Cert.FfnWKernelIdeal.τ).loc Cert.FfnWKernelIdeal.main_arg5)) →
    ∃ (v0 : (c : Dev Cert.FfnWKernelIdeal.nD) → Buf (Elt Ideal) ((c.tc : Thread Cert.FfnWKernelIdeal.nD Cert.FfnWKernelIdeal.τ).loc Cert.FfnWKernelIdeal.main_v8_0)) (v1 : (c : Dev Cert.FfnWKernelIdeal.nD) → Buf (Elt Ideal) ((c.tc : Thread Cert.FfnWKernelIdeal.nD Cert.FfnWKernelIdeal.τ).loc Cert.FfnWKernelIdeal.main_v8_1)) (v2 : (c : Dev Cert.FfnWKernelIdeal.nD) → Buf (Elt Ideal) ((c.tc : Thread Cert.FfnWKernelIdeal.nD Cert.FfnWKernelIdeal.τ).loc Cert.FfnWKernelIdeal.main_v8_2)),
      θ_run (Cert.FfnWKernelIdeal.defs (F := Ideal)) (onTc (τ := Cert.FfnWKernelIdeal.τ) (Cert.FfnWKernelIdeal.main (F := Ideal))) ⟨m, fun _ => 0, g⟩ (fun r => ∀ c : Dev Cert.FfnWKernelIdeal.nD,
          r.2.mem ((c.tc : Thread Cert.FfnWKernelIdeal.nD Cert.FfnWKernelIdeal.τ).loc Cert.FfnWKernelIdeal.main_v8_0) = v0 c
          ∧ r.2.mem ((c.tc : Thread Cert.FfnWKernelIdeal.nD Cert.FfnWKernelIdeal.τ).loc Cert.FfnWKernelIdeal.main_v8_1) = v1 c
          ∧ r.2.mem ((c.tc : Thread Cert.FfnWKernelIdeal.nD Cert.FfnWKernelIdeal.τ).loc Cert.FfnWKernelIdeal.main_v8_2) = v2 c
          ∧ r.2.mem ((c.tc : Thread Cert.FfnWKernelIdeal.nD Cert.FfnWKernelIdeal.τ).loc Cert.FfnWKernelIdeal.main_arg0) = m ((c.tc : Thread Cert.FfnWKernelIdeal.nD Cert.FfnWKernelIdeal.τ).loc Cert.FfnWKernelIdeal.main_arg0)
          ∧ r.2.mem ((c.tc : Thread Cert.FfnWKernelIdeal.nD Cert.FfnWKernelIdeal.τ).loc Cert.FfnWKernelIdeal.main_arg1) = m ((c.tc : Thread Cert.FfnWKernelIdeal.nD Cert.FfnWKernelIdeal.τ).loc Cert.FfnWKernelIdeal.main_arg1)
          ∧ r.2.mem ((c.tc : Thread Cert.FfnWKernelIdeal.nD Cert.FfnWKernelIdeal.τ).loc Cert.FfnWKernelIdeal.main_arg2) = m ((c.tc : Thread Cert.FfnWKernelIdeal.nD Cert.FfnWKernelIdeal.τ).loc Cert.FfnWKernelIdeal.main_arg2)
          ∧ r.2.mem ((c.tc : Thread Cert.FfnWKernelIdeal.nD Cert.FfnWKernelIdeal.τ).loc Cert.FfnWKernelIdeal.main_arg3) = m ((c.tc : Thread Cert.FfnWKernelIdeal.nD Cert.FfnWKernelIdeal.τ).loc Cert.FfnWKernelIdeal.main_arg3)
          ∧ r.2.mem ((c.tc : Thread Cert.FfnWKernelIdeal.nD Cert.FfnWKernelIdeal.τ).loc Cert.FfnWKernelIdeal.main_arg4) = m ((c.tc : Thread Cert.FfnWKernelIdeal.nD Cert.FfnWKernelIdeal.τ).loc Cert.FfnWKernelIdeal.main_arg4)
          ∧ r.2.mem ((c.tc : Thread Cert.FfnWKernelIdeal.nD Cert.FfnWKernelIdeal.τ).loc Cert.FfnWKernelIdeal.main_arg5) = m ((c.tc : Thread Cert.FfnWKernelIdeal.nD Cert.FfnWKernelIdeal.τ).loc Cert.FfnWKernelIdeal.main_arg5))
      ∧ θ_run (Cert.FfnWReferenceIdeal.defs (F := Ideal)) (onTc (τ := Cert.FfnWReferenceIdeal.τ) (Cert.FfnWReferenceIdeal.main (F := Ideal))) ⟨m', fun _ => 0, g'⟩ (fun r => ∀ c : Dev Cert.FfnWReferenceIdeal.nD,
          r.2.mem ((c.tc : Thread Cert.FfnWReferenceIdeal.nD Cert.FfnWReferenceIdeal.τ).loc Cert.FfnWReferenceIdeal.main_v18) = v0 c
          ∧ r.2.mem ((c.tc : Thread Cert.FfnWReferenceIdeal.nD Cert.FfnWReferenceIdeal.τ).loc Cert.FfnWReferenceIdeal.main_v20) = v1 c
          ∧ r.2.mem ((c.tc : Thread Cert.FfnWReferenceIdeal.nD Cert.FfnWReferenceIdeal.τ).loc Cert.FfnWReferenceIdeal.main_v21) = v2 c
          ∧ r.2.mem ((c.tc : Thread Cert.FfnWReferenceIdeal.nD Cert.FfnWReferenceIdeal.τ).loc Cert.FfnWReferenceIdeal.main_arg0) = m' ((c.tc : Thread Cert.FfnWReferenceIdeal.nD Cert.FfnWReferenceIdeal.τ).loc Cert.FfnWReferenceIdeal.main_arg0)
          ∧ r.2.mem ((c.tc : Thread Cert.FfnWReferenceIdeal.nD Cert.FfnWReferenceIdeal.τ).loc Cert.FfnWReferenceIdeal.main_arg1) = m' ((c.tc : Thread Cert.FfnWReferenceIdeal.nD Cert.FfnWReferenceIdeal.τ).loc Cert.FfnWReferenceIdeal.main_arg1)
          ∧ r.2.mem ((c.tc : Thread Cert.FfnWReferenceIdeal.nD Cert.FfnWReferenceIdeal.τ).loc Cert.FfnWReferenceIdeal.main_arg2) = m' ((c.tc : Thread Cert.FfnWReferenceIdeal.nD Cert.FfnWReferenceIdeal.τ).loc Cert.FfnWReferenceIdeal.main_arg2)
          ∧ r.2.mem ((c.tc : Thread Cert.FfnWReferenceIdeal.nD Cert.FfnWReferenceIdeal.τ).loc Cert.FfnWReferenceIdeal.main_arg3) = m' ((c.tc : Thread Cert.FfnWReferenceIdeal.nD Cert.FfnWReferenceIdeal.τ).loc Cert.FfnWReferenceIdeal.main_arg3)
          ∧ r.2.mem ((c.tc : Thread Cert.FfnWReferenceIdeal.nD Cert.FfnWReferenceIdeal.τ).loc Cert.FfnWReferenceIdeal.main_arg4) = m' ((c.tc : Thread Cert.FfnWReferenceIdeal.nD Cert.FfnWReferenceIdeal.τ).loc Cert.FfnWReferenceIdeal.main_arg4)
          ∧ r.2.mem ((c.tc : Thread Cert.FfnWReferenceIdeal.nD Cert.FfnWReferenceIdeal.τ).loc Cert.FfnWReferenceIdeal.main_arg5) = m' ((c.tc : Thread Cert.FfnWReferenceIdeal.nD Cert.FfnWReferenceIdeal.τ).loc Cert.FfnWReferenceIdeal.main_arg5))

def preserves_AttnFKernel_AttnFKernelIdeal : Prop :=
  IdealRules.named_const.Statement Cert.AttnFKernelIdeal.κ "mask" .f32 0xF149F2CA#32 ⊥

def algebraic_AttnFKernelIdeal_AttnFReferenceIdeal_pre_attnf_finite [hAttnFKernelIdeal : Cert.AttnFKernelIdeal.Facts] [hAttnFReferenceIdeal : Cert.AttnFReferenceIdeal.Facts] [hPre_attnf_finite : Cert.Pre_attnf_finite.Facts] : Prop :=
  ∀ (m : (ℓ : Loc Cert.AttnFKernelIdeal.nD Cert.AttnFKernelIdeal.τ Cert.AttnFKernelIdeal.sig) → Buf (Elt Ideal) ℓ) (g : Dev Cert.AttnFKernelIdeal.nD → PrngReg)
    (m' : (ℓ : Loc Cert.AttnFReferenceIdeal.nD Cert.AttnFReferenceIdeal.τ Cert.AttnFReferenceIdeal.sig) → Buf (Elt Ideal) ℓ) (g' : Dev Cert.AttnFReferenceIdeal.nD → PrngReg), Pre_AttnFKernelIdeal_attnf_finite m →
    (∀ c : Dev Cert.AttnFKernelIdeal.nD,
      m' ((c.tc : Thread Cert.AttnFReferenceIdeal.nD Cert.AttnFReferenceIdeal.τ).loc Cert.AttnFReferenceIdeal.main_arg0) = m ((c.tc : Thread Cert.AttnFKernelIdeal.nD Cert.AttnFKernelIdeal.τ).loc Cert.AttnFKernelIdeal.main_arg0)
      ∧ m' ((c.tc : Thread Cert.AttnFReferenceIdeal.nD Cert.AttnFReferenceIdeal.τ).loc Cert.AttnFReferenceIdeal.main_arg1) = m ((c.tc : Thread Cert.AttnFKernelIdeal.nD Cert.AttnFKernelIdeal.τ).loc Cert.AttnFKernelIdeal.main_arg1)) →
    ∃ (v0 : (c : Dev Cert.AttnFKernelIdeal.nD) → Buf (Elt Ideal) ((c.tc : Thread Cert.AttnFKernelIdeal.nD Cert.AttnFKernelIdeal.τ).loc Cert.AttnFKernelIdeal.main_v2)),
      θ_run (Cert.AttnFKernelIdeal.defs (F := Ideal)) (onTc (τ := Cert.AttnFKernelIdeal.τ) (Cert.AttnFKernelIdeal.main (F := Ideal))) ⟨m, fun _ => 0, g⟩ (fun r => ∀ c : Dev Cert.AttnFKernelIdeal.nD,
          r.2.mem ((c.tc : Thread Cert.AttnFKernelIdeal.nD Cert.AttnFKernelIdeal.τ).loc Cert.AttnFKernelIdeal.main_v2) = v0 c
          ∧ r.2.mem ((c.tc : Thread Cert.AttnFKernelIdeal.nD Cert.AttnFKernelIdeal.τ).loc Cert.AttnFKernelIdeal.main_arg0) = m ((c.tc : Thread Cert.AttnFKernelIdeal.nD Cert.AttnFKernelIdeal.τ).loc Cert.AttnFKernelIdeal.main_arg0)
          ∧ r.2.mem ((c.tc : Thread Cert.AttnFKernelIdeal.nD Cert.AttnFKernelIdeal.τ).loc Cert.AttnFKernelIdeal.main_arg1) = m ((c.tc : Thread Cert.AttnFKernelIdeal.nD Cert.AttnFKernelIdeal.τ).loc Cert.AttnFKernelIdeal.main_arg1))
      ∧ θ_run (Cert.AttnFReferenceIdeal.defs (F := Ideal)) (onTc (τ := Cert.AttnFReferenceIdeal.τ) (Cert.AttnFReferenceIdeal.main (F := Ideal))) ⟨m', fun _ => 0, g'⟩ (fun r => ∀ c : Dev Cert.AttnFReferenceIdeal.nD,
          r.2.mem ((c.tc : Thread Cert.AttnFReferenceIdeal.nD Cert.AttnFReferenceIdeal.τ).loc Cert.AttnFReferenceIdeal.main_v63) = v0 c
          ∧ r.2.mem ((c.tc : Thread Cert.AttnFReferenceIdeal.nD Cert.AttnFReferenceIdeal.τ).loc Cert.AttnFReferenceIdeal.main_arg0) = m' ((c.tc : Thread Cert.AttnFReferenceIdeal.nD Cert.AttnFReferenceIdeal.τ).loc Cert.AttnFReferenceIdeal.main_arg0)
          ∧ r.2.mem ((c.tc : Thread Cert.AttnFReferenceIdeal.nD Cert.AttnFReferenceIdeal.τ).loc Cert.AttnFReferenceIdeal.main_arg1) = m' ((c.tc : Thread Cert.AttnFReferenceIdeal.nD Cert.AttnFReferenceIdeal.τ).loc Cert.AttnFReferenceIdeal.main_arg1))

def preserves_MixFKernel_MixFKernelIdeal : Prop :=
  True

def algebraic_MixFKernelIdeal_MixFReferenceIdeal [hMixFKernelIdeal : Cert.MixFKernelIdeal.Facts] [hMixFReferenceIdeal : Cert.MixFReferenceIdeal.Facts] : Prop :=
  ∀ (m : (ℓ : Loc Cert.MixFKernelIdeal.nD Cert.MixFKernelIdeal.τ Cert.MixFKernelIdeal.sig) → Buf (Elt Ideal) ℓ) (g : Dev Cert.MixFKernelIdeal.nD → PrngReg)
    (m' : (ℓ : Loc Cert.MixFReferenceIdeal.nD Cert.MixFReferenceIdeal.τ Cert.MixFReferenceIdeal.sig) → Buf (Elt Ideal) ℓ) (g' : Dev Cert.MixFReferenceIdeal.nD → PrngReg), Pre_MixFKernelIdeal m →
    (∀ c : Dev Cert.MixFKernelIdeal.nD,
      m' ((c.tc : Thread Cert.MixFReferenceIdeal.nD Cert.MixFReferenceIdeal.τ).loc Cert.MixFReferenceIdeal.main_arg0) = m ((c.tc : Thread Cert.MixFKernelIdeal.nD Cert.MixFKernelIdeal.τ).loc Cert.MixFKernelIdeal.main_arg0)
      ∧ m' ((c.tc : Thread Cert.MixFReferenceIdeal.nD Cert.MixFReferenceIdeal.τ).loc Cert.MixFReferenceIdeal.main_arg1) = m ((c.tc : Thread Cert.MixFKernelIdeal.nD Cert.MixFKernelIdeal.τ).loc Cert.MixFKernelIdeal.main_arg1)
      ∧ m' ((c.tc : Thread Cert.MixFReferenceIdeal.nD Cert.MixFReferenceIdeal.τ).loc Cert.MixFReferenceIdeal.main_arg2) = m ((c.tc : Thread Cert.MixFKernelIdeal.nD Cert.MixFKernelIdeal.τ).loc Cert.MixFKernelIdeal.main_arg2)) →
    ∃ (v0 : (c : Dev Cert.MixFKernelIdeal.nD) → Buf (Elt Ideal) ((c.tc : Thread Cert.MixFKernelIdeal.nD Cert.MixFKernelIdeal.τ).loc Cert.MixFKernelIdeal.main_v3_0)) (v1 : (c : Dev Cert.MixFKernelIdeal.nD) → Buf (Elt Ideal) ((c.tc : Thread Cert.MixFKernelIdeal.nD Cert.MixFKernelIdeal.τ).loc Cert.MixFKernelIdeal.main_v3_1)),
      θ_run (Cert.MixFKernelIdeal.defs (F := Ideal)) (onTc (τ := Cert.MixFKernelIdeal.τ) (Cert.MixFKernelIdeal.main (F := Ideal))) ⟨m, fun _ => 0, g⟩ (fun r => ∀ c : Dev Cert.MixFKernelIdeal.nD,
          r.2.mem ((c.tc : Thread Cert.MixFKernelIdeal.nD Cert.MixFKernelIdeal.τ).loc Cert.MixFKernelIdeal.main_v3_0) = v0 c
          ∧ r.2.mem ((c.tc : Thread Cert.MixFKernelIdeal.nD Cert.MixFKernelIdeal.τ).loc Cert.MixFKernelIdeal.main_v3_1) = v1 c
          ∧ r.2.mem ((c.tc : Thread Cert.MixFKernelIdeal.nD Cert.MixFKernelIdeal.τ).loc Cert.MixFKernelIdeal.main_arg0) = m ((c.tc : Thread Cert.MixFKernelIdeal.nD Cert.MixFKernelIdeal.τ).loc Cert.MixFKernelIdeal.main_arg0)
          ∧ r.2.mem ((c.tc : Thread Cert.MixFKernelIdeal.nD Cert.MixFKernelIdeal.τ).loc Cert.MixFKernelIdeal.main_arg1) = m ((c.tc : Thread Cert.MixFKernelIdeal.nD Cert.MixFKernelIdeal.τ).loc Cert.MixFKernelIdeal.main_arg1)
          ∧ r.2.mem ((c.tc : Thread Cert.MixFKernelIdeal.nD Cert.MixFKernelIdeal.τ).loc Cert.MixFKernelIdeal.main_arg2) = m ((c.tc : Thread Cert.MixFKernelIdeal.nD Cert.MixFKernelIdeal.τ).loc Cert.MixFKernelIdeal.main_arg2))
      ∧ θ_run (Cert.MixFReferenceIdeal.defs (F := Ideal)) (onTc (τ := Cert.MixFReferenceIdeal.τ) (Cert.MixFReferenceIdeal.main (F := Ideal))) ⟨m', fun _ => 0, g'⟩ (fun r => ∀ c : Dev Cert.MixFReferenceIdeal.nD,
          r.2.mem ((c.tc : Thread Cert.MixFReferenceIdeal.nD Cert.MixFReferenceIdeal.τ).loc Cert.MixFReferenceIdeal.main_v14) = v0 c
          ∧ r.2.mem ((c.tc : Thread Cert.MixFReferenceIdeal.nD Cert.MixFReferenceIdeal.τ).loc Cert.MixFReferenceIdeal.main_v16) = v1 c
          ∧ r.2.mem ((c.tc : Thread Cert.MixFReferenceIdeal.nD Cert.MixFReferenceIdeal.τ).loc Cert.MixFReferenceIdeal.main_arg0) = m' ((c.tc : Thread Cert.MixFReferenceIdeal.nD Cert.MixFReferenceIdeal.τ).loc Cert.MixFReferenceIdeal.main_arg0)
          ∧ r.2.mem ((c.tc : Thread Cert.MixFReferenceIdeal.nD Cert.MixFReferenceIdeal.τ).loc Cert.MixFReferenceIdeal.main_arg1) = m' ((c.tc : Thread Cert.MixFReferenceIdeal.nD Cert.MixFReferenceIdeal.τ).loc Cert.MixFReferenceIdeal.main_arg1)
          ∧ r.2.mem ((c.tc : Thread Cert.MixFReferenceIdeal.nD Cert.MixFReferenceIdeal.τ).loc Cert.MixFReferenceIdeal.main_arg2) = m' ((c.tc : Thread Cert.MixFReferenceIdeal.nD Cert.MixFReferenceIdeal.τ).loc Cert.MixFReferenceIdeal.main_arg2))

def Claim : Prop :=
  ∃ (hGateKernel : Cert.GateKernel.Facts) (hGateKernelIdeal : Cert.GateKernelIdeal.Facts) (hGateReferenceIdeal : Cert.GateReferenceIdeal.Facts) (hMixKernel : Cert.MixKernel.Facts) (hMixKernelIdeal : Cert.MixKernelIdeal.Facts) (hMixReferenceIdeal : Cert.MixReferenceIdeal.Facts) (hFfnInKernel : Cert.FfnInKernel.Facts) (hFfnInKernelIdeal : Cert.FfnInKernelIdeal.Facts) (hFfnInReferenceIdeal : Cert.FfnInReferenceIdeal.Facts) (hFfnIn1Kernel : Cert.FfnIn1Kernel.Facts) (hFfnIn1KernelIdeal : Cert.FfnIn1KernelIdeal.Facts) (hFfnIn1ReferenceIdeal : Cert.FfnIn1ReferenceIdeal.Facts) (hParamKernel : Cert.ParamKernel.Facts) (hParamKernelIdeal : Cert.ParamKernelIdeal.Facts) (hParamReferenceIdeal : Cert.ParamReferenceIdeal.Facts) (hMergeKernel : Cert.MergeKernel.Facts) (hMergeKernelIdeal : Cert.MergeKernelIdeal.Facts) (hMergeReferenceIdeal : Cert.MergeReferenceIdeal.Facts) (hLossKernel : Cert.LossKernel.Facts) (hLossKernelIdeal : Cert.LossKernelIdeal.Facts) (hLossReferenceIdeal : Cert.LossReferenceIdeal.Facts) (hFfnWKernel : Cert.FfnWKernel.Facts) (hFfnWKernelIdeal : Cert.FfnWKernelIdeal.Facts) (hFfnWReferenceIdeal : Cert.FfnWReferenceIdeal.Facts) (hAttnFKernel : Cert.AttnFKernel.Facts) (hAttnFKernelIdeal : Cert.AttnFKernelIdeal.Facts) (hAttnFReferenceIdeal : Cert.AttnFReferenceIdeal.Facts) (hMixFKernel : Cert.MixFKernel.Facts) (hMixFKernelIdeal : Cert.MixFKernelIdeal.Facts) (hMixFReferenceIdeal : Cert.MixFReferenceIdeal.Facts) (hPre_gate_finite : Cert.Pre_gate_finite.Facts) (hPre_mix_finite : Cert.Pre_mix_finite.Facts) (hPre_ffnin_finite : Cert.Pre_ffnin_finite.Facts) (hPre_ffnin1_finite : Cert.Pre_ffnin1_finite.Facts) (hPre_param_finite : Cert.Pre_param_finite.Facts) (hPre_merge_finite : Cert.Pre_merge_finite.Facts) (hPre_loss_finite : Cert.Pre_loss_finite.Facts) (hPre_attnf_finite : Cert.Pre_attnf_finite.Facts),
    quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateReferenceIdeal (hGateReferenceIdeal := hGateReferenceIdeal)
    ∧ quiescent_GateReferenceIdeal_pre_gate_finite (hGateReferenceIdeal := hGateReferenceIdeal) (hPre_gate_finite := hPre_gate_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_FfnInKernel (hFfnInKernel := hFfnInKernel)
    ∧ quiescent_FfnInKernelIdeal (hFfnInKernelIdeal := hFfnInKernelIdeal)
    ∧ quiescent_FfnInKernelIdeal_pre_ffnin_finite (hFfnInKernelIdeal := hFfnInKernelIdeal) (hPre_ffnin_finite := hPre_ffnin_finite)
    ∧ quiescent_FfnInReferenceIdeal (hFfnInReferenceIdeal := hFfnInReferenceIdeal)
    ∧ quiescent_FfnInReferenceIdeal_pre_ffnin_finite (hFfnInReferenceIdeal := hFfnInReferenceIdeal) (hPre_ffnin_finite := hPre_ffnin_finite)
    ∧ quiescent_FfnIn1Kernel (hFfnIn1Kernel := hFfnIn1Kernel)
    ∧ quiescent_FfnIn1KernelIdeal (hFfnIn1KernelIdeal := hFfnIn1KernelIdeal)
    ∧ quiescent_FfnIn1KernelIdeal_pre_ffnin1_finite (hFfnIn1KernelIdeal := hFfnIn1KernelIdeal) (hPre_ffnin1_finite := hPre_ffnin1_finite)
    ∧ quiescent_FfnIn1ReferenceIdeal (hFfnIn1ReferenceIdeal := hFfnIn1ReferenceIdeal)
    ∧ quiescent_FfnIn1ReferenceIdeal_pre_ffnin1_finite (hFfnIn1ReferenceIdeal := hFfnIn1ReferenceIdeal) (hPre_ffnin1_finite := hPre_ffnin1_finite)
    ∧ quiescent_ParamKernel (hParamKernel := hParamKernel)
    ∧ quiescent_ParamKernelIdeal (hParamKernelIdeal := hParamKernelIdeal)
    ∧ quiescent_ParamKernelIdeal_pre_param_finite (hParamKernelIdeal := hParamKernelIdeal) (hPre_param_finite := hPre_param_finite)
    ∧ quiescent_ParamReferenceIdeal (hParamReferenceIdeal := hParamReferenceIdeal)
    ∧ quiescent_ParamReferenceIdeal_pre_param_finite (hParamReferenceIdeal := hParamReferenceIdeal) (hPre_param_finite := hPre_param_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_FfnWKernel (hFfnWKernel := hFfnWKernel)
    ∧ quiescent_FfnWKernelIdeal (hFfnWKernelIdeal := hFfnWKernelIdeal)
    ∧ quiescent_FfnWReferenceIdeal (hFfnWReferenceIdeal := hFfnWReferenceIdeal)
    ∧ quiescent_AttnFKernel (hAttnFKernel := hAttnFKernel)
    ∧ quiescent_AttnFKernelIdeal (hAttnFKernelIdeal := hAttnFKernelIdeal)
    ∧ quiescent_AttnFKernelIdeal_pre_attnf_finite (hAttnFKernelIdeal := hAttnFKernelIdeal) (hPre_attnf_finite := hPre_attnf_finite)
    ∧ quiescent_AttnFReferenceIdeal (hAttnFReferenceIdeal := hAttnFReferenceIdeal)
    ∧ quiescent_AttnFReferenceIdeal_pre_attnf_finite (hAttnFReferenceIdeal := hAttnFReferenceIdeal) (hPre_attnf_finite := hPre_attnf_finite)
    ∧ quiescent_MixFKernel (hMixFKernel := hMixFKernel)
    ∧ quiescent_MixFKernelIdeal (hMixFKernelIdeal := hMixFKernelIdeal)
    ∧ quiescent_MixFReferenceIdeal (hMixFReferenceIdeal := hMixFReferenceIdeal)
    ∧ preserves_GateKernel_GateKernelIdeal
    ∧ algebraic_GateKernelIdeal_GateReferenceIdeal_pre_gate_finite (hGateKernelIdeal := hGateKernelIdeal) (hGateReferenceIdeal := hGateReferenceIdeal) (hPre_gate_finite := hPre_gate_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_FfnInKernel_FfnInKernelIdeal
    ∧ algebraic_FfnInKernelIdeal_FfnInReferenceIdeal_pre_ffnin_finite (hFfnInKernelIdeal := hFfnInKernelIdeal) (hFfnInReferenceIdeal := hFfnInReferenceIdeal) (hPre_ffnin_finite := hPre_ffnin_finite)
    ∧ preserves_FfnIn1Kernel_FfnIn1KernelIdeal
    ∧ algebraic_FfnIn1KernelIdeal_FfnIn1ReferenceIdeal_pre_ffnin1_finite (hFfnIn1KernelIdeal := hFfnIn1KernelIdeal) (hFfnIn1ReferenceIdeal := hFfnIn1ReferenceIdeal) (hPre_ffnin1_finite := hPre_ffnin1_finite)
    ∧ preserves_ParamKernel_ParamKernelIdeal
    ∧ algebraic_ParamKernelIdeal_ParamReferenceIdeal_pre_param_finite (hParamKernelIdeal := hParamKernelIdeal) (hParamReferenceIdeal := hParamReferenceIdeal) (hPre_param_finite := hPre_param_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_FfnWKernel_FfnWKernelIdeal
    ∧ algebraic_FfnWKernelIdeal_FfnWReferenceIdeal (hFfnWKernelIdeal := hFfnWKernelIdeal) (hFfnWReferenceIdeal := hFfnWReferenceIdeal)
    ∧ preserves_AttnFKernel_AttnFKernelIdeal
    ∧ algebraic_AttnFKernelIdeal_AttnFReferenceIdeal_pre_attnf_finite (hAttnFKernelIdeal := hAttnFKernelIdeal) (hAttnFReferenceIdeal := hAttnFReferenceIdeal) (hPre_attnf_finite := hPre_attnf_finite)
    ∧ preserves_MixFKernel_MixFKernelIdeal
    ∧ algebraic_MixFKernelIdeal_MixFReferenceIdeal (hMixFKernelIdeal := hMixFKernelIdeal) (hMixFReferenceIdeal := hMixFReferenceIdeal)
-- ==== Pre_attnf_finite.lean ====
abbrev S4x2064x4096 : Shape := ⟨3, ![4, 2064, 4096]⟩
abbrev S16 : Shape := ⟨1, ![16]⟩
abbrev S_ : Shape := ⟨0, ![]⟩

class Facts : Prop where
  bcast_S_S4x2064x4096 : S_.BroadcastsInDim S4x2064x4096 (![] : Fin 0 → Fin S4x2064x4096.rank)
  reducesTo_S4x2064x4096_S_d0_1_2 : S4x2064x4096.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4x2064x4096 .f32) (main_arg1 : FVec F S16 .f32) : IVec S_ 1 :=
  let main_v0 : FVec F S4x2064x4096 .f32 := Host.absf main_arg0
  let main_cst : FVec F S_ .f32 := constant S_ .f32 0x7F800000#32
  let main_v1 : FVec F S4x2064x4096 .f32 := broadcastInDim S4x2064x4096 ![] bcast_S_S4x2064x4096 main_cst
  let main_v2 : IVec S4x2064x4096 1 := cmpf .olt main_v0 main_v1
  let main_c : IVec S_ 1 := constantI S_ 1 1#1
  let main_v3 : IVec S_ 1 := (fun x v => Host.reduce IntOp.andi x v reducesTo_S4x2064x4096_S_d0_1_2 h_S_) main_v2 main_c
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  main_v8
-- ==== Pre_ffnin1_finite.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8256x2816 : S_.BroadcastsInDim S8256x2816 (![] : Fin 0 → Fin S8256x2816.rank)
  reducesTo_S8256x2816_S_d0_1 : S8256x2816.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg5 : FVec F S1024x2816 .f32) (main_arg6 : FVec F S1024x2816 .f32) (main_v13 : IVec S_ 1) (main_v16 : IVec S8256x2816 1) : IVec S_ 1 :=
  let main_c_5 : IVec S_ 1 := constantI S_ 1 1#1
  let main_v17 : IVec S_ 1 := (fun x v => Host.reduce IntOp.andi x v reducesTo_S8256x2816_S_d0_1 h_S_) main_v16 main_c_5
  let main_v18 : IVec S_ 1 := andi main_v13 main_v17
  let main_v19 : FVec F S1024x2816 .f32 := Host.absf main_arg5
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg6
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  main_v28

def fn {F : FTy → Type} [FloatOps F] (main_arg0 : FVec F S8256x1024 .f32) (main_arg1 : FVec F S8256x1024 .f32) (main_arg2 : FVec F S1x1024 .f32) (main_arg3 : FVec F S8256x2816 .f32) (main_arg4 : FVec F S8256x2816 .f32) (main_arg5 : FVec F S1024x2816 .f32) (main_arg6 : FVec F S1024x2816 .f32) : IVec S_ 1 :=
  let main_v0 : FVec F S8256x1024 .f32 := Host.absf main_arg1
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8256x2816 .f32 := Host.absf main_arg3
  let main_cst_2 : FVec F S_ .f32 := constant S_ .f32 0x7F800000#32
  let main_v10 : FVec F S8256x2816 .f32 := broadcastInDim S8256x2816 ![] bcast_S_S8256x2816 main_cst_2
  let main_v11 : IVec S8256x2816 1 := cmpf .olt main_v9 main_v10
  let main_c_3 : IVec S_ 1 := constantI S_ 1 1#1
  let main_v12 : IVec S_ 1 := (fun x v => Host.reduce IntOp.andi x v reducesTo_S8256x2816_S_d0_1 h_S_) main_v11 main_c_3
  let main_v13 : IVec S_ 1 := andi main_v8 main_v12
  let main_v14 : FVec F S8256x2816 .f32 := Host.absf main_arg4
  let main_cst_4 : FVec F S_ .f32 := constant S_ .f32 0x7F800000#32
  let main_v15 : FVec F S8256x2816 .f32 := broadcastInDim S8256x2816 ![] bcast_S_S8256x2816 main_cst_4
  let main_v16 : IVec S8256x2816 1 := cmpf .olt main_v14 main_v15
  fn_part1 (F := F) main_arg5 main_arg6 main_v13 main_v16
-- ==== Pre_ffnin_finite.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8256x2816 : S_.BroadcastsInDim S8256x2816 (![] : Fin 0 → Fin S8256x2816.rank)
  reducesTo_S8256x2816_S_d0_1 : S8256x2816.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg5 : FVec F S1024x2816 .f32) (main_arg6 : FVec F S1024x2816 .f32) (main_v13 : IVec S_ 1) (main_v16 : IVec S8256x2816 1) : IVec S_ 1 :=
  let main_c_5 : IVec S_ 1 := constantI S_ 1 1#1
  let main_v17 : IVec S_ 1 := (fun x v => Host.reduce IntOp.andi x v reducesTo_S8256x2816_S_d0_1 h_S_) main_v16 main_c_5
  let main_v18 : IVec S_ 1 := andi main_v13 main_v17
  let main_v19 : FVec F S1024x2816 .f32 := Host.absf main_arg5
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg6
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  main_v28

def fn {F : FTy → Type} [FloatOps F] (main_arg0 : FVec F S8256x1024 .f32) (main_arg1 : FVec F S8256x1024 .f32) (main_arg2 : FVec F S1x1024 .f32) (main_arg3 : FVec F S8256x2816 .f32) (main_arg4 : FVec F S8256x2816 .f32) (main_arg5 : FVec F S1024x2816 .f32) (main_arg6 : FVec F S1024x2816 .f32) : IVec S_ 1 :=
  let main_v0 : FVec F S8256x1024 .f32 := Host.absf main_arg1
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8256x2816 .f32 := Host.absf main_arg3
  let main_cst_2 : FVec F S_ .f32 := constant S_ .f32 0x7F800000#32
  let main_v10 : FVec F S8256x2816 .f32 := broadcastInDim S8256x2816 ![] bcast_S_S8256x2816 main_cst_2
  let main_v11 : IVec S8256x2816 1 := cmpf .olt main_v9 main_v10
  let main_c_3 : IVec S_ 1 := constantI S_ 1 1#1
  let main_v12 : IVec S_ 1 := (fun x v => Host.reduce IntOp.andi x v reducesTo_S8256x2816_S_d0_1 h_S_) main_v11 main_c_3
  let main_v13 : IVec S_ 1 := andi main_v8 main_v12
  let main_v14 : FVec F S8256x2816 .f32 := Host.absf main_arg4
  let main_cst_4 : FVec F S_ .f32 := constant S_ .f32 0x7F800000#32
  let main_v15 : FVec F S8256x2816 .f32 := broadcastInDim S8256x2816 ![] bcast_S_S8256x2816 main_cst_4
  let main_v16 : IVec S8256x2816 1 := cmpf .olt main_v14 main_v15
  fn_part1 (F := F) main_arg5 main_arg6 main_v13 main_v16
-- ==== Pre_gate_finite.lean ====
abbrev S8256x1024 : Shape := ⟨2, ![8256, 1024]⟩
abbrev S8256x2816 : Shape := ⟨2, ![8256, 2816]⟩
abbrev S2816x1024 : Shape := ⟨2, ![2816, 1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S8256x2816 : S_.BroadcastsInDim S8256x2816 (![] : Fin 0 → Fin S8256x2816.rank)
  reducesTo_S8256x2816_S_d0_1 : S8256x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8256x1024 .f32) (main_arg1 : FVec F S8256x2816 .f32) (main_arg2 : FVec F S8256x2816 .f32) (main_arg3 : FVec F S2816x1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S8256x2816 .f32 := Host.absf main_arg1
  let main_cst_0 : FVec F S_ .f32 := constant S_ .f32 0x7F800000#32
  let main_v5 : FVec F S8256x2816 .f32 := broadcastInDim S8256x2816 ![] bcast_S_S8256x2816 main_cst_0
  let main_v6 : IVec S8256x2816 1 := cmpf .olt main_v4 main_v5
  let main_c_1 : IVec S_ 1 := constantI S_ 1 1#1
  let main_v7 : IVec S_ 1 := (fun x v => Host.reduce IntOp.andi x v reducesTo_S8256x2816_S_d0_1 h_S_) main_v6 main_c_1
  let main_v8 : IVec S_ 1 := andi main_v3 main_v7
  let main_v9 : FVec F S8256x2816 .f32 := Host.absf main_arg2
  let main_cst_2 : FVec F S_ .f32 := constant S_ .f32 0x7F800000#32
  let main_v10 : FVec F S8256x2816 .f32 := broadcastInDim S8256x2816 ![] bcast_S_S8256x2816 main_cst_2
  let main_v11 : IVec S8256x2816 1 := cmpf .olt main_v9 main_v10
  let main_c_3 : IVec S_ 1 := constantI S_ 1 1#1
  let main_v12 : IVec S_ 1 := (fun x v => Host.reduce IntOp.andi x v reducesTo_S8256x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_loss_finite.lean ====
abbrev S8256x1024 : Shape := ⟨2, ![8256, 1024]⟩
abbrev S4x2048x1024 : Shape := ⟨3, ![4, 2048, 1024]⟩
abbrev S1024 : Shape := ⟨1, ![1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S8256x1024 .f32) (main_arg1 : FVec F S4x2048x1024 .f32) (main_arg2 : FVec F S1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_merge_finite.lean ====
abbrev S8256x1024 : Shape := ⟨2, ![8256, 1024]⟩
abbrev S8256x512 : Shape := ⟨2, ![8256, 512]⟩
abbrev S8256x4096 : Shape := ⟨2, ![8256, 4096]⟩
abbrev S512x1024 : Shape := ⟨2, ![512, 1024]⟩
abbrev S1024x1024 : Shape := ⟨2, ![1024, 1024]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S8256x512 : S_.BroadcastsInDim S8256x512 (![] : Fin 0 → Fin S8256x512.rank)
  reducesTo_S8256x512_S_d0_1 : S8256x512.ReducesTo [0, 1] S_
  bcast_S_S8256x4096 : S_.BroadcastsInDim S8256x4096 (![] : Fin 0 → Fin S8256x4096.rank)
  reducesTo_S8256x4096_S_d0_1 : S8256x4096.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S512x1024 .f32) (main_arg5 : FVec F S512x1024 .f32) (main_arg6 : FVec F S1024x1024 .f32) (main_v13 : IVec S_ 1) (main_v16 : IVec S8256x4096 1) : IVec S_ 1 :=
  let main_c_5 : IVec S_ 1 := constantI S_ 1 1#1
  let main_v17 : IVec S_ 1 := (fun x v => Host.reduce IntOp.andi x v reducesTo_S8256x4096_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S8256x1024 .f32) (main_arg1 : FVec F S8256x512 .f32) (main_arg2 : FVec F S8256x1024 .f32) (main_arg3 : FVec F S8256x4096 .f32) (main_arg4 : FVec F S512x1024 .f32) (main_arg5 : FVec F S512x1024 .f32) (main_arg6 : FVec F S1024x1024 .f32) : IVec S_ 1 :=
  let main_v0 : FVec F S8256x1024 .f32 := Host.absf main_arg0
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S8256x512 .f32 := Host.absf main_arg1
  let main_cst_0 : FVec F S_ .f32 := constant S_ .f32 0x7F800000#32
  let main_v5 : FVec F S8256x512 .f32 := broadcastInDim S8256x512 ![] bcast_S_S8256x512 main_cst_0
  let main_v6 : IVec S8256x512 1 := cmpf .olt main_v4 main_v5
  let main_c_1 : IVec S_ 1 := constantI S_ 1 1#1
  let main_v7 : IVec S_ 1 := (fun x v => Host.reduce IntOp.andi x v reducesTo_S8256x512_S_d0_1 h_S_) main_v6 main_c_1
  let main_v8 : IVec S_ 1 := andi main_v3 main_v7
  let main_v9 : FVec F S8256x1024 .f32 := Host.absf main_arg2
  let main_cst_2 : FVec F S_ .f32 := constant S_ .f32 0x7F800000#32
  let main_v10 : FVec F S8256x1024 .f32 := broadcastInDim S8256x1024 ![] bcast_S_S8256x1024 main_cst_2
  let main_v11 : IVec S8256x1024 1 := cmpf .olt main_v9 main_v10
  let main_c_3 : IVec S_ 1 := constantI S_ 1 1#1
  let main_v12 : IVec S_ 1 := (fun x v => Host.reduce IntOp.andi x v reducesTo_S8256x1024_S_d0_1 h_S_) main_v11 main_c_3
  let main_v13 : IVec S_ 1 := andi main_v8 main_v12
  let main_v14 : FVec F S8256x4096 .f32 := Host.absf main_arg3
  let main_cst_4 : FVec F S_ .f32 := constant S_ .f32 0x7F800000#32
  let main_v15 : FVec F S8256x4096 .f32 := broadcastInDim S8256x4096 ![] bcast_S_S8256x4096 main_cst_4
  let main_v16 : IVec S8256x4096 1 := cmpf .olt main_v14 main_v15
  fn_part1 (F := F) main_arg4 main_arg5 main_arg6 main_v13 main_v16
-- ==== Pre_mix_finite.lean ====
abbrev S8256x1024 : Shape := ⟨2, ![8256, 1024]⟩
abbrev S1x1024 : Shape := ⟨2, ![1, 1024]⟩
abbrev S8256x4096 : Shape := ⟨2, ![8256, 4096]⟩
abbrev S1024x4096 : Shape := ⟨2, ![1024, 4096]⟩
abbrev S_ : Shape := ⟨0, ![]⟩

class Facts : Prop where
  bcast_S_S8256x1024 : S_.BroadcastsInDim S8256x1024 (![] : Fin 0 → Fin S8256x1024.rank)
  reducesTo_S8256x1024_S_d0_1 : S8256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S8256x4096 : S_.BroadcastsInDim S8256x4096 (![] : Fin 0 → Fin S8256x4096.rank)
  reducesTo_S8256x4096_S_d0_1 : S8256x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S8256x1024 .f32) (main_arg1 : FVec F S8256x1024 .f32) (main_arg2 : FVec F S1x1024 .f32) (main_arg3 : FVec F S8256x4096 .f32) (main_arg4 : FVec F S1024x4096 .f32) : IVec S_ 1 :=
  let main_v0 : FVec F S8256x1024 .f32 := Host.absf main_arg1
  let main_cst : FVec F S_ .f32 := constant S_ .f32 0x7F800000#32
  let main_v1 : FVec F S8256x1024 .f32 := broadcastInDim S8256x1024 ![] bcast_S_S8256x1024 main_cst
  let main_v2 : IVec S8256x1024 1 := cmpf .olt main_v0 main_v1
  let main_c : IVec S_ 1 := constantI S_ 1 1#1
  let main_v3 : IVec S_ 1 := (fun x v => Host.reduce IntOp.andi x v reducesTo_S8256x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S8256x4096 .f32 := Host.absf main_arg3
  let main_cst_2 : FVec F S_ .f32 := constant S_ .f32 0x7F800000#32
  let main_v10 : FVec F S8256x4096 .f32 := broadcastInDim S8256x4096 ![] bcast_S_S8256x4096 main_cst_2
  let main_v11 : IVec S8256x4096 1 := cmpf .olt main_v9 main_v10
  let main_c_3 : IVec S_ 1 := constantI S_ 1 1#1
  let main_v12 : IVec S_ 1 := (fun x v => Host.reduce IntOp.andi x v reducesTo_S8256x4096_S_d0_1 h_S_) main_v11 main_c_3
  let main_v13 : IVec S_ 1 := andi main_v8 main_v12
  let main_v14 : FVec F S1024x4096 .f32 := Host.absf main_arg4
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Pre_param_finite.lean ====
abbrev S32x64 : Shape := ⟨2, ![32, 64]⟩
abbrev S32 : Shape := ⟨1, ![32]⟩
abbrev S32x64x16 : Shape := ⟨3, ![32, 64, 16]⟩
abbrev S4x8x2048 : Shape := ⟨3, ![4, 8, 2048]⟩
abbrev S_ : Shape := ⟨0, ![]⟩

class Facts : Prop where
  bcast_S_S32x64 : S_.BroadcastsInDim S32x64 (![] : Fin 0 → Fin S32x64.rank)
  reducesTo_S32x64_S_d0_1 : S32x64.ReducesTo [0, 1] S_
  h_S_ : 0 < S_.numel
  bcast_S_S32 : S_.BroadcastsInDim S32 (![] : Fin 0 → Fin S32.rank)
  reducesTo_S32_S_d0 : S32.ReducesTo [0] S_
  bcast_S_S32x64x16 : S_.BroadcastsInDim S32x64x16 (![] : Fin 0 → Fin S32x64x16.rank)
  reducesTo_S32x64x16_S_d0_1_2 : S32x64x16.ReducesTo [0, 1, 2] S_
  bcast_S_S4x8x2048 : S_.BroadcastsInDim S4x8x2048 (![] : Fin 0 → Fin S4x8x2048.rank)
  reducesTo_S4x8x2048_S_d0_1_2 : S4x8x2048.ReducesTo [0, 1, 2] S_

variable [Facts]

def fn_part2 {F : FTy → Type} [FloatOps F] (main_arg0 : FVec F S32x64 .f32) (main_arg1 : FVec F S32x64 .f32) (main_arg7 : FVec F S32x64x16 .f32) (main_arg8 : FVec F S32x64x16 .f32) (main_v33 : IVec S_ 1) : IVec S_ 1 :=
  let main_v34 : FVec F S32x64x16 .f32 := Host.absf main_arg7
  let main_cst_12 : FVec F S_ .f32 := constant S_ .f32 0x7F800000#32
  let main_v35 : FVec F S32x64x16 .f32 := broadcastInDim S32x64x16 ![] bcast_S_S32x64x16 main_cst_12
  let main_v36 : IVec S32x64x16 1 := cmpf .olt main_v34 main_v35
  let main_c_13 : IVec S_ 1 := constantI S_ 1 1#1
  let main_v37 : IVec S_ 1 := (fun x v => Host.reduce IntOp.andi x v reducesTo_S32x64x16_S_d0_1_2 h_S_) main_v36 main_c_13
  let main_v38 : IVec S_ 1 := andi main_v33 main_v37
  let main_v39 : FVec F S32x64x16 .f32 := Host.absf main_arg8
  let main_cst_14 : FVec F S_ .f32 := constant S_ .f32 0x7F800000#32
  let main_v40 : FVec F S32x64x16 .f32 := broadcastInDim S32x64x16 ![] bcast_S_S32x64x16 main_cst_14
  let main_v41 : IVec S32x64x16 1 := cmpf .olt main_v39 main_v40
  let main_c_15 : IVec S_ 1 := constantI S_ 1 1#1
  let main_v42 : IVec S_ 1 := (fun x v => Host.reduce IntOp.andi x v reducesTo_S32x64x16_S_d0_1_2 h_S_) main_v41 main_c_15
  let main_v43 : IVec S_ 1 := andi main_v38 main_v42
  let main_v44 : FVec F S32x64 .f32 := mulf main_arg0 main_arg0
  let main_v45 : FVec F S32x64 .f32 := mulf main_arg1 main_arg1
  let main_v46 : FVec F S32x64 .f32 := addf main_v44 main_v45
  let main_cst_16 : FVec F S_ .f32 := constant S_ .f32 0x00000000#32
  let main_v47 : FVec F S32x64 .f32 := broadcastInDim S32x64 ![] bcast_S_S32x64 main_cst_16
  let main_v48 : IVec S32x64 1 := cmpf .ogt main_v46 main_v47
  let main_c_17 : IVec S_ 1 := constantI S_ 1 1#1
  let main_v49 : IVec S_ 1 := (fun x v => Host.reduce IntOp.andi x v reducesTo_S32x64_S_d0_1 h_S_) main_v48 main_c_17
  let main_v50 : IVec S_ 1 := andi main_v43 main_v49
  main_v50

def fn_part1 {F : FTy → Type} [FloatOps F] (main_arg0 : FVec F S32x64 .f32) (main_arg1 : FVec F S32x64 .f32) (main_arg4 : FVec F S32x64x16 .f32) (main_arg5 : FVec F S4x8x2048 .f32) (main_arg6 : FVec F S4x8x2048 .f32) (main_arg7 : FVec F S32x64x16 .f32) (main_arg8 : FVec F S32x64x16 .f32) (main_v13 : IVec S_ 1) (main_v16 : IVec S32x64x16 1) : IVec S_ 1 :=
  let main_c_5 : IVec S_ 1 := constantI S_ 1 1#1
  let main_v17 : IVec S_ 1 := (fun x v => Host.reduce IntOp.andi x v reducesTo_S32x64x16_S_d0_1_2 h_S_) main_v16 main_c_5
  let main_v18 : IVec S_ 1 := andi main_v13 main_v17
  let main_v19 : FVec F S32x64x16 .f32 := Host.absf main_arg4
  let main_cst_6 : FVec F S_ .f32 := constant S_ .f32 0x7F800000#32
  let main_v20 : FVec F S32x64x16 .f32 := broadcastInDim S32x64x16 ![] bcast_S_S32x64x16 main_cst_6
  let main_v21 : IVec S32x64x16 1 := cmpf .olt main_v19 main_v20
  let main_c_7 : IVec S_ 1 := constantI S_ 1 1#1
  let main_v22 : IVec S_ 1 := (fun x v => Host.reduce IntOp.andi x v reducesTo_S32x64x16_S_d0_1_2 h_S_) main_v21 main_c_7
  let main_v23 : IVec S_ 1 := andi main_v18 main_v22
  let main_v24 : FVec F S4x8x2048 .f32 := Host.absf main_arg5
  let main_cst_8 : FVec F S_ .f32 := constant S_ .f32 0x7F800000#32
  let main_v25 : FVec F S4x8x2048 .f32 := broadcastInDim S4x8x2048 ![] bcast_S_S4x8x2048 main_cst_8
  let main_v26 : IVec S4x8x2048 1 := cmpf .olt main_v24 main_v25
  let main_c_9 : IVec S_ 1 := constantI S_ 1 1#1
  let main_v27 : IVec S_ 1 := (fun x v => Host.reduce IntOp.andi x v reducesTo_S4x8x2048_S_d0_1_2 h_S_) main_v26 main_c_9
  let main_v28 : IVec S_ 1 := andi main_v23 main_v27
  let main_v29 : FVec F S4x8x2048 .f32 := Host.absf main_arg6
  let main_cst_10 : FVec F S_ .f32 := constant S_ .f32 0x7F800000#32
  let main_v30 : FVec F S4x8x2048 .f32 := broadcastInDim S4x8x2048 ![] bcast_S_S4x8x2048 main_cst_10
  let main_v31 : IVec S4x8x2048 1 := cmpf .olt main_v29 main_v30
  let main_c_11 : IVec S_ 1 := constantI S_ 1 1#1
  let main_v32 : IVec S_ 1 := (fun x v => Host.reduce IntOp.andi x v reducesTo_S4x8x2048_S_d0_1_2 h_S_) main_v31 main_c_11
  let main_v33 : IVec S_ 1 := andi main_v28 main_v32
  fn_part2 (F := F) main_arg0 main_arg1 main_arg7 main_arg8 main_v33

def fn {F : FTy → Type} [FloatOps F] (main_arg0 : FVec F S32x64 .f32) (main_arg1 : FVec F S32x64 .f32) (main_arg2 : FVec F S32 .f32) (main_arg3 : FVec F S32x64x16 .f32) (main_arg4 : FVec F S32x64x16 .f32) (main_arg5 : FVec F S4x8x2048 .f32) (main_arg6 : FVec F S4x8x2048 .f32) (main_arg7 : FVec F S32x64x16 .f32) (main_arg8 : FVec F S32x64x16 .f32) : IVec S_ 1 :=
  let main_v0 : FVec F S32x64 .f32 := Host.absf main_arg0
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_c : IVec S_ 1 := constantI S_ 1 1#1
  let main_v3 : IVec S_ 1 := (fun x v => Host.reduce IntOp.andi x v reducesTo_S32x64_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64x16 .f32 := Host.absf main_arg3
  let main_cst_4 : FVec F S_ .f32 := constant S_ .f32 0x7F800000#32
  let main_v15 : FVec F S32x64x16 .f32 := broadcastInDim S32x64x16 ![] bcast_S_S32x64x16 main_cst_4
  let main_v16 : IVec S32x64x16 1 := cmpf .olt main_v14 main_v15
  fn_part1 (F := F) main_arg0 main_arg1 main_arg4 main_arg5 main_arg6 main_arg7 main_arg8 main_v13 main_v16
-- ==== GateKernel.lean ====
abbrev S8256x1024 : Shape := ⟨2, ![8256, 1024]⟩
abbrev S8256x2816 : Shape := ⟨2, ![8256, 2816]⟩
abbrev S2816x1024 : Shape := ⟨2, ![2816, 1024]⟩
abbrev S_ : Shape := ⟨0, ![]⟩
abbrev S8x128 : Shape := ⟨2, ![8, 128]⟩
abbrev S688x1024 : Shape := ⟨2, ![688, 1024]⟩
abbrev S688x2816 : Shape := ⟨2, ![688, 2816]⟩
abbrev S256x1024 : Shape := ⟨2, ![256, 1024]⟩
abbrev S688x256 : Shape := ⟨2, ![688, 256]⟩

abbrev nBuf : Space → Nat
  | .hbm => 12
  | .vmem => 13
  | .smem => 0
  | _ => 0

abbrev bufTy : (tb : Table) → Fin (tcTables nBuf tb) → BufTy
  | .hbm, ⟨0, _⟩ => ⟨S8256x1024, .f32⟩
  | .hbm, ⟨1, _⟩ => ⟨S8256x2816, .f32⟩
  | .hbm, ⟨2, _⟩ => ⟨S8256x2816, .f32⟩
  | .hbm, ⟨3, _⟩ => ⟨S2816x1024, .f32⟩
  | .hbm, ⟨4, _⟩ => ⟨S8256x2816, .bf16⟩
  | .hbm, ⟨5, _⟩ => ⟨S8256x2816, .bf16⟩
  | .hbm, ⟨6, _⟩ => ⟨S2816x1024, .bf16⟩
  | .hbm, ⟨7, _⟩ => ⟨S_, .f32⟩
  | .hbm, ⟨8, _⟩ => ⟨S8x128, .f32⟩
  | .hbm, ⟨9, _⟩ => ⟨S8256x2816, .bf16⟩
  | .hbm, ⟨10, _⟩ => ⟨S8256x2816, .bf16⟩
  | .hbm, ⟨11, _⟩ => ⟨S8256x1024, .bf16⟩
  | .local _ .vmem, ⟨0, _⟩ => ⟨S688x1024, .f32⟩
  | .local _ .vmem, ⟨1, _⟩ => ⟨S688x1024, .f32⟩
  | .local _ .vmem, ⟨2, _⟩ => ⟨S688x2816, .bf16⟩
  | .local _ .vmem, ⟨3, _⟩ => ⟨S688x2816, .bf16⟩
  | .local _ .vmem, ⟨4, _⟩ => ⟨S688x2816, .bf16⟩
  | .local _ .vmem, ⟨5, _⟩ => ⟨S688x2816, .bf16⟩
  | .local _ .vmem, ⟨6, _⟩ => ⟨S2816x1024, .bf16⟩
  | .local _ .vmem, ⟨7, _⟩ => ⟨S688x2816, .bf16⟩
  | .local _ .vmem, ⟨8, _⟩ => ⟨S688x2816, .bf16⟩
  | .local _ .vmem, ⟨9, _⟩ => ⟨S688x2816, .bf16⟩
  | .local _ .vmem, ⟨10, _⟩ => ⟨S688x2816, .bf16⟩
  | .local _ .vmem, ⟨11, _⟩ => ⟨S688x1024, .bf16⟩
  | .local _ .vmem, ⟨12, _⟩ => ⟨S688x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S688x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S688x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S688x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateReferenceIdeal.lean ====
abbrev S8256x1024 : Shape := ⟨2, ![8256, 1024]⟩
abbrev S8256x2816 : Shape := ⟨2, ![8256, 2816]⟩
abbrev S2816x1024 : Shape := ⟨2, ![2816, 1024]⟩
abbrev S_ : Shape := ⟨0, ![]⟩
abbrev S1024x2816 : Shape := ⟨2, ![1024, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x2816, .f32⟩
  | .hbm, ⟨2, _⟩ => ⟨S8256x2816, .f32⟩
  | .hbm, ⟨3, _⟩ => ⟨S2816x1024, .f32⟩
  | .hbm, ⟨4, _⟩ => ⟨S8256x2816, .f32⟩
  | .hbm, ⟨5, _⟩ => ⟨S8256x2816, .f32⟩
  | .hbm, ⟨6, _⟩ => ⟨S_, .f32⟩
  | .hbm, ⟨7, _⟩ => ⟨S8256x2816, .f32⟩
  | .hbm, ⟨8, _⟩ => ⟨S8256x2816, .f32⟩
  | .hbm, ⟨9, _⟩ => ⟨S_, .f32⟩
  | .hbm, ⟨10, _⟩ => ⟨S8256x2816, .f32⟩
  | .hbm, ⟨11, _⟩ => ⟨S8256x2816, .f32⟩
  | .hbm, ⟨12, _⟩ => ⟨S_, .f32⟩
  | .hbm, ⟨13, _⟩ => ⟨S8256x2816, .f32⟩
  | .hbm, ⟨14, _⟩ => ⟨S8256x2816, .f32⟩
  | .hbm, ⟨15, _⟩ => ⟨S8256x2816, .f32⟩
  | .hbm, ⟨16, _⟩ => ⟨S8256x2816, .f32⟩
  | .hbm, ⟨17, _⟩ => ⟨S8256x2816, .f32⟩
  | .hbm, ⟨18, _⟩ => ⟨S8256x1024, .f32⟩
  | .hbm, ⟨19, _⟩ => ⟨S_, .f32⟩
  | .hbm, ⟨20, _⟩ => ⟨S8256x1024, .f32⟩
  | .hbm, ⟨21, _⟩ => ⟨S8256x1024, .f32⟩
  | .hbm, ⟨22, _⟩ => ⟨S_, .f32⟩
  | .hbm, ⟨23, _⟩ => ⟨S8256x1024, .f32⟩
  | .hbm, ⟨24, _⟩ => ⟨S8256x1024, .f32⟩
  | .hbm, ⟨25, _⟩ => ⟨S1024x2816, .f32⟩
  | .hbm, ⟨26, _⟩ => ⟨S2816x1024, .f32⟩
  | .hbm, ⟨27, _⟩ => ⟨S8256x2816, .f32⟩
  | .hbm, ⟨28, _⟩ => ⟨S8256x2816, .f32⟩
  | .hbm, ⟨29, _⟩ => ⟨S8256x2816, .f32⟩
  | .hbm, ⟨30, _⟩ => ⟨S8256x2816, .f32⟩
  | .hbm, ⟨31, _⟩ => ⟨S8256x2816, .f32⟩
  | .hbm, ⟨32, _⟩ => ⟨S8256x2816, .f32⟩
  | .hbm, ⟨33, _⟩ => ⟨S8256x2816, .f32⟩
  | .hbm, ⟨34, _⟩ => ⟨S8256x2816, .bf16⟩
  | .hbm, ⟨35, _⟩ => ⟨S8256x2816, .bf16⟩
  | .hbm, ⟨36, _⟩ => ⟨S_, .f32⟩
  | .hbm, ⟨37, _⟩ => ⟨S8256x1024, .f32⟩
  | .hbm, ⟨38, _⟩ => ⟨S8256x1024, .f32⟩
  | .hbm, ⟨39, _⟩ => ⟨S8256x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== MixKernel.lean ====
abbrev S8256x1024 : Shape := ⟨2, ![8256, 1024]⟩
abbrev S1x1024 : Shape := ⟨2, ![1, 1024]⟩
abbrev S8256x4096 : Shape := ⟨2, ![8256, 4096]⟩
abbrev S1024x4096 : Shape := ⟨2, ![1024, 4096]⟩
abbrev S688x1024 : Shape := ⟨2, ![688, 1024]⟩
abbrev S688x4096 : Shape := ⟨2, ![688, 4096]⟩
abbrev S688 : Shape := ⟨1, ![688]⟩
abbrev S688x1 : Shape := ⟨2, ![688, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x4096, .f32⟩
  | .hbm, ⟨4, _⟩ => ⟨S1024x4096, .f32⟩
  | .hbm, ⟨5, _⟩ => ⟨S8256x4096, .bf16⟩
  | .hbm, ⟨6, _⟩ => ⟨S1024x4096, .bf16⟩
  | .hbm, ⟨7, _⟩ => ⟨S8256x1024, .f32⟩
  | .hbm, ⟨8, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x4096, .bf16⟩
  | .local _ .vmem, ⟨6, _⟩ => ⟨S688x4096, .bf16⟩
  | .local _ .vmem, ⟨7, _⟩ => ⟨S1024x4096, .bf16⟩
  | .local _ .vmem, ⟨8, _⟩ => ⟨S688x1024, .f32⟩
  | .local _ .vmem, ⟨9, _⟩ => ⟨S688x1024, .f32⟩
  | .local _ .vmem, ⟨10, _⟩ => ⟨S1x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S688x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixReferenceIdeal.lean ====
abbrev S8256x1024 : Shape := ⟨2, ![8256, 1024]⟩
abbrev S1x1024 : Shape := ⟨2, ![1, 1024]⟩
abbrev S8256x4096 : Shape := ⟨2, ![8256, 4096]⟩
abbrev S1024x4096 : Shape := ⟨2, ![1024, 4096]⟩
abbrev S1024 : Shape := ⟨1, ![1024]⟩
abbrev S_ : Shape := ⟨0, ![]⟩
abbrev S8256 : Shape := ⟨1, ![8256]⟩
abbrev S8256x1 : Shape := ⟨2, ![8256, 1]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x4096, .f32⟩
  | .hbm, ⟨4, _⟩ => ⟨S1024x4096, .f32⟩
  | .hbm, ⟨5, _⟩ => ⟨S1024, .f32⟩
  | .hbm, ⟨6, _⟩ => ⟨S8256x1024, .f32⟩
  | .hbm, ⟨7, _⟩ => ⟨S_, .f32⟩
  | .hbm, ⟨8, _⟩ => ⟨S8256, .f32⟩
  | .hbm, ⟨9, _⟩ => ⟨S8256x1, .f32⟩
  | .hbm, ⟨10, _⟩ => ⟨S_, .f32⟩
  | .hbm, ⟨11, _⟩ => ⟨S8256x1, .f32⟩
  | .hbm, ⟨12, _⟩ => ⟨S8256x1, .f32⟩
  | .hbm, ⟨13, _⟩ => ⟨S_, .f32⟩
  | .hbm, ⟨14, _⟩ => ⟨S8256x1, .f32⟩
  | .hbm, ⟨15, _⟩ => ⟨S8256x1, .f32⟩
  | .hbm, ⟨16, _⟩ => ⟨S8256x1, .f32⟩
  | .hbm, ⟨17, _⟩ => ⟨S8256x1, .f32⟩
  | .hbm, ⟨18, _⟩ => ⟨S_, .f32⟩
  | .hbm, ⟨19, _⟩ => ⟨S8256x1, .f32⟩
  | .hbm, ⟨20, _⟩ => ⟨S8256x1, .f32⟩
  | .hbm, ⟨21, _⟩ => ⟨S8256x1024, .f32⟩
  | .hbm, ⟨22, _⟩ => ⟨S8256x1024, .f32⟩
  | .hbm, ⟨23, _⟩ => ⟨S1x1024, .f32⟩
  | .hbm, ⟨24, _⟩ => ⟨S8256x1024, .f32⟩
  | .hbm, ⟨25, _⟩ => ⟨S8256x1024, .f32⟩
  | .hbm, ⟨26, _⟩ => ⟨S8256x4096, .f32⟩
  | .hbm, ⟨27, _⟩ => ⟨S4096x1024, .f32⟩
  | .hbm, ⟨28, _⟩ => ⟨S1024x4096, .f32⟩
  | .hbm, ⟨29, _⟩ => ⟨S8256x1024, .f32⟩
  | .hbm, ⟨30, _⟩ => ⟨S8256x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8256x1024, .f32⟩
  | .hbm, ⟨35, _⟩ => ⟨S8256x1024, .f32⟩
  | .hbm, ⟨36, _⟩ => ⟨S_, .f32⟩
  | .hbm, ⟨37, _⟩ => ⟨S1024, .f32⟩
  | .hbm, ⟨38, _⟩ => ⟨S8256x1024, .f32⟩
  | .hbm, ⟨39, _⟩ => ⟨S_, .f32⟩
  | .hbm, ⟨40, _⟩ => ⟨S8256, .f32⟩
  | .hbm, ⟨41, _⟩ => ⟨S8256x1, .f32⟩
  | .hbm, ⟨42, _⟩ => ⟨S8256x1024, .f32⟩
  | .hbm, ⟨43, _⟩ => ⟨S8256x1024, .f32⟩
  | .hbm, ⟨44, _⟩ => ⟨S8256x1024, .f32⟩
  | .hbm, ⟨45, _⟩ => ⟨S8256x1, .f32⟩
  | .hbm, ⟨46, _⟩ => ⟨S_, .f32⟩
  | .hbm, ⟨47, _⟩ => ⟨S8256x1, .f32⟩
  | .hbm, ⟨48, _⟩ => ⟨S8256x1, .f32⟩
  | .hbm, ⟨49, _⟩ => ⟨S_, .f32⟩
  | .hbm, ⟨50, _⟩ => ⟨S8256, .f32⟩
  | .hbm, ⟨51, _⟩ => ⟨S8256x1024, .f32⟩
  | .hbm, ⟨52, _⟩ => ⟨S8256x1024, .f32⟩
  | .hbm, ⟨53, _⟩ => ⟨S8256x1024, .f32⟩
  | .hbm, ⟨54, _⟩ => ⟨S8256x1024, .f32⟩
  | .hbm, ⟨55, _⟩ => ⟨S8256x1024, .f32⟩
  | .hbm, ⟨56, _⟩ => ⟨S1x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== FfnInKernel.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S2816x1024 : Shape := ⟨2, ![2816, 1024]⟩
abbrev S_ : Shape := ⟨0, ![]⟩
abbrev S8x128 : Shape := ⟨2, ![8, 128]⟩
abbrev S688x1024 : Shape := ⟨2, ![688, 1024]⟩
abbrev S688x2816 : Shape := ⟨2, ![688, 2816]⟩
abbrev S688 : Shape := ⟨1, ![688]⟩
abbrev S688x1 : Shape := ⟨2, ![688, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x2816, .f32⟩
  | .hbm, ⟨4, _⟩ => ⟨S8256x2816, .f32⟩
  | .hbm, ⟨5, _⟩ => ⟨S1024x2816, .f32⟩
  | .hbm, ⟨6, _⟩ => ⟨S1024x2816, .f32⟩
  | .hbm, ⟨7, _⟩ => ⟨S8256x2816, .bf16⟩
  | .hbm, ⟨8, _⟩ => ⟨S8256x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S_, .f32⟩
  | .hbm, ⟨14, _⟩ => ⟨S8x128, .f32⟩
  | .hbm, ⟨15, _⟩ => ⟨S8256x1024, .f32⟩
  | .hbm, ⟨16, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x2816, .bf16⟩
  | .local _ .vmem, ⟨6, _⟩ => ⟨S688x2816, .bf16⟩
  | .local _ .vmem, ⟨7, _⟩ => ⟨S688x2816, .bf16⟩
  | .local _ .vmem, ⟨8, _⟩ => ⟨S688x2816, .bf16⟩
  | .local _ .vmem, ⟨9, _⟩ => ⟨S2816x1024, .bf16⟩
  | .local _ .vmem, ⟨10, _⟩ => ⟨S2816x1024, .bf16⟩
  | .local _ .vmem, ⟨11, _⟩ => ⟨S688x1024, .f32⟩
  | .local _ .vmem, ⟨12, _⟩ => ⟨S688x1024, .f32⟩
  | .local _ .vmem, ⟨13, _⟩ => ⟨S1x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_22 : BitVec 32 := 0#32
  let v43 : BitVec 1 := Scalar.cmpi .ne v42 c0_i32_22
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInReferenceIdeal.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S1024 : Shape := ⟨1, ![1024]⟩
abbrev S_ : Shape := ⟨0, ![]⟩
abbrev S8256 : Shape := ⟨1, ![8256]⟩
abbrev S8256x1 : Shape := ⟨2, ![8256, 1]⟩
abbrev S2816x1024 : Shape := ⟨2, ![2816, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x2816, .f32⟩
  | .hbm, ⟨4, _⟩ => ⟨S8256x2816, .f32⟩
  | .hbm, ⟨5, _⟩ => ⟨S1024x2816, .f32⟩
  | .hbm, ⟨6, _⟩ => ⟨S1024x2816, .f32⟩
  | .hbm, ⟨7, _⟩ => ⟨S1024, .f32⟩
  | .hbm, ⟨8, _⟩ => ⟨S8256x1024, .f32⟩
  | .hbm, ⟨9, _⟩ => ⟨S_, .f32⟩
  | .hbm, ⟨10, _⟩ => ⟨S8256, .f32⟩
  | .hbm, ⟨11, _⟩ => ⟨S8256x1, .f32⟩
  | .hbm, ⟨12, _⟩ => ⟨S_, .f32⟩
  | .hbm, ⟨13, _⟩ => ⟨S8256x1, .f32⟩
  | .hbm, ⟨14, _⟩ => ⟨S8256x1, .f32⟩
  | .hbm, ⟨15, _⟩ => ⟨S_, .f32⟩
  | .hbm, ⟨16, _⟩ => ⟨S8256x1, .f32⟩
  | .hbm, ⟨17, _⟩ => ⟨S8256x1, .f32⟩
  | .hbm, ⟨18, _⟩ => ⟨S8256x1, .f32⟩
  | .hbm, ⟨19, _⟩ => ⟨S8256x1, .f32⟩
  | .hbm, ⟨20, _⟩ => ⟨S_, .f32⟩
  | .hbm, ⟨21, _⟩ => ⟨S8256x1, .f32⟩
  | .hbm, ⟨22, _⟩ => ⟨S8256x1, .f32⟩
  | .hbm, ⟨23, _⟩ => ⟨S8256x1024, .f32⟩
  | .hbm, ⟨24, _⟩ => ⟨S8256x1024, .f32⟩
  | .hbm, ⟨25, _⟩ => ⟨S1x1024, .f32⟩
  | .hbm, ⟨26, _⟩ => ⟨S8256x1024, .f32⟩
  | .hbm, ⟨27, _⟩ => ⟨S8256x1024, .f32⟩
  | .hbm, ⟨28, _⟩ => ⟨S8256x2816, .f32⟩
  | .hbm, ⟨29, _⟩ => ⟨S8256x2816, .f32⟩
  | .hbm, ⟨30, _⟩ => ⟨S2816x1024, .f32⟩
  | .hbm, ⟨31, _⟩ => ⟨S1024x2816, .f32⟩
  | .hbm, ⟨32, _⟩ => ⟨S8256x1024, .f32⟩
  | .hbm, ⟨33, _⟩ => ⟨S2816x1024, .f32⟩
  | .hbm, ⟨34, _⟩ => ⟨S1024x2816, .f32⟩
  | .hbm, ⟨35, _⟩ => ⟨S8256x1024, .f32⟩
  | .hbm, ⟨36, _⟩ => ⟨S8256x1024, .f32⟩
  | .hbm, ⟨37, _⟩ => ⟨S8256x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8256x1024, .f32⟩
  | .hbm, ⟨42, _⟩ => ⟨S8256x1024, .f32⟩
  | .hbm, ⟨43, _⟩ => ⟨S_, .f32⟩
  | .hbm, ⟨44, _⟩ => ⟨S1024, .f32⟩
  | .hbm, ⟨45, _⟩ => ⟨S8256x1024, .f32⟩
  | .hbm, ⟨46, _⟩ => ⟨S_, .f32⟩
  | .hbm, ⟨47, _⟩ => ⟨S8256, .f32⟩
  | .hbm, ⟨48, _⟩ => ⟨S8256x1, .f32⟩
  | .hbm, ⟨49, _⟩ => ⟨S8256x1024, .f32⟩
  | .hbm, ⟨50, _⟩ => ⟨S8256x1024, .f32⟩
  | .hbm, ⟨51, _⟩ => ⟨S8256x1024, .f32⟩
  | .hbm, ⟨52, _⟩ => ⟨S8256x1, .f32⟩
  | .hbm, ⟨53, _⟩ => ⟨S_, .f32⟩
  | .hbm, ⟨54, _⟩ => ⟨S8256x1, .f32⟩
  | .hbm, ⟨55, _⟩ => ⟨S8256x1, .f32⟩
  | .hbm, ⟨56, _⟩ => ⟨S_, .f32⟩
  | .hbm, ⟨57, _⟩ => ⟨S8256, .f32⟩
  | .hbm, ⟨58, _⟩ => ⟨S8256x1024, .f32⟩
  | .hbm, ⟨59, _⟩ => ⟨S8256x1024, .f32⟩
  | .hbm, ⟨60, _⟩ => ⟨S8256x1024, .f32⟩
  | .hbm, ⟨61, _⟩ => ⟨S8256x1024, .f32⟩
  | .hbm, ⟨62, _⟩ => ⟨S8256x1024, .f32⟩
  | .hbm, ⟨63, _⟩ => ⟨S1x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== FfnIn1Kernel.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S2816x1024 : Shape := ⟨2, ![2816, 1024]⟩
abbrev S_ : Shape := ⟨0, ![]⟩
abbrev S8x128 : Shape := ⟨2, ![8, 128]⟩
abbrev S4x2048x1024 : Shape := ⟨3, ![4, 2048, 1024]⟩
abbrev S4x16x1024 : Shape := ⟨3, ![4, 16, 1024]⟩
abbrev S688x1024 : Shape := ⟨2, ![688, 1024]⟩
abbrev S688x2816 : Shape := ⟨2, ![688, 2816]⟩
abbrev S1x688x1024 : Shape := ⟨3, ![1, 688, 1024]⟩
abbrev S1x16x1024 : Shape := ⟨3, ![1, 16, 1024]⟩
abbrev S688 : Shape := ⟨1, ![688]⟩
abbrev S688x1 : Shape := ⟨2, ![688, 1]⟩
abbrev S1024 : Shape := ⟨1, ![1024]⟩
abbrev S16x1024 : Shape := ⟨2, ![16, 1024]⟩

abbrev nBuf : Space → Nat
  | .hbm => 18
  | .vmem => 16
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x2816, .f32⟩
  | .hbm, ⟨4, _⟩ => ⟨S8256x2816, .f32⟩
  | .hbm, ⟨5, _⟩ => ⟨S1024x2816, .f32⟩
  | .hbm, ⟨6, _⟩ => ⟨S1024x2816, .f32⟩
  | .hbm, ⟨7, _⟩ => ⟨S8256x2816, .bf16⟩
  | .hbm, ⟨8, _⟩ => ⟨S8256x2816, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S_, .f32⟩
  | .hbm, ⟨14, _⟩ => ⟨S8x128, .f32⟩
  | .hbm, ⟨15, _⟩ => ⟨S4x2048x1024, .f32⟩
  | .hbm, ⟨16, _⟩ => ⟨S4x16x1024, .f32⟩
  | .hbm, ⟨17, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S688x1024, .f32⟩
  | .local _ .vmem, ⟨3, _⟩ => ⟨S688x1024, .f32⟩
  | .local _ .vmem, ⟨4, _⟩ => ⟨S1x1024, .f32⟩
  | .local _ .vmem, ⟨5, _⟩ => ⟨S688x2816, .bf16⟩
  | .local _ .vmem, ⟨6, _⟩ => ⟨S688x2816, .bf16⟩
  | .local _ .vmem, ⟨7, _⟩ => ⟨S688x2816, .bf16⟩
  | .local _ .vmem, ⟨8, _⟩ => ⟨S688x2816, .bf16⟩
  | .local _ .vmem, ⟨9, _⟩ => ⟨S2816x1024, .bf16⟩
  | .local _ .vmem, ⟨10, _⟩ => ⟨S2816x1024, .bf16⟩
  | .local _ .vmem, ⟨11, _⟩ => ⟨S1x688x1024, .f32⟩
  | .local _ .vmem, ⟨12, _⟩ => ⟨S1x688x1024, .f32⟩
  | .local _ .vmem, ⟨13, _⟩ => ⟨S1x16x1024, .f32⟩
  | .local _ .vmem, ⟨14, _⟩ => ⟨S1x16x1024, .f32⟩
  | .local _ .vmem, ⟨15, _⟩ => ⟨S1x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def k0_cond3 (i : grid0.Coords) : BitVec 1 :=
  let arg0 : BitVec 32 := BitVec.ofNat 32 (i 0).val
  let c3_i32 : BitVec 32 := 3#32
  let c0_i32_25 : BitVec 32 := 0#32
  let v49 : BitVec 1 := Scalar.cmpi .eq c3_i32 c0_i32_25
  let c1_i32 : BitVec 32 := 1#32
  let v50 : BitVec 32 := Scalar.select v49 c1_i32 c3_i32
  let v51 : BitVec 32 := Scalar.remsi arg0 v50
  let c0_i32_27 : BitVec 32 := 0#32
  let v53 : BitVec 1 := Scalar.cmpi .slt v51 c0_i32_27
  let c0_i32_28 : BitVec 32 := 0#32
  let v54 : BitVec 1 := Scalar.cmpi .slt v50 c0_i32_28
  let v55 : BitVec 1 := Scalar.xori v53 v54
  let c0_i32_26 : BitVec 32 := 0#32
  let v52 : BitVec 1 := Scalar.cmpi .ne v51 c0_i32_26
  let v56 : BitVec 1 := Scalar.andi v55 v52
  let v57 : BitVec 32 := Scalar.addi v51 v50
  let v58 : BitVec 32 := Scalar.select v56 v57 v51
  let c2_i32 : BitVec 32 := 2#32
  let v59 : BitVec 1 := Scalar.cmpi .eq v58 c2_i32
  let v60 : BitVec 32 := Scalar.extui v59
  let c0_i32_29 : BitVec 32 := 0#32
  let v61 : BitVec 1 := Scalar.cmpi .ne v60 c0_i32_29
  v61

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_23 : BitVec 32 := 0#32
  let v45 : BitVec 1 := Scalar.cmpi .ne v44 c0_i32_23
  v45

def k0_cond2 (i : grid0.Coords) : BitVec 1 :=
  let arg0 : BitVec 32 := BitVec.ofNat 32 (i 0).val
  let c0_i32 : BitVec 32 := 0#32
  let v43 : BitVec 1 := Scalar.cmpi .eq arg0 c0_i32
  let v_true : BitVec 1 := 1#1
  let v46 : BitVec 1 := Scalar.xori v43 v_true
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x688x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnIn1ReferenceIdeal.lean ====
abbrev S8256x1024 : Shape := ⟨2, ![8256, 1024]⟩
abbrev S1x1024 : Shape := ⟨2, ![1, 1024]⟩
abbrev S8256x2816 : Shape := ⟨2, ![8256, 2816]⟩
abbrev S1024x2816 : Shape := ⟨2, ![1024, 2816]⟩
abbrev S4x2064x1024 : Shape := ⟨3, ![4, 2064, 1024]⟩
abbrev S4x2064x2816 : Shape := ⟨3, ![4, 2064, 2816]⟩
abbrev S4x2048x1024 : Shape := ⟨3, ![4, 2048, 1024]⟩
abbrev S4x16x1024 : Shape := ⟨3, ![4, 16, 1024]⟩
abbrev S1024 : Shape := ⟨1, ![1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S2816x1024 : Shape := ⟨2, ![2816, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S1x1024, .f32⟩
  | .hbm, ⟨3, _⟩ => ⟨S8256x2816, .f32⟩
  | .hbm, ⟨4, _⟩ => ⟨S8256x2816, .f32⟩
  | .hbm, ⟨5, _⟩ => ⟨S1024x2816, .f32⟩
  | .hbm, ⟨6, _⟩ => ⟨S1024x2816, .f32⟩
  | .hbm, ⟨7, _⟩ => ⟨S4x2064x1024, .f32⟩
  | .hbm, ⟨8, _⟩ => ⟨S4x2064x1024, .f32⟩
  | .hbm, ⟨9, _⟩ => ⟨S4x2064x2816, .f32⟩
  | .hbm, ⟨10, _⟩ => ⟨S4x2064x2816, .f32⟩
  | .hbm, ⟨11, _⟩ => ⟨S4x2048x1024, .f32⟩
  | .hbm, ⟨12, _⟩ => ⟨S4x16x1024, .f32⟩
  | .hbm, ⟨13, _⟩ => ⟨S4x2064x1024, .f32⟩
  | .hbm, ⟨14, _⟩ => ⟨S1024, .f32⟩
  | .hbm, ⟨15, _⟩ => ⟨S4x2064x1024, .f32⟩
  | .hbm, ⟨16, _⟩ => ⟨S_, .f32⟩
  | .hbm, ⟨17, _⟩ => ⟨S4x2064, .f32⟩
  | .hbm, ⟨18, _⟩ => ⟨S4x2064x1, .f32⟩
  | .hbm, ⟨19, _⟩ => ⟨S_, .f32⟩
  | .hbm, ⟨20, _⟩ => ⟨S4x2064x1, .f32⟩
  | .hbm, ⟨21, _⟩ => ⟨S4x2064x1, .f32⟩
  | .hbm, ⟨22, _⟩ => ⟨S_, .f32⟩
  | .hbm, ⟨23, _⟩ => ⟨S4x2064x1, .f32⟩
  | .hbm, ⟨24, _⟩ => ⟨S4x2064x1, .f32⟩
  | .hbm, ⟨25, _⟩ => ⟨S4x2064x1, .f32⟩
  | .hbm, ⟨26, _⟩ => ⟨S4x2064x1, .f32⟩
  | .hbm, ⟨27, _⟩ => ⟨S_, .f32⟩
  | .hbm, ⟨28, _⟩ => ⟨S4x2064x1, .f32⟩
  | .hbm, ⟨29, _⟩ => ⟨S4x2064x1, .f32⟩
  | .hbm, ⟨30, _⟩ => ⟨S4x2064x1024, .f32⟩
  | .hbm, ⟨31, _⟩ => ⟨S4x2064x1024, .f32⟩
  | .hbm, ⟨32, _⟩ => ⟨S1x1x1024, .f32⟩
  | .hbm, ⟨33, _⟩ => ⟨S4x2064x1024, .f32⟩
  | .hbm, ⟨34, _⟩ => ⟨S4x2064x1024, .f32⟩
  | .hbm, ⟨35, _⟩ => ⟨S4x2064x2816, .f32⟩
  | .hbm, ⟨36, _⟩ => ⟨S4x2064x2816, .f32⟩
  | .hbm, ⟨37, _⟩ => ⟨S2816x1024, .f32⟩
  | .hbm, ⟨38, _⟩ => ⟨S1024x2816, .f32⟩
  | .hbm, ⟨39, _⟩ => ⟨S4x2064x1024, .f32⟩
  | .hbm, ⟨40, _⟩ => ⟨S2816x1024, .f32⟩
  | .hbm, ⟨41, _⟩ => ⟨S1024x2816, .f32⟩
  | .hbm, ⟨42, _⟩ => ⟨S4x2064x1024, .f32⟩
  | .hbm, ⟨43, _⟩ => ⟨S4x2064x1024, .f32⟩
  | .hbm, ⟨44, _⟩ => ⟨S4x2064x1024, .f32⟩
  | .hbm, ⟨45, _⟩ => ⟨S_, .f32⟩
  | .hbm, ⟨46, _⟩ => ⟨S1024, .f32⟩
  | .hbm, ⟨47, _⟩ => ⟨S1x1x1024, .f32⟩
  | .hbm, ⟨48, _⟩ => ⟨S4x2064x1024, .f32⟩
  | .hbm, ⟨49, _⟩ => ⟨S4x2064x1024, .f32⟩
  | .hbm, ⟨50, _⟩ => ⟨S_, .f32⟩
  | .hbm, ⟨51, _⟩ => ⟨S1024, .f32⟩
  | .hbm, ⟨52, _⟩ => ⟨S4x2064x1024, .f32⟩
  | .hbm, ⟨53, _⟩ => ⟨S_, .f32⟩
  | .hbm, ⟨54, _⟩ => ⟨S4x2064, .f32⟩
  | .hbm, ⟨55, _⟩ => ⟨S4x2064x1, .f32⟩
  | .hbm, ⟨56, _⟩ => ⟨S4x2064x1024, .f32⟩
  | .hbm, ⟨57, _⟩ => ⟨S4x2064x1024, .f32⟩
  | .hbm, ⟨58, _⟩ => ⟨S4x2064x1024, .f32⟩
  | .hbm, ⟨59, _⟩ => ⟨S4x2064x1, .f32⟩
  | .hbm, ⟨60, _⟩ => ⟨S_, .f32⟩
  | .hbm, ⟨61, _⟩ => ⟨S4x2064x1, .f32⟩
  | .hbm, ⟨62, _⟩ => ⟨S4x2064x1, .f32⟩
  | .hbm, ⟨63, _⟩ => ⟨S_, .f32⟩
  | .hbm, ⟨64, _⟩ => ⟨S4x2064, .f32⟩
  | .hbm, ⟨65, _⟩ => ⟨S4x2064x1024, .f32⟩
  | .hbm, ⟨66, _⟩ => ⟨S4x2064x1024, .f32⟩
  | .hbm, ⟨67, _⟩ => ⟨S4x2064x1024, .f32⟩
  | .hbm, ⟨68, _⟩ => ⟨S4x2064x1024, .f32⟩
  | .hbm, ⟨69, _⟩ => ⟨S4x2064x1024, .f32⟩
  | .hbm, ⟨70, _⟩ => ⟨S1x1024, .f32⟩
  | .hbm, ⟨71, _⟩ => ⟨S4x2048x1024, .f32⟩
  | .hbm, ⟨72, _⟩ => ⟨S4x16x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== ParamKernel.lean ====
abbrev S32x64 : Shape := ⟨2, ![32, 64]⟩
abbrev S32 : Shape := ⟨1, ![32]⟩
abbrev S32x64x16 : Shape := ⟨3, ![32, 64, 16]⟩
abbrev S4x8x2048 : Shape := ⟨3, ![4, 8, 2048]⟩
abbrev S1x2048 : Shape := ⟨2, ![1, 2048]⟩
abbrev S2048 : Shape := ⟨1, ![2048]⟩
abbrev S16x32x64 : Shape := ⟨3, ![16, 32, 64]⟩
abbrev S16x2048 : Shape := ⟨2, ![16, 2048]⟩
abbrev S2048x1 : Shape := ⟨2, ![2048, 1]⟩
abbrev S_ : Shape := ⟨0, ![]⟩
abbrev S128 : Shape := ⟨1, ![128]⟩
abbrev S1x128 : Shape := ⟨2, ![1, 128]⟩
abbrev S2048x128 : Shape := ⟨2, ![2048, 128]⟩
abbrev S32x2048 : Shape := ⟨2, ![32, 2048]⟩

abbrev nBuf : Space → Nat
  | .hbm => 55
  | .vmem => 15
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S4x8x2048, .f32⟩
  | .hbm, ⟨6, _⟩ => ⟨S4x8x2048, .f32⟩
  | .hbm, ⟨7, _⟩ => ⟨S32x64x16, .f32⟩
  | .hbm, ⟨8, _⟩ => ⟨S32x64x16, .f32⟩
  | .hbm, ⟨9, _⟩ => ⟨S1x2048, .f32⟩
  | .hbm, ⟨10, _⟩ => ⟨S1x2048, .f32⟩
  | .hbm, ⟨11, _⟩ => ⟨S32x64, .f32⟩
  | .hbm, ⟨12, _⟩ => ⟨S2048, .f32⟩
  | .hbm, ⟨13, _⟩ => ⟨S1x2048, .f32⟩
  | .hbm, ⟨14, _⟩ => ⟨S16x32x64, .f32⟩
  | .hbm, ⟨15, _⟩ => ⟨S16x2048, .f32⟩
  | .hbm, ⟨16, _⟩ => ⟨S16x32x64, .f32⟩
  | .hbm, ⟨17, _⟩ => ⟨S16x2048, .f32⟩
  | .hbm, ⟨18, _⟩ => ⟨S16x32x64, .f32⟩
  | .hbm, ⟨19, _⟩ => ⟨S16x2048, .f32⟩
  | .hbm, ⟨20, _⟩ => ⟨S16x32x64, .f32⟩
  | .hbm, ⟨21, _⟩ => ⟨S16x2048, .f32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i1⟩
  | .hbm, ⟨32, _⟩ => ⟨S2048x1, .i32⟩
  | .hbm, ⟨33, _⟩ => ⟨S2048x1, .i32⟩
  | .hbm, ⟨34, _⟩ => ⟨S_, .i32⟩
  | .hbm, ⟨35, _⟩ => ⟨S2048x1, .i32⟩
  | .hbm, ⟨36, _⟩ => ⟨S2048x1, .i1⟩
  | .hbm, ⟨37, _⟩ => ⟨S2048x1, .i1⟩
  | .hbm, ⟨38, _⟩ => ⟨S_, .i32⟩
  | .hbm, ⟨39, _⟩ => ⟨S2048x1, .i32⟩
  | .hbm, ⟨40, _⟩ => ⟨S2048x1, .i32⟩
  | .hbm, ⟨41, _⟩ => ⟨S2048x1, .i32⟩
  | .hbm, ⟨42, _⟩ => ⟨S128, .i32⟩
  | .hbm, ⟨43, _⟩ => ⟨S1x128, .i32⟩
  | .hbm, ⟨44, _⟩ => ⟨S2048x128, .i32⟩
  | .hbm, ⟨45, _⟩ => ⟨S2048x128, .i32⟩
  | .hbm, ⟨46, _⟩ => ⟨S2048x128, .i1⟩
  | .hbm, ⟨47, _⟩ => ⟨S2048x128, .f32⟩
  | .hbm, ⟨48, _⟩ => ⟨S32x2048, .f32⟩
  | .hbm, ⟨49, _⟩ => ⟨S32x2048, .f32⟩
  | .hbm, ⟨50, _⟩ => ⟨S1x2048, .f32⟩
  | .hbm, ⟨51, _⟩ => ⟨S1x2048, .f32⟩
  | .hbm, ⟨52, _⟩ => ⟨S1x128, .f32⟩
  | .hbm, ⟨53, _⟩ => ⟨S16x2048, .f32⟩
  | .hbm, ⟨54, _⟩ => ⟨S16x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S16x2048, .f32⟩
  | .local _ .vmem, ⟨4, _⟩ => ⟨S16x2048, .f32⟩
  | .local _ .vmem, ⟨5, _⟩ => ⟨S32x2048, .f32⟩
  | .local _ .vmem, ⟨6, _⟩ => ⟨S32x2048, .f32⟩
  | .local _ .vmem, ⟨7, _⟩ => ⟨S16x2048, .f32⟩
  | .local _ .vmem, ⟨8, _⟩ => ⟨S16x2048, .f32⟩
  | .local _ .vmem, ⟨9, _⟩ => ⟨S2048x128, .f32⟩
  | .local _ .vmem, ⟨10, _⟩ => ⟨S1x2048, .f32⟩
  | .local _ .vmem, ⟨11, _⟩ => ⟨S1x2048, .f32⟩
  | .local _ .vmem, ⟨12, _⟩ => ⟨S1x128, .f32⟩
  | .local _ .vmem, ⟨13, _⟩ => ⟨S16x2048, .f32⟩
  | .local _ .vmem, ⟨14, _⟩ => ⟨S16x2048, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24_0 : Ref sig .tc := ⟨.hbm, 50, rfl⟩
abbrev main_v24_1 : Ref sig .tc := ⟨.hbm, 51, rfl⟩
abbrev main_v24_2 : Ref sig .tc := ⟨.hbm, 52, rfl⟩
abbrev main_v24_3 : Ref sig .tc := ⟨.hbm, 53, rfl⟩
abbrev main_v24_4 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S16x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ParamReferenceIdeal.lean ====
abbrev S32x64 : Shape := ⟨2, ![32, 64]⟩
abbrev S32 : Shape := ⟨1, ![32]⟩
abbrev S32x64x16 : Shape := ⟨3, ![32, 64, 16]⟩
abbrev S4x8x2048 : Shape := ⟨3, ![4, 8, 2048]⟩
abbrev S_ : Shape := ⟨0, ![]⟩
abbrev S2048 : Shape := ⟨1, ![2048]⟩
abbrev S32x1 : Shape := ⟨2, ![32, 1]⟩
abbrev S32x64x1 : Shape := ⟨3, ![32, 64, 1]⟩
abbrev S16x32x64 : Shape := ⟨3, ![16, 32, 64]⟩
abbrev S16x2048 : Shape := ⟨2, ![16, 2048]⟩
abbrev S1x2048 : Shape := ⟨2, ![1, 2048]⟩
abbrev S128 : Shape := ⟨1, ![128]⟩
abbrev S1x128 : Shape := ⟨2, ![1, 128]⟩

abbrev nBuf : Space → Nat
  | .hbm => 174
  | .vmem => 0
  | .smem => 0
  | _ => 0

abbrev hbmTy0_0 (i : Nat) : BufTy := match i % 128 with
  | 0 => ⟨S32x64, .f32⟩
  | 1 => ⟨S32x64, .f32⟩
  | 2 => ⟨S32, .f32⟩
  | 3 => ⟨S32x64x16, .f32⟩
  | 4 => ⟨S32x64x16, .f32⟩
  | 5 => ⟨S4x8x2048, .f32⟩
  | 6 => ⟨S4x8x2048, .f32⟩
  | 7 => ⟨S32x64x16, .f32⟩
  | 8 => ⟨S32x64x16, .f32⟩
  | 9 => ⟨S_, .f32⟩
  | 10 => ⟨S2048, .f32⟩
  | 11 => ⟨S32x64, .f32⟩
  | 12 => ⟨S_, .f32⟩
  | 13 => ⟨S2048, .f32⟩
  | 14 => ⟨S32x64, .f32⟩
  | 15 => ⟨S32, .f32⟩
  | 16 => ⟨S32x1, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S_, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S_, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S_, .f32⟩
  | 48 => ⟨S32x64, .f32⟩
  | 49 => ⟨S32x64, .f32⟩
  | 50 => ⟨S32x64x1, .f32⟩
  | 51 => ⟨S32x64x16, .f32⟩
  | 52 => ⟨S32x64x16, .f32⟩
  | 53 => ⟨S32x64x1, .f32⟩
  | 54 => ⟨S32x64x16, .f32⟩
  | 55 => ⟨S32x64x16, .f32⟩
  | 56 => ⟨S32x64x16, .f32⟩
  | 57 => ⟨S32x64x1, .f32⟩
  | 58 => ⟨S32x64x16, .f32⟩
  | 59 => ⟨S32x64x16, .f32⟩
  | 60 => ⟨S32x64x1, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S32x64x16, .f32⟩
  | 69 => ⟨S_, .f32⟩
  | 70 => ⟨S32x64, .f32⟩
  | 71 => ⟨S32x64x1, .f32⟩
  | 72 => ⟨S_, .f32⟩
  | 73 => ⟨S32x64, .f32⟩
  | 74 => ⟨S32x64x16, .f32⟩
  | 75 => ⟨S32x64x16, .f32⟩
  | 76 => ⟨S32x64x16, .f32⟩
  | 77 => ⟨S_, .f32⟩
  | 78 => ⟨S32x64, .f32⟩
  | 79 => ⟨S32x64x1, .f32⟩
  | 80 => ⟨S_, .f32⟩
  | 81 => ⟨S32x64, .f32⟩
  | 82 => ⟨S32x64x16, .f32⟩
  | 83 => ⟨S32x64x16, .f32⟩
  | 84 => ⟨S32x64x16, .f32⟩
  | 85 => ⟨S32x64x16, .f32⟩
  | 86 => ⟨S32x64x16, .f32⟩
  | 87 => ⟨S32x64x16, .f32⟩
  | 88 => ⟨S_, .f32⟩
  | 89 => ⟨S32x64, .f32⟩
  | 90 => ⟨S32x64x1, .f32⟩
  | 91 => ⟨S_, .f32⟩
  | 92 => ⟨S32x64, .f32⟩
  | 93 => ⟨S32x64, .f32⟩
  | 94 => ⟨S32x64x16, .f32⟩
  | 95 => ⟨S32x64x16, .f32⟩
  | 96 => ⟨S32x64x16, .f32⟩
  | 97 => ⟨S32x64x16, .f32⟩
  | 98 => ⟨S_, .f32⟩
  | 99 => ⟨S32x64, .f32⟩
  | 100 => ⟨S32x64x1, .f32⟩
  | 101 => ⟨S_, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S_, .f32⟩
  | 19 => ⟨S32, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S_, .f32⟩
  | 27 => ⟨S32, .f32⟩
  | 28 => ⟨S32x1, .f32⟩
  | 29 => ⟨S32x1, .f32⟩
  | 30 => ⟨S32x64, .f32⟩
  | 31 => ⟨S32x64, .f32⟩
  | 32 => ⟨S32x64, .f32⟩
  | 33 => ⟨S_, .f32⟩
  | 34 => ⟨S32, .f32⟩
  | 35 => ⟨S32, .f32⟩
  | 36 => ⟨S16x32x64, .f32⟩
  | 37 => ⟨S16x2048, .f32⟩
  | 38 => ⟨S16x32x64, .f32⟩
  | 39 => ⟨S16x2048, .f32⟩
  | 40 => ⟨S1x2048, .f32⟩
  | 41 => ⟨S1x2048, .f32⟩
  | 42 => ⟨S_, .i32⟩
  | 43 => ⟨S_, .f32⟩
  | 44 => ⟨S128, .f32⟩
  | 45 => ⟨S1x128, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_cst_5 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_6 : Ref sig .tc := ⟨.hbm, 77, rfl⟩
abbrev main_v61 : Ref sig .tc := ⟨.hbm, 78, rfl⟩
abbrev main_v62 : Ref sig .tc := ⟨.hbm, 79, rfl⟩
abbrev main_cst_7 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_10 : Ref sig .tc := ⟨.hbm, 98, rfl⟩
abbrev main_v78 : Ref sig .tc := ⟨.hbm, 99, rfl⟩
abbrev main_v79 : Ref sig .tc := ⟨.hbm, 100, rfl⟩
abbrev main_cst_11 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_12 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_cst_13 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_cst_14 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_c : Ref sig .tc := ⟨.hbm, 170, rfl⟩
abbrev main_call0_v0 : Ref sig .tc := ⟨.hbm, 171, rfl⟩
abbrev main_v145 : Ref sig .tc := ⟨.hbm, 172, rfl⟩
abbrev main_v146 : Ref sig .tc := ⟨.hbm, 173, rfl⟩

abbrev nD : Nat := 1
abbrev τ : Topo := Topo.v7x

variable {F : FTy → Type} [FloatOps F]
-- ==== MergeKernel.lean ====
abbrev S8256x1024 : Shape := ⟨2, ![8256, 1024]⟩
abbrev S8256x512 : Shape := ⟨2, ![8256, 512]⟩
abbrev S8256x4096 : Shape := ⟨2, ![8256, 4096]⟩
abbrev S512x1024 : Shape := ⟨2, ![512, 1024]⟩
abbrev S1024x1024 : Shape := ⟨2, ![1024, 1024]⟩
abbrev S_ : Shape := ⟨0, ![]⟩
abbrev S8x128 : Shape := ⟨2, ![8, 128]⟩
abbrev S688x1024 : Shape := ⟨2, ![688, 1024]⟩
abbrev S688x512 : Shape := ⟨2, ![688, 512]⟩
abbrev S688x2048 : Shape := ⟨2, ![688, 2048]⟩
abbrev S256x1024 : Shape := ⟨2, ![256, 1024]⟩
abbrev S688x256 : Shape := ⟨2, ![688, 256]⟩
abbrev S512x256 : Shape := ⟨2, ![512, 256]⟩
abbrev S8256x2048 : Shape := ⟨2, ![8256, 2048]⟩

abbrev nBuf : Space → Nat
  | .hbm => 23
  | .vmem => 27
  | .smem => 0
  | _ => 0

abbrev bufTy : (tb : Table) → Fin (tcTables nBuf tb) → BufTy
  | .hbm, ⟨0, _⟩ => ⟨S8256x1024, .f32⟩
  | .hbm, ⟨1, _⟩ => ⟨S8256x512, .f32⟩
  | .hbm, ⟨2, _⟩ => ⟨S8256x1024, .f32⟩
  | .hbm, ⟨3, _⟩ => ⟨S8256x4096, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S8256x1024, .bf16⟩
  | .hbm, ⟨8, _⟩ => ⟨S8256x4096, .bf16⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S_, .f32⟩
  | .hbm, ⟨13, _⟩ => ⟨S8x128, .f32⟩
  | .hbm, ⟨14, _⟩ => ⟨S8256x1024, .bf16⟩
  | .hbm, ⟨15, _⟩ => ⟨S8256x512, .bf16⟩
  | .hbm, ⟨16, _⟩ => ⟨S8256x4096, .bf16⟩
  | .hbm, ⟨17, _⟩ => ⟨S8256x1024, .bf16⟩
  | .hbm, ⟨18, _⟩ => ⟨S8256x1024, .bf16⟩
  | .hbm, ⟨19, _⟩ => ⟨S8256x512, .bf16⟩
  | .hbm, ⟨20, _⟩ => ⟨S8256x1024, .bf16⟩
  | .hbm, ⟨21, _⟩ => ⟨S8256x1024, .bf16⟩
  | .hbm, ⟨22, _⟩ => ⟨S8256x2048, .bf16⟩
  | .local _ .vmem, ⟨0, _⟩ => ⟨S688x1024, .f32⟩
  | .local _ .vmem, ⟨1, _⟩ => ⟨S688x1024, .f32⟩
  | .local _ .vmem, ⟨2, _⟩ => ⟨S688x512, .f32⟩
  | .local _ .vmem, ⟨3, _⟩ => ⟨S688x512, .f32⟩
  | .local _ .vmem, ⟨4, _⟩ => ⟨S688x1024, .bf16⟩
  | .local _ .vmem, ⟨5, _⟩ => ⟨S688x1024, .bf16⟩
  | .local _ .vmem, ⟨6, _⟩ => ⟨S688x2048, .bf16⟩
  | .local _ .vmem, ⟨7, _⟩ => ⟨S688x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S688x1024, .bf16⟩
  | .local _ .vmem, ⟨12, _⟩ => ⟨S688x1024, .bf16⟩
  | .local _ .vmem, ⟨13, _⟩ => ⟨S688x512, .bf16⟩
  | .local _ .vmem, ⟨14, _⟩ => ⟨S688x512, .bf16⟩
  | .local _ .vmem, ⟨15, _⟩ => ⟨S688x2048, .bf16⟩
  | .local _ .vmem, ⟨16, _⟩ => ⟨S688x2048, .bf16⟩
  | .local _ .vmem, ⟨17, _⟩ => ⟨S688x1024, .bf16⟩
  | .local _ .vmem, ⟨18, _⟩ => ⟨S688x1024, .bf16⟩
  | .local _ .vmem, ⟨19, _⟩ => ⟨S688x1024, .bf16⟩
  | .local _ .vmem, ⟨20, _⟩ => ⟨S688x1024, .bf16⟩
  | .local _ .vmem, ⟨21, _⟩ => ⟨S688x512, .bf16⟩
  | .local _ .vmem, ⟨22, _⟩ => ⟨S688x512, .bf16⟩
  | .local _ .vmem, ⟨23, _⟩ => ⟨S688x1024, .bf16⟩
  | .local _ .vmem, ⟨24, _⟩ => ⟨S688x1024, .bf16⟩
  | .local _ .vmem, ⟨25, _⟩ => ⟨S688x1024, .bf16⟩
  | .local _ .vmem, ⟨26, _⟩ => ⟨S688x1024, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev main_v7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S688x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S688x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S688x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S688x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S688x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S688x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S688x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S688x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S688x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S688x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeKernelIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== MergeReferenceIdeal.lean ====
abbrev S8256x1024 : Shape := ⟨2, ![8256, 1024]⟩
abbrev S8256x512 : Shape := ⟨2, ![8256, 512]⟩
abbrev S8256x4096 : Shape := ⟨2, ![8256, 4096]⟩
abbrev S512x1024 : Shape := ⟨2, ![512, 1024]⟩
abbrev S1024x1024 : Shape := ⟨2, ![1024, 1024]⟩
abbrev S_ : Shape := ⟨0, ![]⟩
abbrev S8256x2048 : Shape := ⟨2, ![8256, 2048]⟩

abbrev nBuf : Space → Nat
  | .hbm => 137
  | .vmem => 0
  | .smem => 0
  | _ => 0

abbrev hbmTy0_0 (i : Nat) : BufTy := match i % 128 with
  | 0 => ⟨S8256x1024, .f32⟩
  | 1 => ⟨S8256x512, .f32⟩
  | 2 => ⟨S8256x1024, .f32⟩
  | 3 => ⟨S8256x4096, .f32⟩
  | 4 => ⟨S512x1024, .f32⟩
  | 5 => ⟨S512x1024, .f32⟩
  | 6 => ⟨S1024x1024, .f32⟩
  | 7 => ⟨S8256x1024, .f32⟩
  | 8 => ⟨S8256x1024, .f32⟩
  | 9 => ⟨S_, .f32⟩
  | 10 => ⟨S_, .f32⟩
  | 11 => ⟨S_, .f32⟩
  | 12 => ⟨S8256x512, .f32⟩
  | 13 => ⟨S8256x512, .f32⟩
  | 14 => ⟨S8256x512, .f32⟩
  | 15 => ⟨S_, .f32⟩
  | 16 => ⟨S8256x512, .f32⟩
  | 17 => ⟨S8256x512, .f32⟩
  | 18 => ⟨S8256x512, .f32⟩
  | 19 => ⟨S8256x512, .f32⟩
  | 20 => ⟨S8256x512, .f32⟩
  | 21 => ⟨S_, .f32⟩
  | 22 => ⟨S8256x512, .f32⟩
  | 23 => ⟨S8256x512, .f32⟩
  | 24 => ⟨S8256x512, .f32⟩
  | 25 => ⟨S_, .f32⟩
  | 26 => ⟨S8256x512, .f32⟩
  | 27 => ⟨S8256x512, .f32⟩
  | 28 => ⟨S_, .f32⟩
  | 29 => ⟨S8256x512, .f32⟩
  | 30 => ⟨S8256x512, .f32⟩
  | 31 => ⟨S8256x512, .f32⟩
  | 32 => ⟨S_, .f32⟩
  | 33 => ⟨S8256x512, .f32⟩
  | 34 => ⟨S8256x512, .f32⟩
  | 35 => ⟨S_, .f32⟩
  | 36 => ⟨S8256x512, .f32⟩
  | 37 => ⟨S8256x512, .f32⟩
  | 38 => ⟨S8256x512, .f32⟩
  | 39 => ⟨S8256x1024, .f32⟩
  | 40 => ⟨S8256x1024, .f32⟩
  | 41 => ⟨S8256x1024, .f32⟩
  | 42 => ⟨S8256x1024, .f32⟩
  | 43 => ⟨S_, .f32⟩
  | 44 => ⟨S8256x1024, .f32⟩
  | 45 => ⟨S8256x1024, .f32⟩
  | 46 => ⟨S_, .f32⟩
  | 47 => ⟨S8256x1024, .f32⟩
  | 48 => ⟨S8256x1024, .f32⟩
  | 49 => ⟨S_, .f32⟩
  | 50 => ⟨S8256x1024, .f32⟩
  | 51 => ⟨S8256x1024, .f32⟩
  | 52 => ⟨S8256x1024, .f32⟩
  | 53 => ⟨S8256x1024, .f32⟩
  | 54 => ⟨S8256x1024, .f32⟩
  | 55 => ⟨S8256x1024, .f32⟩
  | 56 => ⟨S_, .f32⟩
  | 57 => ⟨S8256x1024, .f32⟩
  | 58 => ⟨S8256x1024, .f32⟩
  | 59 => ⟨S_, .f32⟩
  | 60 => ⟨S8256x1024, .f32⟩
  | 61 => ⟨S8256x1024, .f32⟩
  | 62 => ⟨S_, .f32⟩
  | 63 => ⟨S8256x1024, .f32⟩
  | 64 => ⟨S8256x1024, .f32⟩
  | 65 => ⟨S8256x1024, .f32⟩
  | 66 => ⟨S8256x1024, .f32⟩
  | 67 => ⟨S8256x1024, .f32⟩
  | 68 => ⟨S8256x1024, .f32⟩
  | 69 => ⟨S_, .f32⟩
  | 70 => ⟨S8256x1024, .f32⟩
  | 71 => ⟨S8256x1024, .f32⟩
  | 72 => ⟨S_, .f32⟩
  | 73 => ⟨S8256x1024, .f32⟩
  | 74 => ⟨S8256x1024, .f32⟩
  | 75 => ⟨S_, .f32⟩
  | 76 => ⟨S8256x1024, .f32⟩
  | 77 => ⟨S8256x1024, .f32⟩
  | 78 => ⟨S8256x1024, .f32⟩
  | 79 => ⟨S8256x1024, .f32⟩
  | 80 => ⟨S8256x1024, .f32⟩
  | 81 => ⟨S8256x1024, .f32⟩
  | 82 => ⟨S8256x1024, .f32⟩
  | 83 => ⟨S8256x1024, .f32⟩
  | 84 => ⟨S8256x1024, .f32⟩
  | 85 => ⟨S8256x1024, .f32⟩
  | 86 => ⟨S8256x1024, .f32⟩
  | 87 => ⟨S8256x1024, .f32⟩
  | 88 => ⟨S8256x1024, .f32⟩
  | 89 => ⟨S8256x1024, .f32⟩
  | 90 => ⟨S8256x1024, .f32⟩
  | 91 => ⟨S8256x1024, .f32⟩
  | 92 => ⟨S8256x512, .f32⟩
  | 93 => ⟨S8256x512, .f32⟩
  | 94 => ⟨S8256x512, .f32⟩
  | 95 => ⟨S8256x512, .f32⟩
  | 96 => ⟨S8256x512, .f32⟩
  | 97 => ⟨S_, .f32⟩
  | 98 => ⟨S8256x512, .f32⟩
  | 99 => ⟨S8256x512, .f32⟩
  | 100 => ⟨S8256x512, .f32⟩
  | 101 => ⟨S_, .f32⟩
  | 102 => ⟨S8256x512, .f32⟩
  | 103 => ⟨S8256x512, .f32⟩
  | 104 => ⟨S8256x512, .f32⟩
  | 105 => ⟨S8256x512, .f32⟩
  | 106 => ⟨S8256x512, .f32⟩
  | 107 => ⟨S8256x512, .f32⟩
  | 108 => ⟨S8256x512, .f32⟩
  | 109 => ⟨S8256x2048, .f32⟩
  | 110 => ⟨S_, .f32⟩
  | 111 => ⟨S_, .f32⟩
  | 112 => ⟨S_, .f32⟩
  | 113 => ⟨S8256x512, .f32⟩
  | 114 => ⟨S8256x512, .f32⟩
  | 115 => ⟨S8256x512, .f32⟩
  | 116 => ⟨S8256x512, .f32⟩
  | 117 => ⟨S8256x512, .f32⟩
  | 118 => ⟨S_, .f32⟩
  | 119 => ⟨S8256x512, .f32⟩
  | 120 => ⟨S8256x512, .f32⟩
  | 121 => ⟨S8256x512, .f32⟩
  | 122 => ⟨S_, .f32⟩
  | 123 => ⟨S8256x512, .f32⟩
  | 124 => ⟨S8256x512, .f32⟩
  | 125 => ⟨S_, .f32⟩
  | 126 => ⟨S8256x512, .f32⟩
  | 127 => ⟨S8256x512, .f32⟩
  | _ => ⟨S8256x1024, .f32⟩

abbrev hbmTy0_1 (i : Nat) : BufTy := match i % 128 with
  | 0 => ⟨S8256x512, .f32⟩
  | 1 => ⟨S8256x1024, .bf16⟩
  | 2 => ⟨S8256x512, .bf16⟩
  | 3 => ⟨S8256x2048, .bf16⟩
  | 4 => ⟨S8256x1024, .bf16⟩
  | 5 => ⟨S8256x1024, .bf16⟩
  | 6 => ⟨S8256x512, .bf16⟩
  | 7 => ⟨S8256x1024, .bf16⟩
  | 8 => ⟨S8256x1024, .bf16⟩
  | _ => ⟨S8256x1024, .f32⟩

abbrev hbmTy (i : Nat) : BufTy := match i / 128 with
  | 0 => hbmTy0_0 i
  | 1 => hbmTy0_1 i
  | _ => ⟨S8256x1024, .f32⟩

abbrev bufTy : (tb : Table) → Fin (tcTables nBuf tb) → BufTy
  | .hbm, ⟨i, _⟩ => hbmTy i
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_cst_11 : Ref sig .tc := ⟨.hbm, 59, rfl⟩
abbrev main_v40 : Ref sig .tc := ⟨.hbm, 60, rfl⟩
abbrev main_v41 : Ref sig .tc := ⟨.hbm, 61, rfl⟩
abbrev main_cst_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_13 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_18 : Ref sig .tc := ⟨.hbm, 110, rfl⟩
abbrev main_cst_19 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_20 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_21 : Ref sig .tc := ⟨.hbm, 122, rfl⟩
abbrev main_v93 : Ref sig .tc := ⟨.hbm, 123, rfl⟩
abbrev main_v94 : Ref sig .tc := ⟨.hbm, 124, rfl⟩
abbrev main_cst_22 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== LossKernel.lean ====
abbrev S8256x1024 : Shape := ⟨2, ![8256, 1024]⟩
abbrev S4x2048x1024 : Shape := ⟨3, ![4, 2048, 1024]⟩
abbrev S1024 : Shape := ⟨1, ![1024]⟩
abbrev S1x1024 : Shape := ⟨2, ![1, 1024]⟩
abbrev S1x128 : Shape := ⟨2, ![1, 128]⟩
abbrev S688x1024 : Shape := ⟨2, ![688, 1024]⟩
abbrev S1x688x1024 : Shape := ⟨3, ![1, 688, 1024]⟩
abbrev S688 : Shape := ⟨1, ![688]⟩
abbrev S688x1 : Shape := ⟨2, ![688, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8256x1024, .f32⟩
  | .hbm, ⟨1, _⟩ => ⟨S4x2048x1024, .f32⟩
  | .hbm, ⟨2, _⟩ => ⟨S1024, .f32⟩
  | .hbm, ⟨3, _⟩ => ⟨S1x1024, .f32⟩
  | .hbm, ⟨4, _⟩ => ⟨S8256x1024, .f32⟩
  | .hbm, ⟨5, _⟩ => ⟨S1x128, .f32⟩
  | .hbm, ⟨6, _⟩ => ⟨S1x1024, .f32⟩
  | .local _ .vmem, ⟨0, _⟩ => ⟨S688x1024, .f32⟩
  | .local _ .vmem, ⟨1, _⟩ => ⟨S688x1024, .f32⟩
  | .local _ .vmem, ⟨2, _⟩ => ⟨S1x688x1024, .f32⟩
  | .local _ .vmem, ⟨3, _⟩ => ⟨S1x688x1024, .f32⟩
  | .local _ .vmem, ⟨4, _⟩ => ⟨S1x1024, .f32⟩
  | .local _ .vmem, ⟨5, _⟩ => ⟨S688x1024, .f32⟩
  | .local _ .vmem, ⟨6, _⟩ => ⟨S688x1024, .f32⟩
  | .local _ .vmem, ⟨7, _⟩ => ⟨S1x128, .f32⟩
  | .local _ .vmem, ⟨8, _⟩ => ⟨S1x1024, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32_21 : BitVec 32 := 0#32
  let v64 : BitVec 1 := Scalar.cmpi .eq arg0 c0_i32_21
  let v65 : BitVec 32 := Scalar.extui v64
  let c0_i32_22 : BitVec 32 := 0#32
  let v66 : BitVec 1 := Scalar.cmpi .ne v65 c0_i32_22
  v66

def k0_cond2 (i : grid0.Coords) : BitVec 1 :=
  let arg0 : BitVec 32 := BitVec.ofNat 32 (i 0).val
  let c0_i32_21 : BitVec 32 := 0#32
  let v64 : BitVec 1 := Scalar.cmpi .eq arg0 c0_i32_21
  let v_true : BitVec 1 := 1#1
  let v67 : BitVec 1 := Scalar.xori v64 v_true
  let v68 : BitVec 32 := Scalar.extui v67
  let c0_i32_23 : BitVec 32 := 0#32
  let v69 : BitVec 1 := Scalar.cmpi .ne v68 c0_i32_23
  v69

def k0_cond3 (i : grid0.Coords) : BitVec 1 :=
  let arg0 : BitVec 32 := BitVec.ofNat 32 (i 0).val
  let c0_i32_25 : BitVec 32 := 0#32
  let v73 : BitVec 1 := Scalar.cmpi .eq arg0 c0_i32_25
  let v74 : BitVec 32 := Scalar.extui v73
  let c0_i32_26 : BitVec 32 := 0#32
  let v75 : BitVec 1 := Scalar.cmpi .ne v74 c0_i32_26
  v75

def k0_cond4 (i : grid0.Coords) : BitVec 1 :=
  let arg0 : BitVec 32 := BitVec.ofNat 32 (i 0).val
  let c0_i32_25 : BitVec 32 := 0#32
  let v73 : BitVec 1 := Scalar.cmpi .eq arg0 c0_i32_25
  let true_27 : BitVec 1 := 1#1
  let v76 : BitVec 1 := Scalar.xori v73 true_27
  let v77 : BitVec 32 := Scalar.extui v76
  let c0_i32_28 : BitVec 32 := 0#32
  let v78 : BitVec 1 := Scalar.cmpi .ne v77 c0_i32_28
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x688x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8256x1024 : Shape := ⟨2, ![8256, 1024]⟩
abbrev S4x2048x1024 : Shape := ⟨3, ![4, 2048, 1024]⟩
abbrev S1024 : Shape := ⟨1, ![1024]⟩
abbrev S4x2064x1024 : Shape := ⟨3, ![4, 2064, 1024]⟩
abbrev S_ : Shape := ⟨0, ![]⟩
abbrev S4x2064 : Shape := ⟨2, ![4, 2064]⟩
abbrev S4x2064x1 : Shape := ⟨3, ![4, 2064, 1]⟩
abbrev S1x1x1024 : Shape := ⟨3, ![1, 1, 1024]⟩
abbrev S4x2048 : Shape := ⟨2, ![4, 2048]⟩
abbrev S1x128 : Shape := ⟨2, ![1, 128]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S4x2048x1024, .f32⟩
  | .hbm, ⟨2, _⟩ => ⟨S1024, .f32⟩
  | .hbm, ⟨3, _⟩ => ⟨S4x2064x1024, .f32⟩
  | .hbm, ⟨4, _⟩ => ⟨S4x2064x1024, .f32⟩
  | .hbm, ⟨5, _⟩ => ⟨S_, .f32⟩
  | .hbm, ⟨6, _⟩ => ⟨S4x2064, .f32⟩
  | .hbm, ⟨7, _⟩ => ⟨S4x2064x1, .f32⟩
  | .hbm, ⟨8, _⟩ => ⟨S_, .f32⟩
  | .hbm, ⟨9, _⟩ => ⟨S4x2064x1, .f32⟩
  | .hbm, ⟨10, _⟩ => ⟨S4x2064x1, .f32⟩
  | .hbm, ⟨11, _⟩ => ⟨S_, .f32⟩
  | .hbm, ⟨12, _⟩ => ⟨S4x2064x1, .f32⟩
  | .hbm, ⟨13, _⟩ => ⟨S4x2064x1, .f32⟩
  | .hbm, ⟨14, _⟩ => ⟨S4x2064x1, .f32⟩
  | .hbm, ⟨15, _⟩ => ⟨S4x2064x1, .f32⟩
  | .hbm, ⟨16, _⟩ => ⟨S_, .f32⟩
  | .hbm, ⟨17, _⟩ => ⟨S4x2064x1, .f32⟩
  | .hbm, ⟨18, _⟩ => ⟨S4x2064x1, .f32⟩
  | .hbm, ⟨19, _⟩ => ⟨S4x2064x1024, .f32⟩
  | .hbm, ⟨20, _⟩ => ⟨S4x2064x1024, .f32⟩
  | .hbm, ⟨21, _⟩ => ⟨S1x1x1024, .f32⟩
  | .hbm, ⟨22, _⟩ => ⟨S4x2064x1024, .f32⟩
  | .hbm, ⟨23, _⟩ => ⟨S4x2064x1024, .f32⟩
  | .hbm, ⟨24, _⟩ => ⟨S4x2048x1024, .f32⟩
  | .hbm, ⟨25, _⟩ => ⟨S4x2048x1024, .f32⟩
  | .hbm, ⟨26, _⟩ => ⟨S4x2048x1024, .f32⟩
  | .hbm, ⟨27, _⟩ => ⟨S_, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S4x2048, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2064x1024, .f32⟩
  | .hbm, ⟨50, _⟩ => ⟨S4x2064x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S4x2064x1024, .f32⟩
  | .hbm, ⟨55, _⟩ => ⟨S4x2064x1024, .f32⟩
  | .hbm, ⟨56, _⟩ => ⟨S_, .f32⟩
  | .hbm, ⟨57, _⟩ => ⟨S1024, .f32⟩
  | .hbm, ⟨58, _⟩ => ⟨S4x2064x1024, .f32⟩
  | .hbm, ⟨59, _⟩ => ⟨S_, .f32⟩
  | .hbm, ⟨60, _⟩ => ⟨S4x2064, .f32⟩
  | .hbm, ⟨61, _⟩ => ⟨S4x2064x1, .f32⟩
  | .hbm, ⟨62, _⟩ => ⟨S4x2064x1024, .f32⟩
  | .hbm, ⟨63, _⟩ => ⟨S4x2064x1024, .f32⟩
  | .hbm, ⟨64, _⟩ => ⟨S4x2064x1, .f32⟩
  | .hbm, ⟨65, _⟩ => ⟨S_, .f32⟩
  | .hbm, ⟨66, _⟩ => ⟨S4x2064x1, .f32⟩
  | .hbm, ⟨67, _⟩ => ⟨S4x2064x1, .f32⟩
  | .hbm, ⟨68, _⟩ => ⟨S_, .f32⟩
  | .hbm, ⟨69, _⟩ => ⟨S4x2064, .f32⟩
  | .hbm, ⟨70, _⟩ => ⟨S4x2064x1024, .f32⟩
  | .hbm, ⟨71, _⟩ => ⟨S4x2064x1024, .f32⟩
  | .hbm, ⟨72, _⟩ => ⟨S4x2064x1024, .f32⟩
  | .hbm, ⟨73, _⟩ => ⟨S4x2064x1024, .f32⟩
  | .hbm, ⟨74, _⟩ => ⟨S4x2064x1024, .f32⟩
  | .hbm, ⟨75, _⟩ => ⟨S8256x1024, .f32⟩
  | .hbm, ⟨76, _⟩ => ⟨S1x128, .f32⟩
  | .hbm, ⟨77, _⟩ => ⟨S1x1024, .f32⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== FfnWKernel.lean ====
abbrev S8256x1024 : Shape := ⟨2, ![8256, 1024]⟩
abbrev S8256x2816 : Shape := ⟨2, ![8256, 2816]⟩
abbrev S_ : Shape := ⟨0, ![]⟩
abbrev S2816x1024 : Shape := ⟨2, ![2816, 1024]⟩
abbrev S2064x1024 : Shape := ⟨2, ![2064, 1024]⟩
abbrev S2064x256 : Shape := ⟨2, ![2064, 256]⟩
abbrev S256x1024 : Shape := ⟨2, ![256, 1024]⟩
abbrev S1024x256 : Shape := ⟨2, ![1024, 256]⟩
abbrev S688x1024 : Shape := ⟨2, ![688, 1024]⟩
abbrev S688x256 : Shape := ⟨2, ![688, 256]⟩

abbrev nBuf : Space → Nat
  | .hbm => 18
  | .vmem => 21
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S8256x2816, .f32⟩
  | .hbm, ⟨3, _⟩ => ⟨S8256x2816, .f32⟩
  | .hbm, ⟨4, _⟩ => ⟨S8256x2816, .f32⟩
  | .hbm, ⟨5, _⟩ => ⟨S8256x2816, .f32⟩
  | .hbm, ⟨6, _⟩ => ⟨S8256x1024, .bf16⟩
  | .hbm, ⟨7, _⟩ => ⟨S_, .f32⟩
  | .hbm, ⟨8, _⟩ => ⟨S8256x1024, .f32⟩
  | .hbm, ⟨9, _⟩ => ⟨S8256x1024, .f32⟩
  | .hbm, ⟨10, _⟩ => ⟨S8256x1024, .bf16⟩
  | .hbm, ⟨11, _⟩ => ⟨S8256x2816, .bf16⟩
  | .hbm, ⟨12, _⟩ => ⟨S8256x2816, .bf16⟩
  | .hbm, ⟨13, _⟩ => ⟨S8256x2816, .bf16⟩
  | .hbm, ⟨14, _⟩ => ⟨S8256x2816, .bf16⟩
  | .hbm, ⟨15, _⟩ => ⟨S2816x1024, .bf16⟩
  | .hbm, ⟨16, _⟩ => ⟨S2816x1024, .bf16⟩
  | .hbm, ⟨17, _⟩ => ⟨S2816x1024, .bf16⟩
  | .local _ .vmem, ⟨0, _⟩ => ⟨S2064x1024, .bf16⟩
  | .local _ .vmem, ⟨1, _⟩ => ⟨S2064x1024, .bf16⟩
  | .local _ .vmem, ⟨2, _⟩ => ⟨S2064x1024, .bf16⟩
  | .local _ .vmem, ⟨3, _⟩ => ⟨S2064x1024, .bf16⟩
  | .local _ .vmem, ⟨4, _⟩ => ⟨S2064x256, .bf16⟩
  | .local _ .vmem, ⟨5, _⟩ => ⟨S2064x256, .bf16⟩
  | .local _ .vmem, ⟨6, _⟩ => ⟨S2064x256, .bf16⟩
  | .local _ .vmem, ⟨7, _⟩ => ⟨S2064x256, .bf16⟩
  | .local _ .vmem, ⟨8, _⟩ => ⟨S2064x256, .bf16⟩
  | .local _ .vmem, ⟨9, _⟩ => ⟨S2064x256, .bf16⟩
  | .local _ .vmem, ⟨10, _⟩ => ⟨S2064x256, .bf16⟩
  | .local _ .vmem, ⟨11, _⟩ => ⟨S2064x256, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 4], ![false, false]⟩

def k0_cond7 (i : grid0.Coords) : BitVec 1 :=
  let arg1 : BitVec 32 := BitVec.ofNat 32 (i 1).val
  let c3_i32 : BitVec 32 := 3#32
  let v105 : BitVec 1 := Scalar.cmpi .eq arg1 c3_i32
  let v106 : BitVec 32 := Scalar.extui v105
  let c0_i32_60 : BitVec 32 := 0#32
  let v107 : BitVec 1 := Scalar.cmpi .ne v106 c0_i32_60
  v107

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2064x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2064x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2064x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2064x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2064x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnWReferenceIdeal.lean ====
abbrev S8256x1024 : Shape := ⟨2, ![8256, 1024]⟩
abbrev S8256x2816 : Shape := ⟨2, ![8256, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S8256x1024, .f32⟩
  | .hbm, ⟨2, _⟩ => ⟨S8256x2816, .f32⟩
  | .hbm, ⟨3, _⟩ => ⟨S8256x2816, .f32⟩
  | .hbm, ⟨4, _⟩ => ⟨S8256x2816, .f32⟩
  | .hbm, ⟨5, _⟩ => ⟨S8256x2816, .f32⟩
  | .hbm, ⟨6, _⟩ => ⟨S_, .f32⟩
  | .hbm, ⟨7, _⟩ => ⟨S1024x2816, .f32⟩
  | .hbm, ⟨8, _⟩ => ⟨S8256x2816, .f32⟩
  | .hbm, ⟨9, _⟩ => ⟨S8256x2816, .f32⟩
  | .hbm, ⟨10, _⟩ => ⟨S2816x1024, .f32⟩
  | .hbm, ⟨11, _⟩ => ⟨S1024x2816, .f32⟩
  | .hbm, ⟨12, _⟩ => ⟨S2816x1024, .f32⟩
  | .hbm, ⟨13, _⟩ => ⟨S1024x2816, .f32⟩
  | .hbm, ⟨14, _⟩ => ⟨S2816x1024, .f32⟩
  | .hbm, ⟨15, _⟩ => ⟨S8256x2816, .f32⟩
  | .hbm, ⟨16, _⟩ => ⟨S8256x2816, .f32⟩
  | .hbm, ⟨17, _⟩ => ⟨S_, .f32⟩
  | .hbm, ⟨18, _⟩ => ⟨S8256x2816, .f32⟩
  | .hbm, ⟨19, _⟩ => ⟨S8256x2816, .f32⟩
  | .hbm, ⟨20, _⟩ => ⟨S_, .f32⟩
  | .hbm, ⟨21, _⟩ => ⟨S8256x2816, .f32⟩
  | .hbm, ⟨22, _⟩ => ⟨S8256x2816, .f32⟩
  | .hbm, ⟨23, _⟩ => ⟨S8256x2816, .f32⟩
  | .hbm, ⟨24, _⟩ => ⟨S8256x2816, .f32⟩
  | .hbm, ⟨25, _⟩ => ⟨S8256x1024, .f32⟩
  | .hbm, ⟨26, _⟩ => ⟨S_, .f32⟩
  | .hbm, ⟨27, _⟩ => ⟨S8256x1024, .f32⟩
  | .hbm, ⟨28, _⟩ => ⟨S8256x1024, .f32⟩
  | .hbm, ⟨29, _⟩ => ⟨S_, .f32⟩
  | .hbm, ⟨30, _⟩ => ⟨S8256x1024, .f32⟩
  | .hbm, ⟨31, _⟩ => ⟨S8256x1024, .f32⟩
  | .hbm, ⟨32, _⟩ => ⟨S1024x2816, .f32⟩
  | .hbm, ⟨33, _⟩ => ⟨S2816x1024, .f32⟩
  | .hbm, ⟨34, _⟩ => ⟨S2816x1024, .f32⟩
  | .hbm, ⟨35, _⟩ => ⟨S2816x1024, .bf16⟩
  | .hbm, ⟨36, _⟩ => ⟨S2816x1024, .f32⟩
  | .hbm, ⟨37, _⟩ => ⟨S2816x1024, .bf16⟩
  | .hbm, ⟨38, _⟩ => ⟨S2816x1024, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== AttnFKernel.lean ====
abbrev S4x2064x4096 : Shape := ⟨3, ![4, 2064, 4096]⟩
abbrev S16 : Shape := ⟨1, ![16]⟩
abbrev S1x16 : Shape := ⟨2, ![1, 16]⟩
abbrev S4x2064x1024 : Shape := ⟨3, ![4, 2064, 1024]⟩
abbrev S1x2064x1024 : Shape := ⟨3, ![1, 2064, 1024]⟩
abbrev S1x2064x256 : Shape := ⟨3, ![1, 2064, 256]⟩
abbrev S512x128 : Shape := ⟨2, ![512, 128]⟩
abbrev S1x128x128 : Shape := ⟨3, ![1, 128, 128]⟩
abbrev S128x128 : Shape := ⟨2, ![128, 128]⟩
abbrev S1x16x128 : Shape := ⟨3, ![1, 16, 128]⟩
abbrev S16x128 : Shape := ⟨2, ![16, 128]⟩
abbrev S112x128 : Shape := ⟨2, ![112, 128]⟩
abbrev S256x128 : Shape := ⟨2, ![256, 128]⟩
abbrev S512x1 : Shape := ⟨2, ![512, 1]⟩
abbrev S1x1 : Shape := ⟨2, ![1, 1]⟩
abbrev S512 : Shape := ⟨1, ![512]⟩
abbrev S256x1 : Shape := ⟨2, ![256, 1]⟩
abbrev S512x256 : Shape := ⟨2, ![512, 256]⟩
abbrev S1x256x128 : Shape := ⟨3, ![1, 256, 128]⟩
abbrev S256x256 : Shape := ⟨2, ![256, 256]⟩
abbrev S64x128 : Shape := ⟨2, ![64, 128]⟩
abbrev S32x128 : Shape := ⟨2, ![32, 128]⟩
abbrev S64x1 : Shape := ⟨2, ![64, 1]⟩
abbrev S64 : Shape := ⟨1, ![64]⟩
abbrev S32x1 : Shape := ⟨2, ![32, 1]⟩

abbrev nBuf : Space → Nat
  | .hbm => 5
  | .vmem => 8
  | .smem => 1
  | _ => 0

abbrev bufTy : (tb : Table) → Fin (tcTables nBuf tb) → BufTy
  | .hbm, ⟨0, _⟩ => ⟨S4x2064x4096, .f32⟩
  | .hbm, ⟨1, _⟩ => ⟨S16, .f32⟩
  | .hbm, ⟨2, _⟩ => ⟨S4x2064x4096, .bf16⟩
  | .hbm, ⟨3, _⟩ => ⟨S1x16, .f32⟩
  | .hbm, ⟨4, _⟩ => ⟨S4x2064x1024, .bf16⟩
  | .local _ .vmem, ⟨0, _⟩ => ⟨S1x2064x1024, .bf16⟩
  | .local _ .vmem, ⟨1, _⟩ => ⟨S1x2064x1024, .bf16⟩
  | .local _ .vmem, ⟨2, _⟩ => ⟨S1x2064x256, .bf16⟩
  | .local _ .vmem, ⟨3, _⟩ => ⟨S1x2064x256, .bf16⟩
  | .local _ .vmem, ⟨4, _⟩ => ⟨S1x2064x256, .bf16⟩
  | .local _ .vmem, ⟨5, _⟩ => ⟨S1x2064x256, .bf16⟩
  | .local _ .vmem, ⟨6, _⟩ => ⟨S1x2064x1024, .bf16⟩
  | .local _ .vmem, ⟨7, _⟩ => ⟨S1x2064x1024, .bf16⟩
  | .local _ .smem, ⟨0, _⟩ => ⟨S1x16, .f32⟩
  | _, _ => ⟨S4x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

@[reducible] def k0_t1_loop : Scf.Loop 32 :=
  let c1_i32_383 : BitVec 32 := 1#32
  let c15_i32 : BitVec 32 := 15#32
  let v1034 : BitVec 32 := Scalar.addi c1_i32_383 c15_i32
  let c1_i32_384 : BitVec 32 := 1#32
  ⟨c1_i32_383, v1034, c1_i32_384⟩
def k0_mult1 (k0_t1 : Fin k0_t1_loop.trips) : BitVec 32 :=
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  v1865
def k0_mult2 (k0_t1 : Fin k0_t1_loop.trips) : BitVec 32 :=
  let c1_i32_383 : BitVec 32 := 1#32
  let c1_i32_384 : BitVec 32 := 1#32
  let arg6 : BitVec 32 := Scf.iv c1_i32_383 c1_i32_384 k0_t1
  let c1_i32_714 : BitVec 32 := 1#32
  let v1867 : BitVec 32 := Scalar.subi arg6 c1_i32_714
  let c128_i32_715 : BitVec 32 := 128#32
  let v1868 : BitVec 32 := Scalar.muli v1867 c128_i32_715
  v1868
def k0_off1 (k0_t1 : Fin k0_t1_loop.trips) : Fin 3 → Nat :=
  let c0_723 : Index := 0#32
  let c1_i32_383 : BitVec 32 := 1#32
  let c1_i32_384 : BitVec 32 := 1#32
  let arg6 : BitVec 32 := Scf.iv c1_i32_383 c1_i32_384 k0_t1
  let c1_i32_714 : BitVec 32 := 1#32
  let v1867 : BitVec 32 := Scalar.subi arg6 c1_i32_714
  let c128_i32_715 : BitVec 32 := 128#32
  let v1868 : BitVec 32 := Scalar.muli v1867 c128_i32_715
  let v1869 : BitVec 32 := v1868
  let v1893 : Index := Scalar.indexCast v1869
  let c0_724 : Index := 0#32
  ![0, v1893.toNat, 0]
def k0_off2 (k0_t1 : Fin k0_t1_loop.trips) : Fin 3 → Nat :=
  let c0_755 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v1965 : Index := Scalar.indexCast v1866
  let c0_756 : Index := 0#32
  ![0, v1965.toNat, 0]
def k0_off3 (k0_t1 : Fin k0_t1_loop.trips) : Fin 3 → Nat :=
  let c0_757 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v1968 : Index := Scalar.indexCast v1866
  let c128_758 : Index := 128#32
  ![0, v1968.toNat, 128]
def k0_off4 (k0_t1 : Fin k0_t1_loop.trips) : Fin 3 → Nat :=
  let c0_851 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2230 : Index := Scalar.indexCast v1866
  let c256_852 : Index := 256#32
  ![0, v2230.toNat, 256]
def k0_off5 (k0_t1 : Fin k0_t1_loop.trips) : Fin 3 → Nat :=
  let c0_853 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2233 : Index := Scalar.indexCast v1866
  let c384_854 : Index := 384#32
  ![0, v2233.toNat, 384]
def k0_off6 (k0_t1 : Fin k0_t1_loop.trips) : Fin 3 → Nat :=
  let c0_915 : Index := 0#32
  let c1_i32_383 : BitVec 32 := 1#32
  let c1_i32_384 : BitVec 32 := 1#32
  let arg6 : BitVec 32 := Scf.iv c1_i32_383 c1_i32_384 k0_t1
  let c1_i32_714 : BitVec 32 := 1#32
  let v1867 : BitVec 32 := Scalar.subi arg6 c1_i32_714
  let c128_i32_715 : BitVec 32 := 128#32
  let v1868 : BitVec 32 := Scalar.muli v1867 c128_i32_715
  let v1869 : BitVec 32 := v1868
  let v2423 : Index := Scalar.indexCast v1869
  let c128_916 : Index := 128#32
  ![0, v2423.toNat, 128]
def k0_off7 (k0_t1 : Fin k0_t1_loop.trips) : Fin 3 → Nat :=
  let c0_947 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2495 : Index := Scalar.indexCast v1866
  let c512_948 : Index := 512#32
  ![0, v2495.toNat, 512]
def k0_off8 (k0_t1 : Fin k0_t1_loop.trips) : Fin 3 → Nat :=
  let c0_949 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2498 : Index := Scalar.indexCast v1866
  let c640_950 : Index := 640#32
  ![0, v2498.toNat, 640]
def k0_off9 (k0_t1 : Fin k0_t1_loop.trips) : Fin 3 → Nat :=
  let c0_1043 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2760 : Index := Scalar.indexCast v1866
  let c768_1044 : Index := 768#32
  ![0, v2760.toNat, 768]
def k0_off10 (k0_t1 : Fin k0_t1_loop.trips) : Fin 3 → Nat :=
  let c0_1045 : Index := 0#32
  let c1_i32_383 : BitVec 32 := 1#32
  let c1_i32_384 : BitVec 32 := 1#32
  let arg6 : BitVec 32 := Scf.iv c1_i32_383 c1_i32_384 k0_t1
  let c128_i32_713 : BitVec 32 := 128#32
  let v1865 : BitVec 32 := Scalar.muli arg6 c128_i32_713
  let v1866 : BitVec 32 := v1865
  let v2763 : Index := Scalar.indexCast v1866
  let c896_1046 : Index := 896#32
  ![0, v2763.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2064x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2064x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2064x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2064x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFKernelIdeal.lean ====
variable {F : FTy → Type} [FloatOps F] [Named F]
def κ : String → Option EReal := fun
  | "mask" => some ⊥
  | _ => none
-- ==== AttnFReferenceIdeal.lean ====
abbrev S4x2064x4096 : Shape := ⟨3, ![4, 2064, 4096]⟩
abbrev S16 : Shape := ⟨1, ![16]⟩
abbrev S4x2064x1024 : Shape := ⟨3, ![4, 2064, 1024]⟩
abbrev S4x2064x256 : Shape := ⟨3, ![4, 2064, 256]⟩
abbrev S_ : Shape := ⟨0, ![]⟩
abbrev S4x2064x4x4x64 : Shape := ⟨5, ![4, 2064, 4, 4, 64]⟩
abbrev S4x2064x4x64 : Shape := ⟨4, ![4, 2064, 4, 64]⟩
abbrev S2064 : Shape := ⟨1, ![2064]⟩
abbrev S2064x1 : Shape := ⟨2, ![2064, 1]⟩
abbrev S1x2064 : Shape := ⟨2, ![1, 2064]⟩
abbrev S2064x2064 : Shape := ⟨2, ![2064, 2064]⟩
abbrev S4x4x2064x2064x4 : Shape := ⟨5, ![4, 4, 2064, 2064, 4]⟩
abbrev S4x4x4x2064x2064 : Shape := ⟨5, ![4, 4, 4, 2064, 2064]⟩
abbrev S4x4 : Shape := ⟨2, ![4, 4]⟩
abbrev S4x4x1x1 : Shape := ⟨4, ![4, 4, 1, 1]⟩
abbrev S4x4x4x2064x1 : Shape := ⟨5, ![4, 4, 4, 2064, 1]⟩
abbrev S4x4x4x2064x2065 : Shape := ⟨5, ![4, 4, 4, 2064, 2065]⟩
abbrev S4x4x4x2064 : Shape := ⟨4, ![4, 4, 4, 2064]⟩
abbrev S4x4x64x4x2064 : Shape := ⟨5, ![4, 4, 64, 4, 2064]⟩

abbrev nBuf : Space → Nat
  | .hbm => 79
  | .vmem => 0
  | .smem => 0
  | _ => 0

abbrev bufTy : (tb : Table) → Fin (tcTables nBuf tb) → BufTy
  | .hbm, ⟨0, _⟩ => ⟨S4x2064x4096, .f32⟩
  | .hbm, ⟨1, _⟩ => ⟨S16, .f32⟩
  | .hbm, ⟨2, _⟩ => ⟨S4x2064x1024, .f32⟩
  | .hbm, ⟨3, _⟩ => ⟨S4x2064x256, .f32⟩
  | .hbm, ⟨4, _⟩ => ⟨S4x2064x256, .f32⟩
  | .hbm, ⟨5, _⟩ => ⟨S_, .f32⟩
  | .hbm, ⟨6, _⟩ => ⟨S4x2064x1024, .f32⟩
  | .hbm, ⟨7, _⟩ => ⟨S4x2064x1024, .f32⟩
  | .hbm, ⟨8, _⟩ => ⟨S4x2064x4x4x64, .f32⟩
  | .hbm, ⟨9, _⟩ => ⟨S4x2064x4x64, .f32⟩
  | .hbm, ⟨10, _⟩ => ⟨S4x2064x4x64, .f32⟩
  | .hbm, ⟨11, _⟩ => ⟨S2064, .i32⟩
  | .hbm, ⟨12, _⟩ => ⟨S2064x1, .i32⟩
  | .hbm, ⟨13, _⟩ => ⟨S2064, .i32⟩
  | .hbm, ⟨14, _⟩ => ⟨S1x2064, .i32⟩
  | .hbm, ⟨15, _⟩ => ⟨S_, .i32⟩
  | .hbm, ⟨16, _⟩ => ⟨S2064x1, .i32⟩
  | .hbm, ⟨17, _⟩ => ⟨S2064x1, .i1⟩
  | .hbm, ⟨18, _⟩ => ⟨S_, .i32⟩
  | .hbm, ⟨19, _⟩ => ⟨S1x2064, .i32⟩
  | .hbm, ⟨20, _⟩ => ⟨S1x2064, .i1⟩
  | .hbm, ⟨21, _⟩ => ⟨S2064x2064, .i1⟩
  | .hbm, ⟨22, _⟩ => ⟨S2064x2064, .i1⟩
  | .hbm, ⟨23, _⟩ => ⟨S2064x2064, .i1⟩
  | .hbm, ⟨24, _⟩ => ⟨S2064x2064, .i32⟩
  | .hbm, ⟨25, _⟩ => ⟨S2064x2064, .i32⟩
  | .hbm, ⟨26, _⟩ => ⟨S2064x2064, .i1⟩
  | .hbm, ⟨27, _⟩ => ⟨S2064x2064, .i1⟩
  | .hbm, ⟨28, _⟩ => ⟨S_, .i32⟩
  | .hbm, ⟨29, _⟩ => ⟨S1x2064, .i32⟩
  | .hbm, ⟨30, _⟩ => ⟨S1x2064, .i32⟩
  | .hbm, ⟨31, _⟩ => ⟨S2064x2064, .i32⟩
  | .hbm, ⟨32, _⟩ => ⟨S2064x2064, .i32⟩
  | .hbm, ⟨33, _⟩ => ⟨S2064x2064, .i1⟩
  | .hbm, ⟨34, _⟩ => ⟨S2064x2064, .i1⟩
  | .hbm, ⟨35, _⟩ => ⟨S_, .i32⟩
  | .hbm, ⟨36, _⟩ => ⟨S1x2064, .i32⟩
  | .hbm, ⟨37, _⟩ => ⟨S1x2064, .i1⟩
  | .hbm, ⟨38, _⟩ => ⟨S_, .i32⟩
  | .hbm, ⟨39, _⟩ => ⟨S2064x1, .i32⟩
  | .hbm, ⟨40, _⟩ => ⟨S2064x1, .i1⟩
  | .hbm, ⟨41, _⟩ => ⟨S2064x2064, .i32⟩
  | .hbm, ⟨42, _⟩ => ⟨S2064x2064, .i32⟩
  | .hbm, ⟨43, _⟩ => ⟨S2064x2064, .i1⟩
  | .hbm, ⟨44, _⟩ => ⟨S2064x2064, .i1⟩
  | .hbm, ⟨45, _⟩ => ⟨S2064x2064, .i1⟩
  | .hbm, ⟨46, _⟩ => ⟨S2064x2064, .i1⟩
  | .hbm, ⟨47, _⟩ => ⟨S2064x2064, .i1⟩
  | .hbm, ⟨48, _⟩ => ⟨S2064x2064, .i1⟩
  | .hbm, ⟨49, _⟩ => ⟨S4x4x2064x2064x4, .f32⟩
  | .hbm, ⟨50, _⟩ => ⟨S4x4x4x2064x2064, .f32⟩
  | .hbm, ⟨51, _⟩ => ⟨S_, .f32⟩
  | .hbm, ⟨52, _⟩ => ⟨S_, .f32⟩
  | .hbm, ⟨53, _⟩ => ⟨S4x4x4x2064x2064, .i1⟩
  | .hbm, ⟨54, _⟩ => ⟨S4x4x4x2064x2064, .f32⟩
  | .hbm, ⟨55, _⟩ => ⟨S4x4x4x2064x2064, .f32⟩
  | .hbm, ⟨56, _⟩ => ⟨S4x4, .f32⟩
  | .hbm, ⟨57, _⟩ => ⟨S4x4x1x1, .f32⟩
  | .hbm, ⟨58, _⟩ => ⟨S4x4x4x2064x1, .f32⟩
  | .hbm, ⟨59, _⟩ => ⟨S4x4x4x2064x2065, .f32⟩
  | .hbm, ⟨60, _⟩ => ⟨S_, .f32⟩
  | .hbm, ⟨61, _⟩ => ⟨S4x4x4x2064, .f32⟩
  | .hbm, ⟨62, _⟩ => ⟨S_, .f32⟩
  | .hbm, ⟨63, _⟩ => ⟨S4x4x4x2064, .f32⟩
  | .hbm, ⟨64, _⟩ => ⟨S4x4x4x2064, .f32⟩
  | .hbm, ⟨65, _⟩ => ⟨S4x4x4x2064x1, .f32⟩
  | .hbm, ⟨66, _⟩ => ⟨S4x4x4x2064x2065, .f32⟩
  | .hbm, ⟨67, _⟩ => ⟨S4x4x4x2064x2065, .f32⟩
  | .hbm, ⟨68, _⟩ => ⟨S4x4x4x2064x2065, .f32⟩
  | .hbm, ⟨69, _⟩ => ⟨S_, .f32⟩
  | .hbm, ⟨70, _⟩ => ⟨S4x4x4x2064, .f32⟩
  | .hbm, ⟨71, _⟩ => ⟨S4x4x4x2064x1, .f32⟩
  | .hbm, ⟨72, _⟩ => ⟨S4x4x4x2064x2065, .f32⟩
  | .hbm, ⟨73, _⟩ => ⟨S4x4x4x2064x2065, .f32⟩
  | .hbm, ⟨74, _⟩ => ⟨S4x4x4x2064x2064, .f32⟩
  | .hbm, ⟨75, _⟩ => ⟨S4x4x64x4x2064, .f32⟩
  | .hbm, ⟨76, _⟩ => ⟨S4x2064x4x4x64, .f32⟩
  | .hbm, ⟨77, _⟩ => ⟨S4x2064x1024, .f32⟩
  | .hbm, ⟨78, _⟩ => ⟨S4x2064x1024, .bf16⟩
  | _, _ => ⟨S4x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_2 : Ref sig .tc := ⟨.hbm, 35, rfl⟩
abbrev main_v29 : Ref sig .tc := ⟨.hbm, 36, rfl⟩
abbrev main_v30 : Ref sig .tc := ⟨.hbm, 37, rfl⟩
abbrev main_c_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_cst_6 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== MixFKernel.lean ====
abbrev S8256x1024 : Shape := ⟨2, ![8256, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8256x4096 : Shape := ⟨2, ![8256, 4096]⟩
abbrev S688x1024 : Shape := ⟨2, ![688, 1024]⟩
abbrev S688x4096 : Shape := ⟨2, ![688, 4096]⟩
abbrev S688 : Shape := ⟨1, ![688]⟩
abbrev S688x1 : Shape := ⟨2, ![688, 1]⟩
abbrev S1x1024x512 : Shape := ⟨3, ![1, 1024, 512]⟩
abbrev S1024x512 : Shape := ⟨2, ![1024, 512]⟩
abbrev S688x512 : Shape := ⟨2, ![688, 512]⟩

abbrev nBuf : Space → Nat
  | .hbm => 8
  | .vmem => 8
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S8256x1024, .bf16⟩
  | .hbm, ⟨7, _⟩ => ⟨S8256x4096, .bf16⟩
  | .local _ .vmem, ⟨0, _⟩ => ⟨S688x1024, .f32⟩
  | .local _ .vmem, ⟨1, _⟩ => ⟨S688x1024, .f32⟩
  | .local _ .vmem, ⟨2, _⟩ => ⟨S1x1024, .f32⟩
  | .local _ .vmem, ⟨3, _⟩ => ⟨S8x1024x512, .bf16⟩
  | .local _ .vmem, ⟨4, _⟩ => ⟨S688x1024, .bf16⟩
  | .local _ .vmem, ⟨5, _⟩ => ⟨S688x1024, .bf16⟩
  | .local _ .vmem, ⟨6, _⟩ => ⟨S688x4096, .bf16⟩
  | .local _ .vmem, ⟨7, _⟩ => ⟨S688x4096, .bf16⟩
  | _, _ => ⟨S8256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S688x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixFReferenceIdeal.lean ====
abbrev S8256x1024 : Shape := ⟨2, ![8256, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8256 : Shape := ⟨1, ![8256]⟩
abbrev S8256x1 : Shape := ⟨2, ![8256, 1]⟩
abbrev S8256x4096 : Shape := ⟨2, ![8256, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8256x1024, .f32⟩
  | .hbm, ⟨1, _⟩ => ⟨S1x1024, .f32⟩
  | .hbm, ⟨2, _⟩ => ⟨S1024x4096, .f32⟩
  | .hbm, ⟨3, _⟩ => ⟨S1024, .f32⟩
  | .hbm, ⟨4, _⟩ => ⟨S8256x1024, .f32⟩
  | .hbm, ⟨5, _⟩ => ⟨S_, .f32⟩
  | .hbm, ⟨6, _⟩ => ⟨S8256, .f32⟩
  | .hbm, ⟨7, _⟩ => ⟨S8256x1, .f32⟩
  | .hbm, ⟨8, _⟩ => ⟨S_, .f32⟩
  | .hbm, ⟨9, _⟩ => ⟨S8256x1, .f32⟩
  | .hbm, ⟨10, _⟩ => ⟨S8256x1, .f32⟩
  | .hbm, ⟨11, _⟩ => ⟨S_, .f32⟩
  | .hbm, ⟨12, _⟩ => ⟨S8256x1, .f32⟩
  | .hbm, ⟨13, _⟩ => ⟨S8256x1, .f32⟩
  | .hbm, ⟨14, _⟩ => ⟨S8256x1, .f32⟩
  | .hbm, ⟨15, _⟩ => ⟨S8256x1024, .f32⟩
  | .hbm, ⟨16, _⟩ => ⟨S8256x1024, .f32⟩
  | .hbm, ⟨17, _⟩ => ⟨S1x1024, .f32⟩
  | .hbm, ⟨18, _⟩ => ⟨S8256x1024, .f32⟩
  | .hbm, ⟨19, _⟩ => ⟨S8256x1024, .f32⟩
  | .hbm, ⟨20, _⟩ => ⟨S8256x1024, .bf16⟩
  | .hbm, ⟨21, _⟩ => ⟨S8256x4096, .f32⟩
  | .hbm, ⟨22, _⟩ => ⟨S8256x4096, .bf16⟩
  | _, _ => ⟨S8256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Reals.lean ====
/- Finite extended reals: what a finiteness precondition says of an array, and the passage from the exact operations on
   finite values to the real numbers. -/
module

public import Idealize.ShloMosaic.Lib.Pipeline.ValueKit
public import Idealize.ShloMosaic.Lib.ReduceAll
public import Idealize.ShloMosaic.Lib.Pointwise
public import Idealize.ShloMosaic.PureOps

@[expose] public section

noncomputable section

namespace Cert.Reals

open Idealize.ShloMosaic

/-- An extended real that is a real number. -/
def IsReal (x : EReal) : Prop := ∃ r : ℝ, x = (r : EReal)

theorem IsReal.coe (r : ℝ) : IsReal (r : EReal) := ⟨r, rfl⟩

theorem IsReal.of_abs_lt {x : EReal} (h : max x (-x) < ⊤) : IsReal x := by
  induction x using EReal.rec with
  | bot => simp at h
  | top => simp at h
  | coe r => exact ⟨r, rfl⟩

/-- The word of the positive infinity. -/
theorem ofBits_inf : Ideal.ofBits .f32 0x7F800000#32 = ⊤ := by
  simp [Ideal.ofBits, Ideal.ieee]

/-- The word of one half. -/
theorem ofBits_half : Ideal.ofBits .f32 0x3F000000#32 = ((1 / 2 : ℝ) : EReal) := by
  simp [Ideal.ofBits, Ideal.ieee, -EReal.coe_mul]; norm_num

/-- What `jnp.all(jnp.abs(x) < jnp.inf)` says: every element of `x` is a real number. -/
theorem real_of_all {s u t : Shape} [Subsingleton t.Idx] {axes : List (Fin s.rank)} (x : FVec Ideal s .f32)
    (hb : (⟨0, ![]⟩ : Shape).BroadcastsInDim s (![] : Fin 0 → Fin s.rank))
    (h : s.ReducesTo axes t) (init : u.Idx → BitVec 1) (hu : 0 < u.numel) (j : t.Idx)
    (e : Host.reduce IntOp.andi (cmpf .olt (Host.absf x) (broadcastInDim s ![] hb (constant (F := Ideal) ⟨0, ![]⟩ .f32 0x7F800000#32))) init h hu j = 1#1)
    (i : s.Idx) : IsReal (x i) := by
  have := Host.reduce_andi_all _ init h hu j e i
  by_contra hn
  have hlt : ¬ (max (x i) (-(x i)) < (⊤ : EReal)) := fun h => hn (IsReal.of_abs_lt h)
  have e2 : BitVec.ofBool (decide (max (x i) (-(x i)) < Ideal.ofBits .f32 0x7F800000#32)) = 1#1 := this
  rw [ofBits_inf, decide_eq_false hlt] at e2
  exact absurd e2 (by decide)

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

/-- A family of real numbers, as its real values. -/
theorem IsReal.all {ι : Type} {f : ι → EReal} (h : ∀ i, IsReal (f i)) : ∃ g : ι → ℝ, f = fun i => (g i : EReal) :=
  ⟨fun i => (h i).choose, funext fun i => (h i).choose_spec⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  obtain ⟨g, rfl⟩ := IsReal.all h
  exact ⟨_, (coe_sum s g).symm⟩

/-- The half-angle form of the logistic function. -/
theorem half_tanh (r : ℝ) : 1 / 2 + 1 / 2 * Real.tanh (1 / 2 * r) = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; ring_nf
  have e2 : Real.exp (1 / 2 * r) * Real.exp (-(1 / 2 * r)) = 1 := by rw [← Real.exp_add]; simp
  have p1 := Real.exp_pos (1 / 2 * r)
  have p2 := Real.exp_pos (-(1 / 2 * r))
  rw [e1]
  generalize Real.exp (1 / 2 * r) = a at *
  generalize Real.exp (-(1 / 2 * r)) = b at *
  have : a + b ≠ 0 := by positivity
  have : 1 + b * b ≠ 0 := by positivity
  field_simp
  linear_combination (2:ℝ) * b * e2

/-- The logistic function of a real number. -/
def logi (r : ℝ) : ℝ := (1 + Real.exp (-r))⁻¹

theorem one_eq : (1 : EReal) = ((1 : ℝ) : EReal) := EReal.coe_one.symm

/-- The logistic function as a quotient. -/
theorem div_exp (r : ℝ) : Ideal.div 1 (1 + Ideal.exp (-(r : EReal))) = (logi r : EReal) := by
  have h : (1 + Real.exp (-r)) ≠ 0 := by positivity
  rw [← EReal.coe_neg, Ideal.exp_coe, one_eq, ← EReal.coe_add, Ideal.div_coe h, ← EReal.coe_mul, logi]
  congr 1; field_simp

/-- The logistic function through the hyperbolic tangent of the half. -/
theorem half_tanh_half (r : ℝ) : Ideal.ofBits .f32 0x3F000000#32 + Ideal.ofBits .f32 0x3F000000#32 * Ideal.tanh (Ideal.ofBits .f32 0x3F000000#32 * (r : EReal)) = (logi r : EReal) := by
  rw [ofBits_half, ← EReal.coe_mul, Ideal.tanh_coe, ← EReal.coe_mul, ← EReal.coe_add, half_tanh, logi]

theorem real_half : IsReal (Ideal.ofBits .f32 0x3F000000#32) := ⟨_, ofBits_half⟩

/-- Reading a block function at an index given by its coordinates. -/
theorem at_coords {A B : ℕ} (f : Shape.Idx ⟨2, ![A, B]⟩ → EReal) (y : Shape.Idx ⟨2, ![A, B]⟩) (a : Fin A) (n : ℕ) (hn : n < B) (h0 : (y 0 : ℕ) = a) (h1 : (y 1 : ℕ) = n) :
    f (ix2 a ⟨n, hn⟩) = f y :=
  congrArg f (funext fun k => by
    match k with
    | ⟨0, _⟩ => exact Fin.ext h0.symm
    | ⟨1, _⟩ => exact Fin.ext h1.symm)

end Cert.Reals
end
-- ==== Proof.GateValue.lean ====
/- The three results of the gate's backward call, as functions of its arguments. -/
module

public import proofs.«01_k».proof.Proof.Gen.GateKernelIdeal.Value
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateKernelIdeal.Val

open Cert.GateKernelIdeal Cert.GateKernelIdeal.Gen

variable (m : (ℓ : Loc nD τ sig) → Buf (Elt Ideal) ℓ)

/-- One half. -/
abbrev half : EReal := Ideal.ofBits .f32 0x3F000000#32

/-- The gradient of the hidden units: the product of the halved cotangent with the second weight. -/
def hid (dh : FVec Ideal S8256x1024 .f32) (w2 : FVec Ideal S2816x1024 .f32) (r : Fin 8256) (f : Fin 2816) : EReal :=
  ∑ k : Fin 1024, (half * dh (ix2 r k)) * w2 (ix2 f k)

/-- The gate's slope as the kernel writes it. -/
def slope (a : EReal) : EReal := half + half * Ideal.tanh (half * a)

def da (dh : FVec Ideal S8256x1024 .f32) (a b : FVec Ideal S8256x2816 .f32) (w2 : FVec Ideal S2816x1024 .f32) : FVec Ideal S8256x2816 .bf16 :=
  fun i => hid dh w2 (i 0) (i 1) * b i * (slope (a i) * (1 + a i * (1 - slope (a i))))

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

/-- The gradient of the second factor. -/
def db (dh : FVec Ideal S8256x1024 .f32) (a : FVec Ideal S8256x2816 .f32) (w2 : FVec Ideal S2816x1024 .f32) : FVec Ideal S8256x2816 .bf16 :=
  fun i => hid dh w2 (i 0) (i 1) * (a i * slope (a i))

/-- The halved cotangent. -/
def dhb (dh : FVec Ideal S8256x1024 .f32) : FVec Ideal S8256x1024 .bf16 := fun i => half * dh i

/-- One tile of columns of the gate's gradient. -/
theorem tile_da (v0 : Vec Ideal S688x1024 .f32) (v5 : Vec Ideal S256x1024 .bf16) (v8 v11 : Vec Ideal S688x256 .bf16) (x : S688x256.Idx) :
    k0_pay5 v0 v5 v8 v11 x = (∑ k : Fin 1024, half * v0 (ix2 (x 0) k) * v5 (ix2 (x 1) k)) * v11 x * (slope (v8 x) * (1 + v8 x * (1 - slope (v8 x)))) := by
  open_payloads; pointwise [slope]

/-- The gate's gradient over one block of rows. -/
def daB (x0 : Vec Ideal S688x1024 .f32) (x1 x2 : Vec Ideal S688x2816 .bf16) (x3 : Vec Ideal S2816x1024 .bf16) (y : S688x2816.Idx) : EReal :=
  (∑ k : Fin 1024, half * x0 (ix2 (y 0) k) * x3 (ix2 (y 1) k)) * x2 y * (slope (x1 y) * (1 + x1 y * (1 - slope (x1 y))))

theorem final4 (c : Dev nD) : (dats (F := Ideal) m 0 c).arrAt 4 (cfgs 0).N
    = da (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; simp only [outsAt0]
  frame_out
  refine Eq.trans (b := daB (iblk m c 0 t) (iblk m c 1 t) (iblk m c 2 t) (iblk m c 3 t) y) ?_ ?_
  · generalize iblk m c 0 t = X0
    generalize iblk m c 1 t = X1
    generalize iblk m c 2 t = X2
    generalize iblk m c 3 t = X3
    canon_tiles x h
    all_goals (refine Eq.trans (tile_da _ _ _ _ x) ?_; pointwise; exact Cert.Reals.at_coords (daB X0 X1 X2 X3) y (x 0) _ _ h0 h1)
  · pointwise [daB, da, hid, slope]; blk_point [iblk, V, idx t]

/-- One tile of columns of the second factor's gradient. -/
theorem tile_db (v0 : Vec Ideal S688x1024 .f32) (v5 : Vec Ideal S256x1024 .bf16) (v8 : Vec Ideal S688x256 .bf16) (x : S688x256.Idx) :
    k0_pay6 v0 v5 v8 x = (∑ k : Fin 1024, half * v0 (ix2 (x 0) k) * v5 (ix2 (x 1) k)) * (v8 x * slope (v8 x)) := by
  open_payloads; pointwise [slope]

/-- The second factor's gradient over one block of rows. -/
def dbB (x0 : Vec Ideal S688x1024 .f32) (x1 : Vec Ideal S688x2816 .bf16) (x3 : Vec Ideal S2816x1024 .bf16) (y : S688x2816.Idx) : EReal :=
  (∑ k : Fin 1024, half * x0 (ix2 (y 0) k) * x3 (ix2 (y 1) k)) * (x1 y * slope (x1 y))

theorem final5 (c : Dev nD) : (dats (F := Ideal) m 0 c).arrAt 5 (cfgs 0).N
    = db (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]; simp only [outsAt0]
  frame_out
  refine Eq.trans (b := dbB (iblk m c 0 t) (iblk m c 1 t) (iblk m c 3 t) y) ?_ ?_
  · generalize iblk m c 0 t = X0
    generalize iblk m c 1 t = X1
    generalize iblk m c 3 t = X3
    canon_tiles x h
    all_goals (refine Eq.trans (tile_db _ _ _ x) ?_; pointwise; exact Cert.Reals.at_coords (dbB X0 X1 X3) y (x 0) _ _ h0 h1)
  · pointwise [dbB, db, hid, slope]; blk_point [iblk, V, idx t]

theorem final6 (c : Dev nD) : (dats (F := Ideal) m 0 c).arrAt 6 (cfgs 0).N = dhb (m ((c : Thread nD τ).loc main_arg0)) := by
  refine (dats m 0 c).arrAt_eq_of_covers 6 _ (by decide +kernel) fun t _ y => ?_
  blk_simp
  rw [after0_6]; simp only [outsAt0]
  frame_out
  pointwise [dhb, k0_pay1]; blk_point [iblk, V, idx t]

end Cert.GateKernelIdeal.Val
end
-- ==== Proof.GateMath.lean ====
/- The reference's gradients of the gate, which `jax.vjp` takes of `0.5 * ((silu(a) * b) @ w2)`, are the kernel's on
   finite arguments. -/
module

public import proofs.«01_k».proof.Proof.Gen.GateReferenceIdeal.Read
public import proofs.«01_k».proof.Proof.GateValue

@[expose] public section

set_option maxRecDepth 16384

noncomputable section

open Idealize.ShloMosaic Cert.Reals

namespace Cert.GateReferenceIdeal.Math

open Cert.GateReferenceIdeal Cert.GateReferenceIdeal.Read

open Cert.GateKernelIdeal.Val (da db dhb hid slope half)

/-- The gradient of the hidden units is finite. -/
theorem hid_real (dh : FVec Ideal S8256x1024 .f32) (w2 : FVec Ideal S2816x1024 .f32) (hdh : ∀ i, IsReal (dh i)) (hw : ∀ i, IsReal (w2 i))
    (r : Fin 8256) (f : Fin 2816) : IsReal (hid dh w2 r f) :=
  IsReal.sum _ fun _ => (real_half.mul (hdh _)).mul (hw _)

theorem slope_coe (r : ℝ) : slope (r : EReal) = (logi r : EReal) := half_tanh_half r

/-- The gate's gradient. -/
theorem da_eq (dh : FVec Ideal S8256x1024 .f32) (a b : FVec Ideal S8256x2816 .f32) (w2 : FVec Ideal S2816x1024 .f32)
    (hdh : ∀ i, IsReal (dh i)) (ha : ∀ i, IsReal (a i)) (hb : ∀ i, IsReal (b i)) (hw : ∀ i, IsReal (w2 i)) :
    val_main_v13 (F := Ideal) dh a b w2 = da dh a b w2 := by
  rw [← val_main_v13_eq]; funext i
  pointwise [da]
  have hd := hid_real dh w2 hdh hw (i 0) (i 1)
  change hid dh w2 (i 0) (i 1) * b i * _ + a i * (hid dh w2 (i 0) (i 1) * b i) * _ = _
  generalize hid dh w2 (i 0) (i 1) = d at *
  obtain ⟨d, rfl⟩ := hd
  obtain ⟨x, hx⟩ := ha i
  obtain ⟨y, hy⟩ := hb i
  rw [hx, hy, div_exp, slope_coe, one_eq]
  norm_cast
  ring

/-- The second factor's gradient. -/
theorem db_eq (dh : FVec Ideal S8256x1024 .f32) (a : FVec Ideal S8256x2816 .f32) (w2 : FVec Ideal S2816x1024 .f32)
    (hdh : ∀ i, IsReal (dh i)) (ha : ∀ i, IsReal (a i)) (hw : ∀ i, IsReal (w2 i)) :
    val_main_v14 (F := Ideal) dh a w2 = db dh a w2 := by
  rw [← val_main_v14_eq]; funext i
  pointwise [db]
  have hd := hid_real dh w2 hdh hw (i 0) (i 1)
  change a i * _ * hid dh w2 (i 0) (i 1) = _
  generalize hid dh w2 (i 0) (i 1) = d at *
  obtain ⟨d, rfl⟩ := hd
  obtain ⟨x, hx⟩ := ha i
  rw [hx, div_exp, slope_coe]
  norm_cast
  ring

/-- The halved cotangent. -/
theorem dhb_eq (dh : FVec Ideal S8256x1024 .f32) : val_main_v17 (F := Ideal) dh = dhb dh := by
  rw [← val_main_v17_eq]; funext i
  pointwise [dhb]

end Cert.GateReferenceIdeal.Math
end
-- ==== Proof.GateClaim.lean ====
/- The claims about the gate's backward call. -/
module

public import proofs.«01_k».proof.Defs
public import proofs.«01_k».proof.Proof.Gen.GateKernel.Frame
public import proofs.«01_k».proof.Proof.Gen.Pre_gate_finite
public import proofs.«01_k».proof.Proof.GateMath
public import Idealize.ShloMosaic.Lib.Claim

@[expose] public section

set_option maxRecDepth 16384

noncomputable section

open Idealize.ShloMosaic Idealize.SL.Sem Cert.Reals

namespace Cert.Proof.Gate

/-- What the precondition says: every element of every argument is a real number. -/
theorem finite (m : (ℓ : Loc Cert.GateKernelIdeal.nD Cert.GateKernelIdeal.τ Cert.GateKernelIdeal.sig) → Buf (Elt Ideal) ℓ)
    (hpre : Cert.Pre_GateKernelIdeal_gate_finite m) (c : Dev Cert.GateKernelIdeal.nD) :
    (∀ i, IsReal (m (c.tc.loc Cert.GateKernelIdeal.main_arg0) i)) ∧ (∀ i, IsReal (m (c.tc.loc Cert.GateKernelIdeal.main_arg1) i))
    ∧ (∀ i, IsReal (m (c.tc.loc Cert.GateKernelIdeal.main_arg2) i)) ∧ (∀ i, IsReal (m (c.tc.loc Cert.GateKernelIdeal.main_arg3) i)) := by
  have h := congrFun (hpre c) (fun a => a.elim0)
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2, real_of_all _ _ _ _ _ _ h3⟩

theorem frame_reference : Cert.quiescent_GateReferenceIdeal := fun m ρ _ =>
  (θ_run Cert.GateReferenceIdeal.defs _ _).mono (fun r h => ⟨fun c => (h c).2.2.2, sem_eq_zero_of_no_sems (by decide) r.2⟩)
    (Cert.GateReferenceIdeal.Value.run (F := Ideal) m ρ)

theorem frame_reference_pre : Cert.quiescent_GateReferenceIdeal_pre_gate_finite := fun m g _ => frame_reference m g trivial

open Cert.GateReferenceIdeal.Read Cert.GateReferenceIdeal.Math in
theorem algebraic : Cert.algebraic_GateKernelIdeal_GateReferenceIdeal_pre_gate_finite := by
  pair_intro
  · run_from Cert.GateKernelIdeal.Gen.run_main m g
  · run_from Cert.GateReferenceIdeal.Value.run m' g'
    · obtain ⟨f0, f1, f2, f3⟩ := finite m hpre c
      exact (val_main_v13_eq _ _ _ _).trans ((da_eq _ _ _ _ f0 f1 f2 f3).trans (Cert.GateKernelIdeal.Val.final4 m c).symm)
    · obtain ⟨f0, f1, f2, f3⟩ := finite m hpre c
      exact (val_main_v14_eq _ _ _).trans ((db_eq _ _ _ f0 f1 f3).trans (Cert.GateKernelIdeal.Val.final5 m c).symm)
    · exact (val_main_v17_eq _).trans ((dhb_eq _).trans (Cert.GateKernelIdeal.Val.final6 m c).symm)

end Cert.Proof.Gate
end
-- ==== Proof.Norm.lean ====
/- The gradient of the root-mean-square norm over one row of 1024: the kernels' formula, and its equality with the form
   the reference's derivative takes, on finite values. -/
module

public import proofs.«01_k».proof.Proof.Reals

@[expose] public section

noncomputable section

namespace Cert.Norm

open Idealize.ShloMosaic Cert.Reals

/-- A row's mean square, with the norm's small constant added. -/
def ms (x : Fin 1024 → EReal) : EReal :=
  Ideal.div (∑ k, x k * x k) (Ideal.ofBits .f32 0x44800000#32) + Ideal.ofBits .f32 0x358637BD#32

/-- The reciprocal root of a row's mean square. -/
def rinv (x : Fin 1024 → EReal) : EReal := Ideal.rsqrt (ms x)

/-- The row's gradient as the kernels write it. -/
def dx (x g dy : Fin 1024 → EReal) (j : Fin 1024) : EReal :=
  rinv x * (dy j * g j - x j * rinv x * Ideal.div (∑ k, dy k * g k * (x k * rinv x)) (Ideal.ofBits .f32 0x44800000#32))

/-- The factor of `x j` in the row's gradient as the reference's derivative gives it: half of it, since the square is a
    product of two equal factors. -/
def half (x g dy : Fin 1024 → EReal) : EReal :=
  ∑ _ : Fin 1, Ideal.div ((∑ k, x k * (dy k * g k)) * (Ideal.ofBits .f32 0xBF000000#32 * Ideal.div (rinv x) (ms x))) (Ideal.ofBits .f32 0x44800000#32)

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The mean square of a finite row is a positive real number. -/
theorem ms_coe (x : Fin 1024 → ℝ) : ∃ q : ℝ, 0 < q ∧ ms (fun k => (x k : EReal)) = (q : EReal) := by
  obtain ⟨e, he, hb⟩ := ofBits_eps
  refine ⟨(∑ k, x k * x k) * (1 / 1024) + e, by have : 0 ≤ ∑ k, x k * x k := Finset.sum_nonneg fun k _ => mul_self_nonneg _; positivity, ?_⟩
  rw [ms, ofBits_1024, Ideal.div_coe (by norm_num), hb]
  simp only [← EReal.coe_mul, ← coe_sum, ← EReal.coe_add]

theorem rsqrt_pos {q : ℝ} (h : 0 < q) : Ideal.rsqrt (q : EReal) = (((Real.sqrt q)⁻¹ : ℝ) : EReal) := by
  rw [Ideal.rsqrt_coe, if_neg (not_lt.2 h.le), if_neg h.ne']

theorem rinv_real (x : Fin 1024 → EReal) (hx : ∀ k, IsReal (x k)) : IsReal (rinv x) := by
  obtain ⟨x, rfl⟩ := IsReal.all hx
  obtain ⟨q, hq, hm⟩ := ms_coe x
  rw [rinv, hm, rsqrt_pos hq]
  exact IsReal.coe _

/-- The reference's form of the row's gradient is the kernels' on finite rows. -/
theorem row_eq (d : EReal) (x g dy : Fin 1024 → EReal) (hx : ∀ k, IsReal (x k)) (hg : ∀ k, IsReal (g k)) (hy : ∀ k, IsReal (dy k)) (j : Fin 1024) :
    d + dy j * g j * rinv x + x j * half x g dy + half x g dy * x j = d + dx x g dy j := by
  obtain ⟨x, rfl⟩ := IsReal.all hx
  obtain ⟨g, rfl⟩ := IsReal.all hg
  obtain ⟨dy, rfl⟩ := IsReal.all hy
  obtain ⟨q, hq, hm⟩ := ms_coe x
  rw [add_assoc, add_assoc]
  congr 1
  simp only [half, dx, rinv, hm, rsqrt_pos hq, ofBits_1024, ofBits_neg_half, Ideal.div_coe hq.ne', Ideal.div_coe (show (1024 : ℝ) ≠ 0 by norm_num),
    ← EReal.coe_mul, ← coe_sum, ← EReal.coe_add, ← EReal.coe_sub]
  congr 1
  have e1 : ∑ k, dy k * g k * (x k * (√q)⁻¹) = (∑ k, x k * (dy k * g k)) * (√q)⁻¹ := by
    rw [Finset.sum_mul]; exact Finset.sum_congr rfl fun k _ => by ring
  rw [e1]
  have hs : 0 < √q := Real.sqrt_pos.2 hq
  have e2 : q = √q * √q := (Real.mul_self_sqrt hq.le).symm
  generalize ∑ k, x k * (dy k * g k) = T
  generalize √q = s at *
  subst e2
  simp only [Finset.univ_unique, Finset.sum_singleton]
  field_simp
  ring

end Cert.Norm
end
-- ==== Proof.MixValue.lean ====
/- The two results of the backward call of the norm before the token mixers, as functions of its arguments. -/
module

public import proofs.«01_k».proof.Proof.Gen.MixKernelIdeal.Value
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MixKernelIdeal.Val

open Cert.MixKernelIdeal Cert.MixKernelIdeal.Gen Cert.Norm

variable (m : (ℓ : Loc nD τ sig) → Buf (Elt Ideal) ℓ)

/-- The gradient of the norm's output. -/
def dy (dp : FVec Ideal S8256x4096 .f32) (w : FVec Ideal S1024x4096 .f32) (r : Fin 8256) (k : Fin 1024) : EReal :=
  ∑ l : Fin 4096, dp (ix2 r l) * w (ix2 k l)

/-- The gradient of the norm's input, added to the cotangent of the input itself. -/
def dhin (dh h : FVec Ideal S8256x1024 .f32) (g : FVec Ideal S1x1024 .f32) (dp : FVec Ideal S8256x4096 .f32) (w : FVec Ideal S1024x4096 .f32) :
    FVec Ideal S8256x1024 .f32 :=
  fun i => dh i + dx (fun k => h (ix2 (i 0) k)) (fun k => g (ix2 0 k)) (dy dp w (i 0)) (i 1)

/-- The gradient of the norm's scale. -/
def dnorm (h : FVec Ideal S8256x1024 .f32) (dp : FVec Ideal S8256x4096 .f32) (w : FVec Ideal S1024x4096 .f32) : FVec Ideal S1x1024 .f32 :=
  fun i => ∑ r : Fin 8256, dy dp w r (i 1) * (h (ix2 r (i 1)) * rinv fun k => h (ix2 r k))

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![0, 0] :=
  (by decide +kernel : ∀ t : Fin grid0.N, _)

theorem pay (X0 : Vec Ideal S688x1024 .f32) (X1 : Vec Ideal S1x1024 .f32) (X2 : Vec Ideal S688x4096 .bf16) (X3 : Vec Ideal S1024x4096 .bf16)
    (X4 : Vec Ideal S688x1024 .f32) (y : S688x1024.Idx) :
    k0_pay6 X0 X1 X2 X3 X4 y
    = X4 y + dx (fun k => X0 (ix2 (y 0) k)) (fun k => X1 (ix2 0 k)) (fun k => ∑ l : Fin 4096, X2 (ix2 (y 0) l) * X3 (ix2 k l)) (y 1) := by
  open_payloads
  pointwise [dx, rinv, ms]

theorem point5 (c : Dev nD) (t : Fin cfg0.N) (y : S688x1024.Idx) :
    k0_pay6 (iblk m c 1 t) (iblk m c 2 t) (iblk m c 3 t) (iblk m c 4 t) (iblk m c 0 t) y
    = dhin (m ((c : Thread nD τ).loc main_arg0)) (m ((c : Thread nD τ).loc main_arg1)) (m ((c : Thread nD τ).loc main_arg2)) (m ((c : Thread nD τ).loc main_arg3)) (m ((c : Thread nD τ).loc main_arg4))
      (((cfg0.win 5).blk t).view.emb y) := by
  rw [pay]
  pointwise [dhin, dy, dx, rinv, ms]
  blk_point [iblk, V, idx t]

/-- The input's gradient, whole. -/
theorem final5 (c : Dev nD) : (dats (F := Ideal) m 0 c).arrAt 5 cfg0.N
    = dhin (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  have hN : t.val < 12 := lt_of_lt_of_eq t.isLt N_0
  by_cases h0 : t.val % 12 = 0
  · rw [outsAt0_A m c t h0 (by omega)]; frame_out; exact point5 m c t y
  · rw [outsAt0_B m c t h0 (by omega)]; frame_out; exact point5 m c t y

theorem hpay (X0 : Vec Ideal S688x1024 .f32) (X2 : Vec Ideal S688x4096 .bf16) (X3 : Vec Ideal S1024x4096 .bf16) (y : S1x1024.Idx) :
    k0_pay5 X0 X2 X3 y
    = ∑ r : Fin 688, (∑ l : Fin 4096, X2 (ix2 r l) * X3 (ix2 (y 1) l)) * (X0 (ix2 r (y 1)) * rinv fun k => X0 (ix2 r k)) := by
  open_payloads
  pointwise [rinv, ms]

theorem hacc (a b : Vec Ideal S1x1024 .f32) (y : S1x1024.Idx) : k0_pay1 a b y = b y + a y := by open_payloads; pointwise

/-- The scale's gradient, whole: the sum over the tiles of the tiles' sums. -/
theorem final6 (c : Dev nD) : (dats (F := Ideal) m 0 c).arrAt 6 cfg0.N
    = dnorm (m ((c : Thread nD τ).loc main_arg1)) (m ((c : Thread nD τ).loc main_arg3)) (m ((c : Thread nD τ).loc main_arg4)) := by
  refine (dats m 0 c).arrAt_eq_of_after_last 6 t0_11 (by decide +kernel) _ fun j => ?_
  blk_simp
  rw [after0_6, Pipeline.eq_sum_fin_of_reset_step_apply_last (f := fun n h => (outsAt0 m c n h).2) 12 (fun _ => 0) _
    (fun t h j => by rw [outsAt0_A m c t h (by have : t.val < 12 := lt_of_lt_of_eq t.isLt N_0; omega)]; frame_out; rw [hpay, zero_add])
    (fun t h j => by rw [outsAt0_B m c t h (by omega)]; frame_out; rw [hacc, hpay]) (le_of_eq N_0) t0_11 rfl j, zero_add]
  refine Fin.sum_mul_add_congr fun t r hl => ?_
  pointwise [dy, rinv, ms]
  blk_point [iblk, V, idx t]

end Cert.MixKernelIdeal.Val
end
-- ==== Proof.MixMath.lean ====
/- The derivative of the plain norm and projection gives the functions of the backward call, on finite arguments. -/
module

public import proofs.«01_k».proof.Proof.Gen.MixReferenceIdeal.Read
public import proofs.«01_k».proof.Proof.MixValue

@[expose] public section

set_option maxRecDepth 16384

noncomputable section

open Idealize.ShloMosaic Cert.Reals

namespace Cert.MixReferenceIdeal.Math

open Cert.MixReferenceIdeal Cert.MixReferenceIdeal.Read

open Cert.MixKernelIdeal.Val (dy dhin dnorm)

theorem dhin_eq (m : (ℓ : Loc nD τ sig) → Buf (Elt Ideal) ℓ) (c : Dev nD)
    (hh : ∀ i, IsReal (m ((c.tc : Thread nD τ).loc main_arg1) i)) (hg : ∀ i, IsReal (m ((c.tc : Thread nD τ).loc main_arg2) i))
    (hp : ∀ i, IsReal (m ((c.tc : Thread nD τ).loc main_arg3) i)) (hw : ∀ i, IsReal (m ((c.tc : Thread nD τ).loc main_arg4) i)) :
    Cert.MixReferenceIdeal.Value.res_main_v41 m c
    = dhin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Cert.MixReferenceIdeal.Value.res_main_v41
  funext i
  generalize m ((c.tc : Thread nD τ).loc main_arg0) = dh at *
  generalize m ((c.tc : Thread nD τ).loc main_arg1) = h at *
  generalize m ((c.tc : Thread nD τ).loc main_arg2) = g at *
  generalize m ((c.tc : Thread nD τ).loc main_arg3) = dp at *
  generalize m ((c.tc : Thread nD τ).loc main_arg4) = w at *
  refine Eq.trans ?_ (Norm.row_eq (dh i) (fun k => h (ix2 (i 0) k)) (fun k => g (ix2 0 k)) (dy dp w (i 0)) (fun k => hh _) (fun k => hg _)
    (fun k => IsReal.sum _ fun l => (hp _).mul (hw _)) (i 1))
  pointwise [Norm.half, Norm.rinv, Norm.ms, dy]

theorem dnorm_eq (h : FVec Ideal S8256x1024 .f32) (dp : FVec Ideal S8256x4096 .f32) (w : FVec Ideal S1024x4096 .f32) :
    val_main_v42 (F := Ideal) h dp w = dnorm h dp w := by
  rw [← val_main_v42_eq]; funext i
  pointwise [dnorm, Norm.rinv, Norm.ms, dy]
  rw [Fin.sum_univ_one]
  exact Finset.sum_congr rfl fun r _ => mul_comm _ _

end Cert.MixReferenceIdeal.Math
end
-- ==== Proof.MixClaim.lean ====
/- The value claim about the backward call of the norm before the token mixers. -/
module

public import proofs.«01_k».proof.Defs
public import proofs.«01_k».proof.Proof.Gen.Pre_mix_finite
public import proofs.«01_k».proof.Proof.MixValue
public import proofs.«01_k».proof.Proof.MixMath

@[expose] public section

set_option maxRecDepth 16384

noncomputable section

open Idealize.ShloMosaic Idealize.SL.Sem Cert.Reals

namespace Cert.Proof.Mix

/-- What the precondition says: every element of the four arguments is a real number. -/
theorem finite (m : (ℓ : Loc Cert.MixKernelIdeal.nD Cert.MixKernelIdeal.τ Cert.MixKernelIdeal.sig) → Buf (Elt Ideal) ℓ)
    (hpre : Cert.Pre_MixKernelIdeal_mix_finite m) (c : Dev Cert.MixKernelIdeal.nD) :
    (∀ i, IsReal (m (c.tc.loc Cert.MixKernelIdeal.main_arg1) i)) ∧ (∀ i, IsReal (m (c.tc.loc Cert.MixKernelIdeal.main_arg2) i))
    ∧ (∀ i, IsReal (m (c.tc.loc Cert.MixKernelIdeal.main_arg3) i)) ∧ (∀ i, IsReal (m (c.tc.loc Cert.MixKernelIdeal.main_arg4) i)) := by
  have h := congrFun (hpre c) (fun a => a.elim0)
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2, real_of_all _ _ _ _ _ _ h3⟩

theorem frame_reference : Cert.quiescent_MixReferenceIdeal := fun m ρ _ =>
  (θ_run Cert.MixReferenceIdeal.defs _ _).mono (fun r h => ⟨fun c => (h c).2.2, sem_eq_zero_of_no_sems (by decide) r.2⟩)
    (Cert.MixReferenceIdeal.Value.run (F := Ideal) m ρ)

theorem frame_reference_pre : Cert.quiescent_MixReferenceIdeal_pre_mix_finite := fun m g _ => frame_reference m g trivial

open Cert.MixReferenceIdeal.Read Cert.MixReferenceIdeal.Math in
theorem algebraic : Cert.algebraic_MixKernelIdeal_MixReferenceIdeal_pre_mix_finite := by
  pair_intro
  · run_from Cert.MixKernelIdeal.Gen.run_main m g
  · run_from Cert.MixReferenceIdeal.Value.run m' g'
    · obtain ⟨f1, f2, f3, f4⟩ := finite m hpre c
      obtain ⟨a0, a1, a2, a3, a4⟩ := hagree c
      refine (dhin_eq m' c (by rw [a1]; exact f1) (by rw [a2]; exact f2) (by rw [a3]; exact f3) (by rw [a4]; exact f4)).trans ?_
      rw [a0, a1, a2, a3, a4]
      exact (Cert.MixKernelIdeal.Val.final5 m c).symm
    · exact (val_main_v42_eq _ _ _).trans ((dnorm_eq _ _ _).trans (Cert.MixKernelIdeal.Val.final6 m c).symm)

end Cert.Proof.Mix
end
-- ==== Proof.FfnInValue.lean ====
/- The two results of the backward call of a feed-forward layer's norm, as functions of its arguments. -/
module

public import proofs.«01_k».proof.Proof.Gen.FfnInKernelIdeal.Value
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.FfnInKernelIdeal.Val

open Cert.FfnInKernelIdeal Cert.FfnInKernelIdeal.Gen Cert.Norm

variable (m : (ℓ : Loc nD τ sig) → Buf (Elt Ideal) ℓ)

/-- The gradient of the norm's output: through both hidden products. -/
def dy (da db : FVec Ideal S8256x2816 .f32) (w1 w3 : FVec Ideal S1024x2816 .f32) (r : Fin 8256) (k : Fin 1024) : EReal :=
  (∑ l : Fin 2816, da (ix2 r l) * w1 (ix2 k l)) + ∑ l : Fin 2816, db (ix2 r l) * w3 (ix2 k l)

/-- The gradient of the norm's input, added to the cotangent of the input itself. -/
def dhin (dh h : FVec Ideal S8256x1024 .f32) (g : FVec Ideal S1x1024 .f32) (da db : FVec Ideal S8256x2816 .f32) (w1 w3 : FVec Ideal S1024x2816 .f32) :
    FVec Ideal S8256x1024 .f32 :=
  fun i => dh i + dx (fun k => h (ix2 (i 0) k)) (fun k => g (ix2 0 k)) (dy da db w1 w3 (i 0)) (i 1)

/-- The gradient of the norm's scale. -/
def dnorm (h : FVec Ideal S8256x1024 .f32) (da db : FVec Ideal S8256x2816 .f32) (w1 w3 : FVec Ideal S1024x2816 .f32) : FVec Ideal S1x1024 .f32 :=
  fun i => ∑ r : Fin 8256, dy da db w1 w3 r (i 1) * (h (ix2 r (i 1)) * rinv fun k => h (ix2 r k))

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

theorem pay (X0 : Vec Ideal S688x2816 .bf16) (X1 : Vec Ideal S2816x1024 .bf16) (X2 : Vec Ideal S688x2816 .bf16) (X3 : Vec Ideal S2816x1024 .bf16)
    (X4 : Vec Ideal S688x1024 .f32) (X5 : Vec Ideal S1x1024 .f32) (X6 : Vec Ideal S688x1024 .f32) (y : S688x1024.Idx) :
    k0_pay1 (k0_pay6 X0 X1 X2 X3 X4 X5) X6 y
    = X6 y + dx (fun k => X4 (ix2 (y 0) k)) (fun k => X5 (ix2 0 k))
        (fun k => (∑ l : Fin 2816, X0 (ix2 (y 0) l) * X1 (ix2 l k)) + ∑ l : Fin 2816, X2 (ix2 (y 0) l) * X3 (ix2 l k)) (y 1) := by
  open_payloads
  pointwise [dx, rinv, ms]

theorem point7 (c : Dev nD) (t : Fin cfg0.N) (y : S688x1024.Idx) :
    k0_pay1 (k0_pay6 (iblk m c 3 t) (iblk m c 5 t) (iblk m c 4 t) (iblk m c 6 t) (iblk m c 1 t) (iblk m c 2 t)) (iblk m c 0 t) y
    = dhin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (((cfg0.win 7).blk t).view.emb y) := by
  rw [pay]
  pointwise [dhin, dy, dx, rinv, ms]
  blk_point [iblk, V, idx t]

/-- The input's gradient, whole. -/
theorem final7 (c : Dev nD) : (dats (F := Ideal) m 0 c).arrAt 7 cfg0.N
    = dhin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have hN : t.val < 12 := lt_of_lt_of_eq t.isLt N_0
  by_cases h0 : t.val % 12 = 0
  · rw [outsAt0_A m c t h0 (by omega)]; frame_out; exact point7 m c t y
  · rw [outsAt0_B m c t h0 (by omega)]; frame_out; exact point7 m c t y

theorem hpay (X0 : Vec Ideal S688x2816 .bf16) (X1 : Vec Ideal S2816x1024 .bf16) (X2 : Vec Ideal S688x2816 .bf16) (X3 : Vec Ideal S2816x1024 .bf16)
    (X4 : Vec Ideal S688x1024 .f32) (y : S1x1024.Idx) :
    k0_pay7 X0 X1 X2 X3 X4 y
    = ∑ r : Fin 688, ((∑ l : Fin 2816, X0 (ix2 r l) * X1 (ix2 l (y 1))) + ∑ l : Fin 2816, X2 (ix2 r l) * X3 (ix2 l (y 1)))
        * (X4 (ix2 r (y 1)) * rinv fun k => X4 (ix2 r k)) := by
  open_payloads
  pointwise [rinv, ms]

theorem hacc (a b : Vec Ideal S1x1024 .f32) (y : S1x1024.Idx) : k0_pay2 a b y = b y + a y := by open_payloads; pointwise

/-- The scale's gradient, whole: the sum over the tiles of the tiles' sums. -/
theorem final8 (c : Dev nD) : (dats (F := Ideal) m 0 c).arrAt 8 cfg0.N
    = dnorm (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_after_last 8 t0_11 (by decide +kernel) _ fun j => ?_
  blk_simp
  rw [after0_8, Pipeline.eq_sum_fin_of_reset_step_apply_last (f := fun n h => (outsAt0 m c n h).2) 12 (fun _ => 0) _
    (fun t h j => by rw [outsAt0_A m c t h (by have : t.val < 12 := lt_of_lt_of_eq t.isLt N_0; omega)]; frame_out; rw [hpay, zero_add])
    (fun t h j => by rw [outsAt0_B m c t h (by omega)]; frame_out; rw [hacc, hpay]) (le_of_eq N_0) t0_11 rfl j, zero_add]
  refine Fin.sum_mul_add_congr fun t r hl => ?_
  pointwise [dy, rinv, ms]
  blk_point [iblk, V, idx t]

end Cert.FfnInKernelIdeal.Val
end
-- ==== Proof.FfnInMath.lean ====
/- The derivative of the plain norm and of the two hidden products gives the functions of the backward call, on finite
   arguments. -/
module

public import proofs.«01_k».proof.Proof.Gen.FfnInReferenceIdeal.Read
public import proofs.«01_k».proof.Proof.FfnInValue

@[expose] public section

set_option maxRecDepth 16384

noncomputable section

open Idealize.ShloMosaic Cert.Reals

namespace Cert.FfnInReferenceIdeal.Math

open Cert.FfnInReferenceIdeal Cert.FfnInReferenceIdeal.Read

open Cert.FfnInKernelIdeal.Val (dy dhin dnorm)

/-- The gradient of the norm's output with its two products the other way round. -/
def swapped (da db : FVec Ideal S8256x2816 .f32) (w1 w3 : FVec Ideal S1024x2816 .f32) (r : Fin 8256) (k : Fin 1024) : EReal :=
  (∑ l : Fin 2816, db (ix2 r l) * w3 (ix2 k l)) + ∑ l : Fin 2816, da (ix2 r l) * w1 (ix2 k l)

theorem dy_swap (da db : FVec Ideal S8256x2816 .f32) (w1 w3 : FVec Ideal S1024x2816 .f32) (r : Fin 8256) :
    dy da db w1 w3 r = swapped da db w1 w3 r := funext fun _ => add_comm _ _

theorem dhin_swap (dh h : FVec Ideal S8256x1024 .f32) (g : FVec Ideal S1x1024 .f32) (da db : FVec Ideal S8256x2816 .f32)
    (w1 w3 : FVec Ideal S1024x2816 .f32) (i : S8256x1024.Idx) :
    dhin dh h g da db w1 w3 i
    = dh i + Norm.dx (fun k => h (ix2 (i 0) k)) (fun k => g (ix2 0 k)) (swapped da db w1 w3 (i 0)) (i 1) :=
  congrArg (fun u => dh i + Norm.dx (fun k => h (ix2 (i 0) k)) (fun k => g (ix2 0 k)) u (i 1)) (dy_swap da db w1 w3 (i 0))

set_option maxHeartbeats 1000000 in
theorem dhin_eq (m : (ℓ : Loc nD τ sig) → Buf (Elt Ideal) ℓ) (c : Dev nD)
    (hh : ∀ i, IsReal (m ((c.tc : Thread nD τ).loc main_arg1) i)) (hg : ∀ i, IsReal (m ((c.tc : Thread nD τ).loc main_arg2) i))
    (ha : ∀ i, IsReal (m ((c.tc : Thread nD τ).loc main_arg3) i)) (hb : ∀ i, IsReal (m ((c.tc : Thread nD τ).loc main_arg4) i))
    (hw : ∀ i, IsReal (m ((c.tc : Thread nD τ).loc main_arg5) i)) (hv : ∀ i, IsReal (m ((c.tc : Thread nD τ).loc main_arg6) i)) :
    Cert.FfnInReferenceIdeal.Value.res_main_v46 m c
    = dhin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.FfnInReferenceIdeal.Value.res_main_v46
  funext i
  generalize m ((c.tc : Thread nD τ).loc main_arg0) = dh at *
  generalize m ((c.tc : Thread nD τ).loc main_arg1) = h at *
  generalize m ((c.tc : Thread nD τ).loc main_arg2) = g at *
  generalize m ((c.tc : Thread nD τ).loc main_arg3) = da at *
  generalize m ((c.tc : Thread nD τ).loc main_arg4) = db at *
  generalize m ((c.tc : Thread nD τ).loc main_arg5) = w1 at *
  generalize m ((c.tc : Thread nD τ).loc main_arg6) = w3 at *
  rw [dhin_swap]
  refine Eq.trans ?_ (Norm.row_eq (dh i) (fun k => h (ix2 (i 0) k)) (fun k => g (ix2 0 k)) (swapped da db w1 w3 (i 0)) (fun k => hh _) (fun k => hg _)
    (fun k => (IsReal.sum _ fun l => (hb _).mul (hv _)).add (IsReal.sum _ fun l => (ha _).mul (hw _))) (i 1))
  pointwise [swapped, Norm.half, Norm.rinv, Norm.ms]

theorem dnorm_eq (h : FVec Ideal S8256x1024 .f32) (da db : FVec Ideal S8256x2816 .f32) (w1 w3 : FVec Ideal S1024x2816 .f32) :
    val_main_v47 (F := Ideal) h da db w1 w3 = dnorm h da db w1 w3 := by
  rw [← val_main_v47_eq]; funext i
  pointwise [dnorm, Norm.rinv, Norm.ms, dy]
  rw [Fin.sum_univ_one]
  exact Finset.sum_congr rfl fun r _ => by rw [mul_comm, add_comm]

end Cert.FfnInReferenceIdeal.Math
end
-- ==== Proof.FfnInClaim.lean ====
/- The value claim about the backward call of a feed-forward layer's norm. -/
module

public import proofs.«01_k».proof.Defs
public import proofs.«01_k».proof.Proof.Gen.Pre_ffnin_finite
public import proofs.«01_k».proof.Proof.FfnInValue
public import proofs.«01_k».proof.Proof.FfnInMath

@[expose] public section

set_option maxRecDepth 16384

noncomputable section

open Idealize.ShloMosaic Idealize.SL.Sem Cert.Reals

namespace Cert.Proof.FfnIn

/-- What the precondition says: every element of the last six arguments is a real number. -/
theorem finite (m : (ℓ : Loc Cert.FfnInKernelIdeal.nD Cert.FfnInKernelIdeal.τ Cert.FfnInKernelIdeal.sig) → Buf (Elt Ideal) ℓ)
    (hpre : Cert.Pre_FfnInKernelIdeal_ffnin_finite m) (c : Dev Cert.FfnInKernelIdeal.nD) :
    (∀ i, IsReal (m (c.tc.loc Cert.FfnInKernelIdeal.main_arg1) i))
    ∧ (∀ i, IsReal (m (c.tc.loc Cert.FfnInKernelIdeal.main_arg2) i))
    ∧ (∀ i, IsReal (m (c.tc.loc Cert.FfnInKernelIdeal.main_arg3) i))
    ∧ (∀ i, IsReal (m (c.tc.loc Cert.FfnInKernelIdeal.main_arg4) i))
    ∧ (∀ i, IsReal (m (c.tc.loc Cert.FfnInKernelIdeal.main_arg5) i))
    ∧ (∀ i, IsReal (m (c.tc.loc Cert.FfnInKernelIdeal.main_arg6) i)) := by
  have h := congrFun (hpre c) (fun a => a.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨real_of_all _ _ _ _ _ _ h1, real_of_all _ _ _ _ _ _ h2, real_of_all _ _ _ _ _ _ h3, real_of_all _ _ _ _ _ _ h4, real_of_all _ _ _ _ _ _ h5, real_of_all _ _ _ _ _ _ h6⟩

theorem frame_reference : Cert.quiescent_FfnInReferenceIdeal := fun m ρ _ =>
  (θ_run Cert.FfnInReferenceIdeal.defs _ _).mono (fun r h => ⟨fun c => (h c).2.2, sem_eq_zero_of_no_sems (by decide) r.2⟩)
    (Cert.FfnInReferenceIdeal.Value.run (F := Ideal) m ρ)

theorem frame_reference_pre : Cert.quiescent_FfnInReferenceIdeal_pre_ffnin_finite := fun m g _ => frame_reference m g trivial

open Cert.FfnInReferenceIdeal.Read Cert.FfnInReferenceIdeal.Math in
theorem algebraic : Cert.algebraic_FfnInKernelIdeal_FfnInReferenceIdeal_pre_ffnin_finite := by
  pair_intro
  · run_from Cert.FfnInKernelIdeal.Gen.run_main m g
  · run_from Cert.FfnInReferenceIdeal.Value.run m' g'
    · obtain ⟨f1, f2, f3, f4, f5, f6⟩ := finite m hpre c
      obtain ⟨a0, a1, a2, a3, a4, a5, a6⟩ := hagree c
      refine (dhin_eq m' c (by rw [a1]; exact f1) (by rw [a2]; exact f2) (by rw [a3]; exact f3) (by rw [a4]; exact f4) (by rw [a5]; exact f5)
        (by rw [a6]; exact f6)).trans ?_
      rw [a0, a1, a2, a3, a4, a5, a6]
      exact (Cert.FfnInKernelIdeal.Val.final7 m c).symm
    · exact (val_main_v47_eq _ _ _ _ _).trans ((dnorm_eq _ _ _ _ _).trans (Cert.FfnInKernelIdeal.Val.final8 m c).symm)

end Cert.Proof.FfnIn
end
-- ==== Proof.FfnIn1Value.lean ====
/- The three results of the backward call of the first feed-forward layer's norm, cut into examples and their leading rows, as functions of its arguments. -/
module

public import proofs.«01_k».proof.Proof.Gen.FfnIn1KernelIdeal.Value
public import proofs.«01_k».proof.Proof.FfnInValue

@[expose] public section

set_option maxRecDepth 16384

noncomputable section

open Idealize.ShloMosaic Idealize.ShloMosaic.TcCoe Idealize.SL.Sem
open Idealize.ShloMosaic.Pipeline (Dat)

namespace Cert.FfnIn1KernelIdeal.Val

open Cert.FfnIn1KernelIdeal Cert.FfnIn1KernelIdeal.Gen Cert.Norm
open Cert.FfnInKernelIdeal.Val (dy dhin dnorm)

variable (m : (ℓ : Loc nD τ sig) → Buf (Elt Ideal) ℓ)

/-- The rows of the examples proper: of each example's 2064 rows the first 2048. -/
def rows (dh h : FVec Ideal S8256x1024 .f32) (g : FVec Ideal S1x1024 .f32) (da db : FVec Ideal S8256x2816 .f32) (w1 w3 : FVec Ideal S1024x2816 .f32) :
    FVec Ideal S4x2048x1024 .f32 :=
  fun i => dhin dh h g da db w1 w3 (ix2 ⟨(i 0 : ℕ) * 2064 + (i 1 : ℕ), by have := (i 0).isLt; have := (i 1).isLt; simp at *; omega⟩ (i 2))

/-- The rows that all examples share: of each example's 2064 rows the last 16. -/
def metas (dh h : FVec Ideal S8256x1024 .f32) (g : FVec Ideal S1x1024 .f32) (da db : FVec Ideal S8256x2816 .f32) (w1 w3 : FVec Ideal S1024x2816 .f32) :
    FVec Ideal S4x16x1024 .f32 :=
  fun i => dhin dh h g da db w1 w3 (ix2 ⟨(i 0 : ℕ) * 2064 + (2048 + (i 1 : ℕ)), by have := (i 0).isLt; have := (i 1).isLt; simp at *; omega⟩ (i 2))

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val / 3, t.val % 3, 0] ∧ win0_8.index t = ![t.val / 3, 0, 0] ∧ win0_9.index t = ![0, 0] :=
  (by decide +kernel : ∀ t : Fin grid0.N, _)

theorem pay (X0 : Vec Ideal S688x2816 .bf16) (X1 : Vec Ideal S2816x1024 .bf16) (X2 : Vec Ideal S688x2816 .bf16) (X3 : Vec Ideal S2816x1024 .bf16)
    (X4 : Vec Ideal S688x1024 .f32) (X5 : Vec Ideal S1x1024 .f32) (X6 : Vec Ideal S688x1024 .f32) (y : S688x1024.Idx) :
    k0_pay1 (k0_pay8 X0 X1 X2 X3 X4 X5) X6 y
    = X6 y + dx (fun k => X4 (ix2 (y 0) k)) (fun k => X5 (ix2 0 k))
        (fun k => (∑ l : Fin 2816, X0 (ix2 (y 0) l) * X1 (ix2 l k)) + ∑ l : Fin 2816, X2 (ix2 (y 0) l) * X3 (ix2 l k)) (y 1) := by
  open_payloads
  pointwise [dx, rinv, ms]

/-- One row of a tile is that row of the whole gradient. -/
theorem point (c : Dev nD) (t : Fin cfg0.N) (y : S688x1024.Idx) (j : S8256x1024.Idx) (h0 : (j 0 : ℕ) = t.val * 688 + (y 0 : ℕ)) (h1 : (j 1 : ℕ) = (y 1 : ℕ)) :
    k0_pay1 (k0_pay8 (iblk m c 3 t) (iblk m c 5 t) (iblk m c 4 t) (iblk m c 6 t) (iblk m c 1 t) (iblk m c 2 t)) (iblk m c 0 t) y
    = dhin (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  rw [pay]
  pointwise [dhin, dy, dx, rinv, ms]
  blk_point [iblk, V, idx t]

theorem lift (u : FVec Ideal S688x1024 .f32) (v : Vec Ideal S688x1024 .f32) (y : S1x688x1024.Idx) :
    k0_pay2 u v y = k0_pay1 u v (ix2 (y 1) (y 2)) := by unfold k0_pay2; pointwise

theorem cut (u : FVec Ideal S688x1024 .f32) (v : Vec Ideal S688x1024 .f32) (y : S1x16x1024.Idx) :
    k0_pay4 u v y = k0_pay1 u v (ix2 ⟨672 + (y 1 : ℕ), by have := (y 1).isLt; simp at *; omega⟩ (y 2)) := by unfold k0_pay4; pointwise

theorem hpay (X0 : Vec Ideal S688x2816 .bf16) (X1 : Vec Ideal S2816x1024 .bf16) (X2 : Vec Ideal S688x2816 .bf16) (X3 : Vec Ideal S2816x1024 .bf16)
    (X4 : Vec Ideal S688x1024 .f32) (y : S1x1024.Idx) :
    k0_pay9 X0 X1 X2 X3 X4 y
    = ∑ r : Fin 688, ((∑ l : Fin 2816, X0 (ix2 r l) * X1 (ix2 l (y 1))) + ∑ l : Fin 2816, X2 (ix2 r l) * X3 (ix2 l (y 1)))
        * (X4 (ix2 r (y 1)) * rinv fun k => X4 (ix2 r k)) := by
  open_payloads
  pointwise [rinv, ms]

theorem hacc (a b : Vec Ideal S1x1024 .f32) (y : S1x1024.Idx) : k0_pay3 a b y = b y + a y := by open_payloads; pointwise

/-- The scale's gradient, whole: the sum over the tiles of the tiles' sums. -/
theorem final9 (c : Dev nD) : (dats (F := Ideal) m 0 c).arrAt 9 cfg0.N
    = dnorm (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_11 (by decide +kernel) _ fun j => ?_
  blk_simp
  rw [after0_9, Pipeline.eq_sum_fin_of_reset_step_apply_last (f := fun n h => (outsAt0 m c n h).2.2) 12 (fun _ => 0) _
    (fun t h j => by
      have hN : t.val < 12 := lt_of_lt_of_eq t.isLt N_0
      rw [outsAt0_A m c t h (by omega) (by omega)]; frame_out; rw [hpay, zero_add])
    (fun t h j => by
      have hN : t.val < 12 := lt_of_lt_of_eq t.isLt N_0
      by_cases h2 : t.val % 3 = 2
      · rw [outsAt0_C m c t h (by omega) h2]; frame_out; rw [hacc, hpay]
      · rw [outsAt0_B m c t h (by omega) h2]; frame_out; rw [hacc, hpay]) (le_of_eq N_0) t0_11 rfl j, zero_add]
  refine Fin.sum_mul_add_congr fun t r hl => ?_
  pointwise [dy, rinv, ms]
  blk_point [iblk, V, idx t]

theorem point7 (c : Dev nD) (t : Fin cfg0.N) (y : ((cfg0.win 7).xblock (cfg0.grid.coords t)).Idx) :
    k0_pay2 (k0_pay8 (iblk m c 3 t) (iblk m c 5 t) (iblk m c 4 t) (iblk m c 6 t) (iblk m c 1 t) (iblk m c 2 t)) (iblk m c 0 t)
      ((win0 7).xinj (grid0.coords t) y)
    = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  rw [lift]
  have e0 : (y 0 : ℕ) < 1 := ((win0 7).xinj (grid0.coords t) y 0).isLt
  have e1 : ((win0 7).xinj (grid0.coords t) y 1 : ℕ) = (y 1 : ℕ) := rfl
  refine point m c t _ _ ?_ ?_ <;> blk_simp [idx t] <;> dsimp only <;> omega

/-- The examples' own rows, whole. -/
theorem final7 (c : Dev nD) : (dats (F := Ideal) m 0 c).arrAt 7 cfg0.N
    = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  have hN : t.val < 12 := lt_of_lt_of_eq t.isLt N_0
  by_cases h0 : t.val % 12 = 0
  · rw [outsAt0_A m c t h0 (by omega) (by omega)]; frame_out; exact point7 m c t y
  · by_cases h2 : t.val % 3 = 2
    · rw [outsAt0_C m c t h0 (by omega) h2]; frame_out; exact point7 m c t y
    · rw [outsAt0_B m c t h0 (by omega) h2]; frame_out; exact point7 m c t y

/-- The shared rows, whole. -/
theorem final8 (c : Dev nD) : (dats (F := Ideal) m 0 c).arrAt 8 cfg0.N
    = metas (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  have h2 := (flush0_8 t).mp hf
  blk_simp
  rw [after0_8]
  have hN : t.val < 12 := lt_of_lt_of_eq t.isLt N_0
  rw [outsAt0_C m c t (by omega) (by omega) h2]; frame_out
  rw [cut]
  refine point m c t _ _ ?_ ?_ <;> blk_simp [idx t] <;> dsimp only <;> omega

end Cert.FfnIn1KernelIdeal.Val
end
-- ==== Proof.Reduce.lean ====
/- A host sum over the first two of three axes, read at an index of the result. -/
module

public import Idealize.ShloMosaic.Lib.Pointwise.Reduce

@[expose] public section

noncomputable section

open Idealize.ShloMosaic

namespace Cert.Reduce

variable {n0 n1 n2 : ℕ} {t : Shape}

theorem lt (h : (⟨3, ![n0, n1, n2]⟩ : Shape).ReducesTo [0, 1] t) : 0 < t.rank := (show t.rank = 1 from h.1) ▸ (by decide)

theorem size (h : (⟨3, ![n0, n1, n2]⟩ : Shape).ReducesTo [0, 1] t) : t.size ⟨0, lt h⟩ = n2 := h.2 ⟨0, lt h⟩

theorem fiber (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, lt h⟩).val, Shape.coordLt (j ⟨0, lt h⟩) (size h)⟩ = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, lt h⟩)).symm
  · rintro ⟨k, rfl⟩
    funext b
    apply Fin.ext
    match b with
    | ⟨0, _⟩ => rfl
    | ⟨_ + 1, hb⟩ => exact absurd hb (by have : t.rank = 1 := h.1; omega)

/-- The sum over the first two axes, as two nested sums. -/
theorem sum_fiber (h : (⟨3, ![n0, n1, n2]⟩ : Shape).ReducesTo [0, 1] t) (v : (⟨3, ![n0, n1, n2]⟩ : Shape).Idx → EReal) (j : t.Idx) :
    ∑ i ∈ Finset.univ.filter (fun i => h.drop i = j), v i = ∑ k0 : Fin n0, ∑ k1 : Fin n1, v (ix3 k0 k1 ⟨(j ⟨0, lt h⟩).val, Shape.coordLt (j ⟨0, lt h⟩) (size h)⟩) := by
  refine (Finset.sum_filter_eq_sum_of_fiber _ (fun k : Fin n0 × Fin n1 => ix3 k.1 k.2 ⟨(j ⟨0, lt h⟩).val, Shape.coordLt (j ⟨0, lt h⟩) (size h)⟩)
    (fun _ _ e => Prod.ext (congrFun e 0) (congrFun e 1)) (fiber h j) v).trans ?_
  simp only [Fintype.sum_prod_type]

theorem host_add (h : (⟨3, ![n0, n1, n2]⟩ : Shape).ReducesTo [0, 1] t) (v : (⟨3, ![n0, n1, n2]⟩ : Shape).Idx → EReal) (init : EReal) (j : t.Idx) :
    Ideal.hostReduceAdd h v init j = init + ∑ k0 : Fin n0, ∑ k1 : Fin n1, v (ix3 k0 k1 ⟨(j ⟨0, lt h⟩).val, Shape.coordLt (j ⟨0, lt h⟩) (size h)⟩) :=
  congrArg (init + ·) (sum_fiber h v j)

end Cert.Reduce
end
-- ==== Proof.FfnIn1Math.lean ====
/- The derivative of the first feed-forward layer's lines gives the functions of the backward call, on finite arguments. -/
module

public import proofs.«01_k».proof.Proof.Gen.FfnIn1ReferenceIdeal.Read
public import proofs.«01_k».proof.Proof.FfnIn1Value
public import proofs.«01_k».proof.Proof.FfnInMath
public import proofs.«01_k».proof.Proof.Reduce

@[expose] public section

set_option maxRecDepth 16384

noncomputable section

open Idealize.ShloMosaic Cert.Reals

namespace Cert.FfnIn1ReferenceIdeal.Math

open Cert.FfnIn1ReferenceIdeal Cert.FfnIn1ReferenceIdeal.Gen Cert.FfnIn1ReferenceIdeal.Read

open Cert.FfnInKernelIdeal.Val (dy dhin dnorm)
open Cert.FfnIn1KernelIdeal.Val (rows metas)
open Cert.FfnInReferenceIdeal.Math (swapped dhin_swap)

/-- Cutting the examples' rows into two and joining them again changes nothing. -/
theorem rejoin (y : FVec Ideal S4x2064x1024 .f32) :
    concatenate S4x2064x1024 1 [⟨S4x2048x1024, extractStridedSlice S4x2048x1024 ![0, 0, 0] y slices_S4x2064x1024_S4x2048x1024_0_0_0⟩,
      ⟨S4x16x1024, extractStridedSlice S4x16x1024 ![0, 2048, 0] y slices_S4x2064x1024_S4x16x1024_0_2048_0⟩]
      concatenates_S4x2048x1024_S4x16x1024_S4x2064x1024_d1
    = y := by
  funext i
  pointwise
  blk_point []

/-- One row of one example, the arrays cut into examples. -/
theorem by_examples (dh h : FVec Ideal S8256x1024 .f32) (g : FVec Ideal S1x1024 .f32) (da db : FVec Ideal S8256x2816 .f32)
    (w1 w3 : FVec Ideal S1024x2816 .f32) (b : Fin 4) (r : Fin 2064) (q : Fin 8256) (hq : q.val = b.val * 2064 + r.val) (k : Fin 1024) :
    dhin dh h g da db w1 w3 (ix2 q k)
    = shapeCast S4x2064x1024 dh shapeCasts_S8256x1024_S4x2064x1024 (ix3 b r k)
      + Norm.dx (fun k => shapeCast S4x2064x1024 h shapeCasts_S8256x1024_S4x2064x1024 (ix3 b r k)) (fun k => g (ix2 0 k))
        (fun k => (∑ l : Fin 2816, shapeCast S4x2064x2816 db shapeCasts_S8256x2816_S4x2064x2816 (ix3 b r l) * w3 (ix2 k l))
          + ∑ l : Fin 2816, shapeCast S4x2064x2816 da shapeCasts_S8256x2816_S4x2064x2816 (ix3 b r l) * w1 (ix2 k l)) k := by
  rw [dhin_swap]
  have hl : b.val * 2064 + r.val < 8256 := by have := b.isLt; have := r.isLt; omega
  rw [show q = ⟨b.val * 2064 + r.val, hl⟩ from Fin.ext hq]
  pointwise [swapped, Norm.dx, Norm.rinv, Norm.ms]

set_option maxHeartbeats 1000000 in
theorem rows_eq (m : (ℓ : Loc nD τ sig) → Buf (Elt Ideal) ℓ) (c : Dev nD)
    (hh : ∀ i, IsReal (m ((c.tc : Thread nD τ).loc main_arg1) i)) (hg : ∀ i, IsReal (m ((c.tc : Thread nD τ).loc main_arg2) i))
    (ha : ∀ i, IsReal (m ((c.tc : Thread nD τ).loc main_arg3) i)) (hb : ∀ i, IsReal (m ((c.tc : Thread nD τ).loc main_arg4) i))
    (hw : ∀ i, IsReal (m ((c.tc : Thread nD τ).loc main_arg5) i)) (hv : ∀ i, IsReal (m ((c.tc : Thread nD τ).loc main_arg6) i)) :
    Cert.FfnIn1ReferenceIdeal.Value.res_main_v55 m c
    = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.FfnIn1ReferenceIdeal.Value.res_main_v55
  funext i
  generalize m ((c.tc : Thread nD τ).loc main_arg0) = dh at *
  generalize m ((c.tc : Thread nD τ).loc main_arg1) = h at *
  generalize m ((c.tc : Thread nD τ).loc main_arg2) = g at *
  generalize m ((c.tc : Thread nD τ).loc main_arg3) = da at *
  generalize m ((c.tc : Thread nD τ).loc main_arg4) = db at *
  generalize m ((c.tc : Thread nD τ).loc main_arg5) = w1 at *
  generalize m ((c.tc : Thread nD τ).loc main_arg6) = w3 at *
  rw [rejoin]
  have k4 : ∀ i, IsReal (shapeCast S4x2064x1024 h shapeCasts_S8256x1024_S4x2064x1024 i) := fun i => hh _
  have a4 : ∀ i, IsReal (shapeCast S4x2064x2816 da shapeCasts_S8256x2816_S4x2064x2816 i) := fun i => ha _
  have b4 : ∀ i, IsReal (shapeCast S4x2064x2816 db shapeCasts_S8256x2816_S4x2064x2816 i) := fun i => hb _
  have hr : (i 1 : ℕ) < 2064 := by have : (i 1).val < 2048 := (i 1).isLt; omega
  refine Eq.trans ?_ (by_examples dh h g da db w1 w3 (i 0) ⟨(i 1 : ℕ), hr⟩ _ rfl (i 2)).symm
  generalize shapeCast S4x2064x1024 dh _ = dh4 at *
  generalize shapeCast S4x2064x1024 h _ = h4 at *
  generalize shapeCast S4x2064x2816 da _ = da4 at *
  generalize shapeCast S4x2064x2816 db _ = db4 at *
  refine Eq.trans ?_ (Norm.row_eq _ _ _ _ (fun k => k4 _) (fun k => hg _)
    (fun k => (IsReal.sum _ fun l => (b4 _).mul (hv _)).add (IsReal.sum _ fun l => (a4 _).mul (hw _))) _)
  pointwise [Norm.half, Norm.rinv, Norm.ms]
  done

set_option maxHeartbeats 1000000 in
theorem metas_eq (m : (ℓ : Loc nD τ sig) → Buf (Elt Ideal) ℓ) (c : Dev nD)
    (hh : ∀ i, IsReal (m ((c.tc : Thread nD τ).loc main_arg1) i)) (hg : ∀ i, IsReal (m ((c.tc : Thread nD τ).loc main_arg2) i))
    (ha : ∀ i, IsReal (m ((c.tc : Thread nD τ).loc main_arg3) i)) (hb : ∀ i, IsReal (m ((c.tc : Thread nD τ).loc main_arg4) i))
    (hw : ∀ i, IsReal (m ((c.tc : Thread nD τ).loc main_arg5) i)) (hv : ∀ i, IsReal (m ((c.tc : Thread nD τ).loc main_arg6) i)) :
    Cert.FfnIn1ReferenceIdeal.Value.res_main_v56 m c
    = metas (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.FfnIn1ReferenceIdeal.Value.res_main_v56
  funext i
  generalize m ((c.tc : Thread nD τ).loc main_arg0) = dh at *
  generalize m ((c.tc : Thread nD τ).loc main_arg1) = h at *
  generalize m ((c.tc : Thread nD τ).loc main_arg2) = g at *
  generalize m ((c.tc : Thread nD τ).loc main_arg3) = da at *
  generalize m ((c.tc : Thread nD τ).loc main_arg4) = db at *
  generalize m ((c.tc : Thread nD τ).loc main_arg5) = w1 at *
  generalize m ((c.tc : Thread nD τ).loc main_arg6) = w3 at *
  rw [rejoin]
  have k4 : ∀ i, IsReal (shapeCast S4x2064x1024 h shapeCasts_S8256x1024_S4x2064x1024 i) := fun i => hh _
  have a4 : ∀ i, IsReal (shapeCast S4x2064x2816 da shapeCasts_S8256x2816_S4x2064x2816 i) := fun i => ha _
  have b4 : ∀ i, IsReal (shapeCast S4x2064x2816 db shapeCasts_S8256x2816_S4x2064x2816 i) := fun i => hb _
  have hr : 2048 + (i 1 : ℕ) < 2064 := by have : (i 1).val < 16 := (i 1).isLt; omega
  refine Eq.trans ?_ (by_examples dh h g da db w1 w3 (i 0) ⟨2048 + (i 1 : ℕ), hr⟩ _ rfl (i 2)).symm
  generalize shapeCast S4x2064x1024 dh _ = dh4 at *
  generalize shapeCast S4x2064x1024 h _ = h4 at *
  generalize shapeCast S4x2064x2816 da _ = da4 at *
  generalize shapeCast S4x2064x2816 db _ = db4 at *
  refine Eq.trans ?_ (Norm.row_eq _ _ _ _ (fun k => k4 _) (fun k => hg _)
    (fun k => (IsReal.sum _ fun l => (b4 _).mul (hv _)).add (IsReal.sum _ fun l => (a4 _).mul (hw _))) _)
  pointwise [Norm.half, Norm.rinv, Norm.ms]
  done

theorem dnorm_eq (h : FVec Ideal S8256x1024 .f32) (da db : FVec Ideal S8256x2816 .f32) (w1 w3 : FVec Ideal S1024x2816 .f32) :
    val_main_v54 (F := Ideal) h da db w1 w3 = dnorm h da db w1 w3 := by
  rw [← val_main_v54_eq]; funext i
  simp only [rejoin]
  pointwise [dnorm, Norm.rinv, Norm.ms, dy, Reduce.host_add]
  refine (Fin.sum_univ_one _).trans ((Fin.sum_univ_one _).trans ?_)
  refine Fin.sum_mul_add_congr fun b r hl => ?_
  rw [mul_comm]
  exact congrArg (· * _) (add_comm _ _)

end Cert.FfnIn1ReferenceIdeal.Math
end
-- ==== Proof.FfnIn1Claim.lean ====
/- The value claim about the backward call of the first feed-forward layer's norm, its result cut into examples. -/
module

public import proofs.«01_k».proof.Defs
public import proofs.«01_k».proof.Proof.Gen.Pre_ffnin1_finite
public import proofs.«01_k».proof.Proof.FfnIn1Value
public import proofs.«01_k».proof.Proof.FfnIn1Math

@[expose] public section

set_option maxRecDepth 16384

noncomputable section

open Idealize.ShloMosaic Idealize.SL.Sem Cert.Reals

namespace Cert.Proof.FfnIn1

/-- What the precondition says: every element of the last six arguments is a real number. -/
theorem finite (m : (ℓ : Loc Cert.FfnIn1KernelIdeal.nD Cert.FfnIn1KernelIdeal.τ Cert.FfnIn1KernelIdeal.sig) → Buf (Elt Ideal) ℓ)
    (hpre : Cert.Pre_FfnIn1KernelIdeal_ffnin1_finite m) (c : Dev Cert.FfnIn1KernelIdeal.nD) :
    (∀ i, IsReal (m (c.tc.loc Cert.FfnIn1KernelIdeal.main_arg1) i))
    ∧ (∀ i, IsReal (m (c.tc.loc Cert.FfnIn1KernelIdeal.main_arg2) i))
    ∧ (∀ i, IsReal (m (c.tc.loc Cert.FfnIn1KernelIdeal.main_arg3) i))
    ∧ (∀ i, IsReal (m (c.tc.loc Cert.FfnIn1KernelIdeal.main_arg4) i))
    ∧ (∀ i, IsReal (m (c.tc.loc Cert.FfnIn1KernelIdeal.main_arg5) i))
    ∧ (∀ i, IsReal (m (c.tc.loc Cert.FfnIn1KernelIdeal.main_arg6) i)) := by
  have h := congrFun (hpre c) (fun a => a.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨real_of_all _ _ _ _ _ _ h1, real_of_all _ _ _ _ _ _ h2, real_of_all _ _ _ _ _ _ h3, real_of_all _ _ _ _ _ _ h4, real_of_all _ _ _ _ _ _ h5, real_of_all _ _ _ _ _ _ h6⟩

theorem frame_reference : Cert.quiescent_FfnIn1ReferenceIdeal := fun m ρ _ =>
  (θ_run Cert.FfnIn1ReferenceIdeal.defs _ _).mono (fun r h => ⟨fun c => (h c).2.2.2, sem_eq_zero_of_no_sems (by decide) r.2⟩)
    (Cert.FfnIn1ReferenceIdeal.Value.run (F := Ideal) m ρ)

theorem frame_reference_pre : Cert.quiescent_FfnIn1ReferenceIdeal_pre_ffnin1_finite := fun m g _ => frame_reference m g trivial

open Cert.FfnIn1ReferenceIdeal.Read Cert.FfnIn1ReferenceIdeal.Math in
theorem algebraic : Cert.algebraic_FfnIn1KernelIdeal_FfnIn1ReferenceIdeal_pre_ffnin1_finite := by
  pair_intro
  · run_from Cert.FfnIn1KernelIdeal.Gen.run_main m g
  · run_from Cert.FfnIn1ReferenceIdeal.Value.run m' g'
    · obtain ⟨f1, f2, f3, f4, f5, f6⟩ := finite m hpre c
      obtain ⟨a0, a1, a2, a3, a4, a5, a6⟩ := hagree c
      refine (rows_eq m' c (by rw [a1]; exact f1) (by rw [a2]; exact f2) (by rw [a3]; exact f3) (by rw [a4]; exact f4) (by rw [a5]; exact f5)
        (by rw [a6]; exact f6)).trans ?_
      rw [a0, a1, a2, a3, a4, a5, a6]
      exact (Cert.FfnIn1KernelIdeal.Val.final7 m c).symm
    · obtain ⟨f1, f2, f3, f4, f5, f6⟩ := finite m hpre c
      obtain ⟨a0, a1, a2, a3, a4, a5, a6⟩ := hagree c
      refine (metas_eq m' c (by rw [a1]; exact f1) (by rw [a2]; exact f2) (by rw [a3]; exact f3) (by rw [a4]; exact f4) (by rw [a5]; exact f5)
        (by rw [a6]; exact f6)).trans ?_
      rw [a0, a1, a2, a3, a4, a5, a6]
      exact (Cert.FfnIn1KernelIdeal.Val.final8 m c).symm
    · obtain ⟨a0, a1, a2, a3, a4, a5, a6⟩ := hagree c
      refine (val_main_v54_eq _ _ _ _ _).trans ((dnorm_eq _ _ _ _ _).trans ?_)
      rw [a1]
      exact (Cert.FfnIn1KernelIdeal.Val.final9 m c).symm

end Cert.Proof.FfnIn1
end
-- ==== Proof.ParamDefs.lean ====
/- The gradient of the recurrence's parameters through their discretisation, written out for one state. -/
module

public import proofs.«01_k».proof.Proof.Reals

@[expose] public section

noncomputable section

namespace Cert.Param

open Idealize.ShloMosaic Cert.Reals

/-! The forward values of one state: its rate `ar + i ai`, and the logarithm `ls` of its step. -/

def step (ls : EReal) : EReal := Ideal.exp ls
def mag (ar ls : EReal) : EReal := Ideal.exp (ar * step ls)
def lr (ar ai ls : EReal) : EReal := mag ar ls * Ideal.cos (ai * step ls)
def li (ar ai ls : EReal) : EReal := mag ar ls * Ideal.sin (ai * step ls)
def den (ar ai : EReal) : EReal := ar * ar + ai * ai
def nr (ar ai ls : EReal) : EReal := lr ar ai ls - Ideal.ofBits .f32 0x3F800000#32
def cr (ar ai ls : EReal) : EReal := Ideal.div (nr ar ai ls * ar + li ar ai ls * ai) (den ar ai)
def ci (ar ai ls : EReal) : EReal := Ideal.div (li ar ai ls * ar - nr ar ai ls * ai) (den ar ai)

/-! The gradients, of the cotangents `u + i v` of the factor (`cr + i ci`) and `p + i q` of the decay (`lr + i li`). -/

def dnr (ar ai u v : EReal) : EReal := Ideal.div (u * ar - v * ai) (den ar ai)
def dni (ar ai u v : EReal) : EReal := Ideal.div (u * ai + v * ar) (den ar ai)
def dden (ar ai ls u v : EReal) : EReal := Ideal.div (0 - (cr ar ai ls * u + ci ar ai ls * v)) (den ar ai)
def dmag (ar ai ls u v p q : EReal) : EReal :=
  Ideal.div ((p + dnr ar ai u v) * lr ar ai ls + (q + dni ar ai u v) * li ar ai ls) (mag ar ls)
def dang (ar ai ls u v p q : EReal) : EReal := (q + dni ar ai u v) * lr ar ai ls - (p + dnr ar ai u v) * li ar ai ls

def dar (ar ai ls u v p q : EReal) : EReal :=
  Ideal.div (u * nr ar ai ls + v * li ar ai ls) (den ar ai) + dden ar ai ls u v * Ideal.ofBits .f32 0x40000000#32 * ar
    + dmag ar ai ls u v p q * mag ar ls * step ls
def dai (ar ai ls u v p q : EReal) : EReal :=
  Ideal.div (u * li ar ai ls - v * nr ar ai ls) (den ar ai) + dden ar ai ls u v * Ideal.ofBits .f32 0x40000000#32 * ai
    + dang ar ai ls u v p q * step ls
def dstep (ar ai ls u v p q : EReal) : EReal := dmag ar ai ls u v p q * mag ar ls * ar + dang ar ai ls u v p q * ai

/-! The same gradients as the derivative of the discretisation's lines gives them. -/

def one : EReal := Ideal.ofBits .f32 0x3F800000#32
def rsq (ar ai : EReal) : EReal := Ideal.div one (den ar ai * den ar ai)
def rni (ar ai v : EReal) : EReal := Ideal.div v (den ar ai)
def rnr (ar ai u : EReal) : EReal := Ideal.div u (den ar ai)
def rden (ar ai ls u v : EReal) : EReal :=
  -(v * rsq ar ai * (li ar ai ls * ar - nr ar ai ls * ai)) + -(u * rsq ar ai * (nr ar ai ls * ar + li ar ai ls * ai))
def rp (ar ai u v p : EReal) : EReal := p + -rni ar ai v * ai + rnr ar ai u * ar
def rq (ar ai u v q : EReal) : EReal := q + rni ar ai v * ar + rnr ar ai u * ai
def rang (ar ai ls u v p q : EReal) : EReal :=
  mag ar ls * rq ar ai u v q * Ideal.cos (ai * step ls) + -(mag ar ls * rp ar ai u v p) * Ideal.sin (ai * step ls)
def rexp (ar ai ls u v p q : EReal) : EReal :=
  (rq ar ai u v q * Ideal.sin (ai * step ls) + rp ar ai u v p * Ideal.cos (ai * step ls)) * mag ar ls
def rai (ar ai ls u v p q : EReal) : EReal :=
  nr ar ai ls * -rni ar ai v + li ar ai ls * rnr ar ai u + ai * rden ar ai ls u v + rden ar ai ls u v * ai + rang ar ai ls u v p q * step ls
def rar (ar ai ls u v p q : EReal) : EReal :=
  li ar ai ls * rni ar ai v + nr ar ai ls * rnr ar ai u + ar * rden ar ai ls u v + rden ar ai ls u v * ar + rexp ar ai ls u v p q * step ls

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

section real

variable (ar ai ls u v p q : ℝ) (hd : ar * ar + ai * ai ≠ 0)

include hd

theorem rar_eq : rar ar ai ls u v p q = dar ar ai ls u v p q := by
  have hm := Real.exp_ne_zero (ar * Real.exp ls)
  simp only [rar, dar, rexp, rq, rp, rden, rni, rnr, rsq, one, dden, dmag, dnr, dni, cr, ci, nr, li, lr, mag, den, step, ofBits_one, ofBits_two,
    Ideal.exp_coe, Ideal.cos_coe, Ideal.sin_coe, ← EReal.coe_mul, ← EReal.coe_add, ← EReal.coe_sub, ← EReal.coe_neg, ← EReal.coe_zero,
    Ideal.div_coe hd, Ideal.div_coe hm, Ideal.div_coe (mul_ne_zero hd hd)]
  congr 1
  generalize Real.exp (ar * Real.exp ls) = m at *
  generalize Real.exp ls = s at *
  generalize Real.cos (ai * s) = cs
  generalize Real.sin (ai * s) = sn
  have h2 : ar ^ 2 + ai ^ 2 ≠ 0 := by rw [pow_two, pow_two]; exact hd
  field_simp
  ring

theorem rai_eq : rai ar ai ls u v p q = dai ar ai ls u v p q := by
  simp only [rai, dai, rang, rq, rp, rden, rni, rnr, rsq, one, dden, dang, dnr, dni, cr, ci, nr, li, lr, mag, den, step, ofBits_one, ofBits_two,
    Ideal.exp_coe, Ideal.cos_coe, Ideal.sin_coe, ← EReal.coe_mul, ← EReal.coe_add, ← EReal.coe_sub, ← EReal.coe_neg, ← EReal.coe_zero,
    Ideal.div_coe hd, Ideal.div_coe (mul_ne_zero hd hd)]
  congr 1
  generalize Real.exp (ar * Real.exp ls) = m at *
  generalize Real.exp ls = s at *
  generalize Real.cos (ai * s) = cs
  generalize Real.sin (ai * s) = sn
  have h2 : ar ^ 2 + ai ^ 2 ≠ 0 := by rw [pow_two, pow_two]; exact hd
  field_simp
  ring

theorem rstep_eq : ai * rang ar ai ls u v p q + ar * rexp ar ai ls u v p q = dstep ar ai ls u v p q := by
  have hm := Real.exp_ne_zero (ar * Real.exp ls)
  simp only [rexp, rang, dstep, dang, rq, rp, rden, rni, rnr, rsq, one, dden, dmag, dnr, dni, cr, ci, nr, li, lr, mag, den, step, ofBits_one, ofBits_two,
    Ideal.exp_coe, Ideal.cos_coe, Ideal.sin_coe, ← EReal.coe_mul, ← EReal.coe_add, ← EReal.coe_sub, ← EReal.coe_neg, ← EReal.coe_zero,
    Ideal.div_coe hd, Ideal.div_coe hm, Ideal.div_coe (mul_ne_zero hd hd)]
  congr 1
  generalize Real.exp (ar * Real.exp ls) = m at *
  generalize Real.exp ls = s at *
  generalize Real.cos (ai * s) = cs
  generalize Real.sin (ai * s) = sn
  have h2 : ar ^ 2 + ai ^ 2 ≠ 0 := by rw [pow_two, pow_two]; exact hd
  field_simp
  ring

theorem real_dstep : IsReal (dstep ar ai ls u v p q) := by
  have hm := Real.exp_ne_zero (ar * Real.exp ls)
  simp only [dstep, dang, dmag, dnr, dni, li, lr, mag, den, step, Ideal.exp_coe, Ideal.cos_coe, Ideal.sin_coe, ← EReal.coe_mul, ← EReal.coe_add,
    ← EReal.coe_sub, Ideal.div_coe hd, Ideal.div_coe hm]
  exact IsReal.coe _

end real

end Cert.Param
end
-- ==== Proof.ParamValue.lean ====
/- The results of the parameters' backward call, as functions of its arguments. -/
module

public import proofs.«01_k».proof.Proof.Gen.ParamKernelIdeal.Value
public import proofs.«01_k».proof.Proof.ParamDefs
public import Idealize.ShloMosaic.Lib.StableHlo.ReadAt
public import Idealize.ShloMosaic.Lib.Tactic.WordOmega

@[expose] public section

set_option maxRecDepth 16384

noncomputable section

open Idealize.ShloMosaic Idealize.ShloMosaic.TcCoe Idealize.SL.Sem
open Idealize.ShloMosaic.Pipeline (Dat)

namespace Cert.ParamKernelIdeal.Val

open Cert.ParamKernelIdeal Cert.ParamKernelIdeal.Gen Cert.Param

variable (m : (ℓ : Loc nD τ sig) → Buf (Elt Ideal) ℓ)

/-- The group of a state, and the state within its group. -/
def grp (n : Fin 2048) : Fin 32 := ⟨n.val / 64, by omega⟩
def sub (n : Fin 2048) : Fin 64 := ⟨n.val % 64, by omega⟩

/-- The cotangent of the factor's real part: over the state's channels. -/
def du (br bi dr di : FVec Ideal S32x64x16 .f32) (n : Fin 2048) : EReal :=
  ∑ k : Fin 16, (dr (ix3 (grp n) (sub n) k) * br (ix3 (grp n) (sub n) k) + di (ix3 (grp n) (sub n) k) * bi (ix3 (grp n) (sub n) k))

/-- The cotangent of the factor's imaginary part. -/
def dv (br bi dr di : FVec Ideal S32x64x16 .f32) (n : Fin 2048) : EReal :=
  ∑ k : Fin 16, (di (ix3 (grp n) (sub n) k) * br (ix3 (grp n) (sub n) k) - dr (ix3 (grp n) (sub n) k) * bi (ix3 (grp n) (sub n) k))

/-- A cotangent of the decay: over the examples and the partial sums of each. -/
def dp (l : FVec Ideal S4x8x2048 .f32) (n : Fin 2048) : EReal := ∑ b : Fin 4, ∑ s : Fin 8, l (ix3 b s n)

/-- A function of one state's rate, step and cotangents, at every state. -/
def each (f : EReal → EReal → EReal → EReal → EReal → EReal → EReal → EReal) (ar ai : FVec Ideal S32x64 .f32) (ls : FVec Ideal S32 .f32)
    (br bi : FVec Ideal S32x64x16 .f32) (lr li : FVec Ideal S4x8x2048 .f32) (dr di : FVec Ideal S32x64x16 .f32) (n : Fin 2048) : EReal :=
  f (ar (ix2 (grp n) (sub n))) (ai (ix2 (grp n) (sub n))) (ls (ix1 (grp n))) (du br bi dr di n) (dv br bi dr di n) (dp lr n) (dp li n)

theorem V_v0 (c : Dev nD) (j : S1x2048.Idx) : V m c main_v0 j = (m ((c : Thread nD τ).loc main_arg0)) (ix2 (grp (j 1)) (sub (j 1))) := by
  unfold V grp sub
  after_reads_at

theorem V_v1 (c : Dev nD) (j : S1x2048.Idx) : V m c main_v1 j = (m ((c : Thread nD τ).loc main_arg1)) (ix2 (grp (j 1)) (sub (j 1))) := by
  unfold V grp sub
  after_reads_at

theorem V_v4 (c : Dev nD) (j : S1x2048.Idx) : V m c main_v4 j = (m ((c : Thread nD τ).loc main_arg2)) (ix1 (grp (j 1))) := by
  unfold V grp
  after_reads_at

theorem V_v6 (c : Dev nD) (j : S16x2048.Idx) : V m c main_v6 j = (m ((c : Thread nD τ).loc main_arg3)) (ix3 (grp (j 1)) (sub (j 1)) (j 0)) := by
  unfold V grp sub
  after_reads_at

theorem V_v8 (c : Dev nD) (j : S16x2048.Idx) : V m c main_v8 j = (m ((c : Thread nD τ).loc main_arg4)) (ix3 (grp (j 1)) (sub (j 1)) (j 0)) := by
  unfold V grp sub
  after_reads_at

theorem V_v10 (c : Dev nD) (j : S16x2048.Idx) : V m c main_v10 j = (m ((c : Thread nD τ).loc main_arg7)) (ix3 (grp (j 1)) (sub (j 1)) (j 0)) := by
  unfold V grp sub
  after_reads_at

theorem V_v12 (c : Dev nD) (j : S16x2048.Idx) : V m c main_v12 j = (m ((c : Thread nD τ).loc main_arg8)) (ix3 (grp (j 1)) (sub (j 1)) (j 0)) := by
  unfold V grp sub
  after_reads_at

theorem V_v22 (c : Dev nD) (j : S32x2048.Idx) : V m c main_v22 j = (m ((c : Thread nD τ).loc main_arg5)) (ix3 ⟨(j 0 : ℕ) / 8, by have : (j 0).val < 32 := (j 0).isLt; omega⟩ ⟨(j 0 : ℕ) % 8, by omega⟩ (j 1)) := by
  unfold V
  after_reads_at

theorem V_v23 (c : Dev nD) (j : S32x2048.Idx) : V m c main_v23 j = (m ((c : Thread nD τ).loc main_arg6)) (ix3 ⟨(j 0 : ℕ) / 8, by have : (j 0).val < 32 := (j 0).isLt; omega⟩ ⟨(j 0 : ℕ) % 8, by omega⟩ (j 1)) := by
  unfold V
  after_reads_at

/-- The quotient by 64, as the host computes it on words. -/
theorem word : ∀ n : Fin 2048, (Scalar.select
          (IntOp.andi
            (IntOp.cmpi CmpIPredicate.ne
              (if BitVec.ofNat 32 n.val = 0 then (0 : BitVec 32) else if (BitVec.ofNat 32 n.val).msb = true then -1 else 1)
              (if (64#32 : BitVec 32) = 0 then (0 : BitVec 32)
              else if BitVec.msb (64#32 : BitVec 32) = true then -1 else 1))
            (IntOp.cmpi CmpIPredicate.ne
              (IntOp.remsi ArithUnit.host (BitVec.ofNat 32 n.val) 64#32) 0#32))
          (IntOp.subi (IntOp.divsi ArithUnit.host (BitVec.ofNat 32 n.val) 64#32) 1#32)
          (IntOp.divsi ArithUnit.host (BitVec.ofNat 32 n.val) 64#32)) = BitVec.ofNat 32 (n.val / 64) := by
  decide +kernel

theorem V_v21 (c : Dev nD) (j : S2048x128.Idx) : (V m c main_v21 : FVec Ideal S2048x128 .f32) j = if (j 0 : ℕ) / 64 = (j 1 : ℕ) then (1 : EReal) else (0 : EReal) := by
  unfold V
  after_reads_at
  refine (congrArg (fun w => FloatOps.uitofp (F := Ideal) FTy.f32 (IntOp.cmpi CmpIPredicate.eq w (BitVec.ofNat 32 ↑(j 1)))) (word (j 0))).trans ?_
  have h0 : (j 0).val < 2048 := (j 0).isLt
  have h1 : (j 1).val < 128 := (j 1).isLt
  by_cases h : (j 0 : ℕ) / 64 = (j 1 : ℕ)
  · rw [if_pos h, h]
    simp [IntOp.cmpi, FloatOps.uitofp]
  · have : BitVec.ofNat 32 ((j 0 : ℕ) / 64) ≠ BitVec.ofNat 32 (j 1 : ℕ) := fun e => h (by
      have := congrArg BitVec.toNat e
      simp only [BitVec.toNat_ofNat] at this
      omega)
    rw [if_neg h]
    simp [IntOp.cmpi, FloatOps.uitofp, this]

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
     ∧ win0_12.index t = ![0, 0] ∧ win0_13.index t = ![0, 0] ∧ win0_14.index t = ![0, 0] :=
  (by decide +kernel : ∀ t : Fin grid0.N, _)

theorem pay10 (x0 x1 x2 : Vec Ideal S1x2048 .f32) (x3 x4 : Vec Ideal S16x2048 .f32) (x5 x6 : Vec Ideal S32x2048 .f32) (x7 x8 : Vec Ideal S16x2048 .f32)
    (x9 : Vec Ideal S2048x128 .f32) (y : S1x2048.Idx) :
    out0_10 x0 x1 x2 x3 x4 x5 x6 x7 x8 x9 y
    = dar (x0 y) (x1 y) (x2 y)
      (∑ k : Fin 16, (x7 (ix2 k (y 1)) * x3 (ix2 k (y 1)) + x8 (ix2 k (y 1)) * x4 (ix2 k (y 1))))
      (∑ k : Fin 16, (x8 (ix2 k (y 1)) * x3 (ix2 k (y 1)) - x7 (ix2 k (y 1)) * x4 (ix2 k (y 1))))
      (∑ k : Fin 32, x5 (ix2 k (y 1))) (∑ k : Fin 32, x6 (ix2 k (y 1))) := by
  unfold_out out0_10
  frame_out
  open_payloads
  pointwise [dar, dai, dstep, dmag, dang, dnr, dni, dden, cr, ci, nr, den, lr, li, mag, step]

theorem pay11 (x0 x1 x2 : Vec Ideal S1x2048 .f32) (x3 x4 : Vec Ideal S16x2048 .f32) (x5 x6 : Vec Ideal S32x2048 .f32) (x7 x8 : Vec Ideal S16x2048 .f32)
    (x9 : Vec Ideal S2048x128 .f32) (y : S1x2048.Idx) :
    out0_11 x0 x1 x2 x3 x4 x5 x6 x7 x8 x9 y
    = dai (x0 y) (x1 y) (x2 y)
      (∑ k : Fin 16, (x7 (ix2 k (y 1)) * x3 (ix2 k (y 1)) + x8 (ix2 k (y 1)) * x4 (ix2 k (y 1))))
      (∑ k : Fin 16, (x8 (ix2 k (y 1)) * x3 (ix2 k (y 1)) - x7 (ix2 k (y 1)) * x4 (ix2 k (y 1))))
      (∑ k : Fin 32, x5 (ix2 k (y 1))) (∑ k : Fin 32, x6 (ix2 k (y 1))) := by
  unfold_out out0_11
  frame_out
  open_payloads
  pointwise [dar, dai, dstep, dmag, dang, dnr, dni, dden, cr, ci, nr, den, lr, li, mag, step]

theorem pay12 (x0 x1 x2 : Vec Ideal S1x2048 .f32) (x3 x4 : Vec Ideal S16x2048 .f32) (x5 x6 : Vec Ideal S32x2048 .f32) (x7 x8 : Vec Ideal S16x2048 .f32)
    (x9 : Vec Ideal S2048x128 .f32) (y : S1x128.Idx) :
    out0_12 x0 x1 x2 x3 x4 x5 x6 x7 x8 x9 y
    = ∑ n : Fin 2048, dstep (x0 (ix2 (y 0) n)) (x1 (ix2 (y 0) n)) (x2 (ix2 (y 0) n))
      (∑ k : Fin 16, (x7 (ix2 k n) * x3 (ix2 k n) + x8 (ix2 k n) * x4 (ix2 k n)))
      (∑ k : Fin 16, (x8 (ix2 k n) * x3 (ix2 k n) - x7 (ix2 k n) * x4 (ix2 k n)))
      (∑ k : Fin 32, x5 (ix2 k n)) (∑ k : Fin 32, x6 (ix2 k n)) * step (x2 (ix2 (y 0) n)) * x9 (ix2 n (y 1)) := by
  unfold_out out0_12
  frame_out
  open_payloads
  pointwise [dar, dai, dstep, dmag, dang, dnr, dni, dden, cr, ci, nr, den, lr, li, mag, step]

theorem pay13 (x0 x1 x2 : Vec Ideal S1x2048 .f32) (x3 x4 : Vec Ideal S16x2048 .f32) (x5 x6 : Vec Ideal S32x2048 .f32) (x7 x8 : Vec Ideal S16x2048 .f32)
    (x9 : Vec Ideal S2048x128 .f32) (y : S16x2048.Idx) :
    out0_13 x0 x1 x2 x3 x4 x5 x6 x7 x8 x9 y
    = cr (x0 (ix2 0 (y 1))) (x1 (ix2 0 (y 1))) (x2 (ix2 0 (y 1))) * x7 y + ci (x0 (ix2 0 (y 1))) (x1 (ix2 0 (y 1))) (x2 (ix2 0 (y 1))) * x8 y := by
  unfold_out out0_13
  frame_out
  open_payloads
  pointwise [dar, dai, dstep, dmag, dang, dnr, dni, dden, cr, ci, nr, den, lr, li, mag, step]

theorem pay14 (x0 x1 x2 : Vec Ideal S1x2048 .f32) (x3 x4 : Vec Ideal S16x2048 .f32) (x5 x6 : Vec Ideal S32x2048 .f32) (x7 x8 : Vec Ideal S16x2048 .f32)
    (x9 : Vec Ideal S2048x128 .f32) (y : S16x2048.Idx) :
    out0_14 x0 x1 x2 x3 x4 x5 x6 x7 x8 x9 y
    = cr (x0 (ix2 0 (y 1))) (x1 (ix2 0 (y 1))) (x2 (ix2 0 (y 1))) * x8 y - ci (x0 (ix2 0 (y 1))) (x1 (ix2 0 (y 1))) (x2 (ix2 0 (y 1))) * x7 y := by
  unfold_out out0_14
  frame_out
  open_payloads
  pointwise [dar, dai, dstep, dmag, dang, dnr, dni, dden, cr, ci, nr, den, lr, li, mag, step]

theorem in0 (c : Dev nD) (t : Fin cfg0.N) : iblk m c 0 t = (V m c main_v0 : FVec Ideal S1x2048 .f32) := by
  funext y
  blk_simp [iblk]
  refine congrArg (V m c main_v0) ?_
  blk_ext [idx t]

theorem in1 (c : Dev nD) (t : Fin cfg0.N) : iblk m c 1 t = (V m c main_v1 : FVec Ideal S1x2048 .f32) := by
  funext y
  blk_simp [iblk]
  refine congrArg (V m c main_v1) ?_
  blk_ext [idx t]

theorem in2 (c : Dev nD) (t : Fin cfg0.N) : iblk m c 2 t = (V m c main_v4 : FVec Ideal S1x2048 .f32) := by
  funext y
  blk_simp [iblk]
  refine congrArg (V m c main_v4) ?_
  blk_ext [idx t]

theorem in3 (c : Dev nD) (t : Fin cfg0.N) : iblk m c 3 t = (V m c main_v6 : FVec Ideal S16x2048 .f32) := by
  funext y
  blk_simp [iblk]
  refine congrArg (V m c main_v6) ?_
  blk_ext [idx t]

theorem in4 (c : Dev nD) (t : Fin cfg0.N) : iblk m c 4 t = (V m c main_v8 : FVec Ideal S16x2048 .f32) := by
  funext y
  blk_simp [iblk]
  refine congrArg (V m c main_v8) ?_
  blk_ext [idx t]

theorem in5 (c : Dev nD) (t : Fin cfg0.N) : iblk m c 5 t = (V m c main_v22 : FVec Ideal S32x2048 .f32) := by
  funext y
  blk_simp [iblk]
  refine congrArg (V m c main_v22) ?_
  blk_ext [idx t]

theorem in6 (c : Dev nD) (t : Fin cfg0.N) : iblk m c 6 t = (V m c main_v23 : FVec Ideal S32x2048 .f32) := by
  funext y
  blk_simp [iblk]
  refine congrArg (V m c main_v23) ?_
  blk_ext [idx t]

theorem in7 (c : Dev nD) (t : Fin cfg0.N) : iblk m c 7 t = (V m c main_v10 : FVec Ideal S16x2048 .f32) := by
  funext y
  blk_simp [iblk]
  refine congrArg (V m c main_v10) ?_
  blk_ext [idx t]

theorem in8 (c : Dev nD) (t : Fin cfg0.N) : iblk m c 8 t = (V m c main_v12 : FVec Ideal S16x2048 .f32) := by
  funext y
  blk_simp [iblk]
  refine congrArg (V m c main_v12) ?_
  blk_ext [idx t]

theorem in9 (c : Dev nD) (t : Fin cfg0.N) : iblk m c 9 t = (V m c main_v21 : FVec Ideal S2048x128 .f32) := by
  funext y
  blk_simp [iblk]
  refine congrArg (V m c main_v21) ?_
  blk_ext [idx t]

theorem states (f : EReal → EReal → EReal → EReal → EReal → EReal → EReal → EReal) (c : Dev nD) (q : Fin 1) (n : Fin 2048)
    (x0 x1 x2 : FVec Ideal S1x2048 .f32) (x3 x4 : FVec Ideal S16x2048 .f32) (x5 x6 : FVec Ideal S32x2048 .f32) (x7 x8 : FVec Ideal S16x2048 .f32)
    (h0 : x0 = V m c main_v0) (h1 : x1 = V m c main_v1) (h2 : x2 = V m c main_v4) (h3 : x3 = V m c main_v6) (h4 : x4 = V m c main_v8)
    (h5 : x5 = V m c main_v22) (h6 : x6 = V m c main_v23) (h7 : x7 = V m c main_v10) (h8 : x8 = V m c main_v12) :
    f (x0 (ix2 q n)) (x1 (ix2 q n)) (x2 (ix2 q n))
      (∑ k : Fin 16, (x7 (ix2 k n) * x3 (ix2 k n) + x8 (ix2 k n) * x4 (ix2 k n)))
      (∑ k : Fin 16, (x8 (ix2 k n) * x3 (ix2 k n) - x7 (ix2 k n) * x4 (ix2 k n)))
      (∑ k : Fin 32, x5 (ix2 k n)) (∑ k : Fin 32, x6 (ix2 k n))
    = each f (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) n := by
  have e5 : ∑ k : Fin 32, x5 (ix2 k n) = dp (m ((c : Thread nD τ).loc main_arg5)) n := by
    refine (Fin.sum_mul_add_congr fun b s hl => ?_).symm
    rw [h5, V_v22]
    blk_ext
  have e6 : ∑ k : Fin 32, x6 (ix2 k n) = dp (m ((c : Thread nD τ).loc main_arg6)) n := by
    refine (Fin.sum_mul_add_congr fun b s hl => ?_).symm
    rw [h6, V_v23]
    blk_ext
  have e0 : x0 (ix2 q n) = (m ((c : Thread nD τ).loc main_arg0)) (ix2 (grp n) (sub n)) := by rw [h0, V_v0]; rfl
  have e1 : x1 (ix2 q n) = (m ((c : Thread nD τ).loc main_arg1)) (ix2 (grp n) (sub n)) := by rw [h1, V_v1]; rfl
  have e2 : x2 (ix2 q n) = (m ((c : Thread nD τ).loc main_arg2)) (ix1 (grp n)) := by rw [h2, V_v4]; rfl
  have e3 : ∀ k, x3 (ix2 k n) = (m ((c : Thread nD τ).loc main_arg3)) (ix3 (grp n) (sub n) k) := fun k => by rw [h3, V_v6]; rfl
  have e4 : ∀ k, x4 (ix2 k n) = (m ((c : Thread nD τ).loc main_arg4)) (ix3 (grp n) (sub n) k) := fun k => by rw [h4, V_v8]; rfl
  have e7 : ∀ k, x7 (ix2 k n) = (m ((c : Thread nD τ).loc main_arg7)) (ix3 (grp n) (sub n) k) := fun k => by rw [h7, V_v10]; rfl
  have e8 : ∀ k, x8 (ix2 k n) = (m ((c : Thread nD τ).loc main_arg8)) (ix3 (grp n) (sub n) k) := fun k => by rw [h8, V_v12]; rfl
  rw [e5, e6, e0, e1, e2]
  simp only [e3, e4, e7, e8]
  rfl

theorem final10 (c : Dev nD) : (dats (F := Ideal) m 0 c).arrAt 10 cfg0.N
    = fun i => each dar (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 1) := by
  refine (dats m 0 c).arrAt_eq_of_covers 10 _ (by decide +kernel) fun t _ y => ?_
  blk_simp
  rw [after0_10]
  refine (pay10 _ _ _ _ _ _ _ _ _ _ _).trans ((states m dar c (y 0) (y 1) _ _ _ _ _ _ _ _ _ (in0 m c t) (in1 m c t) (in2 m c t) (in3 m c t) (in4 m c t) (in5 m c t) (in6 m c t) (in7 m c t) (in8 m c t)).trans (congrArg (each dar (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ?_)))
  blk_simp [idx t]

theorem final11 (c : Dev nD) : (dats (F := Ideal) m 0 c).arrAt 11 cfg0.N
    = fun i => each dai (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 1) := by
  refine (dats m 0 c).arrAt_eq_of_covers 11 _ (by decide +kernel) fun t _ y => ?_
  blk_simp
  rw [after0_11]
  refine (pay11 _ _ _ _ _ _ _ _ _ _ _).trans ((states m dai c (y 0) (y 1) _ _ _ _ _ _ _ _ _ (in0 m c t) (in1 m c t) (in2 m c t) (in3 m c t) (in4 m c t) (in5 m c t) (in6 m c t) (in7 m c t) (in8 m c t)).trans (congrArg (each dai (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (Fin.ext ?_)))
  blk_simp [idx t]

/-- The gradient of the step's logarithm, summed over each group; the lanes past the groups are zero. -/
def dls (ar ai : FVec Ideal S32x64 .f32) (ls : FVec Ideal S32 .f32) (br bi : FVec Ideal S32x64x16 .f32) (lr li : FVec Ideal S4x8x2048 .f32)
    (dr di : FVec Ideal S32x64x16 .f32) : FVec Ideal S1x128 .f32 :=
  fun i => ∑ n : Fin 2048, each (fun ar ai ls u v p q => dstep ar ai ls u v p q * step ls) ar ai ls br bi lr li dr di n
    * (if (n : ℕ) / 64 = (i 1 : ℕ) then (1 : EReal) else (0 : EReal))

/-- The gradient of the input's coefficients, real part. -/
def dbr (ar ai : FVec Ideal S32x64 .f32) (ls : FVec Ideal S32 .f32) (dr di : FVec Ideal S32x64x16 .f32) : FVec Ideal S16x2048 .f32 :=
  fun i => cr (ar (ix2 (grp (i 1)) (sub (i 1)))) (ai (ix2 (grp (i 1)) (sub (i 1)))) (ls (ix1 (grp (i 1)))) * dr (ix3 (grp (i 1)) (sub (i 1)) (i 0))
    + ci (ar (ix2 (grp (i 1)) (sub (i 1)))) (ai (ix2 (grp (i 1)) (sub (i 1)))) (ls (ix1 (grp (i 1)))) * di (ix3 (grp (i 1)) (sub (i 1)) (i 0))

/-- The gradient of the input's coefficients, imaginary part. -/
def dbi (ar ai : FVec Ideal S32x64 .f32) (ls : FVec Ideal S32 .f32) (dr di : FVec Ideal S32x64x16 .f32) : FVec Ideal S16x2048 .f32 :=
  fun i => cr (ar (ix2 (grp (i 1)) (sub (i 1)))) (ai (ix2 (grp (i 1)) (sub (i 1)))) (ls (ix1 (grp (i 1)))) * di (ix3 (grp (i 1)) (sub (i 1)) (i 0))
    - ci (ar (ix2 (grp (i 1)) (sub (i 1)))) (ai (ix2 (grp (i 1)) (sub (i 1)))) (ls (ix1 (grp (i 1)))) * dr (ix3 (grp (i 1)) (sub (i 1)) (i 0))

theorem final12 (c : Dev nD) : (dats (F := Ideal) m 0 c).arrAt 12 cfg0.N = dls (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  blk_simp
  rw [after0_12]
  refine (pay12 _ _ _ _ _ _ _ _ _ _ _).trans (Finset.sum_congr rfl fun n _ => ?_)
  refine congrArg₂ (· * ·) (states m (fun ar ai ls u v p q => dstep ar ai ls u v p q * step ls) c (y 0) n _ _ _ _ _ _ _ _ _ (in0 m c t) (in1 m c t) (in2 m c t) (in3 m c t) (in4 m c t) (in5 m c t) (in6 m c t) (in7 m c t) (in8 m c t)) ?_
  rw [in9, V_v21]
  blk_simp [idx t]
  rfl

theorem final13 (c : Dev nD) : (dats (F := Ideal) m 0 c).arrAt 13 cfg0.N = dbr (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 13 _ (by decide +kernel) fun t _ y => ?_
  blk_simp
  rw [after0_13]
  refine (pay13 _ _ _ _ _ _ _ _ _ _ _).trans ?_
  rw [in0, in1, in2, in7, in8, V_v0, V_v1, V_v4, V_v10, V_v12]
  unfold dbr
  obtain ⟨e0, e1⟩ : ((cfg0.win 13).blk t).view.emb y 0 = y 0 ∧ ((cfg0.win 13).blk t).view.emb y 1 = y 1 :=
    ⟨Fin.ext (by blk_simp [idx t]), Fin.ext (by blk_simp [idx t])⟩
  rw [e0, e1]
  rfl

theorem final14 (c : Dev nD) : (dats (F := Ideal) m 0 c).arrAt 14 cfg0.N = dbi (m ((c : Thread nD τ).loc main_arg0)) (m ((c : Thread nD τ).loc main_arg1)) (m ((c : Thread nD τ).loc main_arg2)) (m ((c : Thread nD τ).loc main_arg7)) (m ((c : Thread nD τ).loc main_arg8)) := by
  refine (dats m 0 c).arrAt_eq_of_covers 14 _ (by decide +kernel) fun t _ y => ?_
  blk_simp
  rw [after0_14]
  refine (pay14 _ _ _ _ _ _ _ _ _ _ _).trans ?_
  rw [in0, in1, in2, in7, in8, V_v0, V_v1, V_v4, V_v10, V_v12]
  unfold dbi
  obtain ⟨e0, e1⟩ : ((cfg0.win 14).blk t).view.emb y 0 = y 0 ∧ ((cfg0.win 14).blk t).view.emb y 1 = y 1 :=
    ⟨Fin.ext (by blk_simp [idx t]), Fin.ext (by blk_simp [idx t])⟩
  rw [e0, e1]
  rfl

end Cert.ParamKernelIdeal.Val
end
-- ==== Proof.ParamMath.lean ====
/- The derivative of the discretisation's lines gives the functions of the backward call, on finite arguments. -/
module

public import proofs.«01_k».proof.Proof.Gen.ParamReferenceIdeal.Read
public import proofs.«01_k».proof.Proof.ParamValue
public import proofs.«01_k».proof.Proof.Reduce

@[expose] public section

set_option maxRecDepth 16384

noncomputable section

open Idealize.ShloMosaic Cert.Reals

namespace Cert.ParamReferenceIdeal.Math

open Cert.ParamReferenceIdeal Cert.ParamReferenceIdeal.Gen Cert.ParamReferenceIdeal.Read

open Cert.ParamKernelIdeal.Val (each grp sub dbr dbi dls du dv dp)

theorem dbr_eq (x0 x1 : FVec Ideal S32x64 .f32) (x2 : FVec Ideal S32 .f32) (x7 x8 : FVec Ideal S32x64x16 .f32) :
    val_main_v140 (F := Ideal) x0 x1 x2 x7 x8 = dbr x0 x1 x2 x7 x8 := by
  rw [← val_main_v140_eq]; funext i
  pointwise [dbr, grp, sub, Param.cr, Param.ci, Param.nr, Param.den, Param.lr, Param.li, Param.mag, Param.step]
  exact add_comm _ _

theorem dbi_eq (x0 x1 : FVec Ideal S32x64 .f32) (x2 : FVec Ideal S32 .f32) (x7 x8 : FVec Ideal S32x64x16 .f32) :
    val_main_v142 (F := Ideal) x0 x1 x2 x7 x8 = dbi x0 x1 x2 x7 x8 := by
  rw [← val_main_v142_eq]; funext i
  pointwise [dbi, grp, sub, Param.cr, Param.ci, Param.nr, Param.den, Param.lr, Param.li, Param.mag, Param.step]
  exact congrArg (_ + ·) (mul_neg _ _)

section state

variable (x0 x1 : FVec Ideal S32x64 .f32) (x2 : FVec Ideal S32 .f32) (x3 x4 : FVec Ideal S32x64x16 .f32) (x5 x6 : FVec Ideal S4x8x2048 .f32) (x7 x8 : FVec Ideal S32x64x16 .f32) (g : Fin 32) (n : Fin 64)

theorem v101 : val_main_v101 (F := Ideal) x0 x1 x3 x4 x6 x7 x8 (ix2 g n) = Param.rq (x0 (ix2 g n)) (x1 (ix2 g n)) (val_main_v81 (F := Ideal) x3 x4 x7 x8 (ix2 g n)) (val_main_v73 (F := Ideal) x3 x4 x7 x8 (ix2 g n)) (val_main_v3 (F := Ideal) x6 (ix2 g n)) := by
  pointwise [val_main_v101, val_main_v100, val_main_v97, val_main_v92, val_main_v91, val_main_v85, val_main_v19, val_main_v18, val_main_v17, Param.rq, Param.rni, Param.rnr, Param.den]

theorem v105 : val_main_v105 (F := Ideal) x0 x1 x3 x4 x5 x7 x8 (ix2 g n) = Param.rp (x0 (ix2 g n)) (x1 (ix2 g n)) (val_main_v81 (F := Ideal) x3 x4 x7 x8 (ix2 g n)) (val_main_v73 (F := Ideal) x3 x4 x7 x8 (ix2 g n)) (val_main_v1 (F := Ideal) x5 (ix2 g n)) := by
  pointwise [val_main_v105, val_main_v104, val_main_v97, val_main_v89, val_main_v88, val_main_v86, val_main_v85, val_main_v19, val_main_v18, val_main_v17, Param.rp, Param.rni, Param.rnr, Param.den]

theorem v122 : val_main_v122 (F := Ideal) x0 x1 x2 x3 x4 x5 x6 x7 x8 (ix2 g n) = Param.rang (x0 (ix2 g n)) (x1 (ix2 g n)) (x2 (ix1 g)) (val_main_v81 (F := Ideal) x3 x4 x7 x8 (ix2 g n)) (val_main_v73 (F := Ideal) x3 x4 x7 x8 (ix2 g n)) (val_main_v1 (F := Ideal) x5 (ix2 g n)) (val_main_v3 (F := Ideal) x6 (ix2 g n)) := by
  unfold Param.rang
  rw [← v101, ← v105]
  pointwise [val_main_v122, val_main_v121, val_main_v120, val_main_v117, val_main_v116, val_main_v114, val_main_v21, val_main_v20, val_main_v16, val_main_v15, val_main_v14, val_main_v13, val_main_v12, val_main_v11, val_main_v10, val_main_v9, val_main_v8, val_main_v7, val_main_v6, val_main_v5, val_main_v4, val_main_v19, val_main_v18, val_main_v17, Param.nr, Param.li, Param.lr, Param.mag, Param.step, Param.den]

theorem v129 : val_main_v129 (F := Ideal) x0 x1 x2 x3 x4 x5 x6 x7 x8 (ix2 g n) = Param.rexp (x0 (ix2 g n)) (x1 (ix2 g n)) (x2 (ix1 g)) (val_main_v81 (F := Ideal) x3 x4 x7 x8 (ix2 g n)) (val_main_v73 (F := Ideal) x3 x4 x7 x8 (ix2 g n)) (val_main_v1 (F := Ideal) x5 (ix2 g n)) (val_main_v3 (F := Ideal) x6 (ix2 g n)) := by
  unfold Param.rexp
  rw [← v101, ← v105]
  pointwise [val_main_v129, val_main_v119, val_main_v118, val_main_v115, val_main_v21, val_main_v20, val_main_v16, val_main_v15, val_main_v14, val_main_v13, val_main_v12, val_main_v11, val_main_v10, val_main_v9, val_main_v8, val_main_v7, val_main_v6, val_main_v5, val_main_v4, val_main_v19, val_main_v18, val_main_v17, Param.nr, Param.li, Param.lr, Param.mag, Param.step, Param.den]

theorem v96 : val_main_v96 (F := Ideal) x0 x1 x2 x3 x4 x7 x8 (ix2 g n) = Param.rden (x0 (ix2 g n)) (x1 (ix2 g n)) (x2 (ix1 g)) (val_main_v81 (F := Ideal) x3 x4 x7 x8 (ix2 g n)) (val_main_v73 (F := Ideal) x3 x4 x7 x8 (ix2 g n)) := by
  pointwise [val_main_v96, val_main_v95, val_main_v94, val_main_v93, val_main_v84, val_main_v83, val_main_v82, val_main_v35, val_main_v34, val_main_v33, val_main_v31, val_main_v30, val_main_v29, val_main_v28, val_main_v27, val_main_v26, val_main_v24, val_main_v23, val_main_v22, val_main_v21, val_main_v20, val_main_v16, val_main_v15, val_main_v14, val_main_v13, val_main_v12, val_main_v11, val_main_v10, val_main_v9, val_main_v8, val_main_v7, val_main_v6, val_main_v5, val_main_v4, val_main_v19, val_main_v18, val_main_v17, Param.rden, Param.rsq, Param.one, val_main_cst_1, val_main_cst_2, val_main_cst_3, Param.nr, Param.li, Param.lr, Param.mag, Param.step, Param.den]

theorem v136 : val_main_v136 (F := Ideal) x0 x1 x2 x3 x4 x5 x6 x7 x8 (ix2 g n) = Param.rar (x0 (ix2 g n)) (x1 (ix2 g n)) (x2 (ix1 g)) (val_main_v81 (F := Ideal) x3 x4 x7 x8 (ix2 g n)) (val_main_v73 (F := Ideal) x3 x4 x7 x8 (ix2 g n)) (val_main_v1 (F := Ideal) x5 (ix2 g n)) (val_main_v3 (F := Ideal) x6 (ix2 g n)) := by
  unfold Param.rar
  rw [← v96, ← v129]
  pointwise [val_main_v136, val_main_v135, val_main_v134, val_main_v113, val_main_v112, val_main_v111, val_main_v110, val_main_v103, val_main_v102, val_main_v90, val_main_v97, val_main_v85, val_main_v21, val_main_v20, val_main_v16, val_main_v15, val_main_v14, val_main_v13, val_main_v12, val_main_v11, val_main_v10, val_main_v9, val_main_v8, val_main_v7, val_main_v6, val_main_v5, val_main_v4, val_main_v19, val_main_v18, val_main_v17, Param.rni, Param.rnr, val_main_cst_1, Param.nr, Param.li, Param.lr, Param.mag, Param.step, Param.den]

theorem v128 : val_main_v128 (F := Ideal) x0 x1 x2 x3 x4 x5 x6 x7 x8 (ix2 g n) = Param.rai (x0 (ix2 g n)) (x1 (ix2 g n)) (x2 (ix1 g)) (val_main_v81 (F := Ideal) x3 x4 x7 x8 (ix2 g n)) (val_main_v73 (F := Ideal) x3 x4 x7 x8 (ix2 g n)) (val_main_v1 (F := Ideal) x5 (ix2 g n)) (val_main_v3 (F := Ideal) x6 (ix2 g n)) := by
  unfold Param.rai
  rw [← v96, ← v122]
  pointwise [val_main_v128, val_main_v127, val_main_v126, val_main_v109, val_main_v108, val_main_v107, val_main_v106, val_main_v99, val_main_v98, val_main_v87, val_main_v86, val_main_v97, val_main_v85, val_main_v21, val_main_v20, val_main_v16, val_main_v15, val_main_v14, val_main_v13, val_main_v12, val_main_v11, val_main_v10, val_main_v9, val_main_v8, val_main_v7, val_main_v6, val_main_v5, val_main_v4, val_main_v19, val_main_v18, val_main_v17, Param.rni, Param.rnr, val_main_cst_1, Param.nr, Param.li, Param.lr, Param.mag, Param.step, Param.den]

theorem grp_at (h : g.val * 64 + n.val < 2048) : grp ⟨g.val * 64 + n.val, h⟩ = g :=
  Fin.ext (by have := n.isLt; simp only [grp]; omega)

theorem sub_at (h : g.val * 64 + n.val < 2048) : sub ⟨g.val * 64 + n.val, h⟩ = n :=
  Fin.ext (by have := n.isLt; simp only [sub]; omega)

theorem v81 : val_main_v81 (F := Ideal) x3 x4 x7 x8 (ix2 g n) = du x3 x4 x7 x8 ⟨g.val * 64 + n.val, by omega⟩ := by
  unfold du
  rw [grp_at, sub_at, Finset.sum_add_distrib]
  pointwise [val_main_v81, val_main_v80, val_main_v79, val_main_v78, val_main_v77, val_main_v64, val_main_v63, val_main_v62, val_main_v61, val_main_v60, val_main_v50, val_main_cst_6, val_main_cst_7, val_main_cst_10, val_main_cst_11]
  simp only [Fin.sum_univ_one, zero_add]
  exact add_comm _ _

theorem v73 : val_main_v73 (F := Ideal) x3 x4 x7 x8 (ix2 g n) = dv x3 x4 x7 x8 ⟨g.val * 64 + n.val, by omega⟩ := by
  unfold dv
  rw [grp_at, sub_at]
  simp only [sub_eq_add_neg]
  rw [Finset.sum_add_distrib]
  pointwise [val_main_v73, val_main_v72, val_main_v71, val_main_v70, val_main_v69, val_main_v65, val_main_v57, val_main_v56, val_main_v55, val_main_v54, val_main_v51, val_main_cst_4, val_main_cst_5, val_main_cst_8, val_main_cst_9]
  simp only [Fin.sum_univ_one, zero_add, EReal.neg_mul]

theorem v1 : val_main_v1 (F := Ideal) x5 (ix2 g n) = dp x5 ⟨g.val * 64 + n.val, by omega⟩ := by
  pointwise [val_main_v1, val_main_v0, dp, Reduce.host_add, val_main_cst]

theorem v3 : val_main_v3 (F := Ideal) x6 (ix2 g n) = dp x6 ⟨g.val * 64 + n.val, by omega⟩ := by
  pointwise [val_main_v3, val_main_v2, dp, Reduce.host_add, val_main_cst_0]

end state

/-- Every element of the nine arguments is a real number, and no state's rate is zero. -/
structure Fine (x0 x1 : FVec Ideal S32x64 .f32) (x2 : FVec Ideal S32 .f32) (x3 x4 : FVec Ideal S32x64x16 .f32) (x5 x6 : FVec Ideal S4x8x2048 .f32)
    (x7 x8 : FVec Ideal S32x64x16 .f32) : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)
  r8 : ∀ i, IsReal (x8 i)
  ne : ∀ i, (0 : EReal) < x0 i * x0 i + x1 i * x1 i

section values

variable {x0 x1 : FVec Ideal S32x64 .f32} {x2 : FVec Ideal S32 .f32} {x3 x4 : FVec Ideal S32x64x16 .f32} {x5 x6 : FVec Ideal S4x8x2048 .f32}
  {x7 x8 : FVec Ideal S32x64x16 .f32} (H : Fine x0 x1 x2 x3 x4 x5 x6 x7 x8)

/-- A state's rate, step and cotangents as real numbers. -/
theorem Fine.reals (H : Fine x0 x1 x2 x3 x4 x5 x6 x7 x8) (l : Fin 2048) : ∃ a b s u v p q : ℝ, a * a + b * b ≠ 0
    ∧ x0 (ix2 (grp l) (sub l)) = (a : EReal) ∧ x1 (ix2 (grp l) (sub l)) = (b : EReal) ∧ x2 (ix1 (grp l)) = (s : EReal)
    ∧ du x3 x4 x7 x8 l = (u : EReal) ∧ dv x3 x4 x7 x8 l = (v : EReal) ∧ dp x5 l = (p : EReal) ∧ dp x6 l = (q : EReal) := by
  obtain ⟨a, ha⟩ := H.r0 (ix2 (grp l) (sub l))
  obtain ⟨b, hb⟩ := H.r1 (ix2 (grp l) (sub l))
  obtain ⟨s, hs⟩ := H.r2 (ix1 (grp l))
  obtain ⟨u, hu⟩ : IsReal (du x3 x4 x7 x8 l) := IsReal.sum _ fun k => ((H.r7 _).mul (H.r3 _)).add ((H.r8 _).mul (H.r4 _))
  obtain ⟨v, hv⟩ : IsReal (dv x3 x4 x7 x8 l) := IsReal.sum _ fun k => ((H.r8 _).mul (H.r3 _)).sub ((H.r7 _).mul (H.r4 _))
  obtain ⟨p, hp⟩ : IsReal (dp x5 l) := IsReal.sum _ fun _ => IsReal.sum _ fun _ => H.r5 _
  obtain ⟨q, hq⟩ : IsReal (dp x6 l) := IsReal.sum _ fun _ => IsReal.sum _ fun _ => H.r6 _
  refine ⟨a, b, s, u, v, p, q, ?_, ha, hb, hs, hu, hv, hp, hq⟩
  have := H.ne (ix2 (grp l) (sub l))
  rw [ha, hb, ← EReal.coe_mul, ← EReal.coe_mul, ← EReal.coe_add, ← EReal.coe_zero, EReal.coe_lt_coe_iff] at this
  exact this.ne'

/-- The state `l` of group `l / 64`, put together again. -/
theorem state_eq (l : Fin 2048) (h : (grp l).val * 64 + (sub l).val < 2048) : (⟨(grp l).val * 64 + (sub l).val, h⟩ : Fin 2048) = l :=
  Fin.ext (by simp only [grp, sub]; omega)

include H

theorem dar_at (l : Fin 2048) : val_main_v136 (F := Ideal) x0 x1 x2 x3 x4 x5 x6 x7 x8 (ix2 (grp l) (sub l)) = each Param.dar x0 x1 x2 x3 x4 x5 x6 x7 x8 l := by
  rw [v136, v81, v73, v1, v3, state_eq]
  obtain ⟨a, b, s, u, v, p, q, hn, ha, hb, hs, hu, hv, hp, hq⟩ := H.reals l
  unfold each
  rw [ha, hb, hs, hu, hv, hp, hq]
  exact Param.rar_eq a b s u v p q hn

theorem dar_eq : val_main_v143 (F := Ideal) x0 x1 x2 x3 x4 x5 x6 x7 x8 = fun i => each Param.dar x0 x1 x2 x3 x4 x5 x6 x7 x8 (i 1) := by
  funext i
  refine Eq.trans ?_ (dar_at H (i 1))
  pointwise [val_main_v143, grp, sub]

theorem dai_at (l : Fin 2048) : val_main_v128 (F := Ideal) x0 x1 x2 x3 x4 x5 x6 x7 x8 (ix2 (grp l) (sub l)) = each Param.dai x0 x1 x2 x3 x4 x5 x6 x7 x8 l := by
  rw [v128, v81, v73, v1, v3, state_eq]
  obtain ⟨a, b, s, u, v, p, q, hn, ha, hb, hs, hu, hv, hp, hq⟩ := H.reals l
  unfold each
  rw [ha, hb, hs, hu, hv, hp, hq]
  exact Param.rai_eq a b s u v p q hn

theorem dai_eq : val_main_v144 (F := Ideal) x0 x1 x2 x3 x4 x5 x6 x7 x8 = fun i => each Param.dai x0 x1 x2 x3 x4 x5 x6 x7 x8 (i 1) := by
  funext i
  refine Eq.trans ?_ (dai_at H (i 1))
  pointwise [val_main_v144, grp, sub]

/-- The gradient of a group's step: both parts of the angle's and the exponent's gradient, over the group's states. -/
theorem v133 (g : Fin 32) : val_main_v133 (F := Ideal) x0 x1 x2 x3 x4 x5 x6 x7 x8 (ix2 g 0)
    = ∑ n : Fin 64, x1 (ix2 g n) * val_main_v122 (F := Ideal) x0 x1 x2 x3 x4 x5 x6 x7 x8 (ix2 g n) + ∑ n : Fin 64, x0 (ix2 g n) * val_main_v129 (F := Ideal) x0 x1 x2 x3 x4 x5 x6 x7 x8 (ix2 g n) := by
  pointwise [val_main_v133, val_main_v132, val_main_v131, val_main_v130, val_main_v125, val_main_v124, val_main_v123, val_main_cst_12, val_main_cst_13]

theorem v138 (g : Fin 32) : val_main_v138 (F := Ideal) x0 x1 x2 x3 x4 x5 x6 x7 x8 (ix1 g) = val_main_v133 (F := Ideal) x0 x1 x2 x3 x4 x5 x6 x7 x8 (ix2 g 0) * Param.step (x2 (ix1 g)) := by
  pointwise [val_main_v138, val_main_v137, val_main_v4, val_main_cst_14, Param.step]
  rw [Fin.sum_univ_one]

/-- One state's part. -/
theorem part (l : Fin 2048) :
    x1 (ix2 (grp l) (sub l)) * val_main_v122 (F := Ideal) x0 x1 x2 x3 x4 x5 x6 x7 x8 (ix2 (grp l) (sub l))
        + x0 (ix2 (grp l) (sub l)) * val_main_v129 (F := Ideal) x0 x1 x2 x3 x4 x5 x6 x7 x8 (ix2 (grp l) (sub l)) = each Param.dstep x0 x1 x2 x3 x4 x5 x6 x7 x8 l
      ∧ IsReal (each Param.dstep x0 x1 x2 x3 x4 x5 x6 x7 x8 l) := by
  rw [v122, v129, v81, v73, v1, v3, state_eq]
  obtain ⟨a, b, s, u, v, p, q, hn, ha, hb, hs, hu, hv, hp, hq⟩ := H.reals l
  unfold each
  rw [ha, hb, hs, hu, hv, hp, hq]
  exact ⟨Param.rstep_eq a b s u v p q hn, Param.real_dstep a b s u v p q hn⟩

/-- The gradient of a group's logarithmic step: the parts of its states, each with the step as a factor. -/
theorem dls_at (g : Fin 32) : val_main_v138 (F := Ideal) x0 x1 x2 x3 x4 x5 x6 x7 x8 (ix1 g)
    = ∑ n : Fin 64, each (fun ar ai ls u v p q => Param.dstep ar ai ls u v p q * Param.step ls) x0 x1 x2 x3 x4 x5 x6 x7 x8 ⟨g.val * 64 + n.val, by omega⟩ := by
  have hpart : ∀ n : Fin 64, x1 (ix2 g n) * val_main_v122 (F := Ideal) x0 x1 x2 x3 x4 x5 x6 x7 x8 (ix2 g n) + x0 (ix2 g n) * val_main_v129 (F := Ideal) x0 x1 x2 x3 x4 x5 x6 x7 x8 (ix2 g n)
      = each Param.dstep x0 x1 x2 x3 x4 x5 x6 x7 x8 ⟨g.val * 64 + n.val, by omega⟩ := fun n => by
    have := (part H ⟨g.val * 64 + n.val, by omega⟩).1
    rwa [grp_at, sub_at] at this
  rw [v138 H, v133 H, ← Finset.sum_add_distrib, Finset.sum_congr rfl fun n _ => hpart n]
  obtain ⟨d, hd⟩ := IsReal.all fun n : Fin 64 => (part H ⟨g.val * 64 + n.val, by omega⟩).2
  obtain ⟨s, hs⟩ := H.r2 (ix1 g)
  have hr : ∀ n : Fin 64, each (fun ar ai ls u v p q => Param.dstep ar ai ls u v p q * Param.step ls) x0 x1 x2 x3 x4 x5 x6 x7 x8 ⟨g.val * 64 + n.val, by omega⟩
      = ((d n * Real.exp s : ℝ) : EReal) := fun n => by
    have := congrFun hd n
    simp only [each, grp_at] at this ⊢
    rw [this, hs, Param.step, Ideal.exp_coe, EReal.coe_mul]
  rw [Finset.sum_congr rfl fun n _ => hr n, ← coe_sum, ← Finset.sum_mul, hs, Param.step, Ideal.exp_coe, EReal.coe_mul, coe_sum]
  exact congrArg (· * _) (Finset.sum_congr rfl fun n _ => congrFun hd n)

theorem dls_eq : val_main_v146 (F := Ideal) x0 x1 x2 x3 x4 x5 x6 x7 x8 = dls x0 x1 x2 x3 x4 x5 x6 x7 x8 := by
  funext i
  have hs : dls x0 x1 x2 x3 x4 x5 x6 x7 x8 i = ∑ g : Fin 32, ∑ n : Fin 64,
      each (fun ar ai ls u v p q => Param.dstep ar ai ls u v p q * Param.step ls) x0 x1 x2 x3 x4 x5 x6 x7 x8 ⟨g.val * 64 + n.val, by omega⟩
        * (if g.val = (i 1).val then (1 : EReal) else 0) := by
    refine (Fin.sum_mul_add_congr fun g n hl => ?_).symm
    rw [show (g.val * 64 + n.val) / 64 = g.val by omega]
  rw [hs]
  by_cases h : (i 1).val < 32
  · rw [Finset.sum_eq_single (⟨(i 1).val, h⟩ : Fin 32) (fun g _ hg => ?_) (fun hg => absurd (Finset.mem_univ _) hg)]
    · simp only [if_true, mul_one]
      refine Eq.trans ?_ (dls_at H ⟨(i 1).val, h⟩)
      pointwise [val_main_v146, val_main_v145]
      exact dif_pos h
    · have : g.val ≠ (i 1).val := fun e => hg (Fin.ext e)
      simp only [if_neg this, mul_zero, Finset.sum_const_zero]
  · have hz : ∀ g : Fin 32, g.val ≠ (i 1).val := fun g e => h (e ▸ g.isLt)
    simp only [if_neg (hz _), mul_zero, Finset.sum_const_zero]
    pointwise [val_main_v146, val_main_v145, val_main_call0_v0, val_main_c]
    refine (dif_neg h).trans ?_
    simp [FloatOps.sitofp]

end values

end Cert.ParamReferenceIdeal.Math
end
-- ==== Proof.ParamClaim.lean ====
/- The value claim about the backward call of the recurrence's parameters. -/
module

public import proofs.«01_k».proof.Defs
public import proofs.«01_k».proof.Proof.Gen.Pre_param_finite
public import proofs.«01_k».proof.Proof.ParamValue
public import proofs.«01_k».proof.Proof.ParamMath

@[expose] public section

set_option maxRecDepth 16384

noncomputable section

open Idealize.ShloMosaic Idealize.SL.Sem Cert.Reals

namespace Cert.Proof.Param

/-- What `jnp.all(x > 0.0)` says: every element is positive. -/
theorem pos_of_all {s u t : Shape} [Subsingleton t.Idx] {axes : List (Fin s.rank)} (x : FVec Ideal s .f32)
    (hb : (⟨0, ![]⟩ : Shape).BroadcastsInDim s (![] : Fin 0 → Fin s.rank))
    (h : s.ReducesTo axes t) (init : u.Idx → BitVec 1) (hu : 0 < u.numel) (j : t.Idx)
    (e : Host.reduce IntOp.andi (cmpf .ogt x (broadcastInDim s ![] hb (constant (F := Ideal) ⟨0, ![]⟩ .f32 0x00000000#32))) init h hu j = 1#1)
    (i : s.Idx) : (0 : EReal) < x i := by
  have e2 : BitVec.ofBool (decide (Ideal.ofBits .f32 0x00000000#32 < x i)) = 1#1 := Host.reduce_andi_all _ init h hu j e i
  by_contra hn
  rw [show Ideal.ofBits .f32 0x00000000#32 = (0 : EReal) by simp [Ideal.ofBits, Ideal.ieee], decide_eq_false hn] at e2
  exact absurd e2 (by decide)

/-- What the precondition says: every element of the nine arguments is a real number, and no state's rate is zero. -/
theorem fine (m : (ℓ : Loc Cert.ParamKernelIdeal.nD Cert.ParamKernelIdeal.τ Cert.ParamKernelIdeal.sig) → Buf (Elt Ideal) ℓ)
    (hpre : Cert.Pre_ParamKernelIdeal_param_finite m) (c : Dev Cert.ParamKernelIdeal.nD) :
    Cert.ParamReferenceIdeal.Math.Fine (m (c.tc.loc Cert.ParamKernelIdeal.main_arg0)) (m (c.tc.loc Cert.ParamKernelIdeal.main_arg1))
      (m (c.tc.loc Cert.ParamKernelIdeal.main_arg2)) (m (c.tc.loc Cert.ParamKernelIdeal.main_arg3)) (m (c.tc.loc Cert.ParamKernelIdeal.main_arg4))
      (m (c.tc.loc Cert.ParamKernelIdeal.main_arg5)) (m (c.tc.loc Cert.ParamKernelIdeal.main_arg6)) (m (c.tc.loc Cert.ParamKernelIdeal.main_arg7))
      (m (c.tc.loc Cert.ParamKernelIdeal.main_arg8)) := by
  have h := congrFun (hpre c) (fun a => a.elim0)
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6, real_of_all _ _ _ _ _ _ h7, real_of_all _ _ _ _ _ _ h8,
    pos_of_all _ _ _ _ _ _ h9⟩

theorem frame_reference : Cert.quiescent_ParamReferenceIdeal := fun m ρ _ =>
  (θ_run Cert.ParamReferenceIdeal.defs _ _).mono (fun r h => ⟨fun c => (h c).2.2.2.2.2, sem_eq_zero_of_no_sems (by decide) r.2⟩)
    (Cert.ParamReferenceIdeal.Value.run (F := Ideal) m ρ)

theorem frame_reference_pre : Cert.quiescent_ParamReferenceIdeal_pre_param_finite := fun m g _ => frame_reference m g trivial

set_option maxHeartbeats 4000000 in
open Cert.ParamReferenceIdeal.Read Cert.ParamReferenceIdeal.Math in
theorem algebraic : Cert.algebraic_ParamKernelIdeal_ParamReferenceIdeal_pre_param_finite := by
  pair_intro
  · run_from Cert.ParamKernelIdeal.Gen.run_main m g
    · exact Cert.ParamKernelIdeal.Gen.V_main_arg0 m c
    · exact Cert.ParamKernelIdeal.Gen.V_main_arg1 m c
    · exact Cert.ParamKernelIdeal.Gen.V_main_arg2 m c
    · exact Cert.ParamKernelIdeal.Gen.V_main_arg3 m c
    · exact Cert.ParamKernelIdeal.Gen.V_main_arg4 m c
    · exact Cert.ParamKernelIdeal.Gen.V_main_arg5 m c
    · exact Cert.ParamKernelIdeal.Gen.V_main_arg6 m c
    · exact Cert.ParamKernelIdeal.Gen.V_main_arg7 m c
    · exact Cert.ParamKernelIdeal.Gen.V_main_arg8 m c
  · run_from Cert.ParamReferenceIdeal.Value.run m' g'
    · refine (val_main_v143_eq m' c).trans ?_
      have H := fine m hpre c
      obtain ⟨a0, a1, a2, a3, a4, a5, a6, a7, a8⟩ := hagree c
      rw [a0, a1, a2, a3, a4, a5, a6, a7, a8]
      exact (dar_eq H).trans (Cert.ParamKernelIdeal.Val.final10 m c).symm
    · refine (val_main_v144_eq m' c).trans ?_
      have H := fine m hpre c
      obtain ⟨a0, a1, a2, a3, a4, a5, a6, a7, a8⟩ := hagree c
      rw [a0, a1, a2, a3, a4, a5, a6, a7, a8]
      exact (dai_eq H).trans (Cert.ParamKernelIdeal.Val.final11 m c).symm
    · refine (val_main_v146_eq m' c).trans ?_
      have H := fine m hpre c
      obtain ⟨a0, a1, a2, a3, a4, a5, a6, a7, a8⟩ := hagree c
      rw [a0, a1, a2, a3, a4, a5, a6, a7, a8]
      exact (dls_eq H).trans (Cert.ParamKernelIdeal.Val.final12 m c).symm
    · exact (val_main_v140_eq _ _ _ _ _).trans ((dbr_eq _ _ _ _ _).trans (Cert.ParamKernelIdeal.Val.final13 m c).symm)
    · exact (val_main_v142_eq _ _ _ _ _).trans ((dbi_eq _ _ _ _ _).trans (Cert.ParamKernelIdeal.Val.final14 m c).symm)

end Cert.Proof.Param
end
-- ==== Proof.MergeValue.lean ====
/- The results of the merge's backward call, as functions of its arguments. -/
module

public import proofs.«01_k».proof.Proof.Gen.MergeKernelIdeal.Frame
public import proofs.«01_k».proof.Proof.Reals
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeKernelIdeal.Val

open Cert.MergeKernelIdeal Cert.MergeKernelIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 1] ∧ win0_4.index t = ![0, 0] ∧ win0_5.index t = ![0, 0] ∧ win0_6.index t = ![0, 0]
    ∧ win0_7.index t = ![t.val, 0] ∧ win0_8.index t = ![t.val, 0] ∧ win0_9.index t = ![t.val, 1] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

/-! One row of the call: its cotangent `d`, its recurrence output `u`, its attention output and its two gates at a column;
    the two weights `a` and `b` of the gated linear unit and the weight `w` of the output projection. -/

abbrev half : EReal := Ideal.ofBits .f32 0x3F000000#32

/-- The logistic function as the kernel writes it. -/
def slope (a : EReal) : EReal := half + half * Ideal.tanh (half * a)

/-- The gelu's cubic coefficient and its triple. -/
abbrev gk : EReal := Named.named (F := Ideal) κ "gelu_k" (φ := .f32) 0x3D372713#32
abbrev gk3 : EReal := Named.named (F := Ideal) κ "gelu_3k" (φ := .f32) 0x3E095D4F#32

/-- The hyperbolic tangent inside the gelu. -/
def inner (x : EReal) : EReal := Ideal.tanh (Ideal.ofBits .f32 0x3F4C422A#32 * (x + gk * (x * x * x)))

/-- The gelu. -/
def gel (x : EReal) : EReal := half * x * (1 + inner x)

/-- The gelu's derivative. -/
def dgel (x : EReal) : EReal :=
  half * (1 + inner x) + half * x * (1 - inner x * inner x) * (Ideal.ofBits .f32 0x3F4C422A#32 * (1 + gk3 * (x * x)))

section row

variable (d : Fin 1024 → EReal) (u : Fin 512 → EReal) (at' ga gs : Fin 1024 → EReal) (a b : Fin 512 → Fin 1024 → EReal) (w : Fin 1024 → Fin 1024 → EReal)

/-- The gradient of the merged row. -/
def dmg (f : Fin 1024) : EReal := ∑ k : Fin 1024, d k * w f k
/-- A product of the gelu with a weight of the gated linear unit. -/
def lin (f : Fin 1024) : EReal := ∑ k : Fin 512, gel (u k) * a k f
/-- The recurrence's branch: the gated linear unit. -/
def ssm (f : Fin 1024) : EReal := lin u a f * slope (lin u b f)
def mrg (f : Fin 1024) : EReal := slope (ga f) * at' f + slope (gs f) * ssm u a b f
def dat (f : Fin 1024) : EReal := dmg d w f * slope (ga f)
def dga (f : Fin 1024) : EReal := dmg d w f * at' f * slope (ga f) * (1 - slope (ga f))
def dgs (f : Fin 1024) : EReal := dmg d w f * ssm u a b f * slope (gs f) * (1 - slope (gs f))
def dya (f : Fin 1024) : EReal := dmg d w f * slope (gs f) * slope (lin u b f)
def dyb (f : Fin 1024) : EReal := dmg d w f * slope (gs f) * lin u a f * slope (lin u b f) * (1 - slope (lin u b f))
/-- The gradient of the recurrence's output. -/
def dyr (k : Fin 512) : EReal := (∑ f : Fin 1024, (dya d u gs b w f * a k f + dyb d u gs a b w f * b k f)) * dgel (u k)

end row

/-! The results: arrays over all rows, with the arguments in the call's order. -/

section arrays

variable (dh : FVec Ideal S8256x1024 .f32) (yr : FVec Ideal S8256x512 .f32) (att : FVec Ideal S8256x1024 .f32)
  (proj : FVec Ideal S8256x4096 .f32) (a b : FVec Ideal S512x1024 .f32) (w : FVec Ideal S1024x1024 .f32)

/-- Columns `2048` to `3071` and `3072` to `4095` of a row of the projection: the two gates. -/
def gateA (r : Fin 8256) (f : Fin 1024) : EReal := proj (ix2 r ⟨2048 + f.val, by omega⟩)
def gateS (r : Fin 8256) (f : Fin 1024) : EReal := proj (ix2 r ⟨3072 + f.val, by omega⟩)

def datA : FVec Ideal S8256x1024 .bf16 := fun i =>
  dat (fun k => dh (ix2 (i 0) k)) (gateA proj (i 0)) (fun f k => w (ix2 f k)) (i 1)
def dyrA : FVec Ideal S8256x512 .bf16 := fun i =>
  dyr (fun k => dh (ix2 (i 0) k)) (fun k => yr (ix2 (i 0) k)) (gateS proj (i 0)) (fun k f => a (ix2 k f)) (fun k f => b (ix2 k f)) (fun f k => w (ix2 f k)) (i 1)
def dgaR (r : Fin 8256) (f : Fin 1024) : EReal :=
  dga (fun k => dh (ix2 r k)) (fun k => att (ix2 r k)) (gateA proj r) (fun f k => w (ix2 f k)) f
def dgsR (r : Fin 8256) (f : Fin 1024) : EReal :=
  dgs (fun k => dh (ix2 r k)) (fun k => yr (ix2 r k)) (gateS proj r) (fun k f => a (ix2 k f)) (fun k f => b (ix2 k f)) (fun f k => w (ix2 f k)) f
def mrgA : FVec Ideal S8256x1024 .bf16 := fun i =>
  mrg (fun k => yr (ix2 (i 0) k)) (fun k => att (ix2 (i 0) k)) (gateA proj (i 0)) (gateS proj (i 0)) (fun k f => a (ix2 k f)) (fun k f => b (ix2 k f)) (i 1)
def gelA : FVec Ideal S8256x512 .bf16 := fun i => gel (yr i)
def dhA : FVec Ideal S8256x1024 .bf16 := fun i => dh i
def dyaA : FVec Ideal S8256x1024 .bf16 := fun i =>
  dya (fun k => dh (ix2 (i 0) k)) (fun k => yr (ix2 (i 0) k)) (gateS proj (i 0)) (fun k f => b (ix2 k f)) (fun f k => w (ix2 f k)) (i 1)
def dybA : FVec Ideal S8256x1024 .bf16 := fun i =>
  dyb (fun k => dh (ix2 (i 0) k)) (fun k => yr (ix2 (i 0) k)) (gateS proj (i 0)) (fun k f => a (ix2 k f)) (fun k f => b (ix2 k f)) (fun f k => w (ix2 f k)) (i 1)

end arrays

/-! The same over one block of rows, whose two gates are columns `0` to `1023` and `1024` to `2047`. -/

section blocks

variable (x0 : Vec Ideal S688x1024 .f32) (x1 : Vec Ideal S688x512 .f32) (x2 : Vec Ideal S688x1024 .bf16)
  (x3 : Vec Ideal S688x2048 .bf16) (x4 x5 : Vec Ideal S512x1024 .bf16) (x6 : Vec Ideal S1024x1024 .bf16)

def gA (r : Fin 688) (f : Fin 1024) : EReal := x3 (ix2 r ⟨f.val, by omega⟩)
def gS (r : Fin 688) (f : Fin 1024) : EReal := x3 (ix2 r ⟨1024 + f.val, by omega⟩)

def datB (y : S688x1024.Idx) : EReal :=
  dat (fun k => x0 (ix2 (y 0) k)) (gA x3 (y 0)) (fun f k => x6 (ix2 f k)) (y 1)
def dyrB (y : S688x512.Idx) : EReal :=
  dyr (fun k => x0 (ix2 (y 0) k)) (fun k => x1 (ix2 (y 0) k)) (gS x3 (y 0)) (fun k f => x4 (ix2 k f)) (fun k f => x5 (ix2 k f)) (fun f k => x6 (ix2 f k)) (y 1)
def mrgB (y : S688x1024.Idx) : EReal :=
  mrg (fun k => x1 (ix2 (y 0) k)) (fun k => x2 (ix2 (y 0) k)) (gA x3 (y 0)) (gS x3 (y 0)) (fun k f => x4 (ix2 k f)) (fun k f => x5 (ix2 k f)) (y 1)
def dyaB (y : S688x1024.Idx) : EReal :=
  dya (fun k => x0 (ix2 (y 0) k)) (fun k => x1 (ix2 (y 0) k)) (gS x3 (y 0)) (fun k f => x5 (ix2 k f)) (fun f k => x6 (ix2 f k)) (y 1)
def dybB (y : S688x1024.Idx) : EReal :=
  dyb (fun k => x0 (ix2 (y 0) k)) (fun k => x1 (ix2 (y 0) k)) (gS x3 (y 0)) (fun k f => x4 (ix2 k f)) (fun k f => x5 (ix2 k f)) (fun f k => x6 (ix2 f k)) (y 1)

end blocks

theorem final7 (c : Dev nD) : (dats (F := Ideal) m 0 c).arrAt 7 (cfgs 0).N
    = datA (m ((c : Thread nD τ).loc main_arg0)) (m ((c : Thread nD τ).loc main_arg3)) (m ((c : Thread nD τ).loc main_arg6)) := by
  refine (dats m 0 c).arrAt_eq_of_covers 7 _ (by decide +kernel) fun t _ y => ?_
  blk_simp
  rw [after0_7]; simp only [outsAt0]
  frame_out
  refine Eq.trans (b := datB (iblk m c 0 t) (iblk m c 3 t) (iblk m c 6 t) y) ?_ ?_
  · generalize iblk m c 0 t = X0
    generalize iblk m c 3 t = X3
    generalize iblk m c 6 t = X6
    canon_tiles x h
    all_goals (refine Eq.trans ?_ (Cert.Reals.at_coords (datB X0 X3 X6) y (x 0) _ (by have := (x 1).isLt; simp at this; omega) h0 h1); open_payloads; pointwise [datB, dat, gateA, gA, dmg, slope]; try simp only [← Nat.add_assoc, Nat.reduceAdd])
  · pointwise [datB, datA, dat, gateA, gA, dmg, slope]; blk_point [iblk, V, idx t]

theorem final11 (c : Dev nD) : (dats (F := Ideal) m 0 c).arrAt 11 (cfgs 0).N
    = mrgA (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t _ y => ?_
  blk_simp
  rw [after0_11]; simp only [outsAt0]
  frame_out
  refine Eq.trans (b := mrgB (iblk m c 1 t) (iblk m c 2 t) (iblk m c 3 t) (iblk m c 4 t) (iblk m c 5 t) y) ?_ ?_
  · generalize iblk m c 1 t = X1
    generalize iblk m c 2 t = X2
    generalize iblk m c 3 t = X3
    generalize iblk m c 4 t = X4
    generalize iblk m c 5 t = X5
    canon_tiles x h
    all_goals (refine Eq.trans ?_ (Cert.Reals.at_coords (mrgB X1 X2 X3 X4 X5) y (x 0) _ (by have := (x 1).isLt; simp at this; omega) h0 h1); open_payloads; pointwise [mrgB, mrg, gateA, gA, gateS, gS, ssm, lin, gel, inner, slope]; try simp only [← Nat.add_assoc, Nat.reduceAdd])
  · pointwise [mrgB, mrgA, mrg, gateA, gA, gateS, gS, ssm, lin, gel, inner, slope]; blk_point [iblk, V, idx t]

theorem final13 (c : Dev nD) : (dats (F := Ideal) m 0 c).arrAt 13 (cfgs 0).N
    = dyaA (m ((c : Thread nD τ).loc main_arg0)) (m ((c : Thread nD τ).loc main_arg1)) (m ((c : Thread nD τ).loc main_arg3)) (m ((c : Thread nD τ).loc main_arg5)) (m ((c : Thread nD τ).loc main_arg6)) := by
  refine (dats m 0 c).arrAt_eq_of_covers 13 _ (by decide +kernel) fun t _ y => ?_
  blk_simp
  rw [after0_13]; simp only [outsAt0]
  frame_out
  refine Eq.trans (b := dyaB (iblk m c 0 t) (iblk m c 1 t) (iblk m c 3 t) (iblk m c 5 t) (iblk m c 6 t) y) ?_ ?_
  · generalize iblk m c 0 t = X0
    generalize iblk m c 1 t = X1
    generalize iblk m c 3 t = X3
    generalize iblk m c 5 t = X5
    generalize iblk m c 6 t = X6
    canon_tiles x h
    all_goals (refine Eq.trans ?_ (Cert.Reals.at_coords (dyaB X0 X1 X3 X5 X6) y (x 0) _ (by have := (x 1).isLt; simp at this; omega) h0 h1); open_payloads; pointwise [dyaB, dya, dmg, gateS, gS, lin, gel, inner, slope]; try simp only [← Nat.add_assoc, Nat.reduceAdd])
  · pointwise [dyaB, dyaA, dya, dmg, gateS, gS, lin, gel, inner, slope]; blk_point [iblk, V, idx t]

theorem final14 (c : Dev nD) : (dats (F := Ideal) m 0 c).arrAt 14 (cfgs 0).N
    = dybA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 14 _ (by decide +kernel) fun t _ y => ?_
  blk_simp
  rw [after0_14]; simp only [outsAt0]
  frame_out
  refine Eq.trans (b := dybB (iblk m c 0 t) (iblk m c 1 t) (iblk m c 3 t) (iblk m c 4 t) (iblk m c 5 t) (iblk m c 6 t) y) ?_ ?_
  · generalize iblk m c 0 t = X0
    generalize iblk m c 1 t = X1
    generalize iblk m c 3 t = X3
    generalize iblk m c 4 t = X4
    generalize iblk m c 5 t = X5
    generalize iblk m c 6 t = X6
    canon_tiles x h
    all_goals (refine Eq.trans ?_ (Cert.Reals.at_coords (dybB X0 X1 X3 X4 X5 X6) y (x 0) _ (by have := (x 1).isLt; simp at this; omega) h0 h1); open_payloads; pointwise [dybB, dyb, dmg, gateS, gS, lin, gel, inner, slope]; try simp only [← Nat.add_assoc, Nat.reduceAdd])
  · pointwise [dybB, dybA, dyb, dmg, gateS, gS, lin, gel, inner, slope]; blk_point [iblk, V, idx t]

theorem final10 (c : Dev nD) : (dats (F := Ideal) m 0 c).arrAt 10 (cfgs 0).N = dhA (m ((c : Thread nD τ).loc main_arg0)) := by
  refine (dats m 0 c).arrAt_eq_of_covers 10 _ (by decide +kernel) fun t _ y => ?_
  blk_simp
  rw [after0_10]; simp only [outsAt0]
  frame_out
  open_payloads; pointwise [dhA, gel, inner]; blk_point [iblk, V, idx t]

theorem final12 (c : Dev nD) : (dats (F := Ideal) m 0 c).arrAt 12 (cfgs 0).N = gelA (m ((c : Thread nD τ).loc main_arg1)) := by
  refine (dats m 0 c).arrAt_eq_of_covers 12 _ (by decide +kernel) fun t _ y => ?_
  blk_simp
  rw [after0_12]; simp only [outsAt0]
  frame_out
  open_payloads; pointwise [gelA, gel, inner]; blk_point [iblk, V, idx t]

end Cert.MergeKernelIdeal.Val
end
-- ==== Proof.MergeGates.lean ====
/- The merge's backward call: the gradient of the recurrence's output and those of the two gates. -/
module

public import proofs.«01_k».proof.Proof.MergeValue
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.MergeKernelIdeal.Val

open Cert.MergeKernelIdeal Cert.MergeKernelIdeal.Gen

variable (m : (ℓ : Loc nD τ sig) → Buf (Elt Ideal) ℓ)

/-- A sum over a row is the sum over its four chunks of 256 columns. -/
theorem sum_chunks (f : Fin 1024 → EReal) : ∑ j : Fin 1024, f j
    = (∑ j : Fin 256, f ⟨j.val, by omega⟩) + (∑ j : Fin 256, f ⟨256 + j.val, by omega⟩)
      + (∑ j : Fin 256, f ⟨512 + j.val, by omega⟩) + (∑ j : Fin 256, f ⟨768 + j.val, by omega⟩) := by
  rw [show (∑ j : Fin 1024, f j) = ∑ j : Fin (768 + 256), f ⟨j.val, j.isLt⟩ from rfl, Fin.sum_univ_add]
  rw [show (∑ j : Fin 768, f ⟨(Fin.castAdd 256 j).val, (Fin.castAdd 256 j).isLt⟩) = ∑ j : Fin (512 + 256), f ⟨j.val, by omega⟩ from rfl, Fin.sum_univ_add]
  rw [show (∑ j : Fin 512, f ⟨(Fin.castAdd 256 j).val, by omega⟩) = ∑ j : Fin (256 + 256), f ⟨j.val, by omega⟩ from rfl, Fin.sum_univ_add]
  rfl

set_option maxHeartbeats 1000000 in
theorem final8 (c : Dev nD) : (dats (F := Ideal) m 0 c).arrAt 8 (cfgs 0).N
    = dyrA (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; simp only [outsAt0]
  frame_out
  refine Eq.trans (b := dyrB (iblk m c 0 t) (iblk m c 1 t) (iblk m c 3 t) (iblk m c 4 t) (iblk m c 5 t) (iblk m c 6 t) y) ?_ ?_
  · generalize iblk m c 0 t = X0
    generalize iblk m c 1 t = X1
    generalize iblk m c 3 t = X3
    generalize iblk m c 4 t = X4
    generalize iblk m c 5 t = X5
    generalize iblk m c 6 t = X6
    unfold dyrB dyr
    rw [sum_chunks]
    simp only [Finset.sum_add_distrib]
    open_payloads; pointwise [dya, dyb, dgel, dmg, gS, lin, gel, inner, slope]
    simp only [← Nat.add_assoc, Nat.reduceAdd]
  · pointwise [dyrB, dyrA, dyr, dya, dyb, dgel, dmg, gateS, gS, lin, gel, inner, slope]; blk_point [iblk, V, idx t]

/-- The gates' gradients over one block of rows: columns `0` to `1023` of the attention's gate, the rest of the recurrence's. -/
def dgB (x0 : Vec Ideal S688x1024 .f32) (x1 : Vec Ideal S688x512 .f32) (x2 : Vec Ideal S688x1024 .bf16)
    (x3 : Vec Ideal S688x2048 .bf16) (x4 x5 : Vec Ideal S512x1024 .bf16) (x6 : Vec Ideal S1024x1024 .bf16) (y : S688x2048.Idx) : EReal :=
  if h : (y 1).val < 1024 then
    dga (fun k => x0 (ix2 (y 0) k)) (fun k => x2 (ix2 (y 0) k)) (gA x3 (y 0)) (fun f k => x6 (ix2 f k)) ⟨(y 1).val, h⟩
  else
    dgs (fun k => x0 (ix2 (y 0) k)) (fun k => x1 (ix2 (y 0) k)) (gS x3 (y 0)) (fun k f => x4 (ix2 k f)) (fun k f => x5 (ix2 k f)) (fun f k => x6 (ix2 f k))
      ⟨(y 1).val - 1024, by have := (y 1).isLt; simp at this; omega⟩

def dgA (dh : FVec Ideal S8256x1024 .f32) (yr : FVec Ideal S8256x512 .f32) (att : FVec Ideal S8256x1024 .f32)
    (proj : FVec Ideal S8256x4096 .f32) (a b : FVec Ideal S512x1024 .f32) (w : FVec Ideal S1024x1024 .f32) : FVec Ideal S8256x4096 .bf16 := fun i =>
  if h : (i 1).val < 3072 then dgaR dh att proj w (i 0) ⟨(i 1).val - 2048, by omega⟩
  else dgsR dh yr proj a b w (i 0) ⟨(i 1).val - 3072, by have := (i 1).isLt; simp at this; omega⟩

/-- The block's function at a column of the first gate. -/
theorem dgB_lt (x0 : Vec Ideal S688x1024 .f32) (x1 : Vec Ideal S688x512 .f32) (x2 : Vec Ideal S688x1024 .bf16)
    (x3 : Vec Ideal S688x2048 .bf16) (x4 x5 : Vec Ideal S512x1024 .bf16) (x6 : Vec Ideal S1024x1024 .bf16) (y : S688x2048.Idx)
    (r : Fin 688) (k : ℕ) (hk : k < 1024) (h0 : (y 0).val = r.val) (h1 : (y 1).val = k) :
    dga (fun k => x0 (ix2 r k)) (fun k => x2 (ix2 r k)) (gA x3 r) (fun f k => x6 (ix2 f k)) ⟨k, hk⟩ = dgB x0 x1 x2 x3 x4 x5 x6 y := by
  obtain rfl : y 0 = r := Fin.ext h0
  subst h1
  rw [dgB, dif_pos hk]

/-- The block's function at a column of the second gate. -/
theorem dgB_ge (x0 : Vec Ideal S688x1024 .f32) (x1 : Vec Ideal S688x512 .f32) (x2 : Vec Ideal S688x1024 .bf16)
    (x3 : Vec Ideal S688x2048 .bf16) (x4 x5 : Vec Ideal S512x1024 .bf16) (x6 : Vec Ideal S1024x1024 .bf16) (y : S688x2048.Idx)
    (r : Fin 688) (k : ℕ) (hk : k < 1024) (h0 : (y 0).val = r.val) (h1 : (y 1).val = 1024 + k) :
    dgs (fun k => x0 (ix2 r k)) (fun k => x1 (ix2 r k)) (gS x3 r) (fun k f => x4 (ix2 k f)) (fun k f => x5 (ix2 k f)) (fun f k => x6 (ix2 f k)) ⟨k, hk⟩
      = dgB x0 x1 x2 x3 x4 x5 x6 y := by
  obtain rfl : y 0 = r := Fin.ext h0
  obtain rfl : k = (y 1).val - 1024 := by omega
  rw [dgB, dif_neg (by omega)]

theorem dgA_lt (dh : FVec Ideal S8256x1024 .f32) (yr : FVec Ideal S8256x512 .f32) (att : FVec Ideal S8256x1024 .f32)
    (proj : FVec Ideal S8256x4096 .f32) (a b : FVec Ideal S512x1024 .f32) (w : FVec Ideal S1024x1024 .f32) (i : S8256x4096.Idx)
    (k : ℕ) (hk : k < 1024) (h1 : (i 1).val = 2048 + k) : dgaR dh att proj w (i 0) ⟨k, hk⟩ = dgA dh yr att proj a b w i := by
  obtain rfl : k = (i 1).val - 2048 := by omega
  rw [dgA, dif_pos (by omega)]

theorem dgA_ge (dh : FVec Ideal S8256x1024 .f32) (yr : FVec Ideal S8256x512 .f32) (att : FVec Ideal S8256x1024 .f32)
    (proj : FVec Ideal S8256x4096 .f32) (a b : FVec Ideal S512x1024 .f32) (w : FVec Ideal S1024x1024 .f32) (i : S8256x4096.Idx)
    (k : ℕ) (hk : k < 1024) (h1 : (i 1).val = 3072 + k) : dgsR dh yr proj a b w (i 0) ⟨k, hk⟩ = dgA dh yr att proj a b w i := by
  obtain rfl : k = (i 1).val - 3072 := by omega
  rw [dgA, dif_neg (by omega)]

set_option maxHeartbeats 1000000 in
theorem final9 (c : Dev nD) : (dats (F := Ideal) m 0 c).arrAt 9 (cfgs 0).N
    = fun i => if 2048 ≤ (i 1).val then dgA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i
      else V m c main_v6_2 i := by
  refine (dats m 0 c).arrAt_eq_of_coversWhere 9 _ (fun β => β (1 : Fin _) = 1) (by decide +kernel) (fun t hf y => ?_)
    (fun j => by have hj : (j (1 : Fin 2)).val < 4096 := (j (1 : Fin 2)).isLt; blk_simp [Pipeline.Window.cell_apply]; omega)
  blk_simp
  rw [after0_9]; simp only [outsAt0]
  frame_out
  refine Eq.trans (b := dgB (iblk m c 0 t) (iblk m c 1 t) (iblk m c 2 t) (iblk m c 3 t) (iblk m c 4 t) (iblk m c 5 t) (iblk m c 6 t) y) ?_ ?_
  · generalize iblk m c 0 t = X0
    generalize iblk m c 1 t = X1
    generalize iblk m c 2 t = X2
    generalize iblk m c 3 t = X3
    generalize iblk m c 4 t = X4
    generalize iblk m c 5 t = X5
    generalize iblk m c 6 t = X6
    canon_tiles x h
    all_goals first
      | (refine Eq.trans ?_ (dgB_lt X0 X1 X2 X3 X4 X5 X6 y (x 0) (x 1).val (by omega) h0 (by omega)); open_payloads; pointwise [dga, gA, dmg, slope]; try simp only [← Nat.add_assoc, Nat.reduceAdd])
      | (refine Eq.trans ?_ (dgB_lt X0 X1 X2 X3 X4 X5 X6 y (x 0) (256 + (x 1).val) (by omega) h0 (by omega)); open_payloads; pointwise [dga, gA, dmg, slope]; try simp only [← Nat.add_assoc, Nat.reduceAdd])
      | (refine Eq.trans ?_ (dgB_lt X0 X1 X2 X3 X4 X5 X6 y (x 0) (512 + (x 1).val) (by omega) h0 (by omega)); open_payloads; pointwise [dga, gA, dmg, slope]; try simp only [← Nat.add_assoc, Nat.reduceAdd])
      | (refine Eq.trans ?_ (dgB_lt X0 X1 X2 X3 X4 X5 X6 y (x 0) (768 + (x 1).val) (by omega) h0 (by omega)); open_payloads; pointwise [dga, gA, dmg, slope]; try simp only [← Nat.add_assoc, Nat.reduceAdd])
      | (refine Eq.trans ?_ (dgB_ge X0 X1 X2 X3 X4 X5 X6 y (x 0) (x 1).val (by omega) h0 (by omega)); open_payloads; pointwise [dgs, dmg, gS, ssm, lin, gel, inner, slope]; try simp only [← Nat.add_assoc, Nat.reduceAdd])
      | (refine Eq.trans ?_ (dgB_ge X0 X1 X2 X3 X4 X5 X6 y (x 0) (256 + (x 1).val) (by omega) h0 (by omega)); open_payloads; pointwise [dgs, dmg, gS, ssm, lin, gel, inner, slope]; try simp only [← Nat.add_assoc, Nat.reduceAdd])
      | (refine Eq.trans ?_ (dgB_ge X0 X1 X2 X3 X4 X5 X6 y (x 0) (512 + (x 1).val) (by omega) h0 (by omega)); open_payloads; pointwise [dgs, dmg, gS, ssm, lin, gel, inner, slope]; try simp only [← Nat.add_assoc, Nat.reduceAdd])
      | (refine Eq.trans ?_ (dgB_ge X0 X1 X2 X3 X4 X5 X6 y (x 0) (768 + (x 1).val) (by omega) h0 (by omega)); open_payloads; pointwise [dgs, dmg, gS, ssm, lin, gel, inner, slope]; try simp only [← Nat.add_assoc, Nat.reduceAdd])
  · have hl : (y 1).val < 2048 := (y 1).isLt
    by_cases hy : (y 1).val < 1024
    · refine (dgB_lt _ _ _ _ _ _ _ y (y 0) (y 1).val hy rfl rfl).symm.trans (Eq.trans ?_ (dgA_lt _ _ _ _ _ _ _ _ (y 1).val hy (by blk_simp [idx t])))
      pointwise [dgaR, dga, dmg, gateA, gA, slope]; blk_point [iblk, V, idx t]
    · refine (dgB_ge _ _ _ _ _ _ _ y (y 0) ((y 1).val - 1024) (by omega) rfl (by omega)).symm.trans
        (Eq.trans ?_ (dgA_ge _ _ _ _ _ _ _ _ ((y 1).val - 1024) (by omega) (by blk_simp [idx t]; omega)))
      pointwise [dgsR, dgs, dmg, gateS, gS, ssm, lin, gel, inner, slope]; blk_point [iblk, V, idx t]

end Cert.MergeKernelIdeal.Val
end
-- ==== Proof.MergeMath.lean ====
/- The reference's gradients of the merge, the gated linear unit and the gelu, which `jax.vjp` takes, are the kernel's on
   finite arguments. -/
module

public import proofs.«01_k».proof.Proof.Gen.MergeReferenceIdeal.Read
public import proofs.«01_k».proof.Proof.MergeGates
public import Idealize.ShloMosaic.PureOps.IdealRules

@[expose] public section

set_option maxRecDepth 16384

noncomputable section

open Idealize.ShloMosaic Cert.Reals

namespace Cert.MergeReferenceIdeal.Math

open Cert.MergeReferenceIdeal Cert.MergeReferenceIdeal.Read
open Cert.MergeKernelIdeal.Val

/-! The constants. -/

theorem gk_eq : gk = ((8943 / 200000 : ℝ) : EReal) := IdealRules.named_const.ideal_named_scalar _ _ _ _ rfl
theorem gk3_eq : gk3 = ((26829 / 200000 : ℝ) : EReal) := IdealRules.named_const.ideal_named_scalar _ _ _ _ rfl
theorem ofBits_num : Ideal.ofBits .f32 0x472EAB00#32 = ((44715 : ℝ) : EReal) := by
  simp [Ideal.ofBits, Ideal.ieee, -EReal.coe_mul]; norm_num
theorem ofBits_den : Ideal.ofBits .f32 0x49742400#32 = ((1000000 : ℝ) : EReal) := by
  simp [Ideal.ofBits, Ideal.ieee, -EReal.coe_mul]; norm_num
/-- The reference's coefficient, a quotient of integers. -/
theorem ref_gk : Ideal.div (Ideal.ofBits .f32 0x472EAB00#32) (Ideal.ofBits .f32 0x49742400#32) = ((8943 / 200000 : ℝ) : EReal) := by
  rw [ofBits_num, ofBits_den, Ideal.div_coe (by norm_num), ← EReal.coe_mul]; norm_num
theorem ofBits_c : Ideal.ofBits .f32 0x3F4C422A#32 = ((13386282 / 16777216 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num

/-! Rows of finite arguments are finite. -/

/-- The hyperbolic tangent inside the gelu, on the reals. -/
def th (x : ℝ) : ℝ := Real.tanh (13386282 / 16777216 * (x + 8943 / 200000 * (x * x * x)))

theorem tanh_coe (x : ℝ) : inner (x : EReal) = (th x : EReal) := by
  rw [Cert.MergeKernelIdeal.Val.inner, gk_eq, ofBits_c]; simp only [← EReal.coe_mul, ← EReal.coe_add]; exact Ideal.tanh_coe _

theorem gel_coe (x : ℝ) : gel (x : EReal) = ((1 / 2 * x * (1 + th x) : ℝ) : EReal) := by
  rw [gel, tanh_coe, half, ofBits_half, one_eq]; norm_cast

theorem gel_real {x : EReal} : IsReal x → IsReal (gel x) := by rintro ⟨r, rfl⟩; exact ⟨_, gel_coe r⟩

theorem slope_coe (r : ℝ) : slope (r : EReal) = (logi r : EReal) := half_tanh_half r

theorem slope_real {x : EReal} : IsReal x → IsReal (slope x) := by rintro ⟨r, rfl⟩; exact ⟨_, slope_coe r⟩

theorem lin_real {u : Fin 512 → EReal} {a : Fin 512 → Fin 1024 → EReal} (hu : ∀ k, IsReal (u k)) (ha : ∀ k f, IsReal (a k f)) (f : Fin 1024) :
    IsReal (lin u a f) := IsReal.sum _ fun k => (gel_real (hu k)).mul (ha k f)

theorem dmg_real {d : Fin 1024 → EReal} {w : Fin 1024 → Fin 1024 → EReal} (hd : ∀ k, IsReal (d k)) (hw : ∀ k f, IsReal (w k f)) (f : Fin 1024) :
    IsReal (dmg d w f) := IsReal.sum _ fun k => (hd k).mul (hw f k)

theorem real_one : IsReal 1 := ⟨1, rfl⟩

/-! The reference's intermediate arrays. -/

/-- Every index of a matrix is a row and a column. -/
theorem exists_ix2 {A B : ℕ} (i : Shape.Idx ⟨2, ![A, B]⟩) : ∃ (r : Fin A) (f : Fin B), i = ix2 r f :=
  ⟨i 0, i 1, funext fun k => by
    match k with
    | ⟨0, _⟩ => rfl
    | ⟨1, _⟩ => rfl⟩

variable (dh : FVec Ideal S8256x1024 .f32) (yr : FVec Ideal S8256x512 .f32) (att : FVec Ideal S8256x1024 .f32)
  (proj : FVec Ideal S8256x4096 .f32) (a b : FVec Ideal S512x1024 .f32) (w : FVec Ideal S1024x1024 .f32)

theorem s22 (i : S8256x512.Idx) : val_main_v23 (F := Ideal) yr i = gel (yr i) := by
  pointwise [val_main_v2, val_main_v3, val_main_v4, val_main_v8, val_main_v9, val_main_v10, val_main_v11, val_main_v12, val_main_v13, val_main_v19, val_main_v20, val_main_v21, val_main_v22, val_main_v23, val_main_cst, val_main_cst_0, val_main_cst_2, val_main_cst_5, val_main_cst_6, gel, Cert.MergeKernelIdeal.Val.inner]
  rw [ref_gk, gk_eq, mul_left_comm]; exact (mul_assoc _ _ _).symm

theorem s97 (i : S8256x512.Idx) : val_main_v97 (F := Ideal) yr i = gel (yr i) := by
  pointwise [val_main_v84, val_main_v85, val_main_v86, val_main_v87, val_main_v88, val_main_v89, val_main_v90, val_main_v91, val_main_v92, val_main_v93, val_main_v94, val_main_v95, val_main_v96, val_main_v97, val_main_cst_18, val_main_cst_19, val_main_cst_20, val_main_cst_21, val_main_cst_22, gel, Cert.MergeKernelIdeal.Val.inner]
  rw [ref_gk, gk_eq, mul_left_comm]; exact (mul_assoc _ _ _).symm

theorem s24 (r : Fin 8256) (f : Fin 1024) : val_main_v24 (F := Ideal) yr a (ix2 r f) = lin (fun k => yr (ix2 r k)) (fun k f => a (ix2 k f)) f := by
  pointwise [val_main_v24, lin]
  exact Finset.sum_congr rfl fun k _ => by rw [s22]

theorem s25 (r : Fin 8256) (f : Fin 1024) : val_main_v25 (F := Ideal) yr b (ix2 r f) = lin (fun k => yr (ix2 r k)) (fun k f => b (ix2 k f)) f := s24 yr b r f

theorem s58 (r : Fin 8256) (f : Fin 1024) : val_main_v58 (F := Ideal) dh w (ix2 r f) = dmg (fun k => dh (ix2 r k)) (fun f k => w (ix2 f k)) f := by
  pointwise [val_main_v58, dmg]

section finite

variable (hd : ∀ i, IsReal (dh i)) (hy : ∀ i, IsReal (yr i)) (ht : ∀ i, IsReal (att i)) (hp : ∀ i, IsReal (proj i))
  (ha : ∀ i, IsReal (a i)) (hb : ∀ i, IsReal (b i)) (hw : ∀ i, IsReal (w i))

include hp in
theorem s41 (r : Fin 8256) (f : Fin 1024) : val_main_v41 (F := Ideal) proj (ix2 r f) = slope (gateA proj r f) := by
  pointwise [val_main_v0, val_main_v36, val_main_v37, val_main_v38, val_main_v39, val_main_v40, val_main_v41, val_main_cst_10, val_main_cst_11, gateA]
  obtain ⟨x, hx⟩ := hp (ix2 r ⟨2048 + f.val, by omega⟩)
  rw [hx, div_exp, slope_coe]

include hp in
theorem s51 (r : Fin 8256) (f : Fin 1024) : val_main_v51 (F := Ideal) proj (ix2 r f) = slope (gateS proj r f) := by
  pointwise [val_main_v1, val_main_v46, val_main_v47, val_main_v48, val_main_v49, val_main_v50, val_main_v51, val_main_cst_13, val_main_cst_14, gateS]
  obtain ⟨x, hx⟩ := hp (ix2 r ⟨3072 + f.val, by omega⟩)
  rw [hx, div_exp, slope_coe]

include hy hb in
theorem s31 (r : Fin 8256) (f : Fin 1024) : val_main_v31 (F := Ideal) yr b (ix2 r f) = slope (lin (fun k => yr (ix2 r k)) (fun k f => b (ix2 k f)) f) := by
  pointwise [val_main_v26, val_main_v27, val_main_v28, val_main_v29, val_main_v30, val_main_v31, val_main_cst_7, val_main_cst_8]
  obtain ⟨x, hx⟩ := lin_real (u := fun k => yr (ix2 r k)) (a := fun k f => b (ix2 k f)) (fun k => hy _) (fun k f => hb _) f
  rw [s25, hx, div_exp, slope_coe]

include hp in
/-- The gradient of the attention's output. -/
theorem dat_eq : val_main_v98 (F := Ideal) dh proj w = datA dh proj w := by
  funext i
  obtain ⟨r, f, rfl⟩ := exists_ix2 i
  pointwise [val_main_v98, val_main_v62, datA, dat]
  rw [s41 _ hp _ _, s58, mul_comm]

include hy hp hb in
/-- The merged rows. -/
theorem mrg_eq : val_main_v102 (F := Ideal) yr att proj a b = mrgA yr att proj a b := by
  funext i
  obtain ⟨r, f, rfl⟩ := exists_ix2 i
  pointwise [val_main_v102, val_main_v56, val_main_v45, val_main_v55, val_main_v35, mrgA, mrg, ssm]
  rw [s41 _ hp _ _, s51 _ hp _ _, s24, s31 _ _ hy hb _ _]
  try congr 3

/-- The gelu, kept for the gradients of the weights. -/
theorem gel_eq : val_main_v103 (F := Ideal) yr = gelA yr := by
  funext i
  obtain ⟨r, f, rfl⟩ := exists_ix2 i
  pointwise [val_main_v103, gelA]
  exact s97 _ _

/-- The rounded cotangent. -/
theorem dh_eq : val_main_v101 (F := Ideal) dh = dhA dh := by
  funext i
  obtain ⟨r, f, rfl⟩ := exists_ix2 i
  pointwise [val_main_v101, dhA]

include hy hp hb in
theorem s66 (r : Fin 8256) (f : Fin 1024) : val_main_v66 (F := Ideal) dh yr proj b w (ix2 r f)
    = dya (fun k => dh (ix2 r k)) (fun k => yr (ix2 r k)) (gateS proj r) (fun k f => b (ix2 k f)) (fun f k => w (ix2 f k)) f := by
  pointwise [val_main_v66, val_main_v59, dya]
  rw [s51 _ hp _ _, s58, s31 _ _ hy hb _ _, mul_comm (slope (gateS proj r f))]

include hy hp ha hb hw hd in
theorem s67 (r : Fin 8256) (f : Fin 1024) : val_main_v67 (F := Ideal) dh yr proj a b w (ix2 r f)
    = dyb (fun k => dh (ix2 r k)) (fun k => yr (ix2 r k)) (gateS proj r) (fun k f => a (ix2 k f)) (fun k f => b (ix2 k f)) (fun f k => w (ix2 f k)) f := by
  pointwise [val_main_v67, val_main_v65, val_main_v59, val_main_v34, val_main_v33, val_main_v32, val_main_cst_9, dyb]
  rw [s51 _ hp _ _, s58, s31 _ _ hy hb _ _, s24]
  have h1 := dmg_real (d := fun k => dh (ix2 r k)) (w := fun f k => w (ix2 f k)) (fun _ => hd _) (fun _ _ => hw _) f
  have h2 := lin_real (u := fun k => yr (ix2 r k)) (a := fun k f => a (ix2 k f)) (fun _ => hy _) (fun _ _ => ha _) f
  have h3 := lin_real (u := fun k => yr (ix2 r k)) (a := fun k f => b (ix2 k f)) (fun _ => hy _) (fun _ _ => hb _) f
  generalize dmg _ _ _ = x1 at *
  generalize lin (fun k => yr (ix2 r k)) (fun k f => a (ix2 k f)) f = x2 at *
  have h3 := slope_real h3
  generalize slope (lin _ _ _) = x3 at *
  have h4 := slope_real (show IsReal (gateS proj r f) from hp _)
  generalize slope (gateS _ _ _) = x4 at *
  obtain ⟨r1, rfl⟩ := h1; obtain ⟨r2, rfl⟩ := h2; obtain ⟨r3, rfl⟩ := h3; obtain ⟨r4, rfl⟩ := h4
  rw [one_eq]; norm_cast; exact congrArg _ (by ring)

include hy hp hb in
theorem dya_eq : val_main_v104 (F := Ideal) dh yr proj b w = dyaA dh yr proj b w := by
  funext i
  obtain ⟨r, f, rfl⟩ := exists_ix2 i
  pointwise [val_main_v104, dyaA]
  exact s66 _ _ _ _ _ hy hp hb r f

include hy hp ha hb hw hd in
theorem dyb_eq : val_main_v105 (F := Ideal) dh yr proj a b w = dybA dh yr proj a b w := by
  funext i
  obtain ⟨r, f, rfl⟩ := exists_ix2 i
  pointwise [val_main_v105, dybA]
  exact s67 _ _ _ _ _ _ hd hy hp ha hb hw r f

include hd ht hp hw in
theorem s64 (r : Fin 8256) (f : Fin 1024) : val_main_v64 (F := Ideal) dh att proj w (ix2 r f) = dgaR dh att proj w r f := by
  pointwise [val_main_v64, val_main_v63, val_main_v44, val_main_v43, val_main_v42, val_main_cst_12, dgaR, dga]
  rw [s41 _ hp _ _, s58]
  have h1 := dmg_real (d := fun k => dh (ix2 r k)) (w := fun f k => w (ix2 f k)) (fun _ => hd _) (fun _ _ => hw _) f
  generalize dmg _ _ _ = x1 at *
  have h2 := ht (ix2 r f)
  generalize att (ix2 r f) = x2 at *
  have h4 := slope_real (show IsReal (gateA proj r f) from hp _)
  generalize slope (gateA _ _ _) = x4 at *
  obtain ⟨r1, rfl⟩ := h1; obtain ⟨r2, rfl⟩ := h2; obtain ⟨r4, rfl⟩ := h4
  rw [one_eq]; norm_cast; exact congrArg _ (by ring)

include hy hp ha hb hw hd in
theorem s61 (r : Fin 8256) (f : Fin 1024) : val_main_v61 (F := Ideal) dh yr proj a b w (ix2 r f) = dgsR dh yr proj a b w r f := by
  pointwise [val_main_v61, val_main_v60, val_main_v35, val_main_v54, val_main_v53, val_main_v52, val_main_cst_15, dgsR, dgs, ssm]
  rw [s51 _ hp _ _, s58, s31 _ _ hy hb _ _, s24]
  have h1 := dmg_real (d := fun k => dh (ix2 r k)) (w := fun f k => w (ix2 f k)) (fun _ => hd _) (fun _ _ => hw _) f
  have h2 := lin_real (u := fun k => yr (ix2 r k)) (a := fun k f => a (ix2 k f)) (fun _ => hy _) (fun _ _ => ha _) f
  have h3 := lin_real (u := fun k => yr (ix2 r k)) (a := fun k f => b (ix2 k f)) (fun _ => hy _) (fun _ _ => hb _) f
  generalize dmg _ _ _ = x1 at *
  generalize lin (fun k => yr (ix2 r k)) (fun k f => a (ix2 k f)) f = x2 at *
  have h3 := slope_real h3
  generalize slope (lin _ _ _) = x3 at *
  have h4 := slope_real (show IsReal (gateS proj r f) from hp _)
  generalize slope (gateS _ _ _) = x4 at *
  obtain ⟨r1, rfl⟩ := h1; obtain ⟨r2, rfl⟩ := h2; obtain ⟨r3, rfl⟩ := h3; obtain ⟨r4, rfl⟩ := h4
  rw [one_eq]; norm_cast; exact congrArg _ (by ring)

include hy ht hp ha hb hw hd in
/-- The gradients of the two gates. -/
theorem dg_eq (rest : FVec Ideal S8256x4096 .bf16) : val_main_v100 (F := Ideal) dh yr att proj a b w
    = extractStridedSlice S8256x2048 ![0, 2048] (fun i => if 2048 ≤ (i 1).val then dgA dh yr att proj a b w i else rest i)
        Cert.MergeKernelIdeal.Gen.slices_S8256x4096_S8256x2048_0_2048 := by
  funext i
  obtain ⟨r, f, rfl⟩ := exists_ix2 i
  pointwise [val_main_v100, val_main_v83]
  by_cases h : f.val < 1024
  · rw [dif_pos h, s64 _ _ _ _ hd ht hp hw]
    exact dgA_lt dh yr att proj a b w (ix2 r ⟨2048 + f.val, by omega⟩) f.val h rfl
  · rw [dif_neg h, s61 _ _ _ _ _ _ hd hy hp ha hb hw]
    exact dgA_ge dh yr att proj a b w (ix2 r ⟨2048 + f.val, by omega⟩) (f.val - 1024) (by omega) (show 2048 + f.val = 3072 + (f.val - 1024) by omega)

include hy hp ha hb hw hd in
/-- The gradient of the recurrence's output. -/
theorem dyr_eq : val_main_v99 (F := Ideal) dh yr proj a b w = dyrA dh yr proj a b w := by
  funext i
  obtain ⟨r, f, rfl⟩ := exists_ix2 i
  pointwise [val_main_v99, val_main_v82, val_main_v81, val_main_v80, val_main_v79, val_main_v78, val_main_v77, val_main_v76, val_main_v75,
    val_main_v74, val_main_v73, val_main_v72, val_main_v71, val_main_v70, val_main_v69, val_main_v68, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2,
    val_main_cst, val_main_cst_0, val_main_cst_1, val_main_cst_2, val_main_cst_3, val_main_cst_4, val_main_cst_5, val_main_cst_6,
    val_main_cst_16, val_main_cst_17, dyrA, dyr, dgel]
  simp only [s66 _ _ _ _ _ hy hp hb, s67 _ _ _ _ _ _ hd hy hp ha hb hw]
  rw [Finset.sum_add_distrib]
  have h1 : IsReal (∑ x, dya (fun k => dh (ix2 r k)) (fun k => yr (ix2 r k)) (gateS proj r) (fun k f => b (ix2 k f)) (fun f k => w (ix2 f k)) x * a (ix2 f x)) :=
    IsReal.sum _ fun x => (((dmg_real (fun _ => hd _) (fun _ _ => hw _) x).mul (slope_real (hp _))).mul
      (slope_real (lin_real (fun _ => hy _) (fun _ _ => hb _) x))).mul (ha _)
  have h2 : IsReal (∑ x, dyb (fun k => dh (ix2 r k)) (fun k => yr (ix2 r k)) (gateS proj r) (fun k f => a (ix2 k f)) (fun k f => b (ix2 k f))
      (fun f k => w (ix2 f k)) x * b (ix2 f x)) :=
    IsReal.sum _ fun x => (((((dmg_real (fun _ => hd _) (fun _ _ => hw _) x).mul (slope_real (hp _))).mul
      (lin_real (fun _ => hy _) (fun _ _ => ha _) x)).mul (slope_real (lin_real (fun _ => hy _) (fun _ _ => hb _) x))).mul
      (real_one.sub (slope_real (lin_real (fun _ => hy _) (fun _ _ => hb _) x)))).mul (hb _)
  generalize (∑ x, dya _ _ _ _ _ x * _) = x1 at *
  generalize (∑ x, dyb _ _ _ _ _ _ x * _) = x2 at *
  have h3 := hy (ix2 r f)
  generalize yr (ix2 r f) = x3 at *
  obtain ⟨r1, rfl⟩ := h1; obtain ⟨r2, rfl⟩ := h2; obtain ⟨x, rfl⟩ := h3
  have e : Ideal.tanh (Ideal.ofBits .f32 0x3F4C422A#32 * ((x : EReal) + ((8943 / 200000 : ℝ) : EReal) * ((x : EReal) * x * x))) = (th x : EReal) := by
    rw [← tanh_coe, Cert.MergeKernelIdeal.Val.inner, gk_eq]
  rw [ref_gk, e, tanh_coe, gk3_eq, ofBits_c, ofBits_three, half, ofBits_half, one_eq]
  generalize th x = t
  norm_cast
  exact congrArg _ (by ring)

end finite

end Cert.MergeReferenceIdeal.Math
end
-- ==== Proof.MergeClaim.lean ====
/- The claims about the merge's backward call. -/
module

public import proofs.«01_k».proof.Defs
public import proofs.«01_k».proof.Proof.Gen.MergeKernel.Frame
public import proofs.«01_k».proof.Proof.Gen.Pre_merge_finite
public import proofs.«01_k».proof.Proof.MergeMath
public import Idealize.ShloMosaic.Lib.Claim

@[expose] public section

set_option maxRecDepth 16384

noncomputable section

open Idealize.ShloMosaic Idealize.SL.Sem Cert.Reals

namespace Cert.Proof.Merge

/-- What the precondition says: every element of every argument is a real number. -/
theorem finite (m : (ℓ : Loc Cert.MergeKernelIdeal.nD Cert.MergeKernelIdeal.τ Cert.MergeKernelIdeal.sig) → Buf (Elt Ideal) ℓ)
    (hpre : Cert.Pre_MergeKernelIdeal_merge_finite m) (c : Dev Cert.MergeKernelIdeal.nD) :
    (∀ i, IsReal (m (c.tc.loc Cert.MergeKernelIdeal.main_arg0) i))
    ∧ (∀ i, IsReal (m (c.tc.loc Cert.MergeKernelIdeal.main_arg1) i))
    ∧ (∀ i, IsReal (m (c.tc.loc Cert.MergeKernelIdeal.main_arg2) i))
    ∧ (∀ i, IsReal (m (c.tc.loc Cert.MergeKernelIdeal.main_arg3) i))
    ∧ (∀ i, IsReal (m (c.tc.loc Cert.MergeKernelIdeal.main_arg4) i))
    ∧ (∀ i, IsReal (m (c.tc.loc Cert.MergeKernelIdeal.main_arg5) i))
    ∧ (∀ i, IsReal (m (c.tc.loc Cert.MergeKernelIdeal.main_arg6) i)) := by
  have h := congrFun (hpre c) (fun a => a.elim0)
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  exact ⟨real_of_all _ _ _ _ _ _ h, real_of_all _ _ _ _ _ _ h1, real_of_all _ _ _ _ _ _ h2, real_of_all _ _ _ _ _ _ h3, real_of_all _ _ _ _ _ _ h4, real_of_all _ _ _ _ _ _ h5, real_of_all _ _ _ _ _ _ h6⟩

theorem frame_reference : Cert.quiescent_MergeReferenceIdeal := fun m ρ _ =>
  (θ_run Cert.MergeReferenceIdeal.defs _ _).mono (fun r h => ⟨fun c => (h c).2.2.2.2.2.2.2.2, sem_eq_zero_of_no_sems (by decide) r.2⟩)
    (Cert.MergeReferenceIdeal.Value.run (F := Ideal) m ρ)

theorem frame_reference_pre : Cert.quiescent_MergeReferenceIdeal_pre_merge_finite := fun m g _ => frame_reference m g trivial

/-- The two named constants: the gelu's cubic coefficient and its triple. -/
theorem preserves : Cert.preserves_MergeKernel_MergeKernelIdeal :=
  ⟨IdealRules.named_const.statement Cert.MergeKernelIdeal.κ "gelu_k" .f32 0x3D372713#32 ((8943 / 200000 : ℝ) : EReal) rfl,
    IdealRules.named_const.statement Cert.MergeKernelIdeal.κ "gelu_3k" .f32 0x3E095D4F#32 ((26829 / 200000 : ℝ) : EReal) rfl⟩

section
open Cert.MergeKernelIdeal Cert.MergeKernelIdeal.Gen

/-- The operation after the region cuts the two gates' columns out of the array that the region leaves. -/
theorem slice (m : (ℓ : Loc nD τ sig) → Buf (Elt Ideal) ℓ) (c : Dev nD) :
    Pipeline.afterTail₀ cfgs (dats m) 0 (V0 m) [hostOps1] c main_v7
      = extractStridedSlice S8256x2048 ![0, 2048] ((dats m 0 c).arrAt 9 (cfgs 0).N) slices_S8256x4096_S8256x2048_0_2048 := by
  unfold Pipeline.afterTail₀
  simp only [hostOps1, List.flatten_cons, List.flatten_nil, List.append_nil]
  after_results
  exact congrArg (fun x => extractStridedSlice S8256x2048 ![0, 2048] x slices_S8256x4096_S8256x2048_0_2048)
    (Pipeline.withArrays_arr spec0 (by decide) c (V0 m c) (fun w => (dats m 0 c).arrAt w (cfgs 0).N) 9)

end

set_option maxHeartbeats 4000000 in
open Cert.MergeReferenceIdeal.Read Cert.MergeReferenceIdeal.Math in
theorem algebraic : Cert.algebraic_MergeKernelIdeal_MergeReferenceIdeal_pre_merge_finite := by
  pair_intro
  · run_from Cert.MergeKernelIdeal.Gen.run_main m g
    · exact Cert.MergeKernelIdeal.Gen.W_main_arg2 m (Cert.MergeKernelIdeal.Gen.dats m) c
    · exact Cert.MergeKernelIdeal.Gen.W_main_arg3 m (Cert.MergeKernelIdeal.Gen.dats m) c
    · exact Cert.MergeKernelIdeal.Gen.W_main_arg4 m (Cert.MergeKernelIdeal.Gen.dats m) c
    · exact Cert.MergeKernelIdeal.Gen.W_main_arg5 m (Cert.MergeKernelIdeal.Gen.dats m) c
    · exact Cert.MergeKernelIdeal.Gen.W_main_arg6 m (Cert.MergeKernelIdeal.Gen.dats m) c
  · run_from Cert.MergeReferenceIdeal.Value.run m' g'
    all_goals obtain ⟨f0, f1, f2, f3, f4, f5, f6⟩ := finite m hpre c
    all_goals obtain ⟨a0, a1, a2, a3, a4, a5, a6⟩ := hagree c
    · (try rw [a4]); (try rw [a5]); (try rw [a6])
      exact (val_main_v98_eq _ _ _).trans ((dat_eq _ _ _ f3).trans (Cert.MergeKernelIdeal.Val.final7 m c).symm)
    · refine (val_main_v99_eq m' c).trans ?_
      rw [a0, a1, a3, a4, a5, a6]
      exact (dyr_eq _ _ _ _ _ _ f0 f1 f3 f4 f5 f6).trans (Cert.MergeKernelIdeal.Val.final8 m c).symm
    · (try rw [a4]); (try rw [a5]); (try rw [a6])
      refine (val_main_v100_eq _ _ _ _ _ _ _).trans ((dg_eq _ _ _ _ _ _ _ f0 f1 f2 f3 f4 f5 f6 (Cert.MergeKernelIdeal.Gen.V m c Cert.MergeKernelIdeal.main_v6_2)).trans ?_)
      rw [← Cert.MergeKernelIdeal.Val.final9 m c]
      exact (slice m c).symm
    · exact (val_main_v101_eq _).trans ((dh_eq _).trans (Cert.MergeKernelIdeal.Val.final10 m c).symm)
    · exact (val_main_v102_eq _ _ _ _ _).trans ((mrg_eq _ _ _ _ _ f1 f3 f5).trans (Cert.MergeKernelIdeal.Val.final11 m c).symm)
    · exact (val_main_v103_eq _).trans ((gel_eq _).trans (Cert.MergeKernelIdeal.Val.final12 m c).symm)
    · (try rw [a4]); (try rw [a5]); (try rw [a6])
      exact (val_main_v104_eq _ _ _ _ _).trans ((dya_eq _ _ _ _ _ f1 f3 f5).trans (Cert.MergeKernelIdeal.Val.final13 m c).symm)
    · (try rw [a4]); (try rw [a5]); (try rw [a6])
      exact (val_main_v105_eq _ _ _ _ _ _).trans ((dyb_eq _ _ _ _ _ _ f0 f1 f3 f4 f5 f6).trans (Cert.MergeKernelIdeal.Val.final14 m c).symm)

end Cert.Proof.Merge
end
-- ==== Proof.FfnWValue.lean ====
/- The gradients of the three weights of a feed-forward layer, as functions of the call's arguments. -/
module

public import proofs.«01_k».proof.Proof.Gen.FfnWKernelIdeal.Value
public import proofs.«01_k».proof.Proof.Reals
public import Idealize.ShloMosaic.Lib.Pipeline.ValueKit
public import Idealize.ShloMosaic.Lib.Pipeline.ReadBack
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.FfnWKernelIdeal.Val

open Cert.FfnWKernelIdeal Cert.FfnWKernelIdeal.Gen

variable (m : (ℓ : Loc nD τ sig) → Buf (Elt Ideal) ℓ)

abbrev half : EReal := Ideal.ofBits .f32 0x3F000000#32

/-- The logistic function as the kernel writes it. -/
def slope (a : EReal) : EReal := half + half * Ideal.tanh (half * a)

/-- The gradient of the first weight (or, from the other branch's cotangent, of the third), transposed. -/
def dw (hn : FVec Ideal S8256x1024 .f32) (da : FVec Ideal S8256x2816 .f32) : FVec Ideal S2816x1024 .bf16 :=
  fun i => ∑ r : Fin 8256, hn (ix2 r (i 1)) * da (ix2 r (i 0))

/-- The gradient of the second weight. -/
def dw2 (dh : FVec Ideal S8256x1024 .f32) (a b : FVec Ideal S8256x2816 .f32) : FVec Ideal S2816x1024 .bf16 :=
  fun i => ∑ r : Fin 8256, half * dh (ix2 r (i 1)) * (a (ix2 r (i 0)) * slope (a (ix2 r (i 0))) * b (ix2 r (i 0)))

theorem idx : ∀ t : Fin cfg0.N, win0_0.index t = ![t.val % 4, 0] ∧ win0_1.index t = ![t.val % 4, 0] ∧ win0_2.index t = ![t.val % 4, t.val / 4]
    ∧ win0_3.index t = ![t.val % 4, t.val / 4] ∧ win0_4.index t = ![t.val % 4, t.val / 4] ∧ win0_5.index t = ![t.val % 4, t.val / 4]
    ∧ win0_6.index t = ![t.val / 4, 0] ∧ win0_7.index t = ![t.val / 4, 0] ∧ win0_8.index t = ![t.val / 4, 0] :=
  (by decide +kernel : ∀ t : Fin grid0.N, _)

theorem out6 (c : Dev nD) (t : Fin cfg0.N) (h : t.val % 4 = 3) (y : S256x1024.Idx) :
    (outsAt0 m c t.val t.isLt).1 y = (outsAt0 m c t.val t.isLt).2.2.2.1 (ix2 (y 1) (y 0)) := by
  rw [outsAt0_C m c t (by omega) (by omega) (by omega) (by omega) (by omega) (by omega) h]
  frame_out
  open_payloads
  pointwise

theorem out7 (c : Dev nD) (t : Fin cfg0.N) (h : t.val % 4 = 3) (y : S256x1024.Idx) :
    (outsAt0 m c t.val t.isLt).2.1 y = (outsAt0 m c t.val t.isLt).2.2.2.2.1 (ix2 (y 1) (y 0)) := by
  rw [outsAt0_C m c t (by omega) (by omega) (by omega) (by omega) (by omega) (by omega) h]
  frame_out
  open_payloads
  pointwise

theorem out8 (c : Dev nD) (t : Fin cfg0.N) (h : t.val % 4 = 3) (y : S256x1024.Idx) :
    (outsAt0 m c t.val t.isLt).2.2.1 y = (outsAt0 m c t.val t.isLt).2.2.2.2.2 (ix2 (y 1) (y 0)) := by
  rw [outsAt0_C m c t (by omega) (by omega) (by omega) (by omega) (by omega) (by omega) h]
  frame_out
  open_payloads
  pointwise

/-- A sum over a tile of rows, in the three chunks in which the kernel takes it. -/
theorem sum_three (f : Fin 2064 → EReal) : ∑ r : Fin 2064, f r
    = ∑ r : Fin 688, f ⟨r.val, by omega⟩ + ∑ r : Fin 688, f ⟨688 + r.val, by omega⟩ + ∑ r : Fin 688, f ⟨1376 + r.val, by omega⟩ := by
  rw [show (∑ r : Fin 2064, f r) = ∑ r : Fin (688 + 688 + 688), f r from rfl, Fin.sum_univ_add, Fin.sum_univ_add]
  rfl

/-- One tile's product, as the payloads of the first accumulator state it. -/
theorem pay (X : Vec Ideal S2064x1024 .bf16) (Y : Vec Ideal S2064x256 .bf16) (y : S1024x256.Idx) :
    k0_pay20 (k0_pay11
          (k0_pay5 (View.ld X (Rect.unit ![0, 0] ![688, 1024] inb_S2064x1024_S688x1024_0_0))
            (View.ld Y (Rect.unit ![0, 0] ![688, 256] inb_S2064x256_S688x256_0_0)))
          (k0_pay8 (View.ld X (Rect.unit ![688, 0] ![688, 1024] inb_S2064x1024_S688x1024_688_0)))
          (View.ld Y (Rect.unit ![688, 0] ![688, 256] inb_S2064x256_S688x256_688_0)))
        (k0_pay14 (View.ld X (Rect.unit ![1376, 0] ![688, 1024] inb_S2064x1024_S688x1024_1376_0)))
        (View.ld Y (Rect.unit ![1376, 0] ![688, 256] inb_S2064x256_S688x256_1376_0)) y
    = ∑ r : Fin 2064, X (ix2 r (y 0)) * Y (ix2 r (y 1)) := by
  rw [sum_three]
  open_payloads
  pointwise

/-- The same product, as the second accumulator's payloads state it. -/
theorem pay3 (X : Vec Ideal S2064x1024 .bf16) (Y : Vec Ideal S2064x256 .bf16) (y : S1024x256.Idx) :
    k0_pay22 (k0_pay12
          (k0_pay6 (View.ld X (Rect.unit ![0, 0] ![688, 1024] inb_S2064x1024_S688x1024_0_0))
            (View.ld Y (Rect.unit ![0, 0] ![688, 256] inb_S2064x256_S688x256_0_0)))
          (k0_pay8 (View.ld X (Rect.unit ![688, 0] ![688, 1024] inb_S2064x1024_S688x1024_688_0)))
          (View.ld Y (Rect.unit ![688, 0] ![688, 256] inb_S2064x256_S688x256_688_0)))
        (k0_pay14 (View.ld X (Rect.unit ![1376, 0] ![688, 1024] inb_S2064x1024_S688x1024_1376_0)))
        (View.ld Y (Rect.unit ![1376, 0] ![688, 256] inb_S2064x256_S688x256_1376_0)) y
    = ∑ r : Fin 2064, X (ix2 r (y 0)) * Y (ix2 r (y 1)) := by
  rw [sum_three]
  open_payloads
  pointwise

/-- The same of the third accumulator: the hidden activation is recomputed from the saved branches. -/
theorem pay2 (X : Vec Ideal S2064x1024 .bf16) (A B : Vec Ideal S2064x256 .bf16) (y : S1024x256.Idx) :
    k0_pay24 (k0_pay13
          (k0_pay7 (View.ld A (Rect.unit ![0, 0] ![688, 256] inb_S2064x256_S688x256_0_0))
            (View.ld B (Rect.unit ![0, 0] ![688, 256] inb_S2064x256_S688x256_0_0))
            (View.ld X (Rect.unit ![0, 0] ![688, 1024] inb_S2064x1024_S688x1024_0_0)))
          (k0_pay9 (View.ld A (Rect.unit ![688, 0] ![688, 256] inb_S2064x256_S688x256_688_0)))
          (k0_pay10 (View.ld A (Rect.unit ![688, 0] ![688, 256] inb_S2064x256_S688x256_688_0)))
          (View.ld B (Rect.unit ![688, 0] ![688, 256] inb_S2064x256_S688x256_688_0))
          (View.ld X (Rect.unit ![688, 0] ![688, 1024] inb_S2064x1024_S688x1024_688_0)))
        (k0_pay15 (View.ld A (Rect.unit ![1376, 0] ![688, 256] inb_S2064x256_S688x256_1376_0)))
        (k0_pay16 (View.ld B (Rect.unit ![1376, 0] ![688, 256] inb_S2064x256_S688x256_1376_0)))
        (View.ld X (Rect.unit ![1376, 0] ![688, 1024] inb_S2064x1024_S688x1024_1376_0)) y
    = ∑ r : Fin 2064, X (ix2 r (y 0)) * (A (ix2 r (y 1)) * slope (A (ix2 r (y 1))) * B (ix2 r (y 1))) := by
  rw [sum_three]
  open_payloads
  pointwise [slope]

/-- Adding a tile's product to what the accumulator holds. -/
theorem step (a : FVec Ideal S1024x256 .f32) (b : FVec Ideal S688x1024 .bf16) (v : Vec Ideal S688x256 .bf16) (x : Vec Ideal S1024x256 .f32) (y : S1024x256.Idx) :
    k0_pay21 a b v x y = x y + k0_pay20 a b v y := by
  have h : k0_pay20 a b v y = a y + ∑ k : Fin 688, b (ix2 k (y 0)) * v (ix2 k (y 1)) := by open_payloads; pointwise
  rw [h]; open_payloads; pointwise

theorem step3 (a : FVec Ideal S1024x256 .f32) (b : FVec Ideal S688x1024 .bf16) (v : Vec Ideal S688x256 .bf16) (x : Vec Ideal S1024x256 .f32) (y : S1024x256.Idx) :
    k0_pay23 a b v x y = x y + k0_pay22 a b v y := by
  have h : k0_pay22 a b v y = a y + ∑ k : Fin 688, b (ix2 k (y 0)) * v (ix2 k (y 1)) := by open_payloads; pointwise
  rw [h]; open_payloads; pointwise

theorem step2 (a : FVec Ideal S1024x256 .f32) (b d : FVec Ideal S688x256 .f32) (v : Vec Ideal S688x1024 .bf16) (x : Vec Ideal S1024x256 .f32) (y : S1024x256.Idx) :
    k0_pay25 a b d v x y = x y + k0_pay24 a b d v y := by
  have h : k0_pay24 a b d v y = a y + ∑ k : Fin 688, v (ix2 k (y 0)) * (b (ix2 k (y 1)) * d (ix2 k (y 1))) := by open_payloads; pointwise
  rw [h]; open_payloads; pointwise

/-- The cotangent as the host hands it to the kernel: halved. -/
theorem V_v3 (c : Dev nD) (j : S8256x1024.Idx) : V m c main_v3 j = half * m ((c : Thread nD τ).loc main_arg0) j := by
  unfold V; after_reads_at

/-! The three results, whole: each block is written back at the last of its four tiles of rows, with the sum over the tiles. -/

theorem final6 (c : Dev nD) : (dats (F := Ideal) m 0 c).arrAt 6 cfg0.N
    = dw (m ((c : Thread nD τ).loc main_arg1)) (m ((c : Thread nD τ).loc main_arg4)) := by
  refine (dats m 0 c).arrAt_eq_of_covers 6 _ (by decide +kernel) fun t hf y => ?_
  have h3 : t.val % 4 = 3 := (flush0_6 t).mp hf
  blk_simp
  rw [after0_6, out6 m c t h3, Pipeline.eq_sum_fin_of_reset_step_apply_of_flush (fun n h => (outsAt0 m c n h).2.2.2.1) 4 (fun _ => 0) _
    (fun t h j => by
      rw [outsAt0_A m c t h (by omega) (by omega) (by omega) (by omega) (by omega) (by omega)]; frame_out
      rw [pay, zero_add])
    (fun t h j => by
      by_cases h3 : t.val % 4 = 3
      · rw [outsAt0_C m c t h (by omega) (by omega) (by omega) (by omega) (by omega) h3]; frame_out
        rw [step, pay, read_unread_whole]
      · rw [outsAt0_B m c t h (by omega) (by omega) (by omega) (by omega) (by omega) h3]; frame_out
        rw [step, pay, read_unread_whole])
    t h3 _, zero_add]
  pointwise [dw]
  refine Fin.sum_mul_add_congr fun s r hl => ?_
  pointwise [slope]
  blk_point [iblk, V, idx t, idx ⟨_, Pipeline.run_point_lt_of_flush t h3 s⟩]

theorem final7 (c : Dev nD) : (dats (F := Ideal) m 0 c).arrAt 7 cfg0.N
    = dw (m ((c : Thread nD τ).loc main_arg1)) (m ((c : Thread nD τ).loc main_arg5)) := by
  refine (dats m 0 c).arrAt_eq_of_covers 7 _ (by decide +kernel) fun t hf y => ?_
  have h3 : t.val % 4 = 3 := (flush0_7 t).mp hf
  blk_simp
  rw [after0_7, out7 m c t h3, Pipeline.eq_sum_fin_of_reset_step_apply_of_flush (fun n h => (outsAt0 m c n h).2.2.2.2.1) 4 (fun _ => 0) _
    (fun t h j => by
      rw [outsAt0_A m c t h (by omega) (by omega) (by omega) (by omega) (by omega) (by omega)]; frame_out
      rw [pay3, zero_add])
    (fun t h j => by
      by_cases h3 : t.val % 4 = 3
      · rw [outsAt0_C m c t h (by omega) (by omega) (by omega) (by omega) (by omega) h3]; frame_out
        rw [step3, pay3, read_unread_whole]
      · rw [outsAt0_B m c t h (by omega) (by omega) (by omega) (by omega) (by omega) h3]; frame_out
        rw [step3, pay3, read_unread_whole])
    t h3 _, zero_add]
  pointwise [dw]
  refine Fin.sum_mul_add_congr fun s r hl => ?_
  pointwise [slope]
  blk_point [iblk, V, idx t, idx ⟨_, Pipeline.run_point_lt_of_flush t h3 s⟩]

theorem final8 (c : Dev nD) : (dats (F := Ideal) m 0 c).arrAt 8 cfg0.N
    = dw2 (m ((c : Thread nD τ).loc main_arg0)) (m ((c : Thread nD τ).loc main_arg2)) (m ((c : Thread nD τ).loc main_arg3)) := by
  refine (dats m 0 c).arrAt_eq_of_covers 8 _ (by decide +kernel) fun t hf y => ?_
  have h3 : t.val % 4 = 3 := (flush0_8 t).mp hf
  blk_simp
  rw [after0_8, out8 m c t h3, Pipeline.eq_sum_fin_of_reset_step_apply_of_flush (fun n h => (outsAt0 m c n h).2.2.2.2.2) 4 (fun _ => 0) _
    (fun t h j => by
      rw [outsAt0_A m c t h (by omega) (by omega) (by omega) (by omega) (by omega) (by omega)]; frame_out
      rw [pay2, zero_add])
    (fun t h j => by
      by_cases h3 : t.val % 4 = 3
      · rw [outsAt0_C m c t h (by omega) (by omega) (by omega) (by omega) (by omega) h3]; frame_out
        rw [step2, pay2, read_unread_whole]
      · rw [outsAt0_B m c t h (by omega) (by omega) (by omega) (by omega) (by omega) h3]; frame_out
        rw [step2, pay2, read_unread_whole])
    t h3 _, zero_add]
  pointwise [dw2]
  refine Fin.sum_mul_add_congr fun s r hl => ?_
  pointwise [slope]
  blk_point [iblk, V, idx t, idx ⟨_, Pipeline.run_point_lt_of_flush t h3 s⟩]
  rw [V_v3]
  blk_point [idx t, idx ⟨_, Pipeline.run_point_lt_of_flush t h3 s⟩]

end Cert.FfnWKernelIdeal.Val
end
-- ==== Proof.FfnWMath.lean ====
/- The reference's gradients of a feed-forward layer's weights, which `jax.vjp` takes of `hn @ w1`, `hn @ w3` and
   `0.5 * ((silu(a) * b) @ w2)`, are the kernel's. -/
module

public import proofs.«01_k».proof.Proof.Gen.FfnWReferenceIdeal.Read
public import proofs.«01_k».proof.Proof.FfnWValue

@[expose] public section

set_option maxRecDepth 16384

noncomputable section

open Idealize.ShloMosaic Cert.Reals

namespace Cert.FfnWReferenceIdeal.Math

open Cert.FfnWReferenceIdeal Cert.FfnWReferenceIdeal.Read

open Cert.FfnWKernelIdeal.Val (dw dw2 half)
open Cert.FfnWKernelIdeal

/-- The two ways to write the logistic function agree at the infinities too. -/
theorem logistic (a : EReal) : Ideal.div 1 (1 + Ideal.exp (-a)) = Val.slope a := by
  induction a with
  | bot =>
    have h : half * (⊥ : EReal) = ⊥ := by rw [half, ofBits_half]; exact EReal.coe_mul_bot_of_pos (by norm_num)
    rw [Val.slope, h, EReal.neg_bot, Ideal.exp_top, Ideal.tanh_bot, half, ofBits_half]
    have e : (1 : EReal) + ⊤ = ⊤ := EReal.coe_add_top 1
    rw [e, Ideal.div, if_neg (by simp), EReal.inv_top, mul_zero, one_eq]
    norm_cast
    norm_num
  | coe r => rw [div_exp, Val.slope, half_tanh_half]
  | top =>
    have h : half * (⊤ : EReal) = ⊤ := by rw [half, ofBits_half]; exact EReal.coe_mul_top_of_pos (by norm_num)
    rw [Val.slope, h, EReal.neg_top, Ideal.exp_bot, Ideal.tanh_top, half, ofBits_half]
    rw [add_zero, one_eq, Ideal.div_coe one_ne_zero]
    norm_cast
    norm_num

/-- The first weight's gradient. -/
theorem dw1_eq (hn : FVec Ideal S8256x1024 .f32) (da : FVec Ideal S8256x2816 .f32) : val_main_v18 (F := Ideal) hn da = dw hn da := by
  funext i
  pointwise [val_main_v18, val_main_v17, val_main_v6, val_main_v5, dw]
  exact Finset.sum_congr rfl fun _ _ => mul_comm _ _

/-- The third weight's gradient. -/
theorem dw3_eq (hn : FVec Ideal S8256x1024 .f32) (db : FVec Ideal S8256x2816 .f32) : val_main_v20 (F := Ideal) hn db = dw hn db := by
  funext i
  pointwise [val_main_v20, val_main_v19, val_main_v4, val_main_v3, dw]
  exact Finset.sum_congr rfl fun _ _ => mul_comm _ _

/-- The hidden activation. -/
theorem hid_eq (a b : FVec Ideal S8256x2816 .f32) (r : Fin 8256) (f : Fin 2816) :
    val_main_v9 (F := Ideal) a b (ix2 r f) = a (ix2 r f) * Val.slope (a (ix2 r f)) * b (ix2 r f) := by
  rw [← logistic]
  pointwise [val_main_v9, val_main_v8, val_main_call0_v5, val_main_call0_v4, val_main_call0_v3, val_main_call0_v2, val_main_call0_v1, val_main_call0_v0, val_main_call0_cst, val_main_call0_cst_0]

/-- The second weight's gradient. -/
theorem dw2_eq (dh : FVec Ideal S8256x1024 .f32) (a b : FVec Ideal S8256x2816 .f32) : val_main_v21 (F := Ideal) dh a b = dw2 dh a b := by
  funext i
  pointwise [val_main_v21, val_main_v16, val_main_v15, val_main_v14, val_main_v13, val_main_cst_1, val_main_cst_0, dw2]
  exact Finset.sum_congr rfl fun r _ => congrArg _ (hid_eq a b r (i 0))

end Cert.FfnWReferenceIdeal.Math
end
-- ==== Proof.FfnWClaim.lean ====
/- The value claim about the call that computes the gradients of a feed-forward layer's weights. -/
module

public import proofs.«01_k».proof.Defs
public import proofs.«01_k».proof.Proof.FfnWValue
public import proofs.«01_k».proof.Proof.FfnWMath

@[expose] public section

set_option maxRecDepth 16384

noncomputable section

open Idealize.ShloMosaic Idealize.SL.Sem

namespace Cert.Proof.FfnW

theorem frame_reference : Cert.quiescent_FfnWReferenceIdeal := fun m ρ _ =>
  (θ_run Cert.FfnWReferenceIdeal.defs _ _).mono (fun r h => ⟨fun c => (h c).2.2.2, sem_eq_zero_of_no_sems (by decide) r.2⟩)
    (Cert.FfnWReferenceIdeal.Value.run (F := Ideal) m ρ)

open Cert.FfnWReferenceIdeal.Read Cert.FfnWReferenceIdeal.Math in
theorem algebraic : Cert.algebraic_FfnWKernelIdeal_FfnWReferenceIdeal := by
  pair_intro
  · run_from Cert.FfnWKernelIdeal.Gen.run_main m g
  · run_from Cert.FfnWReferenceIdeal.Value.run m' g'
    · exact (val_main_v18_eq _ _).trans ((dw1_eq _ _).trans (Cert.FfnWKernelIdeal.Val.final6 m c).symm)
    · exact (val_main_v20_eq _ _).trans ((dw3_eq _ _).trans (Cert.FfnWKernelIdeal.Val.final7 m c).symm)
    · exact (val_main_v21_eq _ _ _).trans ((dw2_eq _ _ _).trans (Cert.FfnWKernelIdeal.Val.final8 m c).symm)

end Cert.Proof.FfnW
end
-- ==== Proof.LossRun.lean ====
/-
  The run of the call that ends the forward pass: the loss, its gradient, and the last norm's. Its target's
  last block of each example overhangs the array, so what lies past the end is named by nothing; the kernel
  masks those rows, and the body's triple is stated at any contents of them.
-/
module

public import proofs.«01_k».proof.Proof.Gen.LossKernelIdeal.Frame
public import proofs.«01_k».proof.Proof.Gen.LossKernelIdeal.Skeleton
public import Idealize.ShloMosaic.Lib.VecWindow
public import Idealize.ShloMosaic.Lib.Pipeline.ValueKit.Basic

@[expose] public section

set_option maxRecDepth 16384

noncomputable section

namespace Cert.LossRun

open Cert.LossKernelIdeal Cert.LossKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-! ## What a point computes -/

/-- The gradient of the rows of a point: from their values, their target and the norm's weight. -/
def dhOf (i : grid0.Coords) (x : Vec F S688x1024 .f32) (y : Vec F S1x688x1024 .f32) (g : Vec F S1x1024 .f32) :
    Vec F S688x1024 .f32 :=
  k0_pay8 (k0_pay2 g) (k0_pay3 x) (k0_pay4 x) (k0_pay5 i x g y)

/-- The loss after a point, from what it was before (nothing at the first). -/
def lossOf (i : grid0.Coords) (x : Vec F S688x1024 .f32) (y : Vec F S1x688x1024 .f32) (g : Vec F S1x1024 .f32) :
    Option (Vec F S1x128 .f32) → Vec F S1x128 .f32
  | none => k0_pay9 (k0_pay6 i x g y)
  | some l => k0_pay10 (k0_pay6 i x g y) l

/-- The gradient of the norm's weight after a point, from what it was before. -/
def normOf (i : grid0.Coords) (x : Vec F S688x1024 .f32) (y : Vec F S1x688x1024 .f32) (g : Vec F S1x1024 .f32) :
    Option (Vec F S1x1024 .f32) → Vec F S1x1024 .f32
  | none => k0_pay11 (k0_pay4 x) (k0_pay5 i x g y)
  | some n => k0_pay1 (k0_pay11 (k0_pay4 x) (k0_pay5 i x g y)) n

/-! ## Which branch a point takes -/

theorem cond1 : ∀ t : Fin grid0.N, k0_cond1 (grid0.coords t) = 1#1 ↔ t.val = 0 := by decide +kernel
theorem cond2 : ∀ t : Fin grid0.N, k0_cond2 (grid0.coords t) = 1#1 ↔ t.val ≠ 0 := by decide +kernel
theorem cond3 : ∀ t : Fin grid0.N, k0_cond3 (grid0.coords t) = 1#1 ↔ t.val = 0 := by decide +kernel
theorem cond4 : ∀ t : Fin grid0.N, k0_cond4 (grid0.coords t) = 1#1 ↔ t.val ≠ 0 := by decide +kernel

/-- A load of a whole buffer reads what it holds. -/
theorem load2 {a b : ℕ} (arg : Memref sig .tc .vmem ⟨2, ![a, b]⟩ .f32) (h : arg.IsWhole) (x : Vec F ⟨2, ![a, b]⟩ .f32)
    (inb : ∀ k, (![0, 0] : Fin 2 → ℕ) k + (⟨2, ![a, b]⟩ : Shape).size k ≤ (⟨2, ![a, b]⟩ : Shape).size k) :
    arg.view.readAt (Elt F) (Rect.unit (s := ⟨2, ![a, b]⟩) ![0, 0] (⟨2, ![a, b]⟩ : Shape).size inb).toLoadRect (h.unread x) = x := by
  rw [View.readAt_eq_ld, h.read_unread]; exact View.ld_unit_lit _ _ fun k => by fin_cases k <;> rfl

theorem load3 {a b k : ℕ} (arg : Memref sig .tc .vmem ⟨3, ![a, b, k]⟩ .f32) (h : arg.IsWhole) (x : Vec F ⟨3, ![a, b, k]⟩ .f32)
    (inb : ∀ j, (![0, 0, 0] : Fin 3 → ℕ) j + (⟨3, ![a, b, k]⟩ : Shape).size j ≤ (⟨3, ![a, b, k]⟩ : Shape).size j) :
    arg.view.readAt (Elt F) (Rect.unit (s := ⟨3, ![a, b, k]⟩) ![0, 0, 0] (⟨3, ![a, b, k]⟩ : Shape).size inb).toLoadRect (h.unread x) = x := by
  rw [View.readAt_eq_ld, h.read_unread]; exact View.ld_unit_lit _ _ fun k => by fin_cases k <;> rfl

set_option maxHeartbeats 1000000 in
/-- The body at the first point: it stores the gradient's rows, and starts the two sums. -/
theorem run_first (c : Dev nD) (i : grid0.Coords) (arg1 : Memref sig .tc .vmem S688x1024 .f32) (harg1 : arg1.IsWhole) (arg2 : Memref sig .tc .vmem S1x688x1024 .f32) (harg2 : arg2.IsWhole) (arg3 : Memref sig .tc .vmem S1x1024 .f32) (harg3 : arg3.IsWhole) (arg4 : Memref sig .tc .vmem S688x1024 .f32) (harg4 : arg4.IsWhole) (arg5 : Memref sig .tc .vmem S1x128 .f32) (harg5 : arg5.IsWhole) (arg6 : Memref sig .tc .vmem S1x1024 .f32) (harg6 : arg6.IsWhole)
    (hc1 : k0_cond1 i = 1#1) (hc2 : ¬k0_cond2 i = 1#1) (hc3 : k0_cond3 i = 1#1) (hc4 : ¬k0_cond4 i = 1#1)
    (x : Vec F S688x1024 .f32) (y : Vec F S1x688x1024 .f32) (g : Vec F S1x1024 .f32) (E : Set ℕ) (K : PUnit → sProp 𝕄) :
    iprop(owns (c : Thread nD τ) arg1 fullShare x ∗ owns (c : Thread nD τ) arg2 fullShare y ∗ owns (c : Thread nD τ) arg3 fullShare g
          ∗ (∃ d, owns (c : Thread nD τ) arg4 fullShare d) ∗ (∃ d, owns (c : Thread nD τ) arg5 fullShare d) ∗ (∃ d, owns (c : Thread nD τ) arg6 fullShare d)
          ∗ (iprop(owns (c : Thread nD τ) arg1 fullShare x ∗ owns (c : Thread nD τ) arg2 fullShare y ∗ owns (c : Thread nD τ) arg3 fullShare g
                ∗ owns (c : Thread nD τ) arg4 fullShare (dhOf i x y g) ∗ owns (c : Thread nD τ) arg5 fullShare (lossOf i x y g none)
                ∗ owns (c : Thread nD τ) arg6 fullShare (normOf i x y g none)) -∗ K ⟨⟩))
      ⊢ wp frame (wpE (defs₀ (F := F)) Variants.none c none) E (cc0_loss_bwd i arg1 harg1 arg2 harg2 arg3 harg3 arg4 harg4 arg5 harg5 arg6 harg6) K := by
  simp only [cc0_loss_bwd_eq_skeleton]; unfold cc0_loss_bwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    change dhOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) = _
    rw [load2, load3, load2]
  isplitl [H4]
  · iexists _; isplitr
    swap; · iexact H4
    ipureintro
    refine (View.read_writes_full _ _ _ _ _).trans ?_
    change lossOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) none = _
    rw [load2, load3, load2]
  iexists _; isplitr
  swap; · iexact H5
  ipureintro
  refine (View.read_writes_full _ _ _ _ _).trans ?_
  change normOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) none = _
  rw [load2, load3, load2]

set_option maxHeartbeats 1000000 in
/-- The body at a later point: it stores the gradient's rows, and adds to the two sums. -/
theorem run_next (c : Dev nD) (i : grid0.Coords) (arg1 : Memref sig .tc .vmem S688x1024 .f32) (harg1 : arg1.IsWhole) (arg2 : Memref sig .tc .vmem S1x688x1024 .f32) (harg2 : arg2.IsWhole) (arg3 : Memref sig .tc .vmem S1x1024 .f32) (harg3 : arg3.IsWhole) (arg4 : Memref sig .tc .vmem S688x1024 .f32) (harg4 : arg4.IsWhole) (arg5 : Memref sig .tc .vmem S1x128 .f32) (harg5 : arg5.IsWhole) (arg6 : Memref sig .tc .vmem S1x1024 .f32) (harg6 : arg6.IsWhole)
    (hc1 : ¬k0_cond1 i = 1#1) (hc2 : k0_cond2 i = 1#1) (hc3 : ¬k0_cond3 i = 1#1) (hc4 : k0_cond4 i = 1#1)
    (x : Vec F S688x1024 .f32) (y : Vec F S1x688x1024 .f32) (g : Vec F S1x1024 .f32) (l : Vec F S1x128 .f32) (n : Vec F S1x1024 .f32) (E : Set ℕ) (K : PUnit → sProp 𝕄) :
    iprop(owns (c : Thread nD τ) arg1 fullShare x ∗ owns (c : Thread nD τ) arg2 fullShare y ∗ owns (c : Thread nD τ) arg3 fullShare g
          ∗ (∃ d, owns (c : Thread nD τ) arg4 fullShare d) ∗ owns (c : Thread nD τ) arg5 fullShare l ∗ owns (c : Thread nD τ) arg6 fullShare n
          ∗ (iprop(owns (c : Thread nD τ) arg1 fullShare x ∗ owns (c : Thread nD τ) arg2 fullShare y ∗ owns (c : Thread nD τ) arg3 fullShare g
                ∗ owns (c : Thread nD τ) arg4 fullShare (dhOf i x y g) ∗ owns (c : Thread nD τ) arg5 fullShare (lossOf i x y g (some l))
                ∗ owns (c : Thread nD τ) arg6 fullShare (normOf i x y g (some n))) -∗ K ⟨⟩))
      ⊢ wp frame (wpE (defs₀ (F := F)) Variants.none c none) E (cc0_loss_bwd i arg1 harg1 arg2 harg2 arg3 harg3 arg4 harg4 arg5 harg5 arg6 harg6) K := by
  simp only [cc0_loss_bwd_eq_skeleton]; unfold cc0_loss_bwd_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2; obtain rfl := harg5.eq_unread hf4; obtain rfl := harg6.eq_unread hf5
  sl_exec (disch := first | sl_exact hc1 | sl_exact hc2 | sl_exact hc3 | sl_exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    change dhOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) = _
    rw [load2, load3, load2]
  isplitl [H4]
  · iexists _; isplitr
    swap; · iexact H4
    ipureintro
    refine (View.read_writes_full _ _ _ _ _).trans ?_
    change lossOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) (some (arg5.view.readAt (Elt F) (Rect.unit (s := S1x128) ![0, 0] S1x128.size inb_S1x128_S1x128_0_0).toLoadRect (harg5.unread l))) = _
    rw [load2, load3, load2, load2]
  iexists _; isplitr
  swap; · iexact H5
  ipureintro
  refine (View.read_writes_full _ _ _ _ _).trans ?_
  change normOf i (arg1.view.readAt (Elt F) (Rect.unit (s := S688x1024) ![0, 0] S688x1024.size inb_S688x1024_S688x1024_0_0).toLoadRect (harg1.unread x)) (arg2.view.readAt (Elt F) (Rect.unit (s := S1x688x1024) ![0, 0, 0] S1x688x1024.size inb_S1x688x1024_S1x688x1024_0_0_0).toLoadRect (harg2.unread y)) (arg3.view.readAt (Elt F) (Rect.unit (s := S1x1024) ![0, 0] S1x1024.size inb_S1x1024_S1x1024_0_0).toLoadRect (harg3.unread g)) (some (arg6.view.readAt (Elt F) (Rect.unit (s := S1x1024) ![0, 0] S1x1024.size inb_S1x1024_S1x1024_0_0).toLoadRect (harg6.unread n))) = _
  rw [load2, load3, load2, load2]

end Cert.LossRun

end
-- ==== Proof.LossMask.lean ====
module

public import proofs.«01_k».proof.Proof.LossRun
public import Idealize.ShloMosaic.Lib.Pipeline.ValueKit

@[expose] public section

set_option maxRecDepth 16384

noncomputable section

namespace Cert.LossRun

open Cert.LossKernelIdeal Cert.LossKernelIdeal.Gen
open Idealize.ShloMosaic Idealize.ShloMosaic.TcCoe Idealize.ShloMosaic.Tactic

variable {F : FTy → Type} [FloatOps F]

theorem slt_2048 : ∀ n : Fin 2100, IntOp.cmpi .slt (BitVec.ofNat 32 n.val) 2048#32 = if n.val < 2048 then 1#1 else 0#1 := by decide +kernel

/-- The error of a row against its target: nothing in the rows past the target's end. -/
theorem pay5_apply (t : Fin grid0.N) (x : Vec F S688x1024 .f32) (g : Vec F S1x1024 .f32) (y : Vec F S1x688x1024 .f32)
    (r : Fin 688) (f : Fin 1024) :
    k0_pay5 (grid0.coords t) x g y (ix2 r f) = if r.val + t.val % 3 * 688 < 2048 then
      FloatOps.subf (FloatOps.mulf (k0_pay4 x (ix2 r f)) (g (ix2 0 f))) (y (ix3 0 r f)) else Scalar.ofBits .f32 0#32 := by
  pointwise [k0_pay5, k0_pay2]
  generalize hE : Scalar.muli _ 688#32 = e
  have he : e = BitVec.ofNat 32 (t.val % 3 * 688) := by rw [← hE]; clear hE; revert t; decide +kernel
  have hs : IntOp.cmpi .slt (IntOp.addi (BitVec.ofNat 32 r.val) e) 2048#32 = if r.val + t.val % 3 * 688 < 2048 then 1#1 else 0#1 := by
    rw [he, IntOp.addi, ← BitVec.ofNat_add]
    exact slt_2048 ⟨r.val + t.val % 3 * 688, by have := r.isLt; omega⟩
  rw [hs]
  split <;> rfl

/-- The rows the transfer of a target's block moves are the ones inside the array. -/
theorem moved (t : Fin grid0.N) (r : Fin 688) (f : Fin 1024) (h : r.val + t.val % 3 * 688 < 2048) :
    win0_1.moved (grid0.coords t) (ix3 0 r f) = true := by
  refine (win0_1.moved_iff _ _).mpr fun a => ?_
  have hx : ∀ t : Fin grid0.N, win0_1.xsize (grid0.coords t) 0 = 1 ∧ win0_1.xsize (grid0.coords t) 1 = min 688 (2048 - t.val % 3 * 688)
      ∧ win0_1.xsize (grid0.coords t) 2 = 1024 := by decide +kernel
  have := r.isLt
  match a with
  | ⟨0, _⟩ => exact lt_of_lt_of_eq Nat.zero_lt_one (hx t).1.symm
  | ⟨1, _⟩ => exact lt_of_lt_of_eq (by show r.val < _; omega) (hx t).2.1.symm
  | ⟨2, _⟩ => exact lt_of_lt_of_eq f.isLt (hx t).2.2.symm

/-- What lies past the target's end is masked: the error does not depend on it. -/
theorem pay5_fill (t : Fin grid0.N) (x : Vec F S688x1024 .f32) (g : Vec F S1x1024 .f32) (d d' : Vec F S1x688x1024 .f32)
    (b : (win0_1.xblock (grid0.coords t)).Idx → Elt F .f32) :
    k0_pay5 (grid0.coords t) x g (win0_1.fill (grid0.coords t) d b) = k0_pay5 (grid0.coords t) x g (win0_1.fill (grid0.coords t) d' b) := by
  funext i
  obtain ⟨r, f, rfl⟩ : ∃ (r : Fin 688) (f : Fin 1024), i = ix2 r f := ⟨i 0, i 1, by funext a; match a with | 0 => rfl | 1 => rfl⟩
  rw [pay5_apply, pay5_apply]
  split
  · rename_i h
    congr 1
    unfold Idealize.ShloMosaic.Pipeline.Window.fill
    rw [dif_pos (moved t r f h), dif_pos (moved t r f h)]
  · rfl

end Cert.LossRun

end
-- ==== Proof.LossFrame.lean ====
/-
  The frame of the call that ends the forward pass, and what its three results hold after the run.
-/
module

public import proofs.«01_k».proof.Proof.LossMask
public import Idealize.ShloMosaic.Lib.Pipeline.TableIdle

@[expose] public section

set_option maxRecDepth 16384

noncomputable section

namespace Cert.LossRun

open Cert.LossKernelIdeal Cert.LossKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The target's block of a point, with zeros past the array's end. -/
def tgt (c : Dev nD) (t : Fin cfg0.N) : Vec F S1x688x1024 .f32 :=
  win0_1.fill (grid0.coords t) (fun _ => Scalar.ofBits .f32 0#32) (iblk m c 1 t)

/-- The loss and the gradient of the norm's weight after each point. -/
def sums (c : Dev nD) : (n : ℕ) → n < cfg0.N → Vec F S1x128 .f32 × Vec F S1x1024 .f32
  | 0, h => (lossOf (grid0.coords ⟨0, h⟩) (iblk m c 0 ⟨0, h⟩) (tgt m c ⟨0, h⟩) (iblk m c 2 ⟨0, h⟩) none,
      normOf (grid0.coords ⟨0, h⟩) (iblk m c 0 ⟨0, h⟩) (tgt m c ⟨0, h⟩) (iblk m c 2 ⟨0, h⟩) none)
  | n + 1, h => (lossOf (grid0.coords ⟨n + 1, h⟩) (iblk m c 0 ⟨n + 1, h⟩) (tgt m c ⟨n + 1, h⟩) (iblk m c 2 ⟨n + 1, h⟩) (some (sums c n (Nat.lt_of_succ_lt h)).1),
      normOf (grid0.coords ⟨n + 1, h⟩) (iblk m c 0 ⟨n + 1, h⟩) (tgt m c ⟨n + 1, h⟩) (iblk m c 2 ⟨n + 1, h⟩) (some (sums c n (Nat.lt_of_succ_lt h)).2))

theorem sums_first (c : Dev nD) (t : Fin cfg0.N) (h : t.val = 0) :
    sums m c t.val t.isLt = (lossOf (grid0.coords t) (iblk m c 0 t) (tgt m c t) (iblk m c 2 t) none,
      normOf (grid0.coords t) (iblk m c 0 t) (tgt m c t) (iblk m c 2 t) none) := by
  obtain ⟨n, hn⟩ := t
  cases n with
  | zero => rfl
  | succ n => exact absurd h (Nat.succ_ne_zero n)

theorem sums_next (c : Dev nD) (t : Fin cfg0.N) (h : t.val ≠ 0) :
    sums m c t.val t.isLt
    = (lossOf (grid0.coords t) (iblk m c 0 t) (tgt m c t) (iblk m c 2 t) (some (sums m c (t.val - 1) (Nat.lt_of_le_of_lt (Nat.sub_le _ _) t.isLt)).1),
      normOf (grid0.coords t) (iblk m c 0 t) (tgt m c t) (iblk m c 2 t) (some (sums m c (t.val - 1) (Nat.lt_of_le_of_lt (Nat.sub_le _ _) t.isLt)).2)) := by
  obtain ⟨n, hn⟩ := t
  cases n with
  | zero => exact absurd rfl h
  | succ n => rfl

/-- The run's data: the inputs' buffers at their blocks, the gradient's at the point's rows, the two sums'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => tgt m c t
    | ⟨2, _⟩ => iblk m c 2 t
    | ⟨3, _⟩ => dhOf (grid0.coords t) (iblk m c 0 t) (tgt m c t) (iblk m c 2 t)
    | ⟨4, _⟩ => (sums m c t.val t.isLt).1
    | ⟨5, _⟩ => (sums m c t.val t.isLt).2
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = tgt m c t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = dhOf (grid0.coords t) (iblk m c 0 t) (tgt m c t) (iblk m c 2 t) := by dsimp only [dats]
theorem after_4 (c : Dev nD) (t : Fin cfg0.N) : (dats m 0 c).after 4 t = (sums m c t.val t.isLt).1 := by dsimp only [dats]
theorem after_5 (c : Dev nD) (t : Fin cfg0.N) : (dats m 0 c).after 5 t = (sums m c t.val t.isLt).2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) : (dats m 0 c).before 2 t d = iblk m c 2 t :=
  before0_2_of m (dats m 0 c) (A_eq m c 2) (after_2 m c) t d

theorem live4 : ∀ t : Fin grid0.N, idle0 4 (grid0.coords t) = false := by decide +kernel
theorem live5 : ∀ t : Fin grid0.N, idle0 5 (grid0.coords t) = false := by decide +kernel
theorem notFresh4 : ∀ t : Fin grid0.N, t.val ≠ 0 → cfg0.fresh 4 t.val = false := by decide +kernel
theorem notFresh5 : ∀ t : Fin grid0.N, t.val ≠ 0 → cfg0.fresh 5 t.val = false := by decide +kernel

theorem before_4 (c : Dev nD) (t : Fin cfg0.N) (h : t.val ≠ 0) (d) :
    (dats m 0 c).before 4 t d = (sums m c (t.val - 1) (Nat.lt_of_le_of_lt (Nat.sub_le _ _) t.isLt)).1 := by
  rw [Dat.before_out_traj _ 4 rfl (fun _ _ => rfl) (fun t _ hi _ => absurd ((live4 t).symm.trans hi) Bool.false_ne_true) t.val t rfl d,
    if_neg (by rw [notFresh4 t h]; exact Bool.false_ne_true)]
  dsimp only [dats]
theorem before_5 (c : Dev nD) (t : Fin cfg0.N) (h : t.val ≠ 0) (d) :
    (dats m 0 c).before 5 t d = (sums m c (t.val - 1) (Nat.lt_of_le_of_lt (Nat.sub_le _ _) t.isLt)).2 := by
  rw [Dat.before_out_traj _ 5 rfl (fun _ _ => rfl) (fun t _ hi _ => absurd ((live5 t).symm.trans hi) Bool.false_ne_true) t.val t rfl d,
    if_neg (by rw [notFresh5 t h]; exact Bool.false_ne_true)]
  dsimp only [dats]

/-- What a point computes does not depend on what lies past the target's end. -/
theorem dhOf_fill (c : Dev nD) (t : Fin cfg0.N) (x g d) :
    dhOf (grid0.coords t) x (win0_1.fill (grid0.coords t) d (iblk m c 1 t)) g = dhOf (grid0.coords t) x (tgt m c t) g := by
  unfold dhOf tgt; rw [pay5_fill t x g d]
theorem lossOf_fill (c : Dev nD) (t : Fin cfg0.N) (x g d o) :
    lossOf (grid0.coords t) x (win0_1.fill (grid0.coords t) d (iblk m c 1 t)) g o = lossOf (grid0.coords t) x (tgt m c t) g o := by
  cases o <;> unfold lossOf tgt k0_pay6 <;> dsimp only <;> rw [pay5_fill t x g d]
theorem normOf_fill (c : Dev nD) (t : Fin cfg0.N) (x g d o) :
    normOf (grid0.coords t) x (win0_1.fill (grid0.coords t) d (iblk m c 1 t)) g o = normOf (grid0.coords t) x (tgt m c t) g o := by
  cases o <;> unfold normOf tgt <;> dsimp only <;> rw [pay5_fill t x g d]

/-- The current staging memrefs and that they are whole buffers. -/
abbrev hs (w : Fin 6) (t : Fin cfg0.N) := stage_whole0 w (cfg0.slots t w)

set_option maxHeartbeats 800000 in
/-- What the body leaves the buffers at, once it has run. -/
theorem leave (c : Dev nD) (t : Fin cfg0.N) (d) :
    iprop((dats m 0 c).Φ t.castSucc ∗ (dats m 0 c).owesAt () t.castSucc
      ∗ owns (c : Thread nD τ) (st0_0 t) fullShare (iblk m c 0 t)
      ∗ owns (c : Thread nD τ) (st0_1 t) fullShare (win0_1.fill (grid0.coords t) d (iblk m c 1 t))
      ∗ owns (c : Thread nD τ) (st0_2 t) fullShare (iblk m c 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t))
    ⊢ (iprop((dats m 0 c).Φ t.succ ∗ (dats m 0 c).owesAt () t.succ
      ∗ (dats m 0 c).leaves 0 t ∗ (dats m 0 c).leaves 1 t ∗ (dats m 0 c).leaves 2 t
      ∗ (dats m 0 c).leaves 3 t ∗ (dats m 0 c).leaves 4 t ∗ (dats m 0 c).leaves 5 t) : sProp 𝕄) := by
  rw [show (dats m 0 c).Φ t.succ = (dats m 0 c).Φ t.castSucc from rfl,
    show (dats m 0 c).owesAt () t.succ = (dats m 0 c).owesAt () t.castSucc from rfl]
  rw [show (dats m 0 c).leaves 0 t = owns (c : Thread nD τ) (st0_0 t) fullShare ((dats m 0 c).after 0 t) from rfl, after_0]
  rw [show (dats m 0 c).leaves 1 t = iprop(∃ d, owns (c : Thread nD τ) (st0_1 t) fullShare (win0_1.fill (grid0.coords t) d (win0_1.cut (grid0.coords t) ((dats m 0 c).after 1 t)))) from rfl, after_1]
  rw [show (dats m 0 c).leaves 2 t = owns (c : Thread nD τ) (st0_2 t) fullShare ((dats m 0 c).after 2 t) from rfl, after_2]
  rw [show (dats m 0 c).leaves 3 t = owns (c : Thread nD τ) (st0_3 t) fullShare ((dats m 0 c).after 3 t) from rfl]
  rw [show (dats m 0 c).leaves 4 t = owns (c : Thread nD τ) (st0_4 t) fullShare ((dats m 0 c).after 4 t) from by
    unfold Dat.leaves; rw [show cfg0.idle 4 (cfg0.grid.coords t) = false from live4 t]]
  rw [show (dats m 0 c).leaves 5 t = owns (c : Thread nD τ) (st0_5 t) fullShare ((dats m 0 c).after 5 t) from by
    unfold Dat.leaves; rw [show cfg0.idle 5 (cfg0.grid.coords t) = false from live5 t]]
  iintro ⟨HΦ, Ho, H0, H1, H2, H3, H4, H5⟩
  isplitl [HΦ]; · iexact HΦ
  isplitl [Ho]; · iexact Ho
  isplitl [H0]; · iexact H0
  isplitl [H1]
  · iexists d
    rw [show win0_1.cut (grid0.coords t) (tgt m c t) = iblk m c 1 t from win0_1.cut_fill _ _ _]
    iexact H1
  isplitl [H2]; · iexact H2
  isplitl [H3]; · iexact H3
  isplitl [H4]; · iexact H4
  iexact H5

set_option maxHeartbeats 800000 in
/-- The body at any point, at the buffers of the point. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d)))
    ⊢ wp frame (wpE (defs₀ (F := F)) Variants.none c none) Set.univ (bodyAt0 t) (fun _ =>
      (iprop((dats m 0 c).Φ t.succ ∗ (dats m 0 c).owesAt () t.succ
      ∗ (dats m 0 c).leaves 0 t ∗ (dats m 0 c).leaves 1 t ∗ (dats m 0 c).leaves 2 t
      ∗ (dats m 0 c).leaves 3 t ∗ (dats m 0 c).leaves 4 t ∗ (dats m 0 c).leaves 5 t) : sProp 𝕄)) := by
  unfold bodyAt0
  simp only [before_0, before_1, before_2]
  by_cases h : t.val = 0
  · iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((cond1 t).mpr h) (fun e => (cond2 t).mp e h) ((cond3 t).mpr h) (fun e => (cond4 t).mp e h)
      (iblk m c 0 t) (win0_1.fill (grid0.coords t) d1 (iblk m c 1 t)) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    rw [dhOf_fill, lossOf_fill, normOf_fill]
    iintro ⟨H0, H1, H2, H3, H4, H5⟩
    iapply (leave m c t d1)
    rw [after_3, after_4, after_5, sums_first m c t h]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 m c t h, before_5 m c t h]
    iintro ⟨HΦ, Ho, ⟨%d0, H0⟩, ⟨%d1, H1⟩, ⟨%d2, H2⟩, ⟨%d3, H3⟩, ⟨%d4, H4⟩, ⟨%d5, H5⟩⟩
    iapply (run_next c (grid0.coords t) _ _ _ _ _ _ _ _ _ _ _ _ (fun e => h ((cond1 t).mp e)) ((cond2 t).mpr h) (fun e => h ((cond3 t).mp e)) ((cond4 t).mpr h)
      (iblk m c 0 t) (win0_1.fill (grid0.coords t) d1 (iblk m c 1 t)) (iblk m c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    rw [dhOf_fill, lossOf_fill, normOf_fill]
    iintro ⟨H0, H1, H2, H3, H4, H5⟩
    iapply (leave m c t d1)
    rw [after_3, after_4, after_5, sums_next m c t h]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array ends at what the run's data says, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.LossRun

end
-- ==== Proof.LossValue.lean ====
/- The three results of the call that ends the forward pass, as functions of its arguments. -/
module

public import proofs.«01_k».proof.Proof.LossFrame
public import proofs.«01_k».proof.Proof.Norm
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.LossRun.Val

open Cert.LossKernelIdeal Cert.LossKernelIdeal.Gen Cert.Norm

variable (m : (ℓ : Loc nD τ sig) → Buf (Elt Ideal) ℓ)

/-- The error of a row of an example against its target; the rows of the meta tokens have none. -/
def err (h : FVec Ideal S8256x1024 .f32) (y : FVec Ideal S4x2048x1024 .f32) (g : FVec Ideal S1024 .f32) (r : Fin 8256) (k : Fin 1024) : EReal :=
  if e : r.val % 2064 < 2048 then
    h (ix2 r k) * (rinv fun k => h (ix2 r k)) * g (ix1 k) - y (ix3 ⟨r.val / 2064, by omega⟩ ⟨r.val % 2064, e⟩ k)
  else 0

/-- The gradient of the normalised row. -/
def dy (h : FVec Ideal S8256x1024 .f32) (y : FVec Ideal S4x2048x1024 .f32) (g : FVec Ideal S1024 .f32) (r : Fin 8256) (k : Fin 1024) : EReal :=
  Ideal.div (err h y g r k) (Ideal.ofBits .f32 0x44800000#32)

/-- The gradient of the rows. -/
def dh (h : FVec Ideal S8256x1024 .f32) (y : FVec Ideal S4x2048x1024 .f32) (g : FVec Ideal S1024 .f32) : FVec Ideal S8256x1024 .f32 :=
  fun i => dx (fun k => h (ix2 (i 0) k)) (fun k => g (ix1 k)) (dy h y g (i 0)) (i 1)

/-- The loss, in every lane: half the mean square error of each row, summed tile by tile. -/
def loss (h : FVec Ideal S8256x1024 .f32) (y : FVec Ideal S4x2048x1024 .f32) (g : FVec Ideal S1024 .f32) : FVec Ideal S1x128 .f32 :=
  fun _ => ∑ t : Fin 12, Ideal.div (Ideal.ofBits .f32 0x3F000000#32 *
      ∑ r : Fin 688, ∑ k : Fin 1024, err h y g ⟨t.val * 688 + r.val, by omega⟩ k * err h y g ⟨t.val * 688 + r.val, by omega⟩ k)
    (Ideal.ofBits .f32 0x44800000#32)

/-- The gradient of the norm's scale. -/
def dnorm (h : FVec Ideal S8256x1024 .f32) (y : FVec Ideal S4x2048x1024 .f32) (g : FVec Ideal S1024 .f32) : FVec Ideal S1x1024 .f32 :=
  fun i => ∑ r : Fin 8256, dy h y g r (i 1) * (h (ix2 r (i 1)) * rinv fun k => h (ix2 r k))

theorem idx : ∀ t : Fin cfg0.N, win0_0.index t = ![t.val, 0] ∧ win0_1.index t = ![t.val / 3, t.val % 3, 0] ∧ win0_2.index t = ![0, 0]
    ∧ win0_3.index t = ![t.val, 0] ∧ win0_4.index t = ![0, 0] ∧ win0_5.index t = ![0, 0] :=
  (by decide +kernel : ∀ t : Fin grid0.N, _)

theorem V_v0 (c : Dev nD) (k : Fin 1024) : V m c main_v0 (ix2 0 k) = m ((c : Thread nD τ).loc main_arg2) (ix1 k) := by
  unfold V
  after_reads_at

theorem tgt_apply (c : Dev nD) (t : Fin cfg0.N) (r : Fin 688) (f : Fin 1024) (h : r.val + t.val % 3 * 688 < 2048) :
    tgt m c t (ix3 0 r f)
    = m ((c : Thread nD τ).loc main_arg1) (ix3 ⟨t.val / 3, by have := lt_of_lt_of_eq t.isLt N_0; omega⟩ ⟨r.val + t.val % 3 * 688, h⟩ f) := by
  unfold tgt Idealize.ShloMosaic.Pipeline.Window.fill
  rw [dif_pos (moved t r f h)]
  unfold iblk
  rw [show V m c (Pipeline.arrRef spec0 1) = m ((c : Thread nD τ).loc main_arg1) from V_main_arg1 m c]
  refine congrArg (m ((c : Thread nD τ).loc main_arg1)) (funext fun a => Fin.ext ?_)
  refine (Pipeline.Window.rect_emb_val win0_1 t _ a rfl).trans ?_
  rw [(idx t).2.1]
  match a with
  | ⟨0, _⟩ => show t.val / 3 * 1 + 0 = t.val / 3; omega
  | ⟨1, _⟩ => show t.val % 3 * 688 + r.val = r.val + t.val % 3 * 688; omega
  | ⟨2, _⟩ => show 0 * 1024 + f.val = f.val; omega

theorem norm_apply (c : Dev nD) (t : Fin cfg0.N) (k : Fin 1024) : iblk m c 2 t (ix2 0 k) = m ((c : Thread nD τ).loc main_arg2) (ix1 k) := by
  refine Eq.trans ?_ (V_v0 m c k)
  blk_point [iblk, idx t]

theorem h_apply (c : Dev nD) (t : Fin cfg0.N) (r : Fin 688) (k : Fin 1024) :
    iblk m c 0 t (ix2 r k) = m ((c : Thread nD τ).loc main_arg0) (ix2 ⟨t.val * 688 + r.val, by have := lt_of_lt_of_eq t.isLt N_0; omega⟩ k) := by
  blk_point [iblk, V, idx t]

theorem pay5_point (c : Dev nD) (t : Fin cfg0.N) (r : Fin 688) (k : Fin 1024) :
    k0_pay5 (grid0.coords t) (iblk m c 0 t) (iblk m c 2 t) (tgt m c t) (ix2 r k)
    = err (m ((c : Thread nD τ).loc main_arg0)) (m ((c : Thread nD τ).loc main_arg1)) (m ((c : Thread nD τ).loc main_arg2))
        ⟨t.val * 688 + r.val, by have := lt_of_lt_of_eq t.isLt N_0; omega⟩ k := by
  have hN : t.val < 12 := lt_of_lt_of_eq t.isLt N_0
  have hm : (t.val * 688 + r.val) % 2064 = r.val + t.val % 3 * 688 := by omega
  have hd : (t.val * 688 + r.val) / 2064 = t.val / 3 := by omega
  rw [pay5_apply, err]
  by_cases h : r.val + t.val % 3 * 688 < 2048
  · rw [if_pos h, dif_pos (by show (t.val * 688 + r.val) % 2064 < 2048; omega), tgt_apply m c t r k h]
    simp only [hm, hd]
    pointwise [k0_pay4, k0_pay3, rinv, ms]
    simp only [h_apply, norm_apply]
  · rw [if_neg h, dif_neg (by show ¬(t.val * 688 + r.val) % 2064 < 2048; omega)]
    exact Ideal.ofBits_zero _

theorem pay8 (x : Vec Ideal S688x1024 .f32) (g : Vec Ideal S1x1024 .f32) (v : Vec Ideal S688x1024 .f32) (y : S688x1024.Idx) :
    k0_pay8 (k0_pay2 g) (k0_pay3 x) (k0_pay4 x) v y
    = dx (fun k => x (ix2 (y 0) k)) (fun k => g (ix2 0 k)) (fun k => Ideal.div (v (ix2 (y 0) k)) (Ideal.ofBits .f32 0x44800000#32)) (y 1) := by
  pointwise [k0_pay8, k0_pay7, k0_pay4, k0_pay3, k0_pay2, dx, rinv, ms]

theorem pay9 (v : Vec Ideal S688x1024 .f32) (y : S1x128.Idx) :
    (k0_pay9 v y : Ideal .f32) = Ideal.div (Ideal.ofBits .f32 0x3F000000#32 * ∑ r : Fin 688, ∑ k : Fin 1024, v (ix2 r k)) (Ideal.ofBits .f32 0x44800000#32) := by
  pointwise [k0_pay9]

theorem pay11 (x v : Vec Ideal S688x1024 .f32) (y : S1x1024.Idx) :
    k0_pay11 (k0_pay4 x) v y
    = ∑ r : Fin 688, Ideal.div (v (ix2 r (y 1))) (Ideal.ofBits .f32 0x44800000#32) * (x (ix2 r (y 1)) * rinv fun k => x (ix2 r k)) := by
  pointwise [k0_pay11, k0_pay7, k0_pay4, k0_pay3, rinv, ms]

theorem pay10 (v : Vec Ideal S688x1024 .f32) (l : Vec Ideal S1x128 .f32) (y : S1x128.Idx) :
    k0_pay10 (F := Ideal) v l y
    = l y + Ideal.div (Ideal.ofBits .f32 0x3F000000#32 * ∑ r : Fin 688, ∑ k : Fin 1024, v (ix2 r k)) (Ideal.ofBits .f32 0x44800000#32) := by
  pointwise [k0_pay10]
  rw [pay9]

theorem pay1 (a b : Vec Ideal S1x1024 .f32) (y : S1x1024.Idx) : k0_pay1 a b y = b y + a y := by pointwise [k0_pay1]

theorem pay6 (t : Fin cfg0.N) (x : Vec Ideal S688x1024 .f32) (g : Vec Ideal S1x1024 .f32) (y : Vec Ideal S1x688x1024 .f32) (i : S688x1024.Idx) :
    k0_pay6 (grid0.coords t) x g y i = k0_pay5 (grid0.coords t) x g y i * k0_pay5 (grid0.coords t) x g y i := by
  rw [k0_pay6, Idealize.ShloMosaic.mulf]
  rfl

/-- The gradient of the rows, whole. -/
theorem final3 (c : Dev nD) : (dats (F := Ideal) m 0 c).arrAt 3 cfg0.N
    = dh (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after_3, dhOf, pay8, dh]
  have e0 : (((View.whole main_v1_0).slice (win0_3.rect t)).emb y 0).val = t.val * 688 + (y 0).val := by
    refine (Pipeline.Window.rect_emb_val win0_3 t y 0 rfl).trans ?_
    rw [(idx t).2.2.2.1]; rfl
  have e1 : ((View.whole main_v1_0).slice (win0_3.rect t)).emb y 1 = y 1 := by
    refine Fin.ext ((Pipeline.Window.rect_emb_val win0_3 t y 1 rfl).trans ?_)
    rw [(idx t).2.2.2.1]; exact (congrArg (· + (y 1).val) (Nat.zero_mul _)).trans (Nat.zero_add _)
  rw [show ((View.whole main_v1_0).slice (win0_3.rect t)).emb y 0
    = (⟨t.val * 688 + (y 0).val, by have := lt_of_lt_of_eq t.isLt N_0; have : (y 0).val < 688 := (y 0).isLt; omega⟩ : Fin 8256) from Fin.ext e0, e1]
  have ex : (fun k => iblk m c 0 t (ix2 (y 0) k)) = _ := funext fun k => h_apply m c t (y 0) k
  have ey : (fun k => Ideal.div (k0_pay5 (grid0.coords t) (iblk m c 0 t) (iblk m c 2 t) (tgt m c t) (ix2 (y 0) k)) (Ideal.ofBits FTy.f32 0x44800000#32)) = _ :=
    funext fun k => congrArg (Ideal.div · _) (pay5_point m c t (y 0) k)
  rw [ex, ey, funext fun k => norm_apply m c t k]
  rfl

/-- The loss, in every lane. -/
theorem final4 (c : Dev nD) : (dats (F := Ideal) m 0 c).arrAt 4 cfg0.N
    = loss (m ((c : Thread nD τ).loc main_arg0)) (m ((c : Thread nD τ).loc main_arg1)) (m ((c : Thread nD τ).loc main_arg2)) := by
  refine (dats m 0 c).arrAt_eq_of_after_last 4 t0_11 (by decide +kernel) _ fun j => ?_
  blk_simp
  rw [after_4, Pipeline.eq_sum_fin_of_reset_step_apply_last (f := fun n h => (sums m c n h).1) 12 (fun _ => 0)
    (fun t j => Ideal.div (Ideal.ofBits .f32 0x3F000000#32 * ∑ r : Fin 688, ∑ k : Fin 1024,
      k0_pay6 (grid0.coords t) (iblk m c 0 t) (iblk m c 2 t) (tgt m c t) (ix2 r k)) (Ideal.ofBits .f32 0x44800000#32))
    (fun t h j => by
      rw [sums_first m c t (by have : t.val < 12 := lt_of_lt_of_eq t.isLt N_0; omega)]
      exact (pay9 _ j).trans (zero_add _).symm)
    (fun t h j => by
      rw [sums_next m c t (by omega)]
      exact pay10 _ _ j) (le_of_eq N_0) t0_11 rfl j, zero_add]
  simp only [pay6, pay5_point]
  rfl

/-- The scale's gradient, whole. -/
theorem final5 (c : Dev nD) : (dats (F := Ideal) m 0 c).arrAt 5 cfg0.N
    = dnorm (m ((c : Thread nD τ).loc main_arg0)) (m ((c : Thread nD τ).loc main_arg1)) (m ((c : Thread nD τ).loc main_arg2)) := by
  refine (dats m 0 c).arrAt_eq_of_after_last 5 t0_11 (by decide +kernel) _ fun j => ?_
  blk_simp
  rw [after_5, Pipeline.eq_sum_fin_of_reset_step_apply_last (f := fun n h => (sums m c n h).2) 12 (fun _ => 0)
    (fun t j => k0_pay11 (k0_pay4 (iblk m c 0 t)) (k0_pay5 (grid0.coords t) (iblk m c 0 t) (iblk m c 2 t) (tgt m c t)) j)
    (fun t h j => by
      rw [sums_first m c t (by have : t.val < 12 := lt_of_lt_of_eq t.isLt N_0; omega)]
      exact (zero_add _).symm)
    (fun t h j => by
      rw [sums_next m c t (by omega)]
      exact pay1 _ _ j) (le_of_eq N_0) t0_11 rfl j, zero_add]
  simp only [pay11, pay5_point, h_apply]
  rw [dnorm]
  refine Fin.sum_mul_add_congr (S := 12) (n := 688) fun t r hl => ?_
  exact congrArg₂ (· * ·) (congrArg (Ideal.div · _) (pay5_point m c t r (j 1))) (congrArg (· * _) (h_apply m c t r (j 1)))

end Cert.LossRun.Val
end
-- ==== Proof.LossMath.lean ====
/- The derivative of the plain final norm and loss gives the functions of the call, on finite arguments. -/
module

public import proofs.«01_k».proof.Proof.Gen.LossReferenceIdeal.Read
public import proofs.«01_k».proof.Proof.LossValue
public import proofs.«01_k».proof.Proof.Reduce

@[expose] public section

set_option maxRecDepth 16384

noncomputable section

open Idealize.ShloMosaic Cert.Reals

namespace Cert.LossReferenceIdeal.Math

open Cert.LossReferenceIdeal Cert.LossReferenceIdeal.Read

open Cert.LossRun.Val (err dy dh loss dnorm)

variable (h : FVec Ideal S8256x1024 .f32) (y : FVec Ideal S4x2048x1024 .f32) (g : FVec Ideal S1024 .f32)

/-- The row an example's position has among all rows. -/
def row (e : Fin 4) (p : Fin 2064) : Fin 8256 := ⟨e.val * 2064 + p.val, by omega⟩

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem v0_at (e : Fin 4) (p : Fin 2064) (k : Fin 1024) : val_main_v0 (F := Ideal) h (ix3 e p k) = h (ix2 (row e p) k) := by
  rw [val_main_v0_apply]
  refine congrArg h (funext fun a => Fin.ext ?_)
  match a with
  | ⟨0, _⟩ => show ((e.val * 2064 + p.val) * 1024 + k.val) / 1024 = e.val * 2064 + p.val; omega
  | ⟨1, _⟩ => show ((e.val * 2064 + p.val) * 1024 + k.val) % 1024 = k.val; omega

theorem v8_at (e : Fin 4) (p : Fin 2064) (u : Fin 1) : val_main_v8 (F := Ideal) h (ix3 e p u) = Norm.rinv fun k => h (ix2 (row e p) k) := by
  pointwise [val_main_v8, val_main_v7, val_main_v6, val_main_v5, val_main_v4, val_main_v3, val_main_v2, val_main_v1, val_main_cst, val_main_cst_0, val_main_cst_1, v0_at, Norm.rinv, Norm.ms]

theorem v13_at (e : Fin 4) (p : Fin 2064) (k : Fin 1024) :
    val_main_v13 (F := Ideal) h (ix3 e p k) = h (ix2 (row e p) k) * Norm.rinv fun k => h (ix2 (row e p) k) := by
  pointwise [val_main_v13, val_main_v12, v0_at, v8_at]

theorem v16_at (e : Fin 4) (p : Fin 2064) (k : Fin 1024) :
    val_main_v16 (F := Ideal) h g (ix3 e p k) = h (ix2 (row e p) k) * (Norm.rinv fun k => h (ix2 (row e p) k)) * g (ix1 k) := by
  pointwise [val_main_v16, val_main_v15, val_main_v14, v13_at]

theorem err_in (e : Fin 4) (p : Fin 2064) (k : Fin 1024) (hp : p.val < 2048) :
    err h y g (row e p) k = h (ix2 (row e p) k) * (Norm.rinv fun k => h (ix2 (row e p) k)) * g (ix1 k) - y (ix3 e ⟨p.val, hp⟩ k) := by
  have hm : (e.val * 2064 + p.val) % 2064 = p.val := by omega
  have hd : (e.val * 2064 + p.val) / 2064 = e.val := by omega
  rw [err, dif_pos (by show (e.val * 2064 + p.val) % 2064 < 2048; omega)]
  refine congrArg (_ - ·) (congrArg y (funext fun a => Fin.ext ?_))
  match a with
  | ⟨0, _⟩ => exact hd
  | ⟨1, _⟩ => exact hm
  | ⟨2, _⟩ => rfl

theorem err_out (e : Fin 4) (p : Fin 2064) (k : Fin 1024) (hp : ¬p.val < 2048) : err h y g (row e p) k = 0 := by
  rw [err, dif_neg (by show ¬(e.val * 2064 + p.val) % 2064 < 2048; omega)]

theorem v18_at (e : Fin 4) (p : Fin 2048) (k : Fin 1024) :
    val_main_v18 (F := Ideal) h y g (ix3 e p k) = err h y g (row e ⟨p.val, by omega⟩) k := by
  rw [err_in h y g e ⟨p.val, by omega⟩ k p.isLt]
  pointwise [val_main_v18, val_main_v17, v16_at]

section
variable (hh : ∀ i, IsReal (h i)) (hy : ∀ i, IsReal (y i)) (hg : ∀ i, IsReal (g i))
include hh hy hg

theorem err_real (r : Fin 8256) (k : Fin 1024) : IsReal (err h y g r k) := by
  rw [err]
  split
  · exact (((hh _).mul (Norm.rinv_real _ fun k => hh _)).mul (hg _)).sub (hy _)
  · exact ⟨0, EReal.coe_zero.symm⟩

theorem dy_real (r : Fin 8256) (k : Fin 1024) : IsReal (dy h y g r k) := by
  rw [dy, Norm.ofBits_1024, Ideal.div_coe (by norm_num)]
  exact (err_real h y g hh hy hg r k).mul (IsReal.coe _)

theorem v33_at (e : Fin 4) (p : Fin 2064) (k : Fin 1024) :
    val_main_v33 (F := Ideal) h y g (ix3 e p k) = dy h y g (row e p) k := by
  unfold val_main_v33
  pointwise [val_main_v32, val_main_v31, val_main_v30, val_main_v29, val_main_v28, val_main_v27, val_main_v21, val_main_v20, val_main_cst_3, val_main_cst_8, val_main_cst_9, val_main_cst_10, val_main_cst_11, v18_at]
  split
  · obtain ⟨r, hr⟩ := err_real h y g hh hy hg (row e p) k
    rw [dy, hr, ofBits_half, ofBits_two, Norm.ofBits_1024, Ideal.div_coe (by norm_num), Ideal.div_coe (by norm_num)]
    simp only [← EReal.coe_mul]
    congr 1
    ring
  · rename_i hp
    rw [dy, err_out h y g e p k hp, Norm.ofBits_1024, Ideal.div_coe (by norm_num), zero_mul]

theorem v7_at (e : Fin 4) (p : Fin 2064) (u : Fin 1) : val_main_v7 (F := Ideal) h (ix3 e p u) = Norm.ms fun k => h (ix2 (row e p) k) := by
  pointwise [val_main_v7, val_main_v6, val_main_v5, val_main_v4, val_main_v3, val_main_v2, val_main_v1, val_main_cst, val_main_cst_0, val_main_cst_1, v0_at, Norm.ms]

theorem v53_at (e : Fin 4) (p : Fin 2064) (k : Fin 1024) :
    val_main_v53 (F := Ideal) h y g (ix3 e p k)
    = Norm.dx (fun k => h (ix2 (row e p) k)) (fun k => g (ix1 k)) (dy h y g (row e p)) k := by
  refine Eq.trans ?_ ((Norm.row_eq 0 (fun k => h (ix2 (row e p) k)) (fun k => g (ix1 k)) (dy h y g (row e p)) (fun k => hh _) (fun k => hg _)
    (fun k => dy_real h y g hh hy hg _ k) k).trans (zero_add _))
  have hv := v33_at h y g hh hy hg e p
  pointwise [val_main_v53, val_main_v52, val_main_v51, val_main_v50, val_main_v49, val_main_v48, val_main_v47, val_main_v46, val_main_v45, val_main_v44, val_main_v43, val_main_v42, val_main_v41, val_main_v40, val_main_v38, val_main_v37, val_main_v14, val_main_v11, val_main_v10, val_main_v9,
    val_main_cst_2, val_main_cst_14, val_main_cst_15, val_main_cst_16, v0_at, v8_at]
  simp only [hv, v7_at h y g hh hy hg]
  rfl

omit hh hy hg in
theorem idx54 (r : Fin 8256) (k : Fin 1024) : idx_main_v54 (ix2 r k) = ix3 (⟨r.val / 2064, by omega⟩ : Fin 4) (⟨r.val % 2064, by omega⟩ : Fin 2064) k := by
  funext a
  refine Fin.ext ?_
  match a with
  | ⟨0, _⟩ => show (r.val * 1024 + k.val) / 2113536 = r.val / 2064; omega
  | ⟨1, _⟩ => show (r.val * 1024 + k.val) / 1024 % 2064 = r.val % 2064; omega
  | ⟨2, _⟩ => show (r.val * 1024 + k.val) % 1024 = k.val; omega

omit hh hy hg in
theorem row_divMod (r : Fin 8256) : row ⟨r.val / 2064, by omega⟩ ⟨r.val % 2064, by omega⟩ = r :=
  Fin.ext (by show r.val / 2064 * 2064 + r.val % 2064 = r.val; omega)

theorem dh_eq : val_main_v54 (F := Ideal) h y g = dh h y g := by
  funext i
  obtain ⟨r, k, rfl⟩ : ∃ (r : Fin 8256) (k : Fin 1024), i = ix2 r k := ⟨i 0, i 1, by funext a; match a with | 0 => rfl | 1 => rfl⟩
  rw [val_main_v54_apply, idx54, v53_at h y g hh hy hg, row_divMod]
  rfl

theorem dnorm_eq : val_main_v56 (F := Ideal) h y g = dnorm h y g := by
  funext i
  rw [val_main_v56_apply, val_main_v39]
  refine (Reduce.host_add _ _ _ _).trans ?_
  pointwise [val_main_v36, val_main_cst_13]
  rw [Fin.sum_univ_one, Fin.sum_univ_one, val_main_v35]
  refine (Reduce.host_add _ _ _ _).trans ?_
  pointwise [val_main_v34, val_main_cst_12, v13_at]
  rw [dnorm]
  refine Fin.sum_mul_add_congr (S := 4) (n := 2064) fun e p hl => ?_
  exact (congrArg (_ * ·) (v33_at h y g hh hy hg e p (i 1))).trans (mul_comm _ _)

theorem loss_eq : val_main_v55 (F := Ideal) h y g = loss h y g := by
  funext i
  pointwise [val_main_v55, val_main_v26, val_main_v25, val_main_v24, val_main_v23, val_main_v22, val_main_v19, val_main_cst_4, val_main_cst_5, val_main_cst_6, val_main_cst_7, v18_at]
  obtain ⟨f, hf⟩ := IsReal.all (fun r => IsReal.sum Finset.univ fun k => (err_real h y g hh hy hg r k).mul (err_real h y g hh hy hg r k))
  have hz : ∀ (e : Fin 4) (p : Fin 2064), ¬p.val < 2048 → f (row e p) = 0 := fun e p hp => by
    have := congrFun hf (row e p)
    simp only [err_out h y g e p _ hp, zero_mul, Finset.sum_const_zero] at this
    exact_mod_cast this.symm
  have hf' : ∀ r, ∑ k, err h y g r k * err h y g r k = (f r : EReal) := congrFun hf
  rw [loss]
  simp only [hf', ofBits_half, Norm.ofBits_1024, Ideal.div_coe (show (1024 : ℝ) ≠ 0 by norm_num), ← EReal.coe_mul, ← coe_sum]
  congr 1
  have e1 : ∀ e : Fin 4, ∑ p : Fin 2048, f (row e ⟨p.val, by omega⟩) * (1 / 1024) = ∑ p : Fin 2064, f (row e p) * (1 / 1024) := fun e => by
    refine Eq.trans ?_ (Fin.sum_univ_add (a := 2048) (b := 16) fun p => f (row e p) * (1 / 1024)).symm
    rw [Finset.sum_eq_zero (f := fun p : Fin 16 => _) fun p _ => by rw [hz e _ (by show ¬2048 + p.val < 2048; omega), zero_mul], add_zero]
    rfl
  simp only [e1]
  have e2 : ∑ e : Fin 4, ∑ p : Fin 2064, f (row e p) * (1 / 1024) = ∑ r : Fin 8256, f r * (1 / 1024) :=
    Fin.sum_mul_add_congr (S := 4) (n := 2064) fun e p hl => rfl
  have e3 : ∑ t : Fin 12, ∑ r : Fin 688, f ⟨t.val * 688 + r.val, by omega⟩ * (1 / 1024) = ∑ r : Fin 8256, f r * (1 / 1024) :=
    Fin.sum_mul_add_congr (S := 12) (n := 688) fun e p hl => rfl
  rw [e2, ← e3, Finset.mul_sum]
  refine Finset.sum_congr rfl fun t _ => ?_
  rw [Finset.mul_sum, Finset.mul_sum, Finset.sum_mul]
  exact Finset.sum_congr rfl fun r _ => by ring

end

end Cert.LossReferenceIdeal.Math
end
-- ==== Proof.LossClaim.lean ====
/- The claims about the call that ends the forward pass with the loss and its gradient. -/
module

public import proofs.«01_k».proof.Defs
public import proofs.«01_k».proof.Proof.Gen.Pre_loss_finite
public import proofs.«01_k».proof.Proof.Gen.LossKernel
public import proofs.«01_k».proof.Proof.LossValue
public import proofs.«01_k».proof.Proof.LossMath

@[expose] public section

set_option maxRecDepth 16384

noncomputable section

open Idealize.ShloMosaic Idealize.SL.Sem Cert.Reals

namespace Cert.Proof.Loss

/-- What the precondition says: every element of the three arguments is a real number. -/
theorem finite (m : (ℓ : Loc Cert.LossKernelIdeal.nD Cert.LossKernelIdeal.τ Cert.LossKernelIdeal.sig) → Buf (Elt Ideal) ℓ)
    (hpre : Cert.Pre_LossKernelIdeal_loss_finite m) (c : Dev Cert.LossKernelIdeal.nD) :
    (∀ i, IsReal (m (c.tc.loc Cert.LossKernelIdeal.main_arg0) i)) ∧ (∀ i, IsReal (m (c.tc.loc Cert.LossKernelIdeal.main_arg1) i))
    ∧ (∀ i, IsReal (m (c.tc.loc Cert.LossKernelIdeal.main_arg2) i)) := by
  have h := congrFun (hpre c) (fun a => a.elim0)
  obtain ⟨h, h2⟩ := IntOp.andi_eq_one.1 h
  obtain ⟨h0, h1⟩ := IntOp.andi_eq_one.1 h
  exact ⟨real_of_all _ _ _ _ _ _ h0, real_of_all _ _ _ _ _ _ h1, real_of_all _ _ _ _ _ _ h2⟩

theorem frame_ideal : Cert.quiescent_LossKernelIdeal := fun m ρ _ => Cert.LossRun.frame (F := Ideal) m ρ

/-- The kernel over the bits has the ideal kernel's control flow: its frame is the same run's. -/
theorem frame_bits : Cert.quiescent_LossKernel := fun m ρ _ => by
  have h := Cert.LossRun.frame (F := Bits) m ρ
  refine Eq.mp ?_ h
  sl_kernel_rfl

theorem frame_reference : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

theorem frame_reference_pre : Cert.quiescent_LossReferenceIdeal_pre_loss_finite := fun m g _ => frame_reference m g trivial

open Cert.LossReferenceIdeal.Read Cert.LossReferenceIdeal.Math in
theorem algebraic : Cert.algebraic_LossKernelIdeal_LossReferenceIdeal_pre_loss_finite := by
  pair_intro
  · run_from Cert.LossRun.run_main m g
  · run_from Cert.LossReferenceIdeal.Value.run m' g'
    · obtain ⟨f0, f1, f2⟩ := finite m hpre c
      obtain ⟨a0, a1, a2⟩ := hagree c
      refine (val_main_v54_eq m' c).trans ?_
      rw [a0, a1, a2]
      exact (dh_eq _ _ _ f0 f1 f2).trans (Cert.LossRun.Val.final3 m c).symm
    · obtain ⟨f0, f1, f2⟩ := finite m hpre c
      exact (val_main_v55_eq _ _ _).trans ((loss_eq _ _ _ f0 f1 f2).trans (Cert.LossRun.Val.final4 m c).symm)
    · obtain ⟨f0, f1, f2⟩ := finite m hpre c
      exact (val_main_v56_eq _ _ _).trans ((dnorm_eq _ _ _ f0 f1 f2).trans (Cert.LossRun.Val.final5 m c).symm)

end Cert.Proof.Loss
end
-- ==== Proof.AttnOps.lean ====
/- The operations that one group of four query heads goes through in the attention kernel, named once. The kernel's
   text repeats them for each of the four key heads and for each of the three kinds of query rows (the first block,
   the later blocks, the meta tokens). -/
module

public import proofs.«01_k».proof.AttnFKernelIdeal
public import Idealize.ShloMosaic.Lib.MatmulPlain
public import Idealize.ShloMosaic.Run

@[expose] public section

set_option maxRecDepth 16384

noncomputable section

namespace Cert.AttnOps

open Idealize.ShloMosaic Idealize.ShloMosaic.TcCoe Cert.AttnFKernelIdeal

variable {F : FTy → Type} [FloatOps F] [Named F]

/-- Matrices, and matrices with a leading unit axis, as shapes. -/
abbrev T2 (a b : ℕ) : Shape := ⟨2, ![a, b]⟩
abbrev T3 (a b : ℕ) : Shape := ⟨3, ![1, a, b]⟩

/-- Lanes 0–63 of a tile, the others zero. -/
def low {n : ℕ} (t : FVec F (T2 n 128) .f32) (hi : (T2 n 128).Iotas .tc 32 [1] := by decide) : FVec F (T2 n 128) .bf16 :=
  truncf .bf16 (select (cmpi .slt (iota .tc (T2 n 128) 32 [1] hi) (broadcast (T2 n 128) 64#32)) t
    (broadcast (T2 n 128) (Scalar.ofBits .f32 0x00000000#32))) (by decide)

/-- Lanes 64–127 of a tile, the others zero. -/
def high {n : ℕ} (t : FVec F (T2 n 128) .f32) (hi : (T2 n 128).Iotas .tc 32 [1] := by decide) : FVec F (T2 n 128) .bf16 :=
  truncf .bf16 (select (cmpi .sge (iota .tc (T2 n 128) 32 [1] hi) (broadcast (T2 n 128) 64#32)) t
    (broadcast (T2 n 128) (Scalar.ofBits .f32 0x00000000#32))) (by decide)

/-- The two halves of the lanes swapped. -/
def swapped {n : ℕ} (t : FVec F (T2 n 128) .f32) (h : (T2 n 128).Rotates 1 none := by decide) : FVec F (T2 n 128) .f32 :=
  dynamicRotate 1 64#32 none t h

/-- A loaded tile as a matrix of f32. -/
def wide {n : ℕ} (x : Vec F (T3 n 128) .bf16) (h : (T3 n 128).ShapeCasts (T2 n 128) := by decide) : FVec F (T2 n 128) .f32 :=
  extf .f32 (shapeCast (T2 n 128) x h) (by decide)

/-- A key head's tile with its 64 lanes in the low half; an even head has them there, an odd one in the high half. -/
def lows {n : ℕ} (odd : Bool) (x : Vec F (T3 n 128) .bf16) (hi : (T2 n 128).Iotas .tc 32 [1] := by decide)
    (hr : (T2 n 128).Rotates 1 none := by decide) (h : (T3 n 128).ShapeCasts (T2 n 128) := by decide) : FVec F (T2 n 128) .bf16 :=
  low (if odd then swapped (wide x h) hr else wide x h) hi

/-- The same with the 64 lanes in the high half. -/
def highs {n : ℕ} (odd : Bool) (x : Vec F (T3 n 128) .bf16) (hi : (T2 n 128).Iotas .tc 32 [1] := by decide)
    (hr : (T2 n 128).Rotates 1 none := by decide) (h : (T3 n 128).ShapeCasts (T2 n 128) := by decide) : FVec F (T2 n 128) .bf16 :=
  high (if odd then wide x h else swapped (wide x h) hr) hi

/-- Sixteen rows, with rows of zeros below them up to 128. -/
def padded (x : FVec F (T2 16 128) .bf16) : FVec F (T2 128 128) .bf16 :=
  concatenate (T2 128 128) 0 [⟨T2 16 128, x⟩, ⟨T2 112 128, broadcast (T2 112 128) (Scalar.ofBits .bf16 0x0000#16)⟩]
    (show Shape.Concatenates [T2 16 128, T2 112 128] (T2 128 128) 0 by decide)

/-- Two query tiles, one above the other: four heads of 64 lanes. -/
def stacked {q h : ℕ} (a b : Vec F (T3 q 128) .bf16) (hs : (T3 q 128).ShapeCasts (T2 q 128) := by decide)
    (hc : Shape.Concatenates [T2 q 128, T2 q 128] (T2 h 128) 0 := by decide) : FVec F (T2 h 128) .bf16 :=
  concatenate (T2 h 128) 0 [⟨T2 q 128, shapeCast (T2 q 128) a hs⟩, ⟨T2 q 128, shapeCast (T2 q 128) b hs⟩] hc

/-- The row's number modulo `n`, as Python's `%` lowers. -/
def rowMod (t K : ℕ) (n : BitVec 32) (hi : (T2 t K).Iotas .tc 32 [0] := by decide) (hb : (T2 t K).Broadcasts (T2 t K) := by decide) : IVec (T2 t K) 32 :=
  let d : BitVec 32 := Scalar.select (Scalar.cmpi .eq n 0#32) 1#32 n
  let r : IVec (T2 t K) 32 := remsi (iota .tc (T2 t K) 32 [0] hi) (broadcast (T2 t K) d)
  select (andi (xori (cmpi .slt r (broadcast (T2 t K) 0#32)) (broadcastTo (T2 t K) (broadcast (T2 t K) (Scalar.cmpi .slt d 0#32)) hb))
    (cmpi .ne r (broadcast (T2 t K) 0#32))) (addi r (broadcast (T2 t K) d)) r

/-- The row's number divided by `n`, as Python's `//` lowers. -/
def rowDiv (t : ℕ) (n : BitVec 32) (hi : (T2 t 1).Iotas .tc 32 [0] := by decide) : IVec (T2 t 1) 32 :=
  let r : IVec (T2 t 1) 32 := iota .tc (T2 t 1) 32 [0] hi
  let q : IVec (T2 t 1) 32 := divsi r (broadcast (T2 t 1) n)
  select (andi (cmpi .ne (subi (extui 32 (cmpi .sgt r (broadcast (T2 t 1) 0#32)) (by decide)) (extui 32 (cmpi .slt r (broadcast (T2 t 1) 0#32)) (by decide)))
      (broadcast (T2 t 1) (Scalar.subi (Scalar.extui (Scalar.cmpi .sgt n 0#32)) (Scalar.extui (Scalar.cmpi .slt n 0#32)))))
      (cmpi .ne (remsi r (broadcast (T2 t 1) n)) (broadcast (T2 t 1) 0#32)))
    (subi q (broadcast (T2 t 1) 1#32)) q

/-- The sink of each row's head: the heads lie in the order 0, 2, 1, 3. -/
def sinkCol (t : ℕ) (n : BitVec 32) (a0 a1 a2 a3 : Elt F .f32) (hi : (T2 t 1).Iotas .tc 32 [0] := by decide) : FVec F (T2 t 1) .f32 :=
  select (cmpi .eq (rowDiv t n hi) (broadcast (T2 t 1) 3#32)) (broadcast (T2 t 1) a3)
    (select (cmpi .eq (rowDiv t n hi) (broadcast (T2 t 1) 2#32)) (broadcast (T2 t 1) a1)
      (select (cmpi .eq (rowDiv t n hi) (broadcast (T2 t 1) 1#32)) (broadcast (T2 t 1) a2)
        (select (cmpi .eq (rowDiv t n hi) (broadcast (T2 t 1) 0#32)) (broadcast (T2 t 1) a0)
          (broadcast (T2 t 1) (Scalar.ofBits .f32 0x00000000#32)))))

/-- A later block's window: key `j` of the two blocks is seen by query `i` when `i < j ≤ i + 128`. -/
def bandMask : IVec (T2 512 256) 1 :=
  andi (cmpi .sgt (iota .tc (T2 512 256) 32 [1] (by decide)) (rowMod 512 256 128#32))
    (cmpi .sle (iota .tc (T2 512 256) 32 [1] (by decide)) (addi (rowMod 512 256 128#32) (broadcast (T2 512 256) 128#32)))

/-- The first block's window: key `j` is seen by query `i` when `j ≤ i`. -/
def firstMask : IVec (T2 512 128) 1 := cmpi .sle (iota .tc (T2 512 128) 32 [1] (by decide)) (rowMod 512 128 128#32)

/-- The meta tokens, seen by every other row. -/
def metaMask : IVec (T2 512 128) 1 := cmpi .slt (iota .tc (T2 512 128) 32 [1] (by decide)) (broadcast (T2 512 128) 16#32)

/-- The meta tokens among themselves. -/
def causalMask : IVec (T2 64 128) 1 :=
  andi (cmpi .slt (iota .tc (T2 64 128) 32 [1] (by decide)) (broadcast (T2 64 128) 16#32))
    (cmpi .sle (iota .tc (T2 64 128) 32 [1] (by decide)) (rowMod 64 128 16#32))

/-- The masked scores: the low heads' rows above the high heads'. -/
def scores {h t K : ℕ} (qs : FVec F (T2 h 128) .bf16) (kl kh : FVec F (T2 K 128) .bf16) (mask : IVec (T2 t K) 1)
    (hc : Shape.Concatenates [T2 h K, T2 h K] (T2 t K) 0 := by decide) : FVec F (T2 t K) .f32 :=
  select mask
    (mulf (concatenate (T2 t K) 0 [⟨T2 h K, matmul (DotDims.transposedRhs h 128 K) none qs kl (constant (T2 h K) .f32 0x00000000#32)⟩,
        ⟨T2 h K, matmul (DotDims.transposedRhs h 128 K) none qs kh (constant (T2 h K) .f32 0x00000000#32)⟩] hc)
      (broadcast (T2 t K) (Scalar.ofBits .f32 0x3E000000#32)))
    (broadcast (T2 t K) (Named.named κ "mask" 0xF149F2CA#32))

/-- A row's greatest score, its sink among them. -/
def top {t : ℕ} (s : FVec F (T2 t 128) .f32) (sink : FVec F (T2 t 1) .f32) (hr : (T2 t 128).Reduces [1] ⟨1, ![t]⟩ := by decide)
    (hs : (⟨1, ![t]⟩ : Shape).ShapeCasts (T2 t 1) := by decide) : FVec F (T2 t 1) .f32 :=
  maximumf (shapeCast (T2 t 1) (multiReduction .maximumf [1] ⟨1, ![t]⟩ s 0xFF800000#32 hr (.inl rfl) rfl) hs) sink

/-- The exponentials of the scores less the row's greatest. -/
def probs {t K : ℕ} (s : FVec F (T2 t K) .f32) (m : FVec F (T2 t 1) .f32) (hb : (T2 t 1).Broadcasts (T2 t K) := by decide) : FVec F (T2 t K) .f32 :=
  exp (subf s (broadcastTo (T2 t K) m hb))

/-- One over a row's sum of exponentials, the sink's among them. -/
def scale {t : ℕ} (p : FVec F (T2 t 128) .f32) (sink m : FVec F (T2 t 1) .f32) (hr : (T2 t 128).Reduces [1] ⟨1, ![t]⟩ := by decide)
    (hs : (⟨1, ![t]⟩ : Shape).ShapeCasts (T2 t 1) := by decide) : FVec F (T2 t 1) .f32 :=
  divf (broadcast (T2 t 1) (Scalar.ofBits .f32 0x3F800000#32))
    (addf (shapeCast (T2 t 1) (multiReduction .add [1] ⟨1, ![t]⟩ p 0x00000000#32 hr (.inl rfl) rfl) hs) (exp (subf sink m)))

/-- The values summed by the exponentials of rows `off` to `off + h`. -/
def weigh {h t K : ℕ} (off : ℕ) (p : FVec F (T2 t K) .f32) (v : FVec F (T2 K 128) .bf16)
    (hs : (T2 t K).Slices ![off, 0] (T2 h K) := by decide) : FVec F (T2 h 128) .f32 :=
  matmul (DotDims.plain h K 128) none (extractStridedSlice (T2 h K) ![off, 0] (truncf .bf16 p (by decide)) hs) v (constant (T2 h 128) .f32 0x00000000#32)

/-- The low and the high heads' sums, each times its rows' scale. -/
def blend {h t : ℕ} (lo hi : FVec F (T2 h 128) .f32) (c : FVec F (T2 t 1) .f32) (h0 : (T2 t 1).Slices ![0, 0] (T2 h 1) := by decide)
    (h1 : (T2 t 1).Slices ![h, 0] (T2 h 1) := by decide) (hb : (T2 h 1).Broadcasts (T2 h 128) := by decide) : FVec F (T2 h 128) .bf16 :=
  truncf .bf16 (addf (mulf lo (broadcastTo (T2 h 128) (extractStridedSlice (T2 h 1) ![0, 0] c h0) hb))
    (mulf hi (broadcastTo (T2 h 128) (extractStridedSlice (T2 h 1) ![h, 0] c h1) hb))) (by decide)

/-- One query tile's rows of the result, as they are stored. -/
def piece {q h : ℕ} (off : ℕ) (o : FVec F (T2 h 128) .bf16) (hs : (T2 h 128).Slices ![off, 0] (T2 q 128) := by decide)
    (hc : (T2 q 128).ShapeCasts (T3 q 128) := by decide) : FVec F (T3 q 128) .bf16 :=
  shapeCast (T3 q 128) (extractStridedSlice (T2 q 128) ![off, 0] o hs) hc

/-- A later block: two blocks of keys and the meta tokens. -/
def later (odd : Bool) (k : Vec F (T3 256 128) .bf16) (km : Vec F (T3 16 128) .bf16) (v : Vec F (T3 256 128) .bf16) (vm : Vec F (T3 16 128) .bf16)
    (qa qb : Vec F (T3 128 128) .bf16) (a0 a1 a2 a3 : Elt F .f32) (mm : IVec (T2 512 128) 1) : FVec F (T2 256 128) .bf16 :=
  let sink := sinkCol 512 128#32 a0 a1 a2 a3
  let qs : FVec F (T2 256 128) .bf16 := stacked qa qb
  let s := scores qs (lows odd k) (highs odd k) bandMask
  let sm := scores qs (padded (lows odd km)) (padded (highs odd km)) mm
  let m := top (maximumf (maximumf (extractStridedSlice (T2 512 128) ![0, 0] s (by decide)) (extractStridedSlice (T2 512 128) ![0, 128] s (by decide))) sm) sink
  let p := probs s m
  let pm := probs sm m
  let c := scale (addf (addf (extractStridedSlice (T2 512 128) ![0, 0] p (by decide)) (extractStridedSlice (T2 512 128) ![0, 128] p (by decide))) pm) sink m
  blend (addf (weigh 0 p (lows odd v)) (weigh 0 pm (padded (lows odd vm)))) (addf (weigh 256 p (highs odd v)) (weigh 256 pm (padded (highs odd vm)))) c

/-- The first block: its own keys and the meta tokens. -/
def first (odd : Bool) (k : Vec F (T3 128 128) .bf16) (km : Vec F (T3 16 128) .bf16) (v : Vec F (T3 128 128) .bf16) (vm : Vec F (T3 16 128) .bf16)
    (qa qb : Vec F (T3 128 128) .bf16) (a0 a1 a2 a3 : Elt F .f32) : FVec F (T2 256 128) .bf16 :=
  let sink := sinkCol 512 128#32 a0 a1 a2 a3
  let qs : FVec F (T2 256 128) .bf16 := stacked qa qb
  let s := scores qs (lows odd k) (highs odd k) firstMask
  let sm := scores qs (padded (lows odd km)) (padded (highs odd km)) metaMask
  let m := top (maximumf s sm) sink
  let p := probs s m
  let pm := probs sm m
  let c := scale (addf p pm) sink m
  blend (addf (weigh 0 p (lows odd v)) (weigh 0 pm (padded (lows odd vm)))) (addf (weigh 256 p (highs odd v)) (weigh 256 pm (padded (highs odd vm)))) c

/-- The meta tokens among themselves. -/
def among (odd : Bool) (km vm qa qb : Vec F (T3 16 128) .bf16) (a0 a1 a2 a3 : Elt F .f32) : FVec F (T2 32 128) .bf16 :=
  let sink := sinkCol 64 16#32 a0 a1 a2 a3
  let qs : FVec F (T2 32 128) .bf16 := stacked qa qb
  let sm := scores qs (padded (lows odd km)) (padded (highs odd km)) causalMask
  let m := top sm sink
  let pm := probs sm m
  let c := scale pm sink m
  blend (weigh 0 pm (padded (lows odd vm))) (weigh 32 pm (padded (highs odd vm))) c

end Cert.AttnOps
end
-- ==== Proof.AttnMath.lean ====
/- The real weights of a softmax: the exponentials of scores that are real or minus infinity. -/
module

public import proofs.«01_k».proof.Proof.Reals

@[expose] public section

noncomputable section

namespace Cert.AttnMath

open Idealize.ShloMosaic

/-- The weight of a score before any shift. -/
def ew (s : EReal) : ℝ := (Ideal.exp s).toReal

theorem exp_sub (s : EReal) (hs : s ≠ ⊤) (m : ℝ) : Ideal.exp (s - (m : EReal)) = ((ew s * Real.exp (-m) : ℝ) : EReal) := by
  induction s using EReal.rec with
  | top => exact absurd rfl hs
  | bot => simp [ew, Ideal.exp_bot]
  | coe r => rw [← EReal.coe_sub, Ideal.exp_coe, ew, Ideal.exp_coe, EReal.toReal_coe, ← Real.exp_add, sub_eq_add_neg]

theorem ew_coe (r : ℝ) : ew (r : EReal) = Real.exp r := by simp [ew, Ideal.exp_coe]

theorem ew_bot : ew ⊥ = 0 := by simp [ew, Ideal.exp_bot]

theorem ew_nonneg (s : EReal) : 0 ≤ ew s := by
  induction s using EReal.rec with
  | top => simp [ew, Ideal.exp_top]
  | bot => simp [ew_bot]
  | coe r => rw [ew_coe]; exact (Real.exp_pos r).le

/-- A finite sum of reals, as extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The shift by the row's greatest score cancels between a sum and the sum of weights it is divided by. -/
theorem shift (N D : ℝ) (m σ : ℝ) (hD : 0 ≤ D) :
    ((N * Real.exp (-m) : ℝ) : EReal) * Ideal.div 1 (((D * Real.exp (-m) : ℝ) : EReal) + Ideal.exp ((σ : EReal) - (m : EReal)))
      = ((N / (D + Real.exp σ) : ℝ) : EReal) := by
  have hp : 0 < D + Real.exp σ := by positivity
  have e : Ideal.exp ((σ : EReal) - (m : EReal)) = ((Real.exp σ * Real.exp (-m) : ℝ) : EReal) := by
    rw [exp_sub _ (EReal.coe_ne_top σ), ew_coe]
  have hne : (D + Real.exp σ) * Real.exp (-m) ≠ 0 := by positivity
  have h2 : Real.exp (-m) ≠ 0 := (Real.exp_pos _).ne'
  have e2 : Ideal.div 1 (((D * Real.exp (-m) : ℝ) : EReal) + ((Real.exp σ * Real.exp (-m) : ℝ) : EReal))
      = ((1 / ((D + Real.exp σ) * Real.exp (-m)) : ℝ) : EReal) := by
    rw [← EReal.coe_add, ← add_mul, Ideal.div_coe hne]
    simp
  rw [e, e2, ← EReal.coe_mul]
  refine congrArg _ ?_
  field_simp

end Cert.AttnMath
end
-- ==== Proof.AttnRead.lean ====
/- The attention kernel's operations read at one row and one lane. -/
module

public import proofs.«01_k».proof.Proof.AttnOps
public import proofs.«01_k».proof.Proof.AttnMath
public import Idealize.ShloMosaic.Lib.KernelVsHost

@[expose] public section

set_option maxRecDepth 16384

noncomputable section

namespace Cert.AttnRead

open Idealize.ShloMosaic Idealize.ShloMosaic.TcCoe Cert.AttnFKernelIdeal Cert.AttnOps Cert.AttnMath

theorem lane_lt (l : Fin 128) : IntOp.cmpi .slt (BitVec.ofNat 32 l.val) 64#32 = if l.val < 64 then 1#1 else 0#1 := by
  revert l; decide

theorem lane_ge (l : Fin 128) : IntOp.cmpi .sge (BitVec.ofNat 32 l.val) 64#32 = if l.val < 64 then 0#1 else 1#1 := by
  revert l; decide

theorem ofBits_zero : Ideal.ofBits .f32 0x00000000#32 = 0 := by simp [Ideal.ofBits, Ideal.ieee]

theorem ofBits_one : Ideal.ofBits .f32 0x3F800000#32 = 1 := by
  rw [← EReal.coe_one]; simp [Ideal.ofBits, Ideal.ieee, -EReal.coe_mul, -EReal.coe_one]; norm_num

theorem low_apply {n : ℕ} (t : FVec Ideal (T2 n 128) .f32) (hi) (r : Fin n) (l : Fin 128) :
    low t hi (ix2 r l) = if l.val < 64 then t (ix2 r l) else 0 := by
  unfold low
  show (Scalar.select (IntOp.cmpi .slt (BitVec.ofNat 32 (0 * 128 + l.val)) 64#32) (t (ix2 r l)) (Ideal.ofBits .f32 0x00000000#32) : EReal) = _
  rw [Nat.zero_mul, Nat.zero_add, lane_lt, ofBits_zero]
  split_ifs <;> rfl

theorem high_apply {n : ℕ} (t : FVec Ideal (T2 n 128) .f32) (hi) (r : Fin n) (l : Fin 128) :
    high t hi (ix2 r l) = if l.val < 64 then 0 else t (ix2 r l) := by
  unfold high
  show (Scalar.select (IntOp.cmpi .sge (BitVec.ofNat 32 (0 * 128 + l.val)) 64#32) (t (ix2 r l)) (Ideal.ofBits .f32 0x00000000#32) : EReal) = _
  rw [Nat.zero_mul, Nat.zero_add, lane_ge, ofBits_zero]
  split_ifs <;> rfl

theorem swapped_apply {n : ℕ} (t : FVec Ideal (T2 n 128) .f32) (h) (r : Fin n) (l : Fin 128) :
    swapped t h (ix2 r l) = t (ix2 r ⟨(l.val + 64) % 128, Nat.mod_lt _ (by decide)⟩) := by
  unfold swapped
  refine dynamicRotate_apply _ _ _ _ _ _ fun b => ?_
  fin_cases b
  · rfl
  · show (l.val + 64) % 128 = _
    simp [ix2]

theorem wide_apply {n : ℕ} (x : Vec Ideal (T3 n 128) .bf16) (h) (r : Fin n) (l : Fin 128) :
    wide x h (ix2 r l) = x (ix3 0 r l) := by
  unfold wide
  show shapeCast (T2 n 128) x h (ix2 r l) = _
  refine shapeCast_apply x h _ _ ?_
  rw [Shape.rowMajor_val_three, Shape.rowMajor_val_two]
  show (0 * n + r.val) * 128 + l.val = r.val * 128 + l.val
  omega

/-- Where a key head's lanes start in its tile. -/
def start (odd : Bool) : ℕ := if odd then 64 else 0

variable {n q h t K : ℕ}

theorem lows_apply (odd : Bool) (x : Vec Ideal (T3 n 128) .bf16) (hi hr hs) (X : ℕ → ℕ → ℝ)
    (hx : ∀ (r : Fin n) (l : Fin 128), x (ix3 0 r l) = ((X r l : ℝ) : EReal)) (r : Fin n) (l : Fin 128) :
    lows odd x hi hr hs (ix2 r l) = ((if l.val < 64 then X r (l + start odd) else 0 : ℝ) : EReal) := by
  unfold lows
  rw [low_apply]
  cases odd
  · simp only [Bool.false_eq_true, if_false, start, Nat.add_zero]
    split_ifs
    · rw [wide_apply, hx]
    · rfl
  · simp only [if_true, start]
    split_ifs with hl
    · rw [swapped_apply, wide_apply, hx]
      rw [show (⟨(l.val + 64) % 128, Nat.mod_lt _ (by decide)⟩ : Fin 128).val = l.val + 64 from Nat.mod_eq_of_lt (by omega)]
    · rfl

theorem highs_apply (odd : Bool) (x : Vec Ideal (T3 n 128) .bf16) (hi hr hs) (X : ℕ → ℕ → ℝ)
    (hx : ∀ (r : Fin n) (l : Fin 128), x (ix3 0 r l) = ((X r l : ℝ) : EReal)) (r : Fin n) (l : Fin 128) :
    highs odd x hi hr hs (ix2 r l) = ((if l.val < 64 then 0 else X r (l - 64 + start odd) : ℝ) : EReal) := by
  unfold highs
  rw [high_apply]
  cases odd
  · simp only [Bool.false_eq_true, if_false, start, Nat.add_zero]
    split_ifs with hl
    · rfl
    · rw [swapped_apply, wide_apply, hx]
      rw [show (⟨(l.val + 64) % 128, Nat.mod_lt _ (by decide)⟩ : Fin 128).val = l.val - 64 from by
        show (l.val + 64) % 128 = _; have := l.isLt; omega]
  · simp only [if_true, start]
    split_ifs with hl
    · rfl
    · rw [wide_apply, hx, show l.val - 64 + 64 = l.val from by omega]

theorem stack_left {α : Type} {h₁ h₂ t K : ℕ} (x : (T2 h₁ K).Idx → α) (y : (T2 h₂ K).Idx → α)
    (hc : Shape.Concatenates [T2 h₁ K, T2 h₂ K] (T2 t K) 0) (r : Fin t) (j : Fin K) (hr : r.val < h₁) :
    concatenate (T2 t K) 0 [⟨T2 h₁ K, x⟩, ⟨T2 h₂ K, y⟩] hc (ix2 r j) = x (ix2 ⟨r.val, hr⟩ j) :=
  concatenate_pair_apply_left (s₁ := T2 h₁ K) (s₂ := T2 h₂ K) (t := T2 t K) (0 : Fin 2) x y hc (ix2 r j) rfl (ix2 ⟨r.val, hr⟩ j)
    (fun b => by fin_cases b <;> rfl)

theorem stack_right {α : Type} {h₁ h₂ t K : ℕ} (x : (T2 h₁ K).Idx → α) (y : (T2 h₂ K).Idx → α)
    (hc : Shape.Concatenates [T2 h₁ K, T2 h₂ K] (T2 t K) 0) (r : Fin t) (j : Fin K) (hr : ¬ r.val < h₁) (hr' : r.val - h₁ < h₂) :
    concatenate (T2 t K) 0 [⟨T2 h₁ K, x⟩, ⟨T2 h₂ K, y⟩] hc (ix2 r j) = y (ix2 ⟨r.val - h₁, hr'⟩ j) :=
  concatenate_pair_apply_right (s₁ := T2 h₁ K) (s₂ := T2 h₂ K) (t := T2 t K) (0 : Fin 2) x y hc (ix2 r j) rfl rfl (ix2 ⟨r.val - h₁, hr'⟩ j)
    (fun b hb => by fin_cases b; exact absurd rfl hb; rfl) (show r.val - h₁ + h₁ = r.val by omega)

theorem padded_apply (x : FVec Ideal (T2 16 128) .bf16) (X : ℕ → ℕ → ℝ)
    (hx : ∀ (r : Fin 16) (l : Fin 128), x (ix2 r l) = ((X r l : ℝ) : EReal)) (r : Fin 128) (l : Fin 128) :
    padded x (ix2 r l) = ((if r.val < 16 then X r l else 0 : ℝ) : EReal) := by
  unfold padded
  split_ifs with hr
  · rw [stack_left _ _ _ _ _ hr, hx]
  · rw [stack_right _ _ _ _ _ hr (by have := r.isLt; omega)]
    show Ideal.ofBits .bf16 0x0000#16 = _
    simp [Ideal.ofBits, Ideal.ieee]

theorem stacked_apply (a b : Vec Ideal (T3 q 128) .bf16) (hs hc) (A B : ℕ → ℕ → ℝ)
    (ha : ∀ (r : Fin q) (l : Fin 128), a (ix3 0 r l) = ((A r l : ℝ) : EReal))
    (hb : ∀ (r : Fin q) (l : Fin 128), b (ix3 0 r l) = ((B r l : ℝ) : EReal)) (hh : h = q + q) (r : Fin h) (l : Fin 128) :
    stacked (h := h) a b hs hc (ix2 r l) = ((if r.val < q then A r l else B (r - q) l : ℝ) : EReal) := by
  unfold stacked
  have cast (x : Vec Ideal (T3 q 128) .bf16) (r : Fin q) (l : Fin 128) : shapeCast (T2 q 128) x hs (ix2 r l) = x (ix3 0 r l) := by
    refine shapeCast_apply x hs _ _ ?_
    rw [Shape.rowMajor_val_three, Shape.rowMajor_val_two]
    show (0 * q + r.val) * 128 + l.val = r.val * 128 + l.val
    omega
  split_ifs with hr
  · rw [stack_left _ _ _ _ _ hr, cast, ha]
  · rw [stack_right _ _ _ _ _ hr (by have := r.isLt; omega), cast, hb]

/-- The scores of row `r` against key `j`: the query's 64 lanes against the key's. -/
def rdot (Q K : ℕ → ℝ) : ℝ := ∑ x ∈ Finset.range 64, Q x * K x

theorem sum_low (Q X : ℕ → ℝ) (o : ℕ) : ∑ l : Fin 128, Q l * (if l.val < 64 then X (l + o) else 0) = rdot Q (fun x => X (x + o)) := by
  rw [Fin.sum_univ_eq_sum_range (fun l => Q l * (if l < 64 then X (l + o) else 0)) 128, show 128 = 64 + 64 from rfl, Finset.sum_range_add]
  rw [Finset.sum_congr rfl (fun x hx => by rw [if_pos (Finset.mem_range.1 hx)]), rdot, add_eq_left]
  exact Finset.sum_eq_zero fun x _ => by rw [if_neg (by omega), mul_zero]

theorem sum_high (Q X : ℕ → ℝ) (o : ℕ) : ∑ l : Fin 128, Q l * (if l.val < 64 then 0 else X (l - 64 + o)) = rdot (fun x => Q (64 + x)) (fun x => X (x + o)) := by
  rw [Fin.sum_univ_eq_sum_range (fun l => Q l * (if l < 64 then 0 else X (l - 64 + o))) 128, show 128 = 64 + 64 from rfl, Finset.sum_range_add]
  rw [Finset.sum_eq_zero (fun x hx => by rw [if_pos (Finset.mem_range.1 hx), mul_zero]), zero_add, rdot]
  exact Finset.sum_congr rfl fun x _ => by rw [if_neg (by omega), show 64 + x - 64 = x by omega]

theorem ofBits_eighth : Ideal.ofBits .f32 0x3E000000#32 = ((1 / 8 : ℝ) : EReal) := by
  simp [Ideal.ofBits, Ideal.ieee, -EReal.coe_mul]; norm_num

/-- A masked score. -/
theorem scores_apply (qs : FVec Ideal (T2 h 128) .bf16) (kl kh : FVec Ideal (T2 K 128) .bf16) (mask : IVec (T2 t K) 1) (hc)
    (Q X Y : ℕ → ℕ → ℝ) (hq : ∀ (r : Fin h) (l : Fin 128), qs (ix2 r l) = ((Q r l : ℝ) : EReal))
    (hl : ∀ (j : Fin K) (l : Fin 128), kl (ix2 j l) = ((X j l : ℝ) : EReal))
    (hh : ∀ (j : Fin K) (l : Fin 128), kh (ix2 j l) = ((Y j l : ℝ) : EReal)) (ht : t = h + h) (r : Fin t) (j : Fin K) :
    scores qs kl kh mask hc (ix2 r j) = if mask (ix2 r j) = 1#1 then
      (((if r.val < h then ∑ l : Fin 128, Q r l * X j l else ∑ l : Fin 128, Q (r - h) l * Y j l) * (1 / 8) : ℝ) : EReal) else ⊥ := by
  unfold scores
  show (if mask (ix2 r j) = 1#1 then concatenate (T2 t K) 0 [⟨T2 h K, FloatOps.matmul (DotDims.transposedRhs h 128 K) none qs kl (constant (T2 h K) .f32 0x00000000#32)⟩,
        ⟨T2 h K, FloatOps.matmul (DotDims.transposedRhs h 128 K) none qs kh (constant (T2 h K) .f32 0x00000000#32)⟩] hc (ix2 r j)
      * Ideal.ofBits .f32 0x3E000000#32 else Named.named (F := Ideal) κ "mask" 0xF149F2CA#32) = _
  rw [ofBits_eighth]
  refine if_congr Iff.rfl ?_ ?_
  · rw [EReal.coe_mul]
    congr 1
    have z : Ideal.ofBits .f32 0x00000000#32 = 0 := ofBits_zero
    split_ifs with hr
    · rw [stack_left _ _ _ _ _ hr]
      refine (Ideal.matmul_transposedRhs_apply none qs kl _ _ _).trans ?_
      show Ideal.ofBits .f32 0x00000000#32 + _ = _
      rw [z, zero_add, ← coe_sum]
      exact Finset.sum_congr rfl fun l _ => (congrArg₂ (· * ·) (hq ⟨r.val, hr⟩ l) (hl j l)).trans (EReal.coe_mul _ _).symm
    · rw [stack_right _ _ _ _ _ hr (by have := r.isLt; omega)]
      refine (Ideal.matmul_transposedRhs_apply none qs kh _ _ _).trans ?_
      show Ideal.ofBits .f32 0x00000000#32 + _ = _
      rw [z, zero_add, ← coe_sum]
      exact Finset.sum_congr rfl fun l _ => (congrArg₂ (· * ·) (hq ⟨r.val - h, by have := r.isLt; omega⟩ l) (hh j l)).trans (EReal.coe_mul _ _).symm
  · show Named.named (F := Ideal) κ "mask" 0xF149F2CA#32 = ⊥
    rfl

/-- A column read off a vector. -/
theorem column_apply (x : (⟨1, ![t]⟩ : Shape).Idx → EReal) (hs : (⟨1, ![t]⟩ : Shape).ShapeCasts (T2 t 1)) (r : Fin t) :
    shapeCast (T2 t 1) x hs (ix2 r 0) = x (ix1 r) := by
  refine shapeCast_apply x hs _ _ ?_
  rw [Shape.rowMajor_val_one, Shape.rowMajor_val_two]
  show r.val = r.val * 1 + 0
  omega

theorem spread_apply (x : FVec Ideal (T2 t 1) .f32) (hb : (T2 t 1).Broadcasts (T2 t K)) (r : Fin t) (j : Fin K) :
    broadcastTo (T2 t K) x hb (ix2 r j) = x (ix2 r 0) := by
  refine broadcastTo_apply x hb _ _ fun a => ?_
  fin_cases a
  · show r.val = if t = 1 then 0 else r.val
    split_ifs with h
    · have := r.isLt; omega
    · rfl
  · rfl

theorem top_real (s : FVec Ideal (T2 t 128) .f32) (sink : FVec Ideal (T2 t 1) .f32) (hr hs) (σ : ℕ → ℝ)
    (hσ : ∀ r : Fin t, sink (ix2 r 0) = ((σ r : ℝ) : EReal)) (h : ∀ i, s i ≠ ⊤) :
    ∃ μ : ℕ → ℝ, ∀ r : Fin t, top s sink hr hs (ix2 r 0) = ((μ r : ℝ) : EReal) := by
  have key (r : Fin t) : ∃ m : ℝ, top s sink hr hs (ix2 r 0) = (m : EReal) := by
    have e : top s sink hr hs (ix2 r 0) = max (multiReduction .maximumf [1] ⟨1, ![t]⟩ s 0xFF800000#32 hr (.inl rfl) rfl (ix1 r)) ((σ r : ℝ) : EReal) := by
      unfold top
      show max (shapeCast (T2 t 1) _ hs (ix2 r 0)) (sink (ix2 r 0)) = _
      rw [column_apply, hσ]
    have ht : top s sink hr hs (ix2 r 0) ≠ ⊤ := by
      rw [e]
      refine (max_lt ((multiReduction_maximumf_eq_fold s _ hr (.inl rfl) rfl (ix1 r)).trans_lt <| (Finset.fold_max_lt ⊤).2 ⟨?_, fun i _ => lt_top_iff_ne_top.2 (h i)⟩) (EReal.coe_lt_top _)).ne
      show Ideal.ofBits .f32 0xFF800000#32 < ⊤
      simp [Ideal.ofBits, Ideal.ieee]
    have hb : top s sink hr hs (ix2 r 0) ≠ ⊥ := by
      rw [e]; exact ((EReal.bot_lt_coe _).trans_le (le_max_right _ _)).ne'
    exact ⟨_, (EReal.coe_toReal ht hb).symm⟩
  choose f hf using key
  exact ⟨fun r => if h : r < t then f ⟨r, h⟩ else 0, fun r => by rw [hf]; simp only [dif_pos r.isLt]⟩

/-- The exponentials of a row less its greatest score: the weights times one factor for the row. -/
theorem probs_apply (s : FVec Ideal (T2 t K) .f32) (m : FVec Ideal (T2 t 1) .f32) (hb) (μ : ℕ → ℝ) (S : ℕ → ℕ → ℝ)
    (hm : ∀ r : Fin t, m (ix2 r 0) = ((μ r : ℝ) : EReal)) (hs : ∀ i, s i ≠ ⊤) (hS : ∀ (r : Fin t) (j : Fin K), ew (s (ix2 r j)) = S r j)
    (r : Fin t) (j : Fin K) : probs s m hb (ix2 r j) = ((S r j * Real.exp (-(μ r)) : ℝ) : EReal) := by
  unfold probs
  show Ideal.exp (s (ix2 r j) - broadcastTo (T2 t K) m hb (ix2 r j)) = _
  rw [spread_apply, hm, exp_sub _ (hs _), hS]

theorem weigh_apply (off : ℕ) (p : FVec Ideal (T2 t K) .f32) (v : FVec Ideal (T2 K 128) .bf16) (hs : (T2 t K).Slices ![off, 0] (T2 h K))
    (μ : ℕ → ℝ) (S V : ℕ → ℕ → ℝ) (hp : ∀ (r : Fin t) (j : Fin K), p (ix2 r j) = ((S r j * Real.exp (-(μ r)) : ℝ) : EReal))
    (hv : ∀ (j : Fin K) (l : Fin 128), v (ix2 j l) = ((V j l : ℝ) : EReal)) (ho : off + h ≤ t) (r : Fin h) (l : Fin 128) :
    weigh off p v hs (ix2 r l) = (((∑ j : Fin K, S (off + r) j * V j l) * Real.exp (-(μ (off + r))) : ℝ) : EReal) := by
  unfold weigh
  refine (Ideal.matmul_plain_apply none _ v _ _ _).trans ?_
  show Ideal.ofBits .f32 0x00000000#32 + _ = _
  rw [ofBits_zero, zero_add, Finset.sum_mul, ← coe_sum]
  refine Finset.sum_congr rfl fun j _ => ?_
  have e : extractStridedSlice (T2 h K) ![off, 0] p hs (ix2 r j) = p (ix2 ⟨off + r, by have := r.isLt; omega⟩ j) :=
    extractStridedSlice_apply _ p hs _ _ fun a => by fin_cases a; rfl; exact (Nat.zero_add _).symm
  refine (congrArg₂ (· * ·) (e.trans (hp _ j)) (hv j l)).trans ?_
  rw [← EReal.coe_mul]
  exact congrArg _ (by ring)

theorem sum_row (p : FVec Ideal (T2 t 128) .f32) (hr : (T2 t 128).Reduces [1] ⟨1, ![t]⟩) (r : Fin t) :
    multiReduction .add [1] ⟨1, ![t]⟩ p 0x00000000#32 hr (.inl rfl) rfl (ix1 r) = ∑ j : Fin 128, p (ix2 r j) := by
  refine (Ideal.multiReduction_add_single p _ hr (.inl rfl) rfl (ix1 r)).trans ?_
  refine Finset.sum_congr rfl fun j _ => congrArg p ?_
  funext a
  fin_cases a <;> rfl

/-- The two heads' sums over their rows' totals. -/
theorem blend_apply (lo hi : FVec Ideal (T2 h 128) .f32) (p : FVec Ideal (T2 t 128) .f32) (sink m : FVec Ideal (T2 t 1) .f32) (hr hs h0 h1 hb)
    (ht : t = h + h) (μ σ D : ℕ → ℝ) (NL NH : ℕ → ℕ → ℝ) (hm : ∀ r : Fin t, m (ix2 r 0) = ((μ r : ℝ) : EReal))
    (hσ : ∀ r : Fin t, sink (ix2 r 0) = ((σ r : ℝ) : EReal)) (hD : ∀ r, 0 ≤ D r)
    (hp : ∀ r : Fin t, ∑ j : Fin 128, p (ix2 r j) = ((D r * Real.exp (-(μ r)) : ℝ) : EReal))
    (hl : ∀ (r : Fin h) (l : Fin 128), lo (ix2 r l) = (((if l.val < 64 then NL r l else 0) * Real.exp (-(μ r)) : ℝ) : EReal))
    (hh : ∀ (r : Fin h) (l : Fin 128), hi (ix2 r l) = (((if l.val < 64 then 0 else NH r l) * Real.exp (-(μ (h + r))) : ℝ) : EReal))
    (r : Fin h) (l : Fin 128) :
    blend lo hi (scale p sink m hr hs) h0 h1 hb (ix2 r l)
      = ((if l.val < 64 then NL r l / (D r + Real.exp (σ r)) else NH r l / (D (h + r) + Real.exp (σ (h + r))) : ℝ) : EReal) := by
  have sc (r : Fin t) : scale p sink m hr hs (ix2 r 0)
      = Ideal.div 1 (((D r * Real.exp (-(μ r)) : ℝ) : EReal) + Ideal.exp (((σ r : ℝ) : EReal) - ((μ r : ℝ) : EReal))) := by
    unfold scale
    show Ideal.div (Ideal.ofBits .f32 0x3F800000#32) (shapeCast (T2 t 1) _ hs (ix2 r 0) + Ideal.exp (sink (ix2 r 0) - m (ix2 r 0))) = _
    rw [column_apply, sum_row, hp, hσ, hm, ofBits_one]
  have c0 : broadcastTo (T2 h 128) (extractStridedSlice (T2 h 1) ![0, 0] (scale p sink m hr hs) h0) hb (ix2 r l)
      = scale p sink m hr hs (ix2 ⟨r.val, by have := r.isLt; omega⟩ 0) :=
    (spread_apply _ hb r l).trans (extractStridedSlice_apply _ _ h0 _ _ fun a => by fin_cases a; exact (Nat.zero_add _).symm; rfl)
  have c1 : broadcastTo (T2 h 128) (extractStridedSlice (T2 h 1) ![h, 0] (scale p sink m hr hs) h1) hb (ix2 r l)
      = scale p sink m hr hs (ix2 ⟨h + r.val, by have := r.isLt; omega⟩ 0) :=
    (spread_apply _ hb r l).trans (extractStridedSlice_apply _ _ h1 _ _ fun a => by fin_cases a <;> rfl)
  unfold blend
  show lo (ix2 r l) * broadcastTo (T2 h 128) (extractStridedSlice (T2 h 1) ![0, 0] (scale p sink m hr hs) h0) hb (ix2 r l)
    + hi (ix2 r l) * broadcastTo (T2 h 128) (extractStridedSlice (T2 h 1) ![h, 0] (scale p sink m hr hs) h1) hb (ix2 r l) = _
  rw [c0, c1, sc, sc, hl, hh, shift _ _ _ _ (hD _), shift _ _ _ _ (hD _), ← EReal.coe_add]
  refine congrArg _ ?_
  split_ifs <;> simp

end Cert.AttnRead
end
-- ==== Proof.AttnGroup.lean ====
/- The result of one group of four query heads, for each of the three kinds of query rows: for a row and a lane, the
   values weighted by the exponentials of the scores, over the total weight and the sink's. -/
module

public import proofs.«01_k».proof.Proof.AttnRead

@[expose] public section

set_option maxRecDepth 16384

noncomputable section

namespace Cert.AttnGroup

open Idealize.ShloMosaic Idealize.ShloMosaic.TcCoe Cert.AttnFKernelIdeal Cert.AttnOps Cert.AttnMath Cert.AttnRead

open scoped Classical in
/-- The weight of key `j` in row `r`: rows under `h` are the low lanes' heads, the others the high lanes'. -/
def wt (h : ℕ) (Q X : ℕ → ℕ → ℝ) (o : ℕ) (M : ℕ → ℕ → Prop) (r j : ℕ) : ℝ :=
  if M r j then Real.exp (rdot (fun x => if r < h then Q r x else Q (r - h) (64 + x)) (fun x => X j (x + o)) * (1 / 8)) else 0

theorem wt_nonneg (h : ℕ) (Q X : ℕ → ℕ → ℝ) (o : ℕ) (M : ℕ → ℕ → Prop) (r j : ℕ) : 0 ≤ wt h Q X o M r j := by
  by_cases hm : M r j
  · rw [wt, if_pos hm]; exact (Real.exp_pos _).le
  · rw [wt, if_neg hm]

variable {n q h t K : ℕ}

/-- A tile whose low lanes, and one whose high lanes, hold a key head. -/
def IsLow (x : FVec Ideal (T2 K 128) .bf16) (X : ℕ → ℕ → ℝ) (o : ℕ) : Prop :=
  ∀ (j : Fin K) (l : Fin 128), x (ix2 j l) = ((if l.val < 64 then X j (l + o) else 0 : ℝ) : EReal)
def IsHigh (x : FVec Ideal (T2 K 128) .bf16) (X : ℕ → ℕ → ℝ) (o : ℕ) : Prop :=
  ∀ (j : Fin K) (l : Fin 128), x (ix2 j l) = ((if l.val < 64 then 0 else X j (l - 64 + o) : ℝ) : EReal)
theorem scores_wt (qs : FVec Ideal (T2 h 128) .bf16) (kl kh : FVec Ideal (T2 K 128) .bf16) (mask : IVec (T2 t K) 1) (hc)
    (Q X : ℕ → ℕ → ℝ) (o : ℕ) (M : ℕ → ℕ → Prop) (hq : ∀ (r : Fin h) (l : Fin 128), qs (ix2 r l) = ((Q r l : ℝ) : EReal))
    (hl : IsLow kl X o) (hh : IsHigh kh X o) (ht : t = h + h) (hM : ∀ (r : Fin t) (j : Fin K), mask (ix2 r j) = 1#1 ↔ M r j) :
    (∀ i, scores qs kl kh mask hc i ≠ ⊤) ∧ ∀ (r : Fin t) (j : Fin K), ew (scores qs kl kh mask hc (ix2 r j)) = wt h Q X o M r j := by
  have e (r : Fin t) (j : Fin K) := scores_apply qs kl kh mask hc Q (fun j l => if l < 64 then X j (l + o) else 0) (fun j l => if l < 64 then 0 else X j (l - 64 + o)) hq hl hh ht r j
  constructor
  · intro i
    rw [show i = ix2 (i 0) (i 1) from ValueIdx.eq_ix2 i]
    refine ne_of_eq_of_ne (e (i 0) (i 1)) ?_
    split_ifs
    · exact EReal.coe_ne_top _
    · exact EReal.coe_ne_top _
    · exact bot_ne_top
  · intro r j
    rw [e r j, wt]
    by_cases hm : M r j
    · rw [if_pos ((hM r j).2 hm), if_pos hm, ew_coe]
      refine congrArg (fun z => Real.exp (z * (1 / 8))) ?_
      by_cases hr : r.val < h
      · simp only [if_pos hr]; exact sum_low (Q r) (X j) o
      · simp only [if_neg hr]; exact sum_high (Q (r - h)) (X j) o
    · rw [if_neg (mt (hM r j).1 hm), if_neg hm, ew_bot]

theorem low_padded (odd : Bool) (x : Vec Ideal (T3 16 128) .bf16) (X : ℕ → ℕ → ℝ)
    (hx : ∀ (r : Fin 16) (l : Fin 128), x (ix3 0 r l) = ((X r l : ℝ) : EReal)) :
    IsLow (padded (lows odd x)) (fun j l => if j < 16 then X j l else 0) (start odd) := fun j l => by
  rw [padded_apply _ (fun j l => if l < 64 then X j (l + start odd) else 0) (fun r l => lows_apply odd x _ _ _ X hx r l)]
  by_cases hj : j.val < 16
  · simp only [if_pos hj]
  · simp only [if_neg hj, ite_self]

theorem high_padded (odd : Bool) (x : Vec Ideal (T3 16 128) .bf16) (X : ℕ → ℕ → ℝ)
    (hx : ∀ (r : Fin 16) (l : Fin 128), x (ix3 0 r l) = ((X r l : ℝ) : EReal)) :
    IsHigh (padded (highs odd x)) (fun j l => if j < 16 then X j l else 0) (start odd) := fun j l => by
  rw [padded_apply _ (fun j l => if l < 64 then 0 else X j (l - 64 + start odd)) (fun r l => highs_apply odd x _ _ _ X hx r l)]
  by_cases hj : j.val < 16
  · simp only [if_pos hj]
  · simp only [if_neg hj, ite_self]

/-- The values weighed, in the low and in the high lanes. -/
theorem weigh_low (p : FVec Ideal (T2 t K) .f32) (v : FVec Ideal (T2 K 128) .bf16) (hs : (T2 t K).Slices ![0, 0] (T2 h K)) (μ : ℕ → ℝ) (S V : ℕ → ℕ → ℝ)
    (o : ℕ) (hp : ∀ (r : Fin t) (j : Fin K), p (ix2 r j) = ((S r j * Real.exp (-(μ r)) : ℝ) : EReal)) (hv : IsLow v V o) (ht : t = h + h)
    (r : Fin h) (l : Fin 128) :
    weigh 0 p v hs (ix2 r l) = (((if l.val < 64 then ∑ j : Fin K, S r j * V j (l + o) else 0) * Real.exp (-(μ r)) : ℝ) : EReal) := by
  rw [weigh_apply 0 p v hs μ S (fun j l => if l < 64 then V j (l + o) else 0) hp hv (by omega), Nat.zero_add]
  split_ifs with hl
  · simp only [if_pos hl]
  · simp only [if_neg hl, mul_zero, Finset.sum_const_zero]

theorem weigh_high (p : FVec Ideal (T2 t K) .f32) (v : FVec Ideal (T2 K 128) .bf16) (hs : (T2 t K).Slices ![h, 0] (T2 h K)) (μ : ℕ → ℝ) (S V : ℕ → ℕ → ℝ)
    (o : ℕ) (hp : ∀ (r : Fin t) (j : Fin K), p (ix2 r j) = ((S r j * Real.exp (-(μ r)) : ℝ) : EReal)) (hv : IsHigh v V o) (ht : t = h + h)
    (r : Fin h) (l : Fin 128) :
    weigh h p v hs (ix2 r l) = (((if l.val < 64 then 0 else ∑ j : Fin K, S (h + r) j * V j (l - 64 + o)) * Real.exp (-(μ (h + r))) : ℝ) : EReal) := by
  rw [weigh_apply h p v hs μ S (fun j l => if l < 64 then 0 else V j (l - 64 + o)) hp hv (by omega)]
  split_ifs with hl
  · simp only [if_pos hl, mul_zero, Finset.sum_const_zero]
  · simp only [if_neg hl]

/-- The row of the group that holds row `r`, lane `l` of the result. -/
def rowOf (h r l : ℕ) : ℕ := if l < 64 then r else h + r

theorem lane_low {l : ℕ} (hl : l < 64) : l % 64 = l := Nat.mod_eq_of_lt hl
theorem lane_high {l : ℕ} (h : ¬ l < 64) (hl : l < 128) : l % 64 = l - 64 := by omega

/-- Two lots of keys, weighed and divided. -/
theorem group_two (p : FVec Ideal (T2 t K) .f32) (pm ps : FVec Ideal (T2 t 128) .f32) (sink m : FVec Ideal (T2 t 1) .f32) (vl vh : FVec Ideal (T2 K 128) .bf16)
    (vml vmh : FVec Ideal (T2 128 128) .bf16) (hr hs h0 h1 hb) (s0 : (T2 t K).Slices ![0, 0] (T2 h K)) (s1 : (T2 t K).Slices ![h, 0] (T2 h K))
    (s2 : (T2 t 128).Slices ![0, 0] (T2 h 128)) (s3 : (T2 t 128).Slices ![h, 0] (T2 h 128)) (ht : t = h + h)
    (μ σ : ℕ → ℝ) (S SM V VM : ℕ → ℕ → ℝ) (o : ℕ) (hm : ∀ r : Fin t, m (ix2 r 0) = ((μ r : ℝ) : EReal))
    (hσ : ∀ r : Fin t, sink (ix2 r 0) = ((σ r : ℝ) : EReal)) (hS : ∀ r j, 0 ≤ S r j) (hSM : ∀ r j, 0 ≤ SM r j)
    (hp : ∀ (r : Fin t) (j : Fin K), p (ix2 r j) = ((S r j * Real.exp (-(μ r)) : ℝ) : EReal))
    (hpm : ∀ (r : Fin t) (j : Fin 128), pm (ix2 r j) = ((SM r j * Real.exp (-(μ r)) : ℝ) : EReal))
    (hps : ∀ r : Fin t, ∑ j : Fin 128, ps (ix2 r j) = (((∑ j : Fin K, S r j + ∑ j : Fin 128, SM r j) * Real.exp (-(μ r)) : ℝ) : EReal))
    (hvl : IsLow vl V o) (hvh : IsHigh vh V o) (hvml : IsLow vml VM o) (hvmh : IsHigh vmh VM o) (r : Fin h) (l : Fin 128) :
    blend (addf (weigh 0 p vl s0) (weigh 0 pm vml s2)) (addf (weigh h p vh s1) (weigh h pm vmh s3)) (scale ps sink m hr hs) h0 h1 hb (ix2 r l)
      = (((∑ j : Fin K, S (rowOf h r l) j * V j (l % 64 + o) + ∑ j : Fin 128, SM (rowOf h r l) j * VM j (l % 64 + o))
          / (∑ j : Fin K, S (rowOf h r l) j + ∑ j : Fin 128, SM (rowOf h r l) j + Real.exp (σ (rowOf h r l))) : ℝ) : EReal) := by
  rw [blend_apply _ _ ps sink m hr hs h0 h1 hb ht μ σ (fun r => ∑ j : Fin K, S r j + ∑ j : Fin 128, SM r j)
    (fun r l => ∑ j : Fin K, S r j * V j (l + o) + ∑ j : Fin 128, SM r j * VM j (l + o))
    (fun r l => ∑ j : Fin K, S (h + r) j * V j (l - 64 + o) + ∑ j : Fin 128, SM (h + r) j * VM j (l - 64 + o)) hm hσ
    (fun r => add_nonneg (Finset.sum_nonneg fun j _ => hS r j) (Finset.sum_nonneg fun j _ => hSM r j)) hps]
  · unfold rowOf
    by_cases hl : l.val < 64
    · simp only [if_pos hl, lane_low hl]
    · simp only [if_neg hl, lane_high hl l.isLt]
  · intro r l
    show weigh 0 p vl s0 (ix2 r l) + weigh 0 pm vml s2 (ix2 r l) = _
    rw [weigh_low p vl s0 μ S V o hp hvl ht, weigh_low pm vml s2 μ SM VM o hpm hvml ht, ← EReal.coe_add, ← add_mul]
    refine congrArg (fun z : ℝ => ((z * Real.exp (-(μ r)) : ℝ) : EReal)) ?_
    split_ifs <;> simp
  · intro r l
    show weigh h p vh s1 (ix2 r l) + weigh h pm vmh s3 (ix2 r l) = _
    rw [weigh_high p vh s1 μ S V o hp hvh ht, weigh_high pm vmh s3 μ SM VM o hpm hvmh ht, ← EReal.coe_add, ← add_mul]
    refine congrArg (fun z : ℝ => ((z * Real.exp (-(μ (h + r))) : ℝ) : EReal)) ?_
    split_ifs <;> simp

end Cert.AttnGroup
end
-- ==== Proof.AttnRows.lean ====
/- The masks and the sinks' column of the attention kernel, and the result of each kind of query rows at a row and a lane. -/
module

public import proofs.«01_k».proof.Proof.AttnGroup

@[expose] public section

set_option maxRecDepth 16384

noncomputable section

namespace Cert.AttnRows

open Idealize.ShloMosaic Idealize.ShloMosaic.TcCoe Cert.AttnFKernelIdeal Cert.AttnOps Cert.AttnMath Cert.AttnRead Cert.AttnGroup

theorem rowMod_512_256 (r : Fin 512) (j : Fin 256) : rowMod 512 256 128#32 (by decide) (by decide) (ix2 r j) = BitVec.ofNat 32 (r.val % 128) := by
  have key : ∀ r : Fin 512, rowMod 512 256 128#32 (by decide) (by decide) (ix2 r (0 : Fin 256)) = BitVec.ofNat 32 (r.val % 128) := by decide +kernel
  exact key r

theorem rowMod_512_128 (r : Fin 512) (j : Fin 128) : rowMod 512 128 128#32 (by decide) (by decide) (ix2 r j) = BitVec.ofNat 32 (r.val % 128) := by
  have key : ∀ r : Fin 512, rowMod 512 128 128#32 (by decide) (by decide) (ix2 r (0 : Fin 128)) = BitVec.ofNat 32 (r.val % 128) := by decide +kernel
  exact key r

theorem rowMod_64_128 (r : Fin 64) (j : Fin 128) : rowMod 64 128 16#32 (by decide) (by decide) (ix2 r j) = BitVec.ofNat 32 (r.val % 16) := by
  have key : ∀ r : Fin 64, rowMod 64 128 16#32 (by decide) (by decide) (ix2 r (0 : Fin 128)) = BitVec.ofNat 32 (r.val % 16) := by decide +kernel
  exact key r

theorem rowDiv_512 : ∀ r : Fin 512, rowDiv 512 128#32 (by decide) (ix2 r (0 : Fin 1)) = BitVec.ofNat 32 (r.val / 128) := by decide +kernel
theorem rowDiv_64 : ∀ r : Fin 64, rowDiv 64 16#32 (by decide) (ix2 r (0 : Fin 1)) = BitVec.ofNat 32 (r.val / 16) := by decide +kernel

theorem toInt_small {a : ℕ} (ha : a < 1024) : (BitVec.ofNat 32 a).toInt = a := by
  rw [BitVec.toInt_eq_toNat_of_lt (by rw [BitVec.toNat_ofNat]; omega), BitVec.toNat_ofNat, Nat.mod_eq_of_lt (by omega)]

theorem slt_small {a b : ℕ} (ha : a < 1024) (hb : b < 1024) : (BitVec.ofNat 32 a).slt (BitVec.ofNat 32 b) = decide (a < b) := by
  rw [BitVec.slt_eq_decide, toInt_small ha, toInt_small hb]; simp

theorem sle_small {a b : ℕ} (ha : a < 1024) (hb : b < 1024) : (BitVec.ofNat 32 a).sle (BitVec.ofNat 32 b) = decide (a ≤ b) := by
  rw [BitVec.sle_eq_decide, toInt_small ha, toInt_small hb]; simp

theorem bit_and (a b : Bool) : IntOp.andi (BitVec.ofBool a) (BitVec.ofBool b) = 1#1 ↔ a = true ∧ b = true := by revert a b; decide
theorem bit_one (a : Bool) : BitVec.ofBool a = 1#1 ↔ a = true := by revert a; decide

theorem bandMask_iff (r : Fin 512) (j : Fin 256) : bandMask (ix2 r j) = 1#1 ↔ r.val % 128 < j.val ∧ j.val ≤ r.val % 128 + 128 := by
  show IntOp.andi (BitVec.ofBool (BitVec.slt (rowMod 512 256 128#32 (by decide) (by decide) (ix2 r j)) (BitVec.ofNat 32 (0 * 256 + j.val))))
    (BitVec.ofBool (BitVec.sle (BitVec.ofNat 32 (0 * 256 + j.val)) (rowMod 512 256 128#32 (by decide) (by decide) (ix2 r j) + BitVec.ofNat 32 128))) = 1#1 ↔ _
  have hj := j.isLt
  rw [rowMod_512_256, ← BitVec.ofNat_add, Nat.zero_mul, Nat.zero_add, slt_small (by omega) (by omega), sle_small (by omega) (by omega), bit_and]
  simp

theorem firstMask_iff (r : Fin 512) (j : Fin 128) : firstMask (ix2 r j) = 1#1 ↔ j.val ≤ r.val % 128 := by
  show (BitVec.ofBool (BitVec.sle (BitVec.ofNat 32 (0 * 128 + j.val)) (rowMod 512 128 128#32 (by decide) (by decide) (ix2 r j)))) = 1#1 ↔ _
  have hj := j.isLt
  rw [rowMod_512_128, Nat.zero_mul, Nat.zero_add, sle_small (by omega) (by omega), bit_one]
  simp

theorem metaMask_iff (r : Fin 512) (j : Fin 128) : metaMask (ix2 r j) = 1#1 ↔ j.val < 16 := by
  show (BitVec.ofBool (BitVec.slt (BitVec.ofNat 32 (0 * 128 + j.val)) (BitVec.ofNat 32 16))) = 1#1 ↔ _
  have hj := j.isLt
  rw [Nat.zero_mul, Nat.zero_add, slt_small (by omega) (by omega), bit_one]
  simp

theorem causalMask_iff (r : Fin 64) (j : Fin 128) : causalMask (ix2 r j) = 1#1 ↔ j.val < 16 ∧ j.val ≤ r.val % 16 := by
  show IntOp.andi (BitVec.ofBool (BitVec.slt (BitVec.ofNat 32 (0 * 128 + j.val)) (BitVec.ofNat 32 16)))
    (BitVec.ofBool (BitVec.sle (BitVec.ofNat 32 (0 * 128 + j.val)) (rowMod 64 128 16#32 (by decide) (by decide) (ix2 r j)))) = 1#1 ↔ _
  have hj := j.isLt
  rw [rowMod_64_128, Nat.zero_mul, Nat.zero_add, slt_small (by omega) (by omega), sle_small (by omega) (by omega), bit_and]
  simp

/-- The sink of a row: `s` of its head, in the order 0, 2, 1, 3. -/
def sinkOf (n : ℕ) (s : ℕ → ℝ) (r : ℕ) : ℝ := s (if r / n = 1 then 2 else if r / n = 2 then 1 else r / n)

theorem sinkCol_of {t n : ℕ} (w : BitVec 32) (a0 a1 a2 a3 : Elt Ideal .f32) (hi) (s : ℕ → ℝ) (h0 : a0 = ((s 0 : ℝ) : EReal)) (h1 : a1 = ((s 1 : ℝ) : EReal))
    (h2 : a2 = ((s 2 : ℝ) : EReal)) (h3 : a3 = ((s 3 : ℝ) : EReal)) (ht : t ≤ n * 4)
    (hd : ∀ r : Fin t, rowDiv t w hi (ix2 r (0 : Fin 1)) = BitVec.ofNat 32 (r.val / n)) (r : Fin t) :
    sinkCol t w a0 a1 a2 a3 hi (ix2 r 0) = ((sinkOf n s r : ℝ) : EReal) := by
  have hlt : r.val / n < 4 := by have := r.isLt; exact Nat.div_lt_of_lt_mul (by omega)
  unfold sinkCol
  show (if IntOp.cmpi .eq (rowDiv t w hi (ix2 r (0 : Fin 1))) 3#32 = 1#1 then a3 else if IntOp.cmpi .eq (rowDiv t w hi (ix2 r (0 : Fin 1))) 2#32 = 1#1 then a1
    else if IntOp.cmpi .eq (rowDiv t w hi (ix2 r (0 : Fin 1))) 1#32 = 1#1 then a2 else if IntOp.cmpi .eq (rowDiv t w hi (ix2 r (0 : Fin 1))) 0#32 = 1#1 then a0 else _) = _
  rw [hd, sinkOf, h0, h1, h2, h3]
  generalize r.val / n = d at hlt
  interval_cases d <;> simp [IntOp.cmpi]

end Cert.AttnRows
end
-- ==== Proof.AttnKinds.lean ====
/- What the three kinds of query rows store, at a row and a lane. -/
module

public import proofs.«01_k».proof.Proof.AttnRows

@[expose] public section

set_option maxRecDepth 16384

noncomputable section

namespace Cert.AttnKinds

open Idealize.ShloMosaic Idealize.ShloMosaic.TcCoe Cert.AttnFKernelIdeal Cert.AttnOps Cert.AttnMath Cert.AttnRead Cert.AttnGroup Cert.AttnRows

/-- Two query tiles of `q` rows, one above the other. -/
def both (q : ℕ) (A B : ℕ → ℕ → ℝ) (r l : ℕ) : ℝ := if r < q then A r l else B (r - q) l
/-- The meta tokens' rows, zeros below them. -/
def meta16 (X : ℕ → ℕ → ℝ) (j l : ℕ) : ℝ := if j < 16 then X j l else 0

theorem max_ne_top {a b : EReal} (ha : a ≠ ⊤) (hb : b ≠ ⊤) : max a b ≠ ⊤ := (max_lt (lt_top_iff_ne_top.2 ha) (lt_top_iff_ne_top.2 hb)).ne

def bandRel (r j : ℕ) : Prop := r % 128 < j ∧ j ≤ r % 128 + 128
def firstRel (r j : ℕ) : Prop := j ≤ r % 128
def metaRel (_ j : ℕ) : Prop := j < 16
def causalRel (r j : ℕ) : Prop := j < 16 ∧ j ≤ r % 16

theorem later_apply (odd : Bool) (k v : Vec Ideal (T3 256 128) .bf16) (km vm : Vec Ideal (T3 16 128) .bf16) (qa qb : Vec Ideal (T3 128 128) .bf16)
    (a0 a1 a2 a3 : Elt Ideal .f32) (s : ℕ → ℝ) (h0 : a0 = ((s 0 : ℝ) : EReal)) (h1 : a1 = ((s 1 : ℝ) : EReal)) (h2 : a2 = ((s 2 : ℝ) : EReal))
    (h3 : a3 = ((s 3 : ℝ) : EReal)) (Kf KM V VM A B : ℕ → ℕ → ℝ)
    (hk : ∀ (r : Fin 256) (l : Fin 128), k (ix3 0 r l) = ((Kf r l : ℝ) : EReal)) (hkm : ∀ (r : Fin 16) (l : Fin 128), km (ix3 0 r l) = ((KM r l : ℝ) : EReal))
    (hv : ∀ (r : Fin 256) (l : Fin 128), v (ix3 0 r l) = ((V r l : ℝ) : EReal)) (hvm : ∀ (r : Fin 16) (l : Fin 128), vm (ix3 0 r l) = ((VM r l : ℝ) : EReal))
    (ha : ∀ (r : Fin 128) (l : Fin 128), qa (ix3 0 r l) = ((A r l : ℝ) : EReal)) (hb : ∀ (r : Fin 128) (l : Fin 128), qb (ix3 0 r l) = ((B r l : ℝ) : EReal))
    (r : Fin 256) (l : Fin 128) :
    later odd k km v vm qa qb a0 a1 a2 a3 metaMask (ix2 r l)
      = (((∑ j : Fin 256, wt 256 (both 128 A B) Kf (start odd) bandRel (rowOf 256 r l) j * V j (l % 64 + start odd)
            + ∑ j : Fin 128, wt 256 (both 128 A B) (meta16 KM) (start odd) metaRel (rowOf 256 r l) j * meta16 VM j (l % 64 + start odd))
          / (∑ j : Fin 256, wt 256 (both 128 A B) Kf (start odd) bandRel (rowOf 256 r l) j
            + ∑ j : Fin 128, wt 256 (both 128 A B) (meta16 KM) (start odd) metaRel (rowOf 256 r l) j + Real.exp (sinkOf 128 s (rowOf 256 r l))) : ℝ) : EReal) := by
  have hq : ∀ (r : Fin 256) (l : Fin 128), (stacked qa qb : FVec Ideal (T2 256 128) .bf16) (ix2 r l) = ((both 128 A B r l : ℝ) : EReal) :=
    fun r l => stacked_apply qa qb _ _ A B ha hb rfl r l
  obtain ⟨ns, hs⟩ := scores_wt (t := 512) (stacked qa qb) (lows odd k) (highs odd k) bandMask (by decide) (both 128 A B) Kf (start odd) bandRel hq
    (fun r l => lows_apply odd k _ _ _ Kf hk r l) (fun r l => highs_apply odd k _ _ _ Kf hk r l) rfl bandMask_iff
  obtain ⟨nsm, hsm⟩ := scores_wt (t := 512) (stacked qa qb) (padded (lows odd km)) (padded (highs odd km)) metaMask (by decide) (both 128 A B) (meta16 KM)
    (start odd) metaRel hq (low_padded odd km KM hkm) (high_padded odd km KM hkm) rfl metaMask_iff
  have hσ := fun r => sinkCol_of (t := 512) (n := 128) 128#32 a0 a1 a2 a3 (by decide) s h0 h1 h2 h3 (by decide) rowDiv_512 r
  obtain ⟨μ, hμ⟩ := top_real (t := 512) (maximumf (maximumf
      (extractStridedSlice (T2 512 128) ![0, 0] (scores (stacked qa qb) (lows odd k) (highs odd k) bandMask) (by decide))
      (extractStridedSlice (T2 512 128) ![0, 128] (scores (stacked qa qb) (lows odd k) (highs odd k) bandMask) (by decide)))
      (scores (stacked qa qb) (padded (lows odd km)) (padded (highs odd km)) metaMask)) (sinkCol 512 128#32 a0 a1 a2 a3) (by decide) (by decide) _ hσ
    (fun i => max_ne_top (max_ne_top (ns _) (ns _)) (nsm _))
  have hp := probs_apply _ _ (by decide) μ _ hμ ns hs
  have hpm := probs_apply _ _ (by decide) μ _ hμ nsm hsm
  refine group_two _ _ _ _ _ (lows odd v) (highs odd v) (padded (lows odd vm)) (padded (highs odd vm)) (by decide) (by decide) (by decide) (by decide) (by decide)
    (by decide) (by decide) (by decide) (by decide) rfl μ _ _ _ V (meta16 VM) (start odd) hμ hσ (wt_nonneg _ _ _ _ _) (wt_nonneg _ _ _ _ _) hp hpm ?_
    (fun r l => lows_apply odd v _ _ _ V hv r l) (fun r l => highs_apply odd v _ _ _ V hv r l) (low_padded odd vm VM hvm) (high_padded odd vm VM hvm) r l
  intro r
  have e0 (p : FVec Ideal (T2 512 256) .f32) (r : Fin 512) (j : Fin 128) : extractStridedSlice (T2 512 128) ![0, 0] p (by decide) (ix2 r j) = p (ix2 r (Fin.castAdd 128 j)) :=
    extractStridedSlice_apply _ p _ _ _ fun a => by fin_cases a <;> exact (Nat.zero_add _).symm
  have e1 (p : FVec Ideal (T2 512 256) .f32) (r : Fin 512) (j : Fin 128) : extractStridedSlice (T2 512 128) ![0, 128] p (by decide) (ix2 r j) = p (ix2 r (Fin.natAdd 128 j)) :=
    extractStridedSlice_apply _ p _ _ _ fun a => by fin_cases a; exact (Nat.zero_add _).symm; rfl
  refine (Finset.sum_congr rfl fun j _ => congrArg₂ (· + ·) (congrArg₂ (· + ·) ((e0 _ r j).trans (hp r _)) ((e1 _ r j).trans (hp r _))) (hpm r j)).trans ?_
  simp only [← EReal.coe_add]
  rw [coe_sum]
  refine congrArg _ ?_
  rw [Finset.sum_add_distrib, Finset.sum_add_distrib, add_mul, Finset.sum_mul, Finset.sum_mul]
  refine congrArg₂ _ ?_ rfl
  exact (Fin.sum_univ_add (a := 128) (b := 128) (fun j : Fin (128 + 128) => wt 256 (both 128 A B) Kf (start odd) bandRel r j * Real.exp (-(μ r)))).symm

theorem first_apply (odd : Bool) (k v : Vec Ideal (T3 128 128) .bf16) (km vm : Vec Ideal (T3 16 128) .bf16) (qa qb : Vec Ideal (T3 128 128) .bf16)
    (a0 a1 a2 a3 : Elt Ideal .f32) (s : ℕ → ℝ) (h0 : a0 = ((s 0 : ℝ) : EReal)) (h1 : a1 = ((s 1 : ℝ) : EReal)) (h2 : a2 = ((s 2 : ℝ) : EReal))
    (h3 : a3 = ((s 3 : ℝ) : EReal)) (Kf KM V VM A B : ℕ → ℕ → ℝ)
    (hk : ∀ (r : Fin 128) (l : Fin 128), k (ix3 0 r l) = ((Kf r l : ℝ) : EReal)) (hkm : ∀ (r : Fin 16) (l : Fin 128), km (ix3 0 r l) = ((KM r l : ℝ) : EReal))
    (hv : ∀ (r : Fin 128) (l : Fin 128), v (ix3 0 r l) = ((V r l : ℝ) : EReal)) (hvm : ∀ (r : Fin 16) (l : Fin 128), vm (ix3 0 r l) = ((VM r l : ℝ) : EReal))
    (ha : ∀ (r : Fin 128) (l : Fin 128), qa (ix3 0 r l) = ((A r l : ℝ) : EReal)) (hb : ∀ (r : Fin 128) (l : Fin 128), qb (ix3 0 r l) = ((B r l : ℝ) : EReal))
    (r : Fin 256) (l : Fin 128) :
    first odd k km v vm qa qb a0 a1 a2 a3 (ix2 r l)
      = (((∑ j : Fin 128, wt 256 (both 128 A B) Kf (start odd) firstRel (rowOf 256 r l) j * V j (l % 64 + start odd)
            + ∑ j : Fin 128, wt 256 (both 128 A B) (meta16 KM) (start odd) metaRel (rowOf 256 r l) j * meta16 VM j (l % 64 + start odd))
          / (∑ j : Fin 128, wt 256 (both 128 A B) Kf (start odd) firstRel (rowOf 256 r l) j
            + ∑ j : Fin 128, wt 256 (both 128 A B) (meta16 KM) (start odd) metaRel (rowOf 256 r l) j + Real.exp (sinkOf 128 s (rowOf 256 r l))) : ℝ) : EReal) := by
  have hq : ∀ (r : Fin 256) (l : Fin 128), (stacked qa qb : FVec Ideal (T2 256 128) .bf16) (ix2 r l) = ((both 128 A B r l : ℝ) : EReal) :=
    fun r l => stacked_apply qa qb _ _ A B ha hb rfl r l
  obtain ⟨ns, hs⟩ := scores_wt (t := 512) (stacked qa qb) (lows odd k) (highs odd k) firstMask (by decide) (both 128 A B) Kf (start odd) firstRel hq
    (fun r l => lows_apply odd k _ _ _ Kf hk r l) (fun r l => highs_apply odd k _ _ _ Kf hk r l) rfl firstMask_iff
  obtain ⟨nsm, hsm⟩ := scores_wt (t := 512) (stacked qa qb) (padded (lows odd km)) (padded (highs odd km)) metaMask (by decide) (both 128 A B) (meta16 KM)
    (start odd) metaRel hq (low_padded odd km KM hkm) (high_padded odd km KM hkm) rfl metaMask_iff
  have hσ := fun r => sinkCol_of (t := 512) (n := 128) 128#32 a0 a1 a2 a3 (by decide) s h0 h1 h2 h3 (by decide) rowDiv_512 r
  obtain ⟨μ, hμ⟩ := top_real (t := 512) (maximumf (scores (stacked qa qb) (lows odd k) (highs odd k) firstMask)
      (scores (stacked qa qb) (padded (lows odd km)) (padded (highs odd km)) metaMask)) (sinkCol 512 128#32 a0 a1 a2 a3) (by decide) (by decide) _ hσ
    (fun i => max_ne_top (ns _) (nsm _))
  have hp := probs_apply _ _ (by decide) μ _ hμ ns hs
  have hpm := probs_apply _ _ (by decide) μ _ hμ nsm hsm
  refine group_two _ _ _ _ _ (lows odd v) (highs odd v) (padded (lows odd vm)) (padded (highs odd vm)) (by decide) (by decide) (by decide) (by decide) (by decide)
    (by decide) (by decide) (by decide) (by decide) rfl μ _ _ _ V (meta16 VM) (start odd) hμ hσ (wt_nonneg _ _ _ _ _) (wt_nonneg _ _ _ _ _) hp hpm ?_
    (fun r l => lows_apply odd v _ _ _ V hv r l) (fun r l => highs_apply odd v _ _ _ V hv r l) (low_padded odd vm VM hvm) (high_padded odd vm VM hvm) r l
  intro r
  refine (Finset.sum_congr rfl fun j _ => congrArg₂ (· + ·) (hp r j) (hpm r j)).trans ?_
  simp only [← EReal.coe_add]
  rw [coe_sum]
  refine congrArg _ ?_
  rw [Finset.sum_add_distrib, add_mul, Finset.sum_mul, Finset.sum_mul]

theorem among_apply (odd : Bool) (km vm qa qb : Vec Ideal (T3 16 128) .bf16)
    (a0 a1 a2 a3 : Elt Ideal .f32) (s : ℕ → ℝ) (h0 : a0 = ((s 0 : ℝ) : EReal)) (h1 : a1 = ((s 1 : ℝ) : EReal)) (h2 : a2 = ((s 2 : ℝ) : EReal))
    (h3 : a3 = ((s 3 : ℝ) : EReal)) (KM VM A B : ℕ → ℕ → ℝ)
    (hkm : ∀ (r : Fin 16) (l : Fin 128), km (ix3 0 r l) = ((KM r l : ℝ) : EReal))
    (hvm : ∀ (r : Fin 16) (l : Fin 128), vm (ix3 0 r l) = ((VM r l : ℝ) : EReal))
    (ha : ∀ (r : Fin 16) (l : Fin 128), qa (ix3 0 r l) = ((A r l : ℝ) : EReal)) (hb : ∀ (r : Fin 16) (l : Fin 128), qb (ix3 0 r l) = ((B r l : ℝ) : EReal))
    (r : Fin 32) (l : Fin 128) :
    among odd km vm qa qb a0 a1 a2 a3 (ix2 r l)
      = (((∑ j : Fin 128, wt 32 (both 16 A B) (meta16 KM) (start odd) causalRel (rowOf 32 r l) j * meta16 VM j (l % 64 + start odd))
          / (∑ j : Fin 128, wt 32 (both 16 A B) (meta16 KM) (start odd) causalRel (rowOf 32 r l) j + Real.exp (sinkOf 16 s (rowOf 32 r l))) : ℝ) : EReal) := by
  have hq : ∀ (r : Fin 32) (l : Fin 128), (stacked qa qb : FVec Ideal (T2 32 128) .bf16) (ix2 r l) = ((both 16 A B r l : ℝ) : EReal) :=
    fun r l => stacked_apply qa qb _ _ A B ha hb rfl r l
  obtain ⟨nsm, hsm⟩ := scores_wt (t := 64) (stacked qa qb) (padded (lows odd km)) (padded (highs odd km)) causalMask (by decide) (both 16 A B) (meta16 KM)
    (start odd) causalRel hq (low_padded odd km KM hkm) (high_padded odd km KM hkm) rfl causalMask_iff
  have hσ := fun r => sinkCol_of (t := 64) (n := 16) 16#32 a0 a1 a2 a3 (by decide) s h0 h1 h2 h3 (by decide) rowDiv_64 r
  obtain ⟨μ, hμ⟩ := top_real (t := 64) (scores (stacked qa qb) (padded (lows odd km)) (padded (highs odd km)) causalMask) (sinkCol 64 16#32 a0 a1 a2 a3)
    (by decide) (by decide) _ hσ nsm
  have hpm := probs_apply _ _ (by decide) μ _ hμ nsm hsm
  refine (blend_apply (h := 32) (t := 64) _ _ _ _ _ (by decide) (by decide) (by decide) (by decide) (by decide) rfl μ _
    (fun r => ∑ j : Fin 128, wt 32 (both 16 A B) (meta16 KM) (start odd) causalRel r j)
    (fun r l => ∑ j : Fin 128, wt 32 (both 16 A B) (meta16 KM) (start odd) causalRel r j * meta16 VM j (l + start odd))
    (fun r l => ∑ j : Fin 128, wt 32 (both 16 A B) (meta16 KM) (start odd) causalRel (32 + r) j * meta16 VM j (l - 64 + start odd)) hμ hσ
    (fun r => Finset.sum_nonneg fun j _ => wt_nonneg _ _ _ _ _ _ _) ?_
    (fun r l => weigh_low _ _ _ μ _ (meta16 VM) _ hpm (low_padded odd vm VM hvm) rfl r l)
    (fun r l => weigh_high _ _ _ μ _ (meta16 VM) _ hpm (high_padded odd vm VM hvm) rfl r l) r l).trans ?_
  · intro r
    rw [Finset.sum_congr rfl fun j _ => hpm r j, coe_sum, Finset.sum_mul]
  · refine congrArg _ ?_
    unfold rowOf
    by_cases hl : l.val < 64
    · simp only [if_pos hl, lane_low hl]
    · simp only [if_neg hl, lane_high hl l.isLt]

end Cert.AttnKinds
end
-- ==== Proof.AttnTarget.lean ====
/- The attention as one formula over real numbers: each row's values weighed by the exponentials of its scores against the
   keys it sees, over their total and the sink's. The three kinds of query rows compute it. -/
module

public import proofs.«01_k».proof.Proof.AttnKinds

@[expose] public section

set_option maxRecDepth 16384

noncomputable section

namespace Cert.AttnTarget

open Idealize.ShloMosaic Idealize.ShloMosaic.TcCoe Cert.AttnFKernelIdeal Cert.AttnOps Cert.AttnMath Cert.AttnRead Cert.AttnGroup Cert.AttnRows Cert.AttnKinds

/-- Row `i` sees key `j`: within the window, or a meta token (rows 2048 and on). -/
def vis (i j : ℕ) : Prop := (i < 2048 ∧ j < 2048 ∧ j ≤ i ∧ i < j + 128) ∨ (2048 ≤ j ∧ (i < 2048 ∨ j ≤ i))

open scoped Classical in
/-- The weight of key `j` for row `i` and one head; `P` is the projection, its queries first, then keys and values. -/
def wgt (P : ℕ → ℕ → ℕ → ℝ) (b i head j : ℕ) : ℝ :=
  if vis i j then Real.exp (rdot (fun x => P b i (64 * head + x)) (fun x => P b j (1024 + 64 * (head / 4) + x)) * (1 / 8)) else 0

/-- The attention's result at example `b`, row `i`, column `c`. -/
def att (P : ℕ → ℕ → ℕ → ℝ) (σ : ℕ → ℝ) (b i c : ℕ) : ℝ :=
  (∑ j ∈ Finset.range 2064, wgt P b i (c / 64) j * P b j (1280 + 64 * (c / 64 / 4) + c % 64))
    / (∑ j ∈ Finset.range 2064, wgt P b i (c / 64) j + Real.exp (σ (c / 64)))

/-- A sum over all rows of what vanishes outside of a window and the meta tokens. -/
theorem sum_window (f : ℕ → ℝ) (p K : ℕ) (hp : p + K ≤ 2048) (h : ∀ j, j < 2048 → (j < p ∨ p + K ≤ j) → f j = 0) :
    ∑ j ∈ Finset.range 2064, f j = ∑ j : Fin K, f (p + j) + ∑ j : Fin 128, (if j.val < 16 then f (2048 + j) else 0) := by
  have e1 : ∑ j : Fin 128, (if j.val < 16 then f (2048 + j) else 0) = ∑ j ∈ Finset.range 16, f (2048 + j) := by
    rw [Fin.sum_univ_eq_sum_range (fun j => if j < 16 then f (2048 + j) else 0) 128, show 128 = 16 + 112 from rfl, Finset.sum_range_add]
    rw [Finset.sum_congr rfl (fun x hx => by rw [if_pos (Finset.mem_range.1 hx)]), add_eq_left]
    exact Finset.sum_eq_zero fun x _ => by rw [if_neg (by omega)]
  rw [e1, Fin.sum_univ_eq_sum_range (fun j => f (p + j)) K, show 2064 = 2048 + 16 from rfl, Finset.sum_range_add]
  refine congrArg (· + _) ?_
  obtain ⟨d, hd⟩ := Nat.exists_eq_add_of_le hp
  rw [hd, Finset.sum_range_add, Finset.sum_range_add]
  rw [Finset.sum_eq_zero (s := Finset.range p) fun x hx => h x (by have := Finset.mem_range.1 hx; omega) (.inl (Finset.mem_range.1 hx)),
    Finset.sum_eq_zero (s := Finset.range d) fun x hx => h (p + K + x) (by have := Finset.mem_range.1 hx; omega) (.inr (by omega)), zero_add, add_zero]

/-- Two query tiles of the projection, one above the other. -/
theorem both_eq (P : ℕ → ℕ → ℕ → ℝ) (b r0 kh q r x : ℕ) (hr : r < q + q) :
    both q (fun r l => P b (r0 + r) (256 * kh + l)) (fun r l => P b (r0 + r) (256 * kh + 128 + l)) r x
      = P b (r0 + r % q) (256 * kh + 128 * (r / q) + x) := by
  unfold both
  by_cases h : r < q
  · rw [if_pos h, Nat.mod_eq_of_lt h, Nat.div_eq_of_lt h]; simp
  · have e : r / q = 1 := Nat.div_eq_of_lt_le (by omega) (by omega)
    have e2 : r % q = r - q := by rw [Nat.mod_eq_sub_mod (by omega)]; exact Nat.mod_eq_of_lt (by omega)
    rw [if_neg h, e, e2]

/-- A weight of the kernel's group, of the projection. -/
theorem wt_eq (P : ℕ → ℕ → ℕ → ℝ) (b r0 kh q r l : ℕ) (hr : r < q + q) (hl : l < 128) (hq : q ≤ 128) (X : ℕ → ℕ → ℝ) (o : ℕ) (M : ℕ → ℕ → Prop) (j J : ℕ)
    (hX : ∀ x, X j (x + o) = P b J (1024 + 64 * kh + x)) (hM : M (rowOf (q + q) r l) j ↔ vis (r0 + r % q) J) :
    wt (q + q) (both q (fun r l => P b (r0 + r) (256 * kh + l)) (fun r l => P b (r0 + r) (256 * kh + 128 + l))) X o M (rowOf (q + q) r l) j
      = wgt P b (r0 + r % q) ((256 * kh + 128 * (r / q) + l) / 64) J := by
  have hrq : r / q ≤ 1 := by
    have : r / q < 2 := Nat.div_lt_of_lt_mul (by omega)
    omega
  have e : (fun x => if rowOf (q + q) r l < q + q then
      both q (fun r l => P b (r0 + r) (256 * kh + l)) (fun r l => P b (r0 + r) (256 * kh + 128 + l)) (rowOf (q + q) r l) x
      else both q (fun r l => P b (r0 + r) (256 * kh + l)) (fun r l => P b (r0 + r) (256 * kh + 128 + l)) (rowOf (q + q) r l - (q + q)) (64 + x))
      = fun x => P b (r0 + r % q) (64 * ((256 * kh + 128 * (r / q) + l) / 64) + x) := by
    funext x
    unfold rowOf
    by_cases hl2 : l < 64
    · rw [if_pos hl2, if_pos hr, both_eq _ _ _ _ _ _ _ hr]
      congr 1; omega
    · rw [if_neg hl2, if_neg (by omega), show q + q + r - (q + q) = r by omega, both_eq _ _ _ _ _ _ _ hr]
      congr 1; omega
  have e2 : (fun x => X j (x + o)) = fun x => P b J (1024 + 64 * ((256 * kh + 128 * (r / q) + l) / 64 / 4) + x) := by
    funext x; rw [hX]; congr 1; omega
  unfold wt wgt
  rw [e, e2]
  by_cases hv : vis (r0 + r % q) J
  · rw [if_pos (hM.2 hv), if_pos hv]
  · rw [if_neg (mt hM.1 hv), if_neg hv]

/-- The sink of the row's head. -/
theorem sink_eq (σ : ℕ → ℝ) (kh q r l : ℕ) (hq0 : 0 < q) (hr : r < q + q) (hl : l < 128) :
    sinkOf q (fun g => σ (4 * kh + g)) (rowOf (q + q) r l) = σ ((256 * kh + 128 * (r / q) + l) / 64) := by
  unfold sinkOf rowOf
  refine congrArg σ ?_
  by_cases h : r < q
  · have e0 : r / q = 0 := Nat.div_eq_of_lt h
    have e1 : (q + q + r) / q = 2 := Nat.div_eq_of_lt_le (by omega) (by omega)
    by_cases hl2 : l < 64
    · rw [if_pos hl2, e0]; simp; omega
    · rw [if_neg hl2, e1, e0]; simp; omega
  · have e0 : r / q = 1 := Nat.div_eq_of_lt_le (by omega) (by omega)
    have e1 : (q + q + r) / q = 3 := Nat.div_eq_of_lt_le (by omega) (by omega)
    by_cases hl2 : l < 64
    · rw [if_pos hl2, e0]; simp; omega
    · rw [if_neg hl2, e1, e0]; simp; omega

theorem rowOf_mod (q r l : ℕ) : rowOf (q + q) r l % q = r % q := by
  unfold rowOf
  split_ifs
  · rfl
  · rw [show q + q + r = r + q * 2 by omega, Nat.add_mul_mod_self_left]

/-- Lots of weights and values of the kernel against the formula. -/
theorem att_of (P : ℕ → ℕ → ℕ → ℝ) (σ : ℕ → ℝ) (b i c p K : ℕ) (hp : p + K ≤ 2048) (hv : ∀ j, j < 2048 → (j < p ∨ p + K ≤ j) → ¬ vis i j)
    (W V WM VM : ℕ → ℝ) (s : ℝ) (hW : ∀ j, j < K → W j = wgt P b i (c / 64) (p + j)) (hV : ∀ j, j < K → V j = P b (p + j) (1280 + 64 * (c / 64 / 4) + c % 64))
    (hWM : ∀ j, WM j = if j < 16 then wgt P b i (c / 64) (2048 + j) else 0) (hVM : ∀ j, j < 16 → VM j = P b (2048 + j) (1280 + 64 * (c / 64 / 4) + c % 64))
    (hs : s = σ (c / 64)) :
    (∑ j : Fin K, W j * V j + ∑ j : Fin 128, WM j * VM j) / (∑ j : Fin K, W j + ∑ j : Fin 128, WM j + Real.exp s) = att P σ b i c := by
  have z (j : ℕ) (h1 : j < 2048) (h2 : j < p ∨ p + K ≤ j) : wgt P b i (c / 64) j = 0 := by rw [wgt, if_neg (hv j h1 h2)]
  unfold att
  rw [sum_window _ p K hp z, sum_window _ p K hp (fun j h1 h2 => by rw [z j h1 h2, zero_mul]), hs]
  have eW : ∑ j : Fin K, W j = ∑ j : Fin K, wgt P b i (c / 64) (p + j) := Finset.sum_congr rfl fun j _ => hW j j.isLt
  have eV : ∑ j : Fin K, W j * V j = ∑ j : Fin K, wgt P b i (c / 64) (p + j) * P b (p + j) (1280 + 64 * (c / 64 / 4) + c % 64) :=
    Finset.sum_congr rfl fun j _ => by rw [hW j j.isLt, hV j j.isLt]
  have eWM : ∑ j : Fin 128, WM j = ∑ j : Fin 128, (if j.val < 16 then wgt P b i (c / 64) (2048 + j) else 0) := Finset.sum_congr rfl fun j _ => hWM j
  have eVM : ∑ j : Fin 128, WM j * VM j
      = ∑ j : Fin 128, (if j.val < 16 then wgt P b i (c / 64) (2048 + j) * P b (2048 + j) (1280 + 64 * (c / 64 / 4) + c % 64) else 0) :=
    Finset.sum_congr rfl fun j _ => by
      rw [hWM]
      split_ifs with hj
      · rw [hVM j hj]
      · rw [zero_mul]
  rw [eW, eV, eWM, eVM]

theorem meta_row (P : ℕ → ℕ → ℕ → ℝ) (b c kh : ℕ) (o : ℕ) (ho : o = 64 * (kh % 2)) (base j x : ℕ) (hj : j < 16) :
    meta16 (fun r l => P b (2048 + r) (base + 128 * (kh / 2) + l)) j (x + o) = P b (2048 + j) (base + 64 * kh + x) := by
  unfold meta16
  rw [if_pos hj, ho]
  exact congrArg (P b (2048 + j)) (by omega)

/-- A later block of query rows. -/
theorem later_att (P : ℕ → ℕ → ℕ → ℝ) (σ : ℕ → ℝ) (b kh n : ℕ) (odd : Bool) (ho : start odd = 64 * (kh % 2)) (hn : n < 15)
    (k v : Vec Ideal (T3 256 128) .bf16) (km vm : Vec Ideal (T3 16 128) .bf16) (qa qb : Vec Ideal (T3 128 128) .bf16)
    (a0 a1 a2 a3 : Elt Ideal .f32) (h0 : a0 = ((σ (4 * kh) : ℝ) : EReal)) (h1 : a1 = ((σ (4 * kh + 1) : ℝ) : EReal)) (h2 : a2 = ((σ (4 * kh + 2) : ℝ) : EReal))
    (h3 : a3 = ((σ (4 * kh + 3) : ℝ) : EReal))
    (hk : ∀ (r : Fin 256) (l : Fin 128), k (ix3 0 r l) = ((P b (128 * n + r) (1024 + 128 * (kh / 2) + l) : ℝ) : EReal))
    (hkm : ∀ (r : Fin 16) (l : Fin 128), km (ix3 0 r l) = ((P b (2048 + r) (1024 + 128 * (kh / 2) + l) : ℝ) : EReal))
    (hv : ∀ (r : Fin 256) (l : Fin 128), v (ix3 0 r l) = ((P b (128 * n + r) (1280 + 128 * (kh / 2) + l) : ℝ) : EReal))
    (hvm : ∀ (r : Fin 16) (l : Fin 128), vm (ix3 0 r l) = ((P b (2048 + r) (1280 + 128 * (kh / 2) + l) : ℝ) : EReal))
    (hqa : ∀ (r : Fin 128) (l : Fin 128), qa (ix3 0 r l) = ((P b (128 * n + 128 + r) (256 * kh + l) : ℝ) : EReal))
    (hqb : ∀ (r : Fin 128) (l : Fin 128), qb (ix3 0 r l) = ((P b (128 * n + 128 + r) (256 * kh + 128 + l) : ℝ) : EReal))
    (r : Fin 256) (l : Fin 128) :
    later odd k km v vm qa qb a0 a1 a2 a3 metaMask (ix2 r l) = ((att P σ b (128 * n + 128 + r % 128) (256 * kh + 128 * (r / 128) + l) : ℝ) : EReal) := by
  have hr := r.isLt
  have hl := l.isLt
  refine (later_apply odd k v km vm qa qb a0 a1 a2 a3 (fun g => σ (4 * kh + g)) h0 h1 h2 h3 (fun r l => P b (128 * n + r) (1024 + 128 * (kh / 2) + l))
    (fun r l => P b (2048 + r) (1024 + 128 * (kh / 2) + l)) (fun r l => P b (128 * n + r) (1280 + 128 * (kh / 2) + l))
    (fun r l => P b (2048 + r) (1280 + 128 * (kh / 2) + l)) (fun r l => P b (128 * n + 128 + r) (256 * kh + l)) (fun r l => P b (128 * n + 128 + r) (256 * kh + 128 + l))
    hk hkm hv hvm hqa hqb r l).trans (congrArg _ ?_)
  have hc : (256 * kh + 128 * (r.val / 128) + l.val) / 64 / 4 = kh := by omega
  have hc2 : (256 * kh + 128 * (r.val / 128) + l.val) % 64 = l.val % 64 := by omega
  refine att_of P σ b _ _ (128 * n) 256 (by omega) ?_
    (fun j => wt 256 (both 128 (fun r l => P b (128 * n + 128 + r) (256 * kh + l)) (fun r l => P b (128 * n + 128 + r) (256 * kh + 128 + l))) (fun r l => P b (128 * n + r) (1024 + 128 * (kh / 2) + l)) (start odd) bandRel (rowOf 256 r l) j)
    (fun j => P b (128 * n + j) (1280 + 128 * (kh / 2) + (l % 64 + start odd)))
    (fun j => wt 256 (both 128 (fun r l => P b (128 * n + 128 + r) (256 * kh + l)) (fun r l => P b (128 * n + 128 + r) (256 * kh + 128 + l))) (meta16 fun r l => P b (2048 + r) (1024 + 128 * (kh / 2) + l)) (start odd) metaRel (rowOf 256 r l) j)
    (fun j => meta16 (fun r l => P b (2048 + r) (1280 + 128 * (kh / 2) + l)) j (l % 64 + start odd)) _ ?_ ?_ ?_ ?_
    (sink_eq σ kh 128 r l (by decide) hr hl)
  · intro j h1 h2 hv; unfold vis at hv; omega
  · intro j hj
    refine wt_eq P b (128 * n + 128) kh 128 r l hr hl (by decide) _ _ _ j (128 * n + j) (fun x => by rw [ho]; congr 1; omega) ?_
    unfold bandRel vis; rw [rowOf_mod 128]; omega
  · intro j hj
    show P b (128 * n + j) (1280 + 128 * (kh / 2) + (l.val % 64 + start odd)) = _
    rw [hc, hc2, ho]; congr 1; omega
  · intro j
    by_cases hj : j < 16
    · rw [if_pos hj]
      refine wt_eq P b (128 * n + 128) kh 128 r l hr hl (by decide) _ _ _ j (2048 + j) (fun x => meta_row P b 0 kh _ ho 1024 j x hj) ?_
      unfold metaRel vis; omega
    · rw [if_neg hj]; show wt _ _ _ _ _ _ _ = 0; unfold wt; exact if_neg hj
  · intro j hj
    rw [hc, hc2]; exact meta_row P b 0 kh _ ho 1280 j (l.val % 64) hj

/-- The first block of query rows. -/
theorem first_att (P : ℕ → ℕ → ℕ → ℝ) (σ : ℕ → ℝ) (b kh : ℕ) (odd : Bool) (ho : start odd = 64 * (kh % 2))
    (k v : Vec Ideal (T3 128 128) .bf16) (km vm : Vec Ideal (T3 16 128) .bf16) (qa qb : Vec Ideal (T3 128 128) .bf16)
    (a0 a1 a2 a3 : Elt Ideal .f32) (h0 : a0 = ((σ (4 * kh) : ℝ) : EReal)) (h1 : a1 = ((σ (4 * kh + 1) : ℝ) : EReal)) (h2 : a2 = ((σ (4 * kh + 2) : ℝ) : EReal))
    (h3 : a3 = ((σ (4 * kh + 3) : ℝ) : EReal))
    (hk : ∀ (r : Fin 128) (l : Fin 128), k (ix3 0 r l) = ((P b (0 + r) (1024 + 128 * (kh / 2) + l) : ℝ) : EReal))
    (hkm : ∀ (r : Fin 16) (l : Fin 128), km (ix3 0 r l) = ((P b (2048 + r) (1024 + 128 * (kh / 2) + l) : ℝ) : EReal))
    (hv : ∀ (r : Fin 128) (l : Fin 128), v (ix3 0 r l) = ((P b (0 + r) (1280 + 128 * (kh / 2) + l) : ℝ) : EReal))
    (hvm : ∀ (r : Fin 16) (l : Fin 128), vm (ix3 0 r l) = ((P b (2048 + r) (1280 + 128 * (kh / 2) + l) : ℝ) : EReal))
    (hqa : ∀ (r : Fin 128) (l : Fin 128), qa (ix3 0 r l) = ((P b (0 + r) (256 * kh + l) : ℝ) : EReal))
    (hqb : ∀ (r : Fin 128) (l : Fin 128), qb (ix3 0 r l) = ((P b (0 + r) (256 * kh + 128 + l) : ℝ) : EReal))
    (r : Fin 256) (l : Fin 128) :
    first odd k km v vm qa qb a0 a1 a2 a3 (ix2 r l) = ((att P σ b (0 + r % 128) (256 * kh + 128 * (r / 128) + l) : ℝ) : EReal) := by
  have hr := r.isLt
  have hl := l.isLt
  refine (first_apply odd k v km vm qa qb a0 a1 a2 a3 (fun g => σ (4 * kh + g)) h0 h1 h2 h3 (fun r l => P b (0 + r) (1024 + 128 * (kh / 2) + l))
    (fun r l => P b (2048 + r) (1024 + 128 * (kh / 2) + l)) (fun r l => P b (0 + r) (1280 + 128 * (kh / 2) + l))
    (fun r l => P b (2048 + r) (1280 + 128 * (kh / 2) + l)) (fun r l => P b (0 + r) (256 * kh + l)) (fun r l => P b (0 + r) (256 * kh + 128 + l))
    hk hkm hv hvm hqa hqb r l).trans (congrArg _ ?_)
  have hc : (256 * kh + 128 * (r.val / 128) + l.val) / 64 / 4 = kh := by omega
  have hc2 : (256 * kh + 128 * (r.val / 128) + l.val) % 64 = l.val % 64 := by omega
  refine att_of P σ b _ _ 0 128 (by omega) ?_
    (fun j => wt 256 (both 128 (fun r l => P b (0 + r) (256 * kh + l)) (fun r l => P b (0 + r) (256 * kh + 128 + l))) (fun r l => P b (0 + r) (1024 + 128 * (kh / 2) + l)) (start odd) firstRel (rowOf 256 r l) j)
    (fun j => P b (0 + j) (1280 + 128 * (kh / 2) + (l % 64 + start odd)))
    (fun j => wt 256 (both 128 (fun r l => P b (0 + r) (256 * kh + l)) (fun r l => P b (0 + r) (256 * kh + 128 + l))) (meta16 fun r l => P b (2048 + r) (1024 + 128 * (kh / 2) + l)) (start odd) metaRel (rowOf 256 r l) j)
    (fun j => meta16 (fun r l => P b (2048 + r) (1280 + 128 * (kh / 2) + l)) j (l % 64 + start odd)) _ ?_ ?_ ?_ ?_
    (sink_eq σ kh 128 r l (by decide) hr hl)
  · intro j h1 h2 hv; unfold vis at hv; omega
  · intro j hj
    refine wt_eq P b 0 kh 128 r l hr hl (by decide) _ _ _ j (0 + j) (fun x => by rw [ho]; congr 1; omega) ?_
    unfold firstRel vis; rw [rowOf_mod 128]; omega
  · intro j hj
    show P b (0 + j) (1280 + 128 * (kh / 2) + (l.val % 64 + start odd)) = _
    rw [hc, hc2, ho]; congr 1; omega
  · intro j
    by_cases hj : j < 16
    · rw [if_pos hj]
      refine wt_eq P b 0 kh 128 r l hr hl (by decide) _ _ _ j (2048 + j) (fun x => meta_row P b 0 kh _ ho 1024 j x hj) ?_
      unfold metaRel vis; omega
    · rw [if_neg hj]; show wt _ _ _ _ _ _ _ = 0; unfold wt; exact if_neg hj
  · intro j hj
    rw [hc, hc2]; exact meta_row P b 0 kh _ ho 1280 j (l.val % 64) hj

/-- The meta tokens' rows. -/
theorem among_att (P : ℕ → ℕ → ℕ → ℝ) (σ : ℕ → ℝ) (b kh : ℕ) (odd : Bool) (ho : start odd = 64 * (kh % 2)) (km vm qa qb : Vec Ideal (T3 16 128) .bf16)
    (a0 a1 a2 a3 : Elt Ideal .f32) (h0 : a0 = ((σ (4 * kh) : ℝ) : EReal)) (h1 : a1 = ((σ (4 * kh + 1) : ℝ) : EReal)) (h2 : a2 = ((σ (4 * kh + 2) : ℝ) : EReal))
    (h3 : a3 = ((σ (4 * kh + 3) : ℝ) : EReal))
    (hkm : ∀ (r : Fin 16) (l : Fin 128), km (ix3 0 r l) = ((P b (2048 + r) (1024 + 128 * (kh / 2) + l) : ℝ) : EReal))
    (hvm : ∀ (r : Fin 16) (l : Fin 128), vm (ix3 0 r l) = ((P b (2048 + r) (1280 + 128 * (kh / 2) + l) : ℝ) : EReal))
    (hqa : ∀ (r : Fin 16) (l : Fin 128), qa (ix3 0 r l) = ((P b (2048 + r) (256 * kh + l) : ℝ) : EReal))
    (hqb : ∀ (r : Fin 16) (l : Fin 128), qb (ix3 0 r l) = ((P b (2048 + r) (256 * kh + 128 + l) : ℝ) : EReal))
    (r : Fin 32) (l : Fin 128) :
    among odd km vm qa qb a0 a1 a2 a3 (ix2 r l) = ((att P σ b (2048 + r % 16) (256 * kh + 128 * (r / 16) + l) : ℝ) : EReal) := by
  have hr := r.isLt
  have hl := l.isLt
  refine (among_apply odd km vm qa qb a0 a1 a2 a3 (fun g => σ (4 * kh + g)) h0 h1 h2 h3
    (fun r l => P b (2048 + r) (1024 + 128 * (kh / 2) + l))
    (fun r l => P b (2048 + r) (1280 + 128 * (kh / 2) + l)) (fun r l => P b (2048 + r) (256 * kh + l)) (fun r l => P b (2048 + r) (256 * kh + 128 + l))
    hkm hvm hqa hqb r l).trans (congrArg _ ?_)
  have hc : (256 * kh + 128 * (r.val / 16) + l.val) / 64 / 4 = kh := by omega
  have hc2 : (256 * kh + 128 * (r.val / 16) + l.val) % 64 = l.val % 64 := by omega
  refine Eq.trans ?_ (att_of P σ b _ _ 0 0 (by omega) ?_ (fun _ => 0) (fun _ => 0)
    (fun j => wt 32 (both 16 (fun r l => P b (2048 + r) (256 * kh + l)) (fun r l => P b (2048 + r) (256 * kh + 128 + l))) (meta16 fun r l => P b (2048 + r) (1024 + 128 * (kh / 2) + l)) (start odd) causalRel (rowOf 32 r l) j)
    (fun j => meta16 (fun r l => P b (2048 + r) (1280 + 128 * (kh / 2) + l)) j (l % 64 + start odd)) _ ?_ ?_ ?_ ?_
    (sink_eq σ kh 16 r l (by decide) hr hl))
  · rw [Fin.sum_univ_zero, Fin.sum_univ_zero, zero_add, zero_add]
  · intro j h1 h2 hv; unfold vis at hv; omega
  · intro j hj; omega
  · intro j hj; omega
  · intro j
    by_cases hj : j < 16
    · rw [if_pos hj]
      refine wt_eq P b 2048 kh 16 r l hr hl (by decide) _ _ _ j (2048 + j) (fun x => meta_row P b 0 kh _ ho 1024 j x hj) ?_
      unfold causalRel vis; rw [rowOf_mod 16]; omega
    · rw [if_neg hj]; show wt _ _ _ _ _ _ _ = 0; unfold wt; exact if_neg fun h => hj h.1
  · intro j hj
    rw [hc, hc2]; exact meta_row P b 0 kh _ ho 1280 j (l.val % 64) hj

end Cert.AttnTarget
end
-- ==== Proof.AttnTiles.lean ====
/- What the attention kernel loads for one key head and one kind of query rows: tiles of its windows and four sinks. -/
module

public import proofs.«01_k».proof.Proof.Gen.AttnFKernelIdeal.Frame
public import proofs.«01_k».proof.Proof.AttnTarget

@[expose] public section

set_option maxRecDepth 16384

noncomputable section

namespace Cert.AttnTiles

open Idealize.ShloMosaic Idealize.ShloMosaic.TcCoe Idealize.SL.Sem Idealize.ShloMosaic.Tactic
open Cert.AttnFKernelIdeal Cert.AttnFKernelIdeal.Gen Cert.AttnOps Cert.AttnTarget Cert.AttnRead

variable {F : FTy → Type} [FloatOps F] [Named F]

/-- `n` rows and 128 lanes of a window. -/
def tile {W : ℕ} (arg : Memref sig .tc .vmem (T3 2064 W) .bf16) (X : arg.view.ty.Contents (Elt F)) (n : ℕ) (off : Fin 3 → ℕ)
    (inb : ∀ a, off a + (T3 n 128).size a ≤ (T3 2064 W).size a) : Vec F (T3 n 128) .bf16 :=
  View.readAt (Elt F) arg.view (Rect.unit (s := T3 2064 W) off (T3 n 128).size inb).toLoadRect X

/-- One sink. -/
def sinkAt (arg : Memref sig .tc .smem S1x16 .f32) (X : arg.view.ty.Contents (Elt F)) (o : ℕ) (inb : ∀ a, (![0, o] : Fin 2 → ℕ) a + S1x1.size a ≤ S1x16.size a) : Elt F .f32 :=
  View.readAt (Elt F) arg.view (Rect.unit (s := S1x16) ![0, o] S1x1.size inb).toLoadRect X (Shape.Idx.first (show 0 < S1x1.numel by decide))

theorem sink_inb (o : ℕ) (h : o < 16) : ∀ a, (![0, o] : Fin 2 → ℕ) a + S1x1.size a ≤ S1x16.size a := fun a => by
  match a with
  | 0 => show 0 + 1 ≤ 1; omega
  | 1 => show o + 1 ≤ 16; omega

theorem tile_inb {W n r l : ℕ} (h : r + n ≤ 2064) (h2 : l + 128 ≤ W) : ∀ a, (![0, r, l] : Fin 3 → ℕ) a + (T3 n 128).size a ≤ (T3 2064 W).size a := fun a => by
  match a with
  | 0 => show 0 + 1 ≤ 1; omega
  | 1 => exact h
  | 2 => exact h2

variable (arg1 : Memref sig .tc .smem S1x16 .f32) (arg2 : Memref sig .tc .vmem (T3 2064 1024) .bf16) (arg3 arg4 : Memref sig .tc .vmem (T3 2064 256) .bf16)
variable (X1 : arg1.view.ty.Contents (Elt F)) (X2 : arg2.view.ty.Contents (Elt F)) (X3 : arg3.view.ty.Contents (Elt F)) (X4 : arg4.view.ty.Contents (Elt F))

/-- Key head `kh` and a later block, of the tiles at the given places. -/
def laterOf (kh : ℕ) (hkh : kh < 4) (odd : Bool) (ko qa qb : Fin 3 → ℕ) (hk : ∀ a, ko a + (T3 256 128).size a ≤ (T3 2064 256).size a)
    (ha : ∀ a, qa a + (T3 128 128).size a ≤ (T3 2064 1024).size a) (hb : ∀ a, qb a + (T3 128 128).size a ≤ (T3 2064 1024).size a) : FVec F (T2 256 128) .bf16 :=
  later odd (tile arg3 X3 256 ko hk) (tile arg3 X3 16 ![0, 2048, 128 * (kh / 2)] (tile_inb (by decide) (by omega)))
    (tile arg4 X4 256 ko hk) (tile arg4 X4 16 ![0, 2048, 128 * (kh / 2)] (tile_inb (by decide) (by omega))) (tile arg2 X2 128 qa ha) (tile arg2 X2 128 qb hb)
    (sinkAt arg1 X1 (4 * kh) (sink_inb _ (by omega))) (sinkAt arg1 X1 (4 * kh + 1) (sink_inb _ (by omega)))
    (sinkAt arg1 X1 (4 * kh + 2) (sink_inb _ (by omega))) (sinkAt arg1 X1 (4 * kh + 3) (sink_inb _ (by omega))) metaMask

/-- Key head `kh` and the first block. -/
def firstOf (kh : ℕ) (hkh : kh < 4) (odd : Bool) : FVec F (T2 256 128) .bf16 :=
  first odd (tile arg3 X3 128 ![0, 0, 128 * (kh / 2)] (tile_inb (by decide) (by omega))) (tile arg3 X3 16 ![0, 2048, 128 * (kh / 2)] (tile_inb (by decide) (by omega)))
    (tile arg4 X4 128 ![0, 0, 128 * (kh / 2)] (tile_inb (by decide) (by omega))) (tile arg4 X4 16 ![0, 2048, 128 * (kh / 2)] (tile_inb (by decide) (by omega)))
    (tile arg2 X2 128 ![0, 0, 256 * kh] (tile_inb (by decide) (by omega))) (tile arg2 X2 128 ![0, 0, 256 * kh + 128] (tile_inb (by decide) (by omega)))
    (sinkAt arg1 X1 (4 * kh) (sink_inb _ (by omega))) (sinkAt arg1 X1 (4 * kh + 1) (sink_inb _ (by omega)))
    (sinkAt arg1 X1 (4 * kh + 2) (sink_inb _ (by omega))) (sinkAt arg1 X1 (4 * kh + 3) (sink_inb _ (by omega)))

/-- Key head `kh` and the meta tokens' rows. -/
def amongOf (kh : ℕ) (hkh : kh < 4) (odd : Bool) : FVec F (T2 32 128) .bf16 :=
  among odd (tile arg3 X3 16 ![0, 2048, 128 * (kh / 2)] (tile_inb (by decide) (by omega))) (tile arg4 X4 16 ![0, 2048, 128 * (kh / 2)] (tile_inb (by decide) (by omega)))
    (tile arg2 X2 16 ![0, 2048, 256 * kh] (tile_inb (by decide) (by omega))) (tile arg2 X2 16 ![0, 2048, 256 * kh + 128] (tile_inb (by decide) (by omega)))
    (sinkAt arg1 X1 (4 * kh) (sink_inb _ (by omega))) (sinkAt arg1 X1 (4 * kh + 1) (sink_inb _ (by omega)))
    (sinkAt arg1 X1 (4 * kh + 2) (sink_inb _ (by omega))) (sinkAt arg1 X1 (4 * kh + 3) (sink_inb _ (by omega)))

end Cert.AttnTiles
end
-- ==== Proof.AttnTileValue.lean ====
/- The stored tiles as the attention's formula, for windows that hold the projection's columns and the sinks. -/
module

public import proofs.«01_k».proof.Proof.AttnTiles
public import Idealize.ShloMosaic.Lib.Pipeline.ValueKit

@[expose] public section

set_option maxRecDepth 16384

noncomputable section

namespace Cert.AttnTiles

open Idealize.ShloMosaic Idealize.ShloMosaic.TcCoe Idealize.SL.Sem Idealize.ShloMosaic.Tactic
open Cert.AttnFKernelIdeal Cert.AttnFKernelIdeal.Gen Cert.AttnOps Cert.AttnTarget Cert.AttnRead

/-- A tile of a window that holds `f`. -/
theorem tile_val {W : ℕ} (arg : Memref sig .tc .vmem (T3 2064 W) .bf16) (h : arg.IsWhole) (x : Vec Ideal (T3 2064 W) .bf16) (f : ℕ → ℕ → ℝ)
    (hx : ∀ (r : Fin 2064) (c : Fin W), x (ix3 0 r c) = ((f r c : ℝ) : EReal)) (n : ℕ) (off : Fin 3 → ℕ) (a b : ℕ) (ho : off = ![0, a, b]) (inb)
    (r : Fin n) (l : Fin 128) : tile (F := Ideal) arg (h.unread x) n off inb (ix3 0 r l) = ((f (a + r) (b + l) : ℝ) : EReal) := by
  subst ho
  have i1 : a + n ≤ 2064 := inb 1
  have i2 : b + 128 ≤ W := inb 2
  have hr := r.isLt
  have hl := l.isLt
  unfold tile
  rw [View.readAt_eq_ld, h.read_unread]
  refine (View.ld_unit_apply_of x _ _ inb _ (ix3 0 ⟨a + r, by omega⟩ ⟨b + l, by omega⟩) fun d => ?_).trans (hx _ _)
  match d with
  | 0 => rfl
  | 1 => rfl
  | 2 => rfl

theorem sink_val (arg : Memref sig .tc .smem S1x16 .f32) (h : arg.IsWhole) (x : Vec Ideal S1x16 .f32) (σ : ℕ → ℝ)
    (hx : ∀ j : Fin 16, x (ix2 0 j) = ((σ j : ℝ) : EReal)) (o : ℕ) (inb) : sinkAt (F := Ideal) arg (h.unread x) o inb = ((σ o : ℝ) : EReal) := by
  have i1 : o + 1 ≤ 16 := inb 1
  unfold sinkAt
  rw [View.readAt_eq_ld, h.read_unread]
  refine (View.ld_unit_apply_of x _ _ inb _ (ix2 0 ⟨o, by omega⟩) fun d => ?_).trans (hx _)
  match d with
  | 0 => rfl
  | 1 => exact (Nat.add_zero o).symm

/-- One query tile's rows of a result, as they are stored. -/
theorem piece_val {q h : ℕ} (t : ℕ) (off : ℕ) (hoff : off = t * q) (hh : h = q + q) (ht : t < 2) (o : FVec Ideal (T2 h 128) .bf16) (hs) (hc) (f : ℕ → ℕ → ℝ) (R C : ℕ)
    (ho : ∀ (r : Fin h) (l : Fin 128), o (ix2 r l) = ((f (R + r % q) (C + 128 * (r / q) + l) : ℝ) : EReal)) (x : (T3 q 128).Idx) :
    AttnOps.piece (F := Ideal) (q := q) off o hs hc x = ((f (R + x 1) (C + 128 * t + x 2) : ℝ) : EReal) := by
  subst hoff
  have hx1 : (x 1).val < q := (x 1).isLt
  have hx2 : (x 2).val < 128 := (x 2).isLt
  have hx0 : (x 0).val = 0 := Nat.lt_one_iff.1 (x 0).isLt
  have hb : t * q + (x 1).val < h := by
    have : t * q ≤ 1 * q := Nat.mul_le_mul_right q (by omega)
    omega
  unfold AttnOps.piece
  refine (shapeCast_apply (extractStridedSlice (T2 q 128) ![t * q, 0] o hs) hc x (ix2 (x 1) (x 2)) ?_).trans ?_
  · rw [Shape.rowMajor_val_three, Shape.rowMajor_val_two]
    show (x 1).val * 128 + (x 2).val = ((x 0).val * q + (x 1).val) * 128 + (x 2).val
    rw [hx0]; omega
  have e : (extractStridedSlice (T2 q 128) ![t * q, 0] o hs) (ix2 (x 1) (x 2)) = o (ix2 ⟨t * q + (x 1).val, hb⟩ (x 2)) := by
    unfold extractStridedSlice
    refine congrArg o (funext fun d => ?_)
    match d with
    | 0 => rfl
    | 1 => exact Fin.ext (Nat.zero_add _)
  refine e.trans ((ho ⟨t * q + (x 1).val, hb⟩ (x 2)).trans ?_)
  refine congrArg _ (congrArg₂ f ?_ ?_)
  · show R + (t * q + (x 1).val) % q = _
    rw [Nat.mul_comm t q, Nat.mul_add_mod, Nat.mod_eq_of_lt hx1]
  · show C + 128 * ((t * q + (x 1).val) / q) + _ = _
    rw [Nat.mul_comm t q, Nat.mul_add_div (by omega), Nat.div_eq_of_lt hx1, Nat.add_zero]

section
variable (P : ℕ → ℕ → ℕ → ℝ) (σ : ℕ → ℝ) (b : ℕ)
variable (arg1 : Memref sig .tc .smem S1x16 .f32) (h1 : arg1.IsWhole) (arg2 : Memref sig .tc .vmem (T3 2064 1024) .bf16) (h2 : arg2.IsWhole)
  (arg3 : Memref sig .tc .vmem (T3 2064 256) .bf16) (h3 : arg3.IsWhole) (arg4 : Memref sig .tc .vmem (T3 2064 256) .bf16) (h4 : arg4.IsWhole)
variable (x0 : Vec Ideal S1x16 .f32) (x1 : Vec Ideal (T3 2064 1024) .bf16) (x2 x3 : Vec Ideal (T3 2064 256) .bf16)

/-- The windows hold the sinks and the projection's columns: queries, keys, values. -/
structure Holds : Prop where
  sinks : ∀ j : Fin 16, x0 (ix2 0 j) = ((σ j : ℝ) : EReal)
  queries : ∀ (r : Fin 2064) (c : Fin 1024), x1 (ix3 0 r c) = ((P b r c : ℝ) : EReal)
  keys : ∀ (r : Fin 2064) (c : Fin 256), x2 (ix3 0 r c) = ((P b r (1024 + c) : ℝ) : EReal)
  values : ∀ (r : Fin 2064) (c : Fin 256), x3 (ix3 0 r c) = ((P b r (1280 + c) : ℝ) : EReal)

variable {P σ b x0 x1 x2 x3}

theorem key_val (H : Holds P σ b x0 x1 x2 x3) (n : ℕ) (off : Fin 3 → ℕ) (a c : ℕ) (ho : off = ![0, a, c]) (inb) (r : Fin n) (l : Fin 128) :
    tile (F := Ideal) arg3 (h3.unread x2) n off inb (ix3 0 r l) = ((P b (a + r) (1024 + c + l) : ℝ) : EReal) :=
  (tile_val arg3 h3 x2 (fun r c => P b r (1024 + c)) H.keys n off a c ho inb r l).trans (congrArg _ (congrArg (P b (a + r)) (by omega)))

theorem value_val (H : Holds P σ b x0 x1 x2 x3) (n : ℕ) (off : Fin 3 → ℕ) (a c : ℕ) (ho : off = ![0, a, c]) (inb) (r : Fin n) (l : Fin 128) :
    tile (F := Ideal) arg4 (h4.unread x3) n off inb (ix3 0 r l) = ((P b (a + r) (1280 + c + l) : ℝ) : EReal) :=
  (tile_val arg4 h4 x3 (fun r c => P b r (1280 + c)) H.values n off a c ho inb r l).trans (congrArg _ (congrArg (P b (a + r)) (by omega)))

theorem later_val (H : Holds P σ b x0 x1 x2 x3) (kh : ℕ) (hkh : kh < 4) (odd : Bool) (ho : start odd = 64 * (kh % 2)) (n : ℕ) (hn : n < 15) (ko qa qb : Fin 3 → ℕ)
    (hk : ko = ![0, 128 * n, 128 * (kh / 2)]) (ha : qa = ![0, 128 * n + 128, 256 * kh]) (hb : qb = ![0, 128 * n + 128, 256 * kh + 128]) (ik ia ib)
    (r : Fin 256) (l : Fin 128) :
    laterOf (F := Ideal) arg1 arg2 arg3 arg4 (h1.unread x0) (h2.unread x1) (h3.unread x2) (h4.unread x3) kh hkh odd ko qa qb ik ia ib (ix2 r l)
      = ((att P σ b (128 * n + 128 + r % 128) (256 * kh + 128 * (r / 128) + l) : ℝ) : EReal) :=
  later_att P σ b kh n odd ho hn _ _ _ _ _ _ _ _ _ _ (sink_val arg1 h1 x0 σ H.sinks _ _) (sink_val arg1 h1 x0 σ H.sinks _ _)
    (sink_val arg1 h1 x0 σ H.sinks _ _) (sink_val arg1 h1 x0 σ H.sinks _ _)
    (key_val arg3 h3 H _ _ _ _ hk _) (key_val arg3 h3 H _ _ _ _ rfl _) (value_val arg4 h4 H _ _ _ _ hk _) (value_val arg4 h4 H _ _ _ _ rfl _)
    (tile_val arg2 h2 x1 (P b) H.queries _ _ _ _ ha _) (tile_val arg2 h2 x1 (P b) H.queries _ _ _ _ hb _) r l

theorem first_val (H : Holds P σ b x0 x1 x2 x3) (kh : ℕ) (hkh : kh < 4) (odd : Bool) (ho : start odd = 64 * (kh % 2)) (r : Fin 256) (l : Fin 128) :
    firstOf (F := Ideal) arg1 arg2 arg3 arg4 (h1.unread x0) (h2.unread x1) (h3.unread x2) (h4.unread x3) kh hkh odd (ix2 r l)
      = ((att P σ b (0 + r % 128) (256 * kh + 128 * (r / 128) + l) : ℝ) : EReal) :=
  first_att P σ b kh odd ho _ _ _ _ _ _ _ _ _ _ (sink_val arg1 h1 x0 σ H.sinks _ _) (sink_val arg1 h1 x0 σ H.sinks _ _)
    (sink_val arg1 h1 x0 σ H.sinks _ _) (sink_val arg1 h1 x0 σ H.sinks _ _)
    (key_val arg3 h3 H _ _ _ _ rfl _) (key_val arg3 h3 H _ _ _ _ rfl _) (value_val arg4 h4 H _ _ _ _ rfl _) (value_val arg4 h4 H _ _ _ _ rfl _)
    (tile_val arg2 h2 x1 (P b) H.queries _ _ _ _ rfl _) (tile_val arg2 h2 x1 (P b) H.queries _ _ _ _ rfl _) r l

theorem among_val (H : Holds P σ b x0 x1 x2 x3) (kh : ℕ) (hkh : kh < 4) (odd : Bool) (ho : start odd = 64 * (kh % 2)) (r : Fin 32) (l : Fin 128) :
    amongOf (F := Ideal) arg1 arg2 arg3 arg4 (h1.unread x0) (h2.unread x1) (h3.unread x2) (h4.unread x3) kh hkh odd (ix2 r l)
      = ((att P σ b (2048 + r % 16) (256 * kh + 128 * (r / 16) + l) : ℝ) : EReal) :=
  among_att P σ b kh odd ho _ _ _ _ _ _ _ _ (sink_val arg1 h1 x0 σ H.sinks _ _) (sink_val arg1 h1 x0 σ H.sinks _ _)
    (sink_val arg1 h1 x0 σ H.sinks _ _) (sink_val arg1 h1 x0 σ H.sinks _ _)
    (key_val arg3 h3 H _ _ _ _ rfl _) (value_val arg4 h4 H _ _ _ _ rfl _)
    (tile_val arg2 h2 x1 (P b) H.queries _ _ _ _ rfl _) (tile_val arg2 h2 x1 (P b) H.queries _ _ _ _ rfl _) r l

variable (P σ b)

/-- The attention's result of example `b` as a window's contents. -/
def result : Vec Ideal S1x2064x1024 .bf16 := fun y => ((att P σ b (y 1) (y 2) : ℝ) : EReal)

/-- A stored piece holds the result's rows and lanes it is stored at. -/
def Good (p : View.Piece (Elt Ideal) S1x2064x1024 .bf16) : Prop := ∀ x : p.1.shape.Idx, p.2 x = result P σ b (p.1.emb x)

theorem good_of (q : ℕ) (off : Fin 3 → ℕ) (inb : ∀ a, off a + (T3 q 128).size a ≤ S1x2064x1024.size a) (w : Vec Ideal (T3 q 128) .bf16) (R C : ℕ) (ho : off = ![0, R, C])
    (hw : ∀ x : (T3 q 128).Idx, w x = ((att P σ b (R + x 1) (C + x 2) : ℝ) : EReal)) :
    Good P σ b ⟨Rect.unit (s := S1x2064x1024) off (T3 q 128).size inb, w⟩ := by
  subst ho
  intro x
  refine (hw x).trans (congrArg _ (congrArg₂ (att P σ b) ?_ ?_))
  · exact (ValueKit.rect_emb_unit_val _ _ inb x 1).symm
  · exact (ValueKit.rect_emb_unit_val _ _ inb x 2).symm

end

end Cert.AttnTiles
end
-- ==== Proof.AttnPieces.lean ====
/- Every tile the attention kernel stores is the attention's formula at the rows and lanes it is stored at. -/
module

public import proofs.«01_k».proof.Proof.AttnTileValue

@[expose] public section

set_option maxRecDepth 16384

noncomputable section

namespace Cert.AttnPieces

open Idealize.ShloMosaic Idealize.ShloMosaic.TcCoe Idealize.SL.Sem Idealize.ShloMosaic.Tactic
open Cert.AttnFKernelIdeal Cert.AttnFKernelIdeal.Gen Cert.AttnOps Cert.AttnTiles Cert.AttnRead

variable (P : ℕ → ℕ → ℕ → ℝ) (σ : ℕ → ℝ) (b : ℕ)
variable (c : Dev nD) (arg1 : Memref sig .tc .smem S1x16 .f32) (harg1 : arg1.IsWhole) (arg2 : Memref sig .tc .vmem S1x2064x1024 .bf16) (harg2 : arg2.IsWhole)
  (arg3 : Memref sig .tc .vmem S1x2064x256 .bf16) (harg3 : arg3.IsWhole) (arg4 : Memref sig .tc .vmem S1x2064x256 .bf16) (harg4 : arg4.IsWhole)
  (arg5 : Memref sig .tc .vmem S1x2064x1024 .bf16) (harg5 : arg5.IsWhole)
variable (x0 : Vec Ideal S1x16 .f32) (x1 : Vec Ideal S1x2064x1024 .bf16) (x2 : Vec Ideal S1x2064x256 .bf16) (x3 : Vec Ideal S1x2064x256 .bf16)

theorem offs : ∀ k : Fin k0_t1_loop.trips, k.val < 15 ∧ k0_off1 k = ![0, 128 * k.val, 128 * (0 / 2)] ∧ k0_off6 k = ![0, 128 * k.val, 128 * (2 / 2)]
    ∧ k0_off2 k = ![0, 128 * k.val + 128, 256 * 0] ∧ k0_off3 k = ![0, 128 * k.val + 128, 256 * 0 + 128] ∧ k0_off4 k = ![0, 128 * k.val + 128, 256 * 1]
    ∧ k0_off5 k = ![0, 128 * k.val + 128, 256 * 1 + 128] ∧ k0_off7 k = ![0, 128 * k.val + 128, 256 * 2] ∧ k0_off8 k = ![0, 128 * k.val + 128, 256 * 2 + 128]
    ∧ k0_off9 k = ![0, 128 * k.val + 128, 256 * 3] ∧ k0_off10 k = ![0, 128 * k.val + 128, 256 * 3 + 128] := by decide +kernel

variable {P σ b x0 x1 x2 x3}

/-- A later block's tile, stored. -/
theorem later_good (H : Holds P σ b x0 x1 x2 x3) (kh : ℕ) (hkh : kh < 4) (odd : Bool) (ho : start odd = 64 * (kh % 2)) (t : ℕ) (ht : t < 2) (n : ℕ) (hn : n < 15)
    (ko qa qb off : Fin 3 → ℕ) (hk : ko = ![0, 128 * n, 128 * (kh / 2)]) (ha : qa = ![0, 128 * n + 128, 256 * kh]) (hb : qb = ![0, 128 * n + 128, 256 * kh + 128])
    (hoff : off = ![0, 128 * n + 128, 256 * kh + 128 * t]) (ik ia ib inb) (d : ℕ) (hd : d = t * 128) (hs) (hc) (w : Vec Ideal (T3 128 128) .bf16)
    (hw : w = AttnOps.piece d (laterOf (F := Ideal) arg1 arg2 arg3 arg4 (harg1.unread x0) (harg2.unread x1) (harg3.unread x2) (harg4.unread x3) kh hkh odd ko qa qb ik ia ib) hs hc) :
    Good P σ b ⟨Rect.unit (s := S1x2064x1024) off (T3 128 128).size inb, w⟩ := by
  subst hw
  exact good_of P σ b 128 off inb _ (128 * n + 128) (256 * kh + 128 * t) hoff
    (piece_val t d hd rfl ht _ hs hc (AttnTarget.att P σ b) (128 * n + 128) (256 * kh)
      (later_val arg1 harg1 arg2 harg2 arg3 harg3 arg4 harg4 H kh hkh odd ho n hn ko qa qb hk ha hb ik ia ib))

/-- The first block's tile, stored. -/
theorem first_good (H : Holds P σ b x0 x1 x2 x3) (kh : ℕ) (hkh : kh < 4) (odd : Bool) (ho : start odd = 64 * (kh % 2)) (t : ℕ) (ht : t < 2) (off : Fin 3 → ℕ)
    (hoff : off = ![0, 0, 256 * kh + 128 * t]) (inb) (d : ℕ) (hd : d = t * 128) (hs) (hc) (w : Vec Ideal (T3 128 128) .bf16)
    (hw : w = AttnOps.piece d (firstOf (F := Ideal) arg1 arg2 arg3 arg4 (harg1.unread x0) (harg2.unread x1) (harg3.unread x2) (harg4.unread x3) kh hkh odd) hs hc) :
    Good P σ b ⟨Rect.unit (s := S1x2064x1024) off (T3 128 128).size inb, w⟩ := by
  subst hw
  exact good_of P σ b 128 off inb _ 0 (256 * kh + 128 * t) hoff
    (piece_val t d hd rfl ht _ hs hc (AttnTarget.att P σ b) 0 (256 * kh) (first_val arg1 harg1 arg2 harg2 arg3 harg3 arg4 harg4 H kh hkh odd ho))

/-- The meta tokens' tile, stored. -/
theorem among_good (H : Holds P σ b x0 x1 x2 x3) (kh : ℕ) (hkh : kh < 4) (odd : Bool) (ho : start odd = 64 * (kh % 2)) (t : ℕ) (ht : t < 2) (off : Fin 3 → ℕ)
    (hoff : off = ![0, 2048, 256 * kh + 128 * t]) (inb) (d : ℕ) (hd : d = t * 16) (hs) (hc) (w : Vec Ideal (T3 16 128) .bf16)
    (hw : w = AttnOps.piece d (amongOf (F := Ideal) arg1 arg2 arg3 arg4 (harg1.unread x0) (harg2.unread x1) (harg3.unread x2) (harg4.unread x3) kh hkh odd) hs hc) :
    Good P σ b ⟨Rect.unit (s := S1x2064x1024) off (T3 16 128).size inb, w⟩ := by
  subst hw
  exact good_of P σ b 16 off inb _ 2048 (256 * kh + 128 * t) hoff
    (piece_val t d hd rfl ht _ hs hc (AttnTarget.att P σ b) 2048 (256 * kh) (among_val arg1 harg1 arg2 harg2 arg3 harg3 arg4 harg4 H kh hkh odd ho))

/-- What one trip stores. -/
theorem trip_good (H : Holds P σ b x0 x1 x2 x3) (i : grid0.Coords) (v1 v2 : FVec Ideal S256x128 .f32) (k : Fin k0_t1_loop.trips) :
    ∀ p ∈ tripL_k0_t1 (F := Ideal) Variants.none c none i arg1 harg1 arg2 harg2 arg3 harg3 arg4 harg4 arg5 harg5 metaMask v1 v2
      (harg1.unread x0) (harg2.unread x1) (harg3.unread x2) (harg4.unread x3) k, Good P σ b p := by
  obtain ⟨hk, o1, o6, o2, o3, o4, o5, o7, o8, o9, o10⟩ := offs k
  intro p hp
  unfold tripL_k0_t1 trip_k0_t1 at hp
  dsimp only at hp
  simp only [List.mem_cons, List.not_mem_nil, or_false] at hp
  rcases hp with hp | hp | hp | hp | hp | hp | hp | hp <;> subst hp
  · exact later_good arg1 harg1 arg2 harg2 arg3 harg3 arg4 harg4 H 3 (by decide) true rfl 1 (by decide) k.val hk _ _ _ _ o6 o9 o10 o10 (k0_off6_inb k) (k0_off9_inb k) (k0_off10_inb k) _ 128 rfl (by decide) (by decide) _ (by sl_kernel_rfl)
  · exact later_good arg1 harg1 arg2 harg2 arg3 harg3 arg4 harg4 H 3 (by decide) true rfl 0 (by decide) k.val hk _ _ _ _ o6 o9 o10 o9 (k0_off6_inb k) (k0_off9_inb k) (k0_off10_inb k) _ 0 rfl (by decide) (by decide) _ (by sl_kernel_rfl)
  · exact later_good arg1 harg1 arg2 harg2 arg3 harg3 arg4 harg4 H 2 (by decide) false rfl 1 (by decide) k.val hk _ _ _ _ o6 o7 o8 o8 (k0_off6_inb k) (k0_off7_inb k) (k0_off8_inb k) _ 128 rfl (by decide) (by decide) _ (by sl_kernel_rfl)
  · exact later_good arg1 harg1 arg2 harg2 arg3 harg3 arg4 harg4 H 2 (by decide) false rfl 0 (by decide) k.val hk _ _ _ _ o6 o7 o8 o7 (k0_off6_inb k) (k0_off7_inb k) (k0_off8_inb k) _ 0 rfl (by decide) (by decide) _ (by sl_kernel_rfl)
  · exact later_good arg1 harg1 arg2 harg2 arg3 harg3 arg4 harg4 H 1 (by decide) true rfl 1 (by decide) k.val hk _ _ _ _ o1 o4 o5 o5 (k0_off1_inb k) (k0_off4_inb k) (k0_off5_inb k) _ 128 rfl (by decide) (by decide) _ (by sl_kernel_rfl)
  · exact later_good arg1 harg1 arg2 harg2 arg3 harg3 arg4 harg4 H 1 (by decide) true rfl 0 (by decide) k.val hk _ _ _ _ o1 o4 o5 o4 (k0_off1_inb k) (k0_off4_inb k) (k0_off5_inb k) _ 0 rfl (by decide) (by decide) _ (by sl_kernel_rfl)
  · exact later_good arg1 harg1 arg2 harg2 arg3 harg3 arg4 harg4 H 0 (by decide) false rfl 1 (by decide) k.val hk _ _ _ _ o1 o2 o3 o3 (k0_off1_inb k) (k0_off2_inb k) (k0_off3_inb k) _ 128 rfl (by decide) (by decide) _ (by sl_kernel_rfl)
  · exact later_good arg1 harg1 arg2 harg2 arg3 harg3 arg4 harg4 H 0 (by decide) false rfl 0 (by decide) k.val hk _ _ _ _ o1 o2 o3 o2 (k0_off1_inb k) (k0_off2_inb k) (k0_off3_inb k) _ 0 rfl (by decide) (by decide) _ (by sl_kernel_rfl)

theorem trips_good (H : Holds P σ b x0 x1 x2 x3) (i : grid0.Coords) (v1 v2 : FVec Ideal S256x128 .f32) : ∀ k : ℕ, k ≤ k0_t1_loop.trips →
    ∀ p ∈ pb_k0_t1 (F := Ideal) Variants.none c none i arg1 harg1 arg2 harg2 arg3 harg3 arg4 harg4 arg5 harg5 metaMask v1 v2
      (harg1.unread x0) (harg2.unread x1) (harg3.unread x2) (harg4.unread x3) k, Good P σ b p
  | 0, _ => fun p hp => absurd hp List.not_mem_nil
  | k + 1, h => fun p hp => by
    have e := pb_k0_t1_succ (F := Ideal) Variants.none c none i arg1 harg1 arg2 harg2 arg3 harg3 arg4 harg4 arg5 harg5 metaMask v1 v2
      (harg1.unread x0) (harg2.unread x1) (harg3.unread x2) (harg4.unread x3) ⟨k, h⟩
    rw [show k + 1 = (⟨k, h⟩ : Fin k0_t1_loop.trips).val + 1 from rfl, e] at hp
    rcases List.mem_append.1 hp with hp | hp
    · exact trip_good c arg1 harg1 arg2 harg2 arg3 harg3 arg4 harg4 arg5 harg5 H i v1 v2 ⟨k, h⟩ p hp
    · exact trips_good H i v1 v2 k (Nat.le_of_succ_le h) p hp

theorem mask_eq : cmpi CmpIPredicate.slt kernelRun0_A.sl.v0 kernelRun0_A.sl.v1 = metaMask := by sl_kernel_rfl

/-- What a grid point stores. -/
theorem run_good (H : Holds P σ b x0 x1 x2 x3) (i : grid0.Coords) :
    ∀ p ∈ (kernelRun0_A (F := Ideal) c i arg1 harg1 arg2 harg2 arg3 harg3 arg4 harg4 arg5 harg5 x0 x1 x2 x3).1, Good P σ b p := by
  intro p hp
  unfold kernelRun0_A at hp
  dsimp only at hp
  unfold kernelRun0_A.sl.H4_5 at hp
  try unfold kernelRun0_A.sl.H4_4 at hp
  try unfold kernelRun0_A.sl.H4_3 at hp
  try unfold kernelRun0_A.sl.H4_2 at hp
  try unfold kernelRun0_A.sl.H4_1 at hp
  try unfold kernelRun0_A.sl.H4 at hp
  simp only [List.mem_cons, List.mem_append, List.not_mem_nil, or_false, List.cons_append, List.nil_append] at hp
  rcases hp with hp | hp | hp | hp | hp | hp | hp | hp | hp | hp | hp | hp | hp | hp | hp | hp | hp
  all_goals try subst hp
  · exact among_good arg1 harg1 arg2 harg2 arg3 harg3 arg4 harg4 H 3 (by decide) true rfl 1 (by decide) _ rfl _ 16 rfl (by decide) (by decide) _ (by sl_kernel_rfl)
  · exact among_good arg1 harg1 arg2 harg2 arg3 harg3 arg4 harg4 H 3 (by decide) true rfl 0 (by decide) _ rfl _ 0 rfl (by decide) (by decide) _ (by sl_kernel_rfl)
  · exact among_good arg1 harg1 arg2 harg2 arg3 harg3 arg4 harg4 H 2 (by decide) false rfl 1 (by decide) _ rfl _ 16 rfl (by decide) (by decide) _ (by sl_kernel_rfl)
  · exact among_good arg1 harg1 arg2 harg2 arg3 harg3 arg4 harg4 H 2 (by decide) false rfl 0 (by decide) _ rfl _ 0 rfl (by decide) (by decide) _ (by sl_kernel_rfl)
  · exact among_good arg1 harg1 arg2 harg2 arg3 harg3 arg4 harg4 H 1 (by decide) true rfl 1 (by decide) _ rfl _ 16 rfl (by decide) (by decide) _ (by sl_kernel_rfl)
  · exact among_good arg1 harg1 arg2 harg2 arg3 harg3 arg4 harg4 H 1 (by decide) true rfl 0 (by decide) _ rfl _ 0 rfl (by decide) (by decide) _ (by sl_kernel_rfl)
  · exact among_good arg1 harg1 arg2 harg2 arg3 harg3 arg4 harg4 H 0 (by decide) false rfl 1 (by decide) _ rfl _ 16 rfl (by decide) (by decide) _ (by sl_kernel_rfl)
  · exact among_good arg1 harg1 arg2 harg2 arg3 harg3 arg4 harg4 H 0 (by decide) false rfl 0 (by decide) _ rfl _ 0 rfl (by decide) (by decide) _ (by sl_kernel_rfl)
  · rw [mask_eq] at hp
    exact trips_good c arg1 harg1 arg2 harg2 arg3 harg3 arg4 harg4 arg5 harg5 H i _ _ _ le_rfl p hp
  · exact first_good arg1 harg1 arg2 harg2 arg3 harg3 arg4 harg4 H 3 (by decide) true rfl 1 (by decide) _ rfl _ 128 rfl (by decide) (by decide) _ (by sl_kernel_rfl)
  · exact first_good arg1 harg1 arg2 harg2 arg3 harg3 arg4 harg4 H 3 (by decide) true rfl 0 (by decide) _ rfl _ 0 rfl (by decide) (by decide) _ (by sl_kernel_rfl)
  · exact first_good arg1 harg1 arg2 harg2 arg3 harg3 arg4 harg4 H 2 (by decide) false rfl 1 (by decide) _ rfl _ 128 rfl (by decide) (by decide) _ (by sl_kernel_rfl)
  · exact first_good arg1 harg1 arg2 harg2 arg3 harg3 arg4 harg4 H 2 (by decide) false rfl 0 (by decide) _ rfl _ 0 rfl (by decide) (by decide) _ (by sl_kernel_rfl)
  · exact first_good arg1 harg1 arg2 harg2 arg3 harg3 arg4 harg4 H 1 (by decide) true rfl 1 (by decide) _ rfl _ 128 rfl (by decide) (by decide) _ (by sl_kernel_rfl)
  · exact first_good arg1 harg1 arg2 harg2 arg3 harg3 arg4 harg4 H 1 (by decide) true rfl 0 (by decide) _ rfl _ 0 rfl (by decide) (by decide) _ (by sl_kernel_rfl)
  · exact first_good arg1 harg1 arg2 harg2 arg3 harg3 arg4 harg4 H 0 (by decide) false rfl 1 (by decide) _ rfl _ 128 rfl (by decide) (by decide) _ (by sl_kernel_rfl)
  · exact first_good arg1 harg1 arg2 harg2 arg3 harg3 arg4 harg4 H 0 (by decide) false rfl 0 (by decide) _ rfl _ 0 rfl (by decide) (by decide) _ (by sl_kernel_rfl)

end Cert.AttnPieces
end
-- ==== Proof.AttnValue.lean ====
/- The result of the attention's forward call, as a function of its two arguments. -/
module

public import proofs.«01_k».proof.Proof.AttnPieces
public import proofs.«01_k».proof.Proof.Gen.AttnFKernelIdeal.Value
public import proofs.«01_k».proof.Proof.Reals
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnFKernelIdeal.Val

open Cert.AttnFKernelIdeal Cert.AttnFKernelIdeal.Gen Cert.AttnTiles Cert.Reals Cert.AttnTarget

variable (m : (ℓ : Loc nD τ sig) → Buf (Elt Ideal) ℓ)

theorem idx : ∀ t : Fin cfg0.N, win0_0.index t = ![0, 0] ∧ win0_1.index t = ![t.val, 0, 0] ∧ win0_2.index t = ![t.val, 0, 4]
    ∧ win0_3.index t = ![t.val, 0, 5] ∧ win0_4.index t = ![t.val, 0, 0] :=
  (by decide +kernel : ∀ t : Fin grid0.N, _)

/-- The reals an array of projections holds, at any three numbers. -/
def realP (x : Vec Ideal S4x2064x4096 .f32) (b i c : ℕ) : ℝ :=
  if h : b < 4 ∧ i < 2064 ∧ c < 4096 then (x (ix3 ⟨b, h.1⟩ ⟨i, h.2.1⟩ ⟨c, h.2.2⟩)).toReal else 0

/-- The reals the sinks hold. -/
def realS (x : Vec Ideal S16 .f32) (j : ℕ) : ℝ := if h : j < 16 then (x (ix1 ⟨j, h⟩)).toReal else 0

theorem realP_coe {x : Vec Ideal S4x2064x4096 .f32} (hx : ∀ i, IsReal (x i)) (b : Fin 4) (i : Fin 2064) (c : ℕ) (hc : c < 4096) :
    x (ix3 b i ⟨c, hc⟩) = ((realP x b i c : ℝ) : EReal) := by
  unfold realP
  rw [dif_pos ⟨b.isLt, i.isLt, hc⟩]
  obtain ⟨r, hr⟩ := hx (ix3 b i ⟨c, hc⟩)
  rw [hr, EReal.toReal_coe]

theorem realS_coe {x : Vec Ideal S16 .f32} (hx : ∀ i, IsReal (x i)) (j : Fin 16) : x (ix1 j) = ((realS x j : ℝ) : EReal) := by
  unfold realS
  rw [dif_pos j.isLt]
  obtain ⟨r, hr⟩ := hx (ix1 j)
  rw [hr, EReal.toReal_coe]

theorem V_v0 (c : Dev nD) (j : S4x2064x4096.Idx) : V m c main_v0 j = m ((c : Thread nD τ).loc main_arg0) j := by
  unfold V
  after_reads_at

theorem V_v1 (c : Dev nD) (j : Fin 16) : V m c main_v1 (ix2 0 j) = m ((c : Thread nD τ).loc main_arg1) (ix1 j) := by
  unfold V
  after_reads_at

section blocks

variable (c : Dev nD) (t : Fin cfg0.N)

theorem sinks_apply (j : Fin 16) : iblk m c 0 t (ix2 0 j) = m ((c : Thread nD τ).loc main_arg1) (ix1 j) := by
  refine Eq.trans ?_ (V_v1 m c j)
  blk_point [iblk, idx t]

theorem queries_apply (r : Fin 2064) (k : Fin 1024) : iblk m c 1 t (ix3 0 r k)
    = m ((c : Thread nD τ).loc main_arg0) (ix3 ⟨t.val, lt_of_lt_of_eq t.isLt N_0⟩ r ⟨k.val, by omega⟩) := by
  refine Eq.trans ?_ (V_v0 m c _)
  blk_point [iblk, idx t]

theorem keys_apply (r : Fin 2064) (k : Fin 256) : iblk m c 2 t (ix3 0 r k)
    = m ((c : Thread nD τ).loc main_arg0) (ix3 ⟨t.val, lt_of_lt_of_eq t.isLt N_0⟩ r ⟨1024 + k.val, by omega⟩) := by
  refine Eq.trans ?_ (V_v0 m c _)
  blk_point [iblk, idx t]

theorem values_apply (r : Fin 2064) (k : Fin 256) : iblk m c 3 t (ix3 0 r k)
    = m ((c : Thread nD τ).loc main_arg0) (ix3 ⟨t.val, lt_of_lt_of_eq t.isLt N_0⟩ r ⟨1280 + k.val, by omega⟩) := by
  refine Eq.trans ?_ (V_v0 m c _)
  blk_point [iblk, idx t]

theorem holds (h0 : ∀ i, IsReal (m ((c : Thread nD τ).loc main_arg0) i)) (h1 : ∀ i, IsReal (m ((c : Thread nD τ).loc main_arg1) i)) :
    Holds (realP (m ((c : Thread nD τ).loc main_arg0))) (realS (m ((c : Thread nD τ).loc main_arg1))) t.val
      (iblk m c 0 t) (iblk m c 1 t) (iblk m c 2 t) (iblk m c 3 t) where
  sinks j := (sinks_apply m c t j).trans (realS_coe h1 j)
  queries r k := (queries_apply m c t r k).trans (realP_coe h0 ⟨t.val, _⟩ r k.val _)
  keys r k := (keys_apply m c t r k).trans (realP_coe h0 ⟨t.val, _⟩ r (1024 + k.val) _)
  values r k := (values_apply m c t r k).trans (realP_coe h0 ⟨t.val, _⟩ r (1280 + k.val) _)

end blocks

theorem final4 (c : Dev nD) (h0 : ∀ i, IsReal (m ((c : Thread nD τ).loc main_arg0) i)) (h1 : ∀ i, IsReal (m ((c : Thread nD τ).loc main_arg1) i)) :
    (dats (F := Ideal) m 0 c).arrAt 4 cfg0.N
    = fun y => ((att (realP (m ((c : Thread nD τ).loc main_arg0))) (realS (m ((c : Thread nD τ).loc main_arg1))) (y 0).val (y 1).val (y 2).val : ℝ) : EReal) := by
  refine (dats m 0 c).arrAt_eq_of_covers 4 _ (by decide +kernel) fun t _ y => ?_
  blk_simp
  rw [after0_4, outsAt0, out0_A_4]
  refine (View.read_writes_apply_of_pieces _ _ (result (realP (m ((c : Thread nD τ).loc main_arg0))) (realS (m ((c : Thread nD τ).loc main_arg1))) t.val) _
    (AttnPieces.run_good c _ _ _ _ _ _ _ _ _ _ (holds m c t h0 h1) (grid0.coords t)) y (cover0_A_4 c _ _ _ _ _ _ _ _ _ _ _ _ _ _ _ y)).trans ?_
  rw [(idx t).2.2.2.2]
  show ((att _ _ t.val (y 1).val (y 2).val : ℝ) : EReal) = ((att _ _ t.val (0 * 2064 + (y 1).val) (0 * 1024 + (y 2).val) : ℝ) : EReal)
  simp only [Nat.zero_mul, Nat.zero_add]

end Cert.AttnFKernelIdeal.Val
end
-- ==== Proof.AttnRef.lean ====
/- The attention's forward reference, stage by stage: a dense masked softmax with one sink per head. -/
module

public import proofs.«01_k».proof.Proof.AttnTarget
public import proofs.«01_k».proof.Proof.Gen.AttnFReferenceIdeal.Read
public import Idealize.ShloMosaic.Lib.KernelVsHost

@[expose] public section

set_option maxRecDepth 16384

noncomputable section

namespace Cert.AttnFReferenceIdeal.Math

open Idealize.ShloMosaic Idealize.ShloMosaic.TcCoe Cert.AttnFReferenceIdeal Cert.AttnFReferenceIdeal.Read Cert.AttnMath
open Cert.AttnTarget (vis wgt att)
open Cert.AttnRead (rdot ofBits_zero ofBits_eighth)

theorem toInt_below {a : ℕ} (ha : a < 4096) : (BitVec.ofNat 32 a).toInt = a := by
  rw [BitVec.toInt_eq_toNat_of_lt (by rw [BitVec.toNat_ofNat]; omega), BitVec.toNat_ofNat, Nat.mod_eq_of_lt (by omega)]

theorem slt_iff {a b : ℕ} (ha : a < 4096) (hb : b < 4096) : IntOp.cmpi .slt (BitVec.ofNat 32 a) (BitVec.ofNat 32 b) = 1#1 ↔ a < b := by
  show BitVec.ofBool ((BitVec.ofNat 32 a).slt (BitVec.ofNat 32 b)) = 1#1 ↔ _
  rw [Cert.AttnRows.bit_one, BitVec.slt_eq_decide, toInt_below ha, toInt_below hb]; simp

theorem sle_iff {a b : ℕ} (ha : a < 4096) (hb : b < 4096) : IntOp.cmpi .sle (BitVec.ofNat 32 a) (BitVec.ofNat 32 b) = 1#1 ↔ a ≤ b := by
  show BitVec.ofBool ((BitVec.ofNat 32 a).sle (BitVec.ofNat 32 b)) = 1#1 ↔ _
  rw [Cert.AttnRows.bit_one, BitVec.sle_eq_decide, toInt_below ha, toInt_below hb]; simp

theorem sge_iff {a b : ℕ} (ha : a < 4096) (hb : b < 4096) : IntOp.cmpi .sge (BitVec.ofNat 32 a) (BitVec.ofNat 32 b) = 1#1 ↔ b ≤ a := by
  show BitVec.ofBool ((BitVec.ofNat 32 b).sle (BitVec.ofNat 32 a)) = 1#1 ↔ _
  rw [Cert.AttnRows.bit_one, BitVec.sle_eq_decide, toInt_below ha, toInt_below hb]; simp

theorem and_iff (a b : BitVec 1) : IntOp.andi a b = 1#1 ↔ a = 1#1 ∧ b = 1#1 := by revert a b; decide
theorem or_iff (a b : BitVec 1) : IntOp.ori a b = 1#1 ↔ a = 1#1 ∨ b = 1#1 := by revert a b; decide

/-- The mask is one exactly where the row sees the key. -/
theorem mask_iff (i : S2064x2064.Idx) : val_main_v40 (F := Ideal) i = 1#1 ↔ vis (i 0).val (i 1).val := by
  have h0 : (i 0).val < 2064 := (i 0).isLt
  have h1 : (i 1).val < 2064 := (i 1).isLt
  have eq0 (j : S2064x1.Idx) : val_main_v9 (F := Ideal) j = BitVec.ofNat 32 (j 0).val := by rw [val_main_v9_apply, val_main_v8_apply]
  have eq1 (j : S1x2064.Idx) : val_main_v11 (F := Ideal) j = BitVec.ofNat 32 (j 1).val := by rw [val_main_v11_apply, val_main_v10_apply]
  rw [val_main_v40_apply, or_iff, val_main_v28_apply, and_iff, val_main_v22_apply, and_iff, val_main_v18_apply, and_iff, val_main_v39_apply, and_iff,
    val_main_v37_apply, or_iff, val_main_v16_apply, val_main_v17_apply, val_main_v13_apply, val_main_v15_apply, val_main_v21_apply,
    val_main_v19_apply, val_main_v20_apply, val_main_v27_apply, val_main_v25_apply, val_main_v26_apply, val_main_v24_apply, val_main_v23_apply,
    val_main_v38_apply, val_main_v30_apply, val_main_v29_apply, val_main_v36_apply, val_main_v32_apply, val_main_v31_apply, val_main_v35_apply,
    val_main_v33_apply, val_main_v34_apply, val_main_v12_apply, val_main_v14_apply]
  simp only [eq0, eq1, val_main_c_apply, val_main_c_0_apply, val_main_c_1_apply, val_main_c_2_apply, val_main_c_3_apply]
  rw [show IntOp.addi (BitVec.ofNat 32 (idx_main_v26 i 1).val) 128#32 = BitVec.ofNat 32 ((i 1).val + 128) from (BitVec.ofNat_add ..).symm]
  have e1 := slt_iff (a := (i 0).val) (b := 2048) (by omega) (by omega)
  have e2 := slt_iff (a := (i 1).val) (b := 2048) (by omega) (by omega)
  have e3 := sle_iff (a := (i 1).val) (b := (i 0).val) (by omega) (by omega)
  have e4 := slt_iff (a := (i 0).val) (b := (i 1).val + 128) (by omega) (by omega)
  have e5 := sge_iff (a := (i 1).val) (b := 2048) (by omega) (by omega)
  rw [e1, e2, e3, e4, e5]
  unfold vis
  omega

theorem negInf : Ideal.ofBits .f32 0xFF800000#32 = ⊥ := by simp [Ideal.ofBits, Ideal.ieee]

section arguments

variable (P : ℕ → ℕ → ℕ → ℝ) (σ : ℕ → ℝ) (x0 : (⟨S4x2064x4096, .f32⟩ : BufTy).Contents (Elt Ideal)) (x1 : (⟨S16, .f32⟩ : BufTy).Contents (Elt Ideal))

theorem P_congr {b b' i i' c c' : ℕ} (hb : b = b') (hi : i = i') (hc : c = c') : P b i c = P b' i' c' := by rw [hb, hi, hc]

variable (hx : ∀ i : S4x2064x4096.Idx, x0 i = ((P (i 0).val (i 1).val (i 2).val : ℝ) : EReal)) (hs : ∀ i : S16.Idx, x1 i = ((σ (i 0).val : ℝ) : EReal))

include hx

theorem query_at (i : S4x2064x4x4x64.Idx) :
    val_main_v5 (F := Ideal) x0 i = ((P (i 0).val (i 1).val (64 * (4 * (i 2).val + (i 3).val) + (i 4).val) * (1 / 8) : ℝ) : EReal) := by
  have h0 : (i 0).val < 4 := (i 0).isLt
  have h1 : (i 1).val < 2064 := (i 1).isLt
  have h2 : (i 2).val < 4 := (i 2).isLt
  have h3 : (i 3).val < 4 := (i 3).isLt
  have h4 : (i 4).val < 64 := (i 4).isLt
  rw [val_main_v5_apply, val_main_v4_apply, val_main_v0_apply, val_main_v3_apply, val_main_cst_apply, hx]
  refine (congrArg₂ (· * ·) (congrArg (fun r : ℝ => (r : EReal)) (P_congr P ?_ ?_ ?_)) ofBits_eighth).trans (EReal.coe_mul _ _).symm
  · show (((((i 0).val * 2064 + (i 1).val) * 4 + (i 2).val) * 4 + (i 3).val) * 64 + (i 4).val) / 2113536 = (i 0).val; omega
  · show (((((i 0).val * 2064 + (i 1).val) * 4 + (i 2).val) * 4 + (i 3).val) * 64 + (i 4).val) / 1024 % 2064 = (i 1).val; omega
  · show (((((i 0).val * 2064 + (i 1).val) * 4 + (i 2).val) * 4 + (i 3).val) * 64 + (i 4).val) % 1024 = _; omega

theorem key_at (i : S4x2064x4x64.Idx) :
    val_main_v6 (F := Ideal) x0 i = ((P (i 0).val (i 1).val (1024 + 64 * (i 2).val + (i 3).val) : ℝ) : EReal) := by
  have h0 : (i 0).val < 4 := (i 0).isLt
  have h1 : (i 1).val < 2064 := (i 1).isLt
  have h2 : (i 2).val < 4 := (i 2).isLt
  have h3 : (i 3).val < 64 := (i 3).isLt
  rw [val_main_v6_apply, val_main_v1_apply, hx]
  refine congrArg (fun r : ℝ => (r : EReal)) (P_congr P ?_ ?_ ?_)
  · show ((((i 0).val * 2064 + (i 1).val) * 4 + (i 2).val) * 64 + (i 3).val) / 528384 = (i 0).val; omega
  · show ((((i 0).val * 2064 + (i 1).val) * 4 + (i 2).val) * 64 + (i 3).val) / 256 % 2064 = (i 1).val; omega
  · show 1024 + ((((i 0).val * 2064 + (i 1).val) * 4 + (i 2).val) * 64 + (i 3).val) % 256 = _; omega

theorem value_at (i : S4x2064x4x64.Idx) :
    val_main_v7 (F := Ideal) x0 i = ((P (i 0).val (i 1).val (1280 + 64 * (i 2).val + (i 3).val) : ℝ) : EReal) := by
  have h0 : (i 0).val < 4 := (i 0).isLt
  have h1 : (i 1).val < 2064 := (i 1).isLt
  have h2 : (i 2).val < 4 := (i 2).isLt
  have h3 : (i 3).val < 64 := (i 3).isLt
  rw [val_main_v7_apply, val_main_v2_apply, hx]
  refine congrArg (fun r : ℝ => (r : EReal)) (P_congr P ?_ ?_ ?_)
  · show ((((i 0).val * 2064 + (i 1).val) * 4 + (i 2).val) * 64 + (i 3).val) / 528384 = (i 0).val; omega
  · show ((((i 0).val * 2064 + (i 1).val) * 4 + (i 2).val) * 64 + (i 3).val) / 256 % 2064 = (i 1).val; omega
  · show 1280 + ((((i 0).val * 2064 + (i 1).val) * 4 + (i 2).val) * 64 + (i 3).val) % 256 = _; omega

/-- A score before the mask: example, key head, query head of its group, row, key. -/
theorem score_at (i : S4x4x4x2064x2064.Idx) :
    val_main_v42 (F := Ideal) x0 i = ((rdot (fun x => P (i 0).val (i 3).val (64 * (4 * (i 1).val + (i 2).val) + x))
      (fun x => P (i 0).val (i 4).val (1024 + 64 * ((4 * (i 1).val + (i 2).val) / 4) + x)) * (1 / 8) : ℝ) : EReal) := by
  have h2 : (i 2).val < 4 := (i 2).isLt
  rw [val_main_v42_apply, val_main_v41_apply]
  have e (k : Fin 64) : val_main_v6 (F := Ideal) x0 (lidx_main_v41 (idx_main_v42 i) k) * val_main_v5 (F := Ideal) x0 (ridx_main_v41 (idx_main_v42 i) k)
      = ((P (i 0).val (i 3).val (64 * (4 * (i 1).val + (i 2).val) + k.val) * P (i 0).val (i 4).val (1024 + 64 * ((4 * (i 1).val + (i 2).val) / 4) + k.val) * (1 / 8) : ℝ) : EReal) := by
    rw [key_at P x0 hx, query_at P x0 hx, ← EReal.coe_mul]
    refine congrArg (fun r : ℝ => (r : EReal)) ?_
    have e2 : (4 * (i 1).val + (i 2).val) / 4 = (i 1).val := by omega
    rw [e2]
    show P (i 0).val (i 4).val (1024 + 64 * (i 1).val + k.val) * (P (i 0).val (i 3).val (64 * (4 * (i 1).val + (i 2).val) + k.val) * (1 / 8)) = _
    ring
  rw [Finset.sum_congr rfl fun k _ => e k, coe_sum]
  refine congrArg (fun r : ℝ => (r : EReal)) ?_
  rw [Fin.sum_univ_eq_sum_range (fun k => P (i 0).val (i 3).val (64 * (4 * (i 1).val + (i 2).val) + k) * P (i 0).val (i 4).val (1024 + 64 * ((4 * (i 1).val + (i 2).val) / 4) + k) * (1 / 8)) 64,
    ← Finset.sum_mul]
  rfl

theorem masked_at (i : S4x4x4x2064x2064.Idx) :
    val_main_v43 (F := Ideal) x0 i ≠ ⊤ ∧ ew (val_main_v43 (F := Ideal) x0 i) = wgt P (i 0).val (i 3).val (4 * (i 1).val + (i 2).val) (i 4).val := by
  have hm := mask_iff (idx_main_call0_v1 i)
  have e2 : val_main_call0_v2 (F := Ideal) i = ⊥ := by
    rw [val_main_call0_v2_apply, val_main_call0_v0_apply, val_main_cst_4_apply]; exact negInf
  rw [val_main_v43_apply, val_main_call0_v1_apply, e2, score_at P x0 hx]
  unfold wgt
  by_cases h : vis (i 3).val (i 4).val
  · rw [hm.2 h, if_pos h]
    refine ⟨EReal.coe_ne_top _, ew_coe _⟩
  · rw [if_neg h, show ∀ a b : EReal, Scalar.select (val_main_v40 (F := Ideal) (idx_main_call0_v1 i)) a b = b from fun a b => if_neg (fun e => h (hm.1 e))]
    exact ⟨bot_ne_top, ew_bot⟩

end arguments

end Cert.AttnFReferenceIdeal.Math
end
-- ==== Proof.AttnRefSoft.lean ====
/- The attention's forward reference from its masked scores on: the softmax with the sink, and the weighed values. -/
module

public import proofs.«01_k».proof.Proof.AttnRef

@[expose] public section

set_option maxRecDepth 16384

noncomputable section

namespace Cert.AttnFReferenceIdeal.Math

open Idealize.ShloMosaic Idealize.ShloMosaic.TcCoe Cert.AttnFReferenceIdeal Cert.AttnFReferenceIdeal.Gen Cert.AttnFReferenceIdeal.Read Cert.AttnMath
open Cert.AttnTarget (vis wgt att)
open Cert.AttnRead (rdot ofBits_zero ofBits_eighth)

variable (P : ℕ → ℕ → ℕ → ℝ) (σ : ℕ → ℝ) (x0 : (⟨S4x2064x4096, .f32⟩ : BufTy).Contents (Elt Ideal)) (x1 : (⟨S16, .f32⟩ : BufTy).Contents (Elt Ideal))
  (hx : ∀ i : S4x2064x4096.Idx, x0 i = ((P (i 0).val (i 1).val (i 2).val : ℝ) : EReal)) (hs : ∀ i : S16.Idx, x1 i = ((σ (i 0).val : ℝ) : EReal))

/-- The greatest element of a row. -/
theorem greatest (y : S4x4x4x2064x2065.Idx → EReal) (i : S4x4x4x2064.Idx) :
    Host.reduce (FloatOps.maximumf (F := Ideal) (φ := .f32)) y (val_main_cst_5 (F := Ideal)) reducesTo_S4x4x4x2064x2065_S4x4x4x2064_d4 h_S_ i
    = (Finset.univ : Finset (Fin 2065)).fold max ⊥ (fun k => y (idx_main_v55 i k)) := by
  rw [Host.reduce_eq_fold_single (FloatOps.maximumf (F := Ideal) (φ := .f32)) y _ _ (by decide : S4x4x4x2064x2065.Reduces [4] S4x4x4x2064) h_S_ i,
    val_main_cst_5_apply]
  refine congrArg₂ (fun b f => (Finset.univ : Finset (Fin 2065)).fold max b f) negInf (funext fun k => ?_)
  exact congrArg y (funext fun a => Fin.ext (by match a with | ⟨0, _⟩ => rfl | ⟨1, _⟩ => rfl | ⟨2, _⟩ => rfl | ⟨3, _⟩ => rfl | ⟨4, _⟩ => rfl))

include hs in
/-- The last column of the scores is the head's sink. -/
theorem last_at (j : S4x4x4x2064x2065.Idx) (h : (j 4).val = 2064) :
    val_main_v47 (F := Ideal) x0 x1 j = ((σ (4 * (j 1).val + (j 2).val) : ℝ) : EReal) := by
  unfold val_main_v47
  let k : S4x4x4x2064x1.Idx := fun a => match a with
    | ⟨0, _⟩ => ⟨(j 0).val, (j 0).isLt⟩
    | ⟨1, _⟩ => ⟨(j 1).val, (j 1).isLt⟩
    | ⟨2, _⟩ => ⟨(j 2).val, (j 2).isLt⟩
    | ⟨3, _⟩ => ⟨(j 3).val, (j 3).isLt⟩
    | ⟨4, _⟩ => ⟨0, Nat.one_pos⟩
  refine (concatenate_pair_apply_right (4 : Fin S4x4x4x2064x2065.rank) (val_main_v43 (F := Ideal) x0) (val_main_v46 (F := Ideal) x1) _ j rfl rfl k (fun b hb => ?_) ?_).trans ?_
  · match b with
    | ⟨0, _⟩ => rfl
    | ⟨1, _⟩ => rfl
    | ⟨2, _⟩ => rfl
    | ⟨3, _⟩ => rfl
    | ⟨4, _⟩ => exact absurd rfl hb
  · show 0 + 2064 = (j 4).val; omega
  · rw [val_main_v46_apply, val_main_v45_apply, val_main_v44_apply, hs]
    refine congrArg (fun n => ((σ n : ℝ) : EReal)) ?_
    show (j 1).val * 4 + (j 2).val = _
    omega

include hx in
/-- The other columns are the masked scores. -/
theorem column_at (j : S4x4x4x2064x2065.Idx) (h : (j 4).val < 2064) :
    val_main_v47 (F := Ideal) x0 x1 j ≠ ⊤ ∧ ew (val_main_v47 (F := Ideal) x0 x1 j) = wgt P (j 0).val (j 3).val (4 * (j 1).val + (j 2).val) (j 4).val := by
  let k : S4x4x4x2064x2064.Idx := fun a => match a with
    | ⟨0, _⟩ => ⟨(j 0).val, (j 0).isLt⟩
    | ⟨1, _⟩ => ⟨(j 1).val, (j 1).isLt⟩
    | ⟨2, _⟩ => ⟨(j 2).val, (j 2).isLt⟩
    | ⟨3, _⟩ => ⟨(j 3).val, (j 3).isLt⟩
    | ⟨4, _⟩ => ⟨(j 4).val, h⟩
  have e : val_main_v47 (F := Ideal) x0 x1 j = val_main_v43 (F := Ideal) x0 k := by
    unfold val_main_v47
    refine concatenate_pair_apply_left (4 : Fin S4x4x4x2064x2065.rank) (val_main_v43 (F := Ideal) x0) (val_main_v46 (F := Ideal) x1) _ j rfl k (fun b => ?_)
    match b with
    | ⟨0, _⟩ => rfl
    | ⟨1, _⟩ => rfl
    | ⟨2, _⟩ => rfl
    | ⟨3, _⟩ => rfl
    | ⟨4, _⟩ => rfl
  rw [e]
  exact masked_at P x0 hx k

include hx hs

theorem ne_top (j : S4x4x4x2064x2065.Idx) : val_main_v47 (F := Ideal) x0 x1 j ≠ ⊤ := by
  by_cases h : (j 4).val < 2064
  · exact (column_at P x0 x1 hx j h).1
  · rw [last_at σ x0 x1 hs j (by have : (j 4).val < 2065 := (j 4).isLt; omega)]
    exact EReal.coe_ne_top _

/-- A row's greatest score is a real number: the sink is one, and no score is plus infinity. -/
theorem top_real (i : S4x4x4x2064.Idx) : ∃ μ : ℝ, val_main_v50 (F := Ideal) x0 x1 i = (μ : EReal) := by
  have e : val_main_v50 (F := Ideal) x0 x1 i
      = (Finset.univ : Finset (Fin 2065)).fold max ⊥ (fun k => val_main_v47 (F := Ideal) x0 x1 (idx_main_v55 i k)) := by
    have e49 : val_main_v49 (F := Ideal) i = ⊥ := by rw [val_main_v49_apply, val_main_cst_6_apply]; exact negInf
    rw [val_main_v50_apply, e49]
    exact (max_eq_right bot_le).trans (greatest _ i)
  have ht : val_main_v50 (F := Ideal) x0 x1 i ≠ ⊤ := by
    rw [e]
    exact ((Finset.fold_max_lt ⊤).2 ⟨bot_lt_top, fun k _ => lt_top_iff_ne_top.2 (ne_top P σ x0 x1 hx hs _)⟩).ne
  have hb : val_main_v50 (F := Ideal) x0 x1 i ≠ ⊥ := by
    rw [e]
    refine ((Finset.lt_fold_max _).2 (.inr ⟨⟨2064, by decide⟩, Finset.mem_univ _, ?_⟩)).ne'
    rw [last_at σ x0 x1 hs _ rfl]
    exact EReal.bot_lt_coe _
  exact ⟨_, (EReal.coe_toReal ht hb).symm⟩

/-- The exponentials are the weights times one factor for the row. -/
theorem exp_at (i : S4x4x4x2064.Idx) (μ : ℝ) (hμ : val_main_v50 (F := Ideal) x0 x1 i = (μ : EReal)) (k : Fin 2065) :
    val_main_v54 (F := Ideal) x0 x1 (idx_main_v55 i k) = ((ew (val_main_v47 (F := Ideal) x0 x1 (idx_main_v55 i k)) * Real.exp (-μ) : ℝ) : EReal) := by
  have er : idx_main_v51 (idx_main_v52 (idx_main_v55 i k)) = i :=
    funext fun a => Fin.ext (by match a with | ⟨0, _⟩ => rfl | ⟨1, _⟩ => rfl | ⟨2, _⟩ => rfl | ⟨3, _⟩ => rfl)
  rw [val_main_v54_apply, val_main_v53_apply, val_main_v52_apply, val_main_v51_apply, er, hμ]
  exact exp_sub _ (ne_top P σ x0 x1 hx hs _) μ

/-- A row's sum of weights. -/
def total (b i head : ℕ) : ℝ := ∑ j ∈ Finset.range 2064, wgt P b i head j + Real.exp (σ head)

omit hx hs in
theorem total_pos (b i head : ℕ) : 0 < total P σ b i head := by
  unfold total
  have : 0 ≤ ∑ j ∈ Finset.range 2064, wgt P b i head j := Finset.sum_nonneg fun j _ => by
    unfold wgt; split_ifs; exact (Real.exp_pos _).le; exact le_rfl
  have := Real.exp_pos (σ head)
  linarith

theorem sum_at (i : S4x4x4x2064.Idx) (μ : ℝ) (hμ : val_main_v50 (F := Ideal) x0 x1 i = (μ : EReal)) :
    val_main_v55 (F := Ideal) x0 x1 i = ((total P σ (i 0).val (i 3).val (4 * (i 1).val + (i 2).val) * Real.exp (-μ) : ℝ) : EReal) := by
  rw [val_main_v55_apply, val_main_cst_7_apply, Finset.sum_congr rfl fun k _ => exp_at P σ x0 x1 hx hs i μ hμ k, coe_sum]
  refine (congrArg (· + _) ofBits_zero).trans ((zero_add _).trans (congrArg (fun r : ℝ => (r : EReal)) ?_))
  rw [← Finset.sum_mul, Fin.sum_univ_castSucc, total,
    ← Fin.sum_univ_eq_sum_range (fun j => wgt P (i 0).val (i 3).val (4 * (i 1).val + (i 2).val) j) 2064]
  refine congrArg (· * Real.exp (-μ)) (congrArg₂ (· + ·) (Finset.sum_congr rfl fun k _ => ?_) ?_)
  · exact (column_at P x0 x1 hx (idx_main_v55 i k.castSucc) k.isLt).2
  · rw [last_at σ x0 x1 hs (idx_main_v55 i (Fin.last 2064)) rfl]
    exact ew_coe _

/-- The softmax's weight of a key. -/
theorem weight_at (i : S4x4x4x2064x2064.Idx) :
    val_main_v59 (F := Ideal) x0 x1 i
    = ((wgt P (i 0).val (i 3).val (4 * (i 1).val + (i 2).val) (i 4).val / total P σ (i 0).val (i 3).val (4 * (i 1).val + (i 2).val) : ℝ) : EReal) := by
  let r : S4x4x4x2064.Idx := idx_main_v51 (idx_main_v52 (idx_main_v59 i))
  obtain ⟨μ, hμ⟩ := top_real P σ x0 x1 hx hs r
  let k : Fin 2065 := ⟨(i 4).val, lt_trans (i 4).isLt (by decide)⟩
  have ej : idx_main_v59 i = idx_main_v55 r k :=
    funext fun a => Fin.ext (by match a with | ⟨0, _⟩ => rfl | ⟨1, _⟩ => rfl | ⟨2, _⟩ => rfl | ⟨3, _⟩ => rfl | ⟨4, _⟩ => rfl)
  have er : idx_main_v56 (idx_main_v57 (idx_main_v55 r k)) = r :=
    funext fun a => Fin.ext (by match a with | ⟨0, _⟩ => rfl | ⟨1, _⟩ => rfl | ⟨2, _⟩ => rfl | ⟨3, _⟩ => rfl)
  rw [val_main_v59_apply, ej, val_main_v58_apply, val_main_v57_apply, val_main_v56_apply, er, exp_at P σ x0 x1 hx hs r μ hμ, sum_at P σ x0 x1 hx hs r μ hμ,
    (column_at P x0 x1 hx (idx_main_v55 r k) (i 4).isLt).2]
  have hp := total_pos P σ (i 0).val (i 3).val (4 * (i 1).val + (i 2).val)
  have he : Real.exp (-μ) ≠ 0 := (Real.exp_pos _).ne'
  show Ideal.div ((wgt P (i 0).val (i 3).val (4 * (i 1).val + (i 2).val) (i 4).val * Real.exp (-μ) : ℝ) : EReal)
    ((total P σ (i 0).val (i 3).val (4 * (i 1).val + (i 2).val) * Real.exp (-μ) : ℝ) : EReal) = _
  rw [Ideal.div_coe (mul_ne_zero hp.ne' he), ← EReal.coe_mul]
  refine congrArg (fun r : ℝ => (r : EReal)) ?_
  field_simp

/-- The weighed values: example, key head, lane, query head of its group, row. -/
theorem weighed_at (i : S4x4x64x4x2064.Idx) :
    val_main_v60 (F := Ideal) x0 x1 i
    = (((∑ j ∈ Finset.range 2064, wgt P (i 0).val (i 4).val (4 * (i 1).val + (i 3).val) j * P (i 0).val j (1280 + 64 * (i 1).val + (i 2).val))
        / total P σ (i 0).val (i 4).val (4 * (i 1).val + (i 3).val) : ℝ) : EReal) := by
  rw [val_main_v60_apply]
  have e (k : Fin 2064) : val_main_v7 (F := Ideal) x0 (lidx_main_v60 i k) * val_main_v59 (F := Ideal) x0 x1 (ridx_main_v60 i k)
      = ((wgt P (i 0).val (i 4).val (4 * (i 1).val + (i 3).val) k.val * P (i 0).val k.val (1280 + 64 * (i 1).val + (i 2).val)
          / total P σ (i 0).val (i 4).val (4 * (i 1).val + (i 3).val) : ℝ) : EReal) := by
    rw [value_at P x0 hx, weight_at P σ x0 x1 hx hs, ← EReal.coe_mul]
    refine congrArg (fun r : ℝ => (r : EReal)) ?_
    show P (i 0).val k.val (1280 + 64 * (i 1).val + (i 2).val) * (wgt P (i 0).val (i 4).val (4 * (i 1).val + (i 3).val) k.val
      / total P σ (i 0).val (i 4).val (4 * (i 1).val + (i 3).val)) = _
    ring
  rw [Finset.sum_congr rfl fun k _ => e k, coe_sum]
  refine congrArg (fun r : ℝ => (r : EReal)) ?_
  rw [← Finset.sum_div,
    Fin.sum_univ_eq_sum_range (fun k => wgt P (i 0).val (i 4).val (4 * (i 1).val + (i 3).val) k * P (i 0).val k (1280 + 64 * (i 1).val + (i 2).val)) 2064]

/-- The reference's result. -/
theorem result_at (i : S4x2064x1024.Idx) : val_main_v63 (F := Ideal) x0 x1 i = ((att P σ (i 0).val (i 1).val (i 2).val : ℝ) : EReal) := by
  have h0 : (i 0).val < 4 := (i 0).isLt
  have h1 : (i 1).val < 2064 := (i 1).isLt
  have h2 : (i 2).val < 1024 := (i 2).isLt
  rw [val_main_v63_apply]
  refine Eq.trans (b := val_main_v62 (F := Ideal) x0 x1 i) rfl ?_
  rw [val_main_v62_apply, val_main_v61_apply, weighed_at P σ x0 x1 hx hs]
  have e0 : (idx_main_v61 (idx_main_v62 i) 0).val = (i 0).val := by
    show (((i 0).val * 2064 + (i 1).val) * 1024 + (i 2).val) / 2113536 = _; omega
  have e4 : (idx_main_v61 (idx_main_v62 i) 4).val = (i 1).val := by
    show (((i 0).val * 2064 + (i 1).val) * 1024 + (i 2).val) / 1024 % 2064 = _; omega
  have e1 : (idx_main_v61 (idx_main_v62 i) 1).val = (i 2).val / 64 / 4 := by
    show (((i 0).val * 2064 + (i 1).val) * 1024 + (i 2).val) / 256 % 4 = _; omega
  have e3 : (idx_main_v61 (idx_main_v62 i) 3).val = (i 2).val / 64 % 4 := by
    show (((i 0).val * 2064 + (i 1).val) * 1024 + (i 2).val) / 64 % 4 = _; omega
  have e2 : (idx_main_v61 (idx_main_v62 i) 2).val = (i 2).val % 64 := by
    show (((i 0).val * 2064 + (i 1).val) * 1024 + (i 2).val) % 64 = _; omega
  rw [e0, e4, e1, e3, e2, show 4 * ((i 2).val / 64 / 4) + (i 2).val / 64 % 4 = (i 2).val / 64 by omega]
  rfl

end Cert.AttnFReferenceIdeal.Math
end
-- ==== Proof.AttnFClaim.lean ====
/- The claims about the attention's forward call. -/
module

public import proofs.«01_k».proof.Defs
public import proofs.«01_k».proof.Proof.Gen.Pre_attnf_finite
public import proofs.«01_k».proof.Proof.Gen.AttnFKernel
public import proofs.«01_k».proof.Proof.Gen.AttnFKernel.Frame
public import proofs.«01_k».proof.Proof.AttnValue
public import proofs.«01_k».proof.Proof.AttnRefSoft

@[expose] public section

set_option maxRecDepth 16384

noncomputable section

open Idealize.ShloMosaic Idealize.SL.Sem Cert.Reals

namespace Cert.Proof.AttnF

/-- What the precondition says: every element of the two arguments is a real number. -/
theorem finite (m : (ℓ : Loc Cert.AttnFKernelIdeal.nD Cert.AttnFKernelIdeal.τ Cert.AttnFKernelIdeal.sig) → Buf (Elt Ideal) ℓ)
    (hpre : Cert.Pre_AttnFKernelIdeal_attnf_finite m) (c : Dev Cert.AttnFKernelIdeal.nD) :
    (∀ i, IsReal (m (c.tc.loc Cert.AttnFKernelIdeal.main_arg0) i)) ∧ (∀ i, IsReal (m (c.tc.loc Cert.AttnFKernelIdeal.main_arg1) i)) := by
  have h := congrFun (hpre c) (fun a => a.elim0)
  obtain ⟨h0, h1⟩ := IntOp.andi_eq_one.1 h
  exact ⟨real_of_all _ _ _ _ _ _ h0, real_of_all _ _ _ _ _ _ h1⟩

theorem frame_ideal : Cert.quiescent_AttnFKernelIdeal := fun m ρ _ => Cert.AttnFKernelIdeal.Gen.frame m ρ

theorem frame_bits : Cert.quiescent_AttnFKernel := fun m ρ _ => Cert.AttnFKernel.Gen.frame m ρ

theorem frame_ideal_pre : Cert.quiescent_AttnFKernelIdeal_pre_attnf_finite := fun m g _ => frame_ideal m g trivial

theorem frame_reference : Cert.quiescent_AttnFReferenceIdeal := fun m ρ _ =>
  (θ_run Cert.AttnFReferenceIdeal.defs _ _).mono (fun r h => ⟨fun c => (h c).2, sem_eq_zero_of_no_sems (by decide) r.2⟩)
    (Cert.AttnFReferenceIdeal.Value.run (F := Ideal) m ρ)

theorem frame_reference_pre : Cert.quiescent_AttnFReferenceIdeal_pre_attnf_finite := fun m g _ => frame_reference m g trivial

/-- The named constant: the mask, minus infinity. -/
theorem preserves : Cert.preserves_AttnFKernel_AttnFKernelIdeal :=
  IdealRules.named_const.statement Cert.AttnFKernelIdeal.κ "mask" .f32 0xF149F2CA#32 ⊥ rfl

open Cert.AttnFReferenceIdeal.Read Cert.AttnFReferenceIdeal.Math Cert.AttnFKernelIdeal.Val in
theorem algebraic : Cert.algebraic_AttnFKernelIdeal_AttnFReferenceIdeal_pre_attnf_finite := by
  pair_intro
  · run_from Cert.AttnFKernelIdeal.Value.run_blocks m g
  · run_from Cert.AttnFReferenceIdeal.Value.run m' g'
    · obtain ⟨f0, f1⟩ := finite m hpre c
      obtain ⟨a0, a1⟩ := hagree c
      refine (val_main_v63_eq m' c).trans ?_
      rw [a0, a1]
      refine Eq.trans (funext fun i => result_at (realP (m (c.tc.loc Cert.AttnFKernelIdeal.main_arg0))) (realS (m (c.tc.loc Cert.AttnFKernelIdeal.main_arg1))) _ _
        (fun j => ?_) (fun j => ?_) i) (final4 m c f0 f1).symm
      · exact (congrArg _ (eq_ix3 j)).trans (realP_coe f0 (j 0) (j 1) (j 2).val (j 2).isLt)
      · exact (congrArg _ (eq_ix1 j)).trans (realS_coe f1 (j 0))

end Cert.Proof.AttnF
end
-- ==== Proof.MixFValue.lean ====
/- The two results of the forward call of the norm before the token mixers, as functions of its arguments. -/
module

public import proofs.«01_k».proof.Proof.Gen.MixFKernelIdeal.Value
public import proofs.«01_k».proof.Proof.Norm
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixFKernelIdeal.Val

open Cert.MixFKernelIdeal Cert.MixFKernelIdeal.Gen Cert.Norm

variable (m : (ℓ : Loc nD τ sig) → Buf (Elt Ideal) ℓ)

/-- The norm of a row. -/
def nrm (x g : Fin 1024 → EReal) (k : Fin 1024) : EReal := x k * rinv x * g k

/-- The rows' norms. -/
def hn (h : FVec Ideal S8256x1024 .f32) (g : FVec Ideal S1x1024 .f32) : FVec Ideal S8256x1024 .bf16 :=
  fun i => nrm (fun k => h (ix2 (i 0) k)) (fun k => g (ix2 0 k)) (i 1)

/-- Their projection. -/
def proj (h : FVec Ideal S8256x1024 .f32) (g : FVec Ideal S1x1024 .f32) (w : FVec Ideal S1024x4096 .f32) : FVec Ideal S8256x4096 .bf16 :=
  fun i => ∑ l : Fin 1024, nrm (fun k => h (ix2 (i 0) k)) (fun k => g (ix2 0 k)) l * w (ix2 l (i 1))

/-- The projection of a block of rows, with the weight in eight groups of columns. -/
def projB (X0 : Vec Ideal S688x1024 .f32) (X1 : Vec Ideal S1x1024 .f32) (X2 : Vec Ideal S8x1024x512 .bf16) (y : S688x4096.Idx) : EReal :=
  ∑ l : Fin 1024, nrm (fun k => X0 (ix2 (y 0) k)) (fun k => X1 (ix2 0 k)) l
    * X2 (ix3 ⟨(y 1).val / 512, by have : (y 1).val < 4096 := (y 1).isLt; omega⟩ l ⟨(y 1).val % 512, Nat.mod_lt _ (by norm_num)⟩)

theorem idx : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, _)

theorem V_w (c : Dev nD) (j : Fin 8) (k : Fin 1024) (l : Fin 512) :
    V m c main_v2 (ix3 j k l) = m ((c : Thread nD τ).loc main_arg2) (ix2 k ⟨j.val * 512 + l.val, by omega⟩) := by
  unfold V
  after_reads_at

theorem weight_apply (c : Dev nD) (t : Fin cfg0.N) (j : Fin 8) (k : Fin 1024) (l : Fin 512) :
    iblk m c 2 t (ix3 j k l) = m ((c : Thread nD τ).loc main_arg2) (ix2 k ⟨j.val * 512 + l.val, by omega⟩) := by
  refine Eq.trans ?_ (V_w m c j k l)
  blk_point [iblk, idx t]

/-- A column of the weight, as a group and a column of the group. -/
theorem col {j : Fin 8} {k : Fin 1024} {l : Fin 512} {n : ℕ} (e : n = j.val * 512 + l.val) (h1 : n / 512 < 8) (h2 : n % 512 < 512) :
    ix3 j k l = ix3 ⟨n / 512, h1⟩ k ⟨n % 512, h2⟩ := by
  subst e
  congr 1 <;> apply Fin.ext <;> simp only [] <;> omega

/-- The rows' norms, whole. -/
theorem final3 (c : Dev nD) : (dats (F := Ideal) m 0 c).arrAt 3 cfg0.N
    = hn (m ((c : Thread nD τ).loc main_arg0)) (m ((c : Thread nD τ).loc main_arg1)) := by
  refine (dats m 0 c).arrAt_eq_of_covers 3 _ (by decide +kernel) fun t _ y => ?_
  blk_simp
  rw [after0_3]
  frame_out
  open_payloads
  pointwise [hn, nrm, rinv, ms]
  blk_point [iblk, V, idx t]

/-- The projection, whole. -/
theorem final4 (c : Dev nD) : (dats (F := Ideal) m 0 c).arrAt 4 cfg0.N
    = proj (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  refine Eq.trans (b := projB (iblk m c 0 t) (iblk m c 1 t) (iblk m c 2 t) y) ?_ ?_
  · generalize iblk m c 0 t = X0
    generalize iblk m c 1 t = X1
    generalize iblk m c 2 t = X2
    canon_tiles x h
    all_goals
      refine Eq.trans ?_ (Cert.Reals.at_coords (projB X0 X1 X2) y (x 0) _ (by have := (x 1).isLt; simp at this; omega) h0 h1)
      open_payloads
      pointwise [projB, nrm, rinv, ms]
      refine Finset.sum_congr rfl fun l _ => congrArg (_ * ·) (congrArg X2 (col ?_ _ _))
      first | rfl | simp
  · refine Finset.sum_congr rfl fun l _ => congrArg₂ (· * ·) ?_ ((weight_apply m c t _ l _).trans ?_)
    · pointwise [nrm, rinv, ms]
      blk_point [iblk, V, idx t]
    · refine congrArg _ (congrArg (ix2 l) (Fin.ext ?_))
      rw [show ((((cfg0.win 4).blk t).view.emb y) 1).val = (y 1).val by blk_point [idx t]]
      exact Nat.div_add_mod' _ _

end Cert.MixFKernelIdeal.Val
end
-- ==== Proof.MixFMath.lean ====
/- The plain norm and projection give the functions of the forward call. -/
module

public import proofs.«01_k».proof.Proof.Gen.MixFReferenceIdeal.Read
public import proofs.«01_k».proof.Proof.MixFValue

@[expose] public section

set_option maxRecDepth 16384

noncomputable section

open Idealize.ShloMosaic

namespace Cert.MixFReferenceIdeal.Math

open Cert.MixFReferenceIdeal Cert.MixFReferenceIdeal.Read

open Cert.MixFKernelIdeal.Val (hn proj nrm)

theorem hn_eq (h : FVec Ideal S8256x1024 .f32) (g : FVec Ideal S1x1024 .f32) : val_main_v14 (F := Ideal) h g = hn h g := by
  rw [← val_main_v14_eq]; funext i
  pointwise [hn, nrm, Norm.rinv, Norm.ms]

theorem proj_eq (h : FVec Ideal S8256x1024 .f32) (g : FVec Ideal S1x1024 .f32) (w : FVec Ideal S1024x4096 .f32) :
    val_main_v16 (F := Ideal) h g w = proj h g w := by
  rw [← val_main_v16_eq]; funext i
  pointwise [proj, nrm, Norm.rinv, Norm.ms]

end Cert.MixFReferenceIdeal.Math
end
-- ==== Proof.MixFClaim.lean ====
/- The value claim about the forward call of the norm before the token mixers. -/
module

public import proofs.«01_k».proof.Defs
public import proofs.«01_k».proof.Proof.MixFValue
public import proofs.«01_k».proof.Proof.MixFMath

@[expose] public section

set_option maxRecDepth 16384

noncomputable section

open Idealize.ShloMosaic Idealize.SL.Sem

namespace Cert.Proof.MixF

theorem frame_reference : Cert.quiescent_MixFReferenceIdeal := fun m ρ _ =>
  (θ_run Cert.MixFReferenceIdeal.defs _ _).mono (fun r h => ⟨fun c => (h c).2.2, sem_eq_zero_of_no_sems (by decide) r.2⟩)
    (Cert.MixFReferenceIdeal.Value.run (F := Ideal) m ρ)

open Cert.MixFReferenceIdeal.Read Cert.MixFReferenceIdeal.Math in
theorem algebraic : Cert.algebraic_MixFKernelIdeal_MixFReferenceIdeal := by
  pair_intro
  · run_from Cert.MixFKernelIdeal.Value.run_blocks m g
  · run_from Cert.MixFReferenceIdeal.Value.run m' g'
    · exact (val_main_v14_eq _ _).trans ((hn_eq _ _).trans (Cert.MixFKernelIdeal.Val.final3 m c).symm)
    · exact (val_main_v16_eq _ _ _).trans ((proj_eq _ _ _).trans (Cert.MixFKernelIdeal.Val.final4 m c).symm)

end Cert.Proof.MixF
end
-- ==== Proof.lean ====
/- The assembly of the claims: each conjunct is a generated frame, or a theorem of the module of its call. -/
module

public import proofs.«01_k».proof.Defs
public import proofs.«01_k».proof.Proof.Gen.GateKernel.Frame
public import proofs.«01_k».proof.Proof.Gen.GateKernelIdeal.Frame
public import proofs.«01_k».proof.Proof.Gen.GateReferenceIdeal
public import proofs.«01_k».proof.Proof.Gen.Pre_gate_finite
public import proofs.«01_k».proof.Proof.GateClaim
public import proofs.«01_k».proof.Proof.Gen.GateKernelIdeal.Value
public import proofs.«01_k».proof.Proof.Gen.GateReferenceIdeal.Read
public import proofs.«01_k».proof.Proof.Gen.MixKernel.Frame
public import proofs.«01_k».proof.Proof.Gen.MixKernelIdeal.Frame
public import proofs.«01_k».proof.Proof.Gen.MixReferenceIdeal
public import proofs.«01_k».proof.Proof.Gen.Pre_mix_finite
public import proofs.«01_k».proof.Proof.MixClaim
public import proofs.«01_k».proof.Proof.Gen.MixKernelIdeal.Value
public import proofs.«01_k».proof.Proof.Gen.MixReferenceIdeal.Read
public import proofs.«01_k».proof.Proof.Gen.FfnInKernel.Frame
public import proofs.«01_k».proof.Proof.Gen.FfnInKernelIdeal.Frame
public import proofs.«01_k».proof.Proof.Gen.FfnInReferenceIdeal
public import proofs.«01_k».proof.Proof.Gen.Pre_ffnin_finite
public import proofs.«01_k».proof.Proof.FfnInClaim
public import proofs.«01_k».proof.Proof.Gen.FfnInKernelIdeal.Value
public import proofs.«01_k».proof.Proof.Gen.FfnInReferenceIdeal.Read
public import proofs.«01_k».proof.Proof.Gen.FfnIn1Kernel.Frame
public import proofs.«01_k».proof.Proof.Gen.FfnIn1KernelIdeal.Frame
public import proofs.«01_k».proof.Proof.Gen.FfnIn1ReferenceIdeal
public import proofs.«01_k».proof.Proof.Gen.Pre_ffnin1_finite
public import proofs.«01_k».proof.Proof.FfnIn1Claim
public import proofs.«01_k».proof.Proof.Gen.FfnIn1KernelIdeal.Value
public import proofs.«01_k».proof.Proof.Gen.FfnIn1ReferenceIdeal.Read
public import proofs.«01_k».proof.Proof.Gen.ParamKernel.Frame
public import proofs.«01_k».proof.Proof.Gen.ParamKernelIdeal.Frame
public import proofs.«01_k».proof.Proof.Gen.ParamReferenceIdeal
public import proofs.«01_k».proof.Proof.Gen.Pre_param_finite
public import proofs.«01_k».proof.Proof.ParamClaim
public import proofs.«01_k».proof.Proof.Gen.ParamKernelIdeal.Value
public import proofs.«01_k».proof.Proof.Gen.ParamReferenceIdeal.Read
public import proofs.«01_k».proof.Proof.Gen.MergeKernel.Frame
public import proofs.«01_k».proof.Proof.Gen.MergeKernelIdeal.Frame
public import proofs.«01_k».proof.Proof.Gen.MergeReferenceIdeal
public import proofs.«01_k».proof.Proof.Gen.Pre_merge_finite
public import proofs.«01_k».proof.Proof.MergeClaim
public import proofs.«01_k».proof.Proof.Gen.MergeReferenceIdeal.Read
public import proofs.«01_k».proof.Proof.Gen.FfnWKernel.Frame
public import proofs.«01_k».proof.Proof.Gen.FfnWKernelIdeal.Frame
public import proofs.«01_k».proof.Proof.Gen.FfnWReferenceIdeal
public import proofs.«01_k».proof.Proof.FfnWClaim
public import proofs.«01_k».proof.Proof.Gen.FfnWKernelIdeal.Value
public import proofs.«01_k».proof.Proof.Gen.FfnWReferenceIdeal.Read
public import proofs.«01_k».proof.Proof.Gen.LossKernel
public import proofs.«01_k».proof.Proof.Gen.LossKernelIdeal
public import proofs.«01_k».proof.Proof.Gen.LossReferenceIdeal
public import proofs.«01_k».proof.Proof.Gen.Pre_loss_finite
public import proofs.«01_k».proof.Proof.LossClaim
public import proofs.«01_k».proof.Proof.Gen.LossReferenceIdeal.Read
public import proofs.«01_k».proof.Proof.Gen.AttnFKernel.Frame
public import proofs.«01_k».proof.Proof.Gen.AttnFKernelIdeal.Frame
public import proofs.«01_k».proof.Proof.Gen.AttnFReferenceIdeal
public import proofs.«01_k».proof.Proof.Gen.Pre_attnf_finite
public import proofs.«01_k».proof.Proof.AttnFClaim
public import proofs.«01_k».proof.Proof.Gen.AttnFKernelIdeal.Value
public import proofs.«01_k».proof.Proof.Gen.AttnFReferenceIdeal.Read
public import proofs.«01_k».proof.Proof.Gen.MixFKernel.Frame
public import proofs.«01_k».proof.Proof.Gen.MixFKernelIdeal.Frame
public import proofs.«01_k».proof.Proof.Gen.MixFReferenceIdeal
public import proofs.«01_k».proof.Proof.MixFClaim
public import proofs.«01_k».proof.Proof.Gen.MixFKernelIdeal.Value
public import proofs.«01_k».proof.Proof.Gen.MixFReferenceIdeal.Read

@[expose] public section

noncomputable section

namespace Cert.Proof

open Idealize.ShloMosaic Idealize.SL.Sem

theorem claim : Cert.Claim := ⟨Cert.GateKernel.Gen.facts,
  Cert.GateKernelIdeal.Gen.facts,
  Cert.GateReferenceIdeal.Gen.facts,
  Cert.MixKernel.Gen.facts,
  Cert.MixKernelIdeal.Gen.facts,
  Cert.MixReferenceIdeal.Gen.facts,
  Cert.FfnInKernel.Gen.facts,
  Cert.FfnInKernelIdeal.Gen.facts,
  Cert.FfnInReferenceIdeal.Gen.facts,
  Cert.FfnIn1Kernel.Gen.facts,
  Cert.FfnIn1KernelIdeal.Gen.facts,
  Cert.FfnIn1ReferenceIdeal.Gen.facts,
  Cert.ParamKernel.Gen.facts,
  Cert.ParamKernelIdeal.Gen.facts,
  Cert.ParamReferenceIdeal.Gen.facts,
  Cert.MergeKernel.Gen.facts,
  Cert.MergeKernelIdeal.Gen.facts,
  Cert.MergeReferenceIdeal.Gen.facts,
  Cert.LossKernel.Gen.facts,
  Cert.LossKernelIdeal.Gen.facts,
  Cert.LossReferenceIdeal.Gen.facts,
  Cert.FfnWKernel.Gen.facts,
  Cert.FfnWKernelIdeal.Gen.facts,
  Cert.FfnWReferenceIdeal.Gen.facts,
  Cert.AttnFKernel.Gen.facts,
  Cert.AttnFKernelIdeal.Gen.facts,
  Cert.AttnFReferenceIdeal.Gen.facts,
  Cert.MixFKernel.Gen.facts,
  Cert.MixFKernelIdeal.Gen.facts,
  Cert.MixFReferenceIdeal.Gen.facts,
  Cert.Pre_gate_finite.Gen.facts,
  Cert.Pre_mix_finite.Gen.facts,
  Cert.Pre_ffnin_finite.Gen.facts,
  Cert.Pre_ffnin1_finite.Gen.facts,
  Cert.Pre_param_finite.Gen.facts,
  Cert.Pre_merge_finite.Gen.facts,
  Cert.Pre_loss_finite.Gen.facts,
  Cert.Pre_attnf_finite.Gen.facts,
  fun m ρ _ => Cert.GateKernel.Gen.frame m ρ,
  fun m ρ _ => Cert.GateKernelIdeal.Gen.frame m ρ,
  fun m ρ _ => Cert.GateKernelIdeal.Gen.frame m ρ,
  Gate.frame_reference,
  Gate.frame_reference_pre,
  fun m ρ _ => Cert.MixKernel.Gen.frame m ρ,
  fun m ρ _ => Cert.MixKernelIdeal.Gen.frame m ρ,
  fun m ρ _ => Cert.MixKernelIdeal.Gen.frame m ρ,
  Mix.frame_reference,
  Mix.frame_reference_pre,
  fun m ρ _ => Cert.FfnInKernel.Gen.frame m ρ,
  fun m ρ _ => Cert.FfnInKernelIdeal.Gen.frame m ρ,
  fun m ρ _ => Cert.FfnInKernelIdeal.Gen.frame m ρ,
  FfnIn.frame_reference,
  FfnIn.frame_reference_pre,
  fun m ρ _ => Cert.FfnIn1Kernel.Gen.frame m ρ,
  fun m ρ _ => Cert.FfnIn1KernelIdeal.Gen.frame m ρ,
  fun m ρ _ => Cert.FfnIn1KernelIdeal.Gen.frame m ρ,
  FfnIn1.frame_reference,
  FfnIn1.frame_reference_pre,
  fun m ρ _ => Cert.ParamKernel.Gen.frame m ρ,
  fun m ρ _ => Cert.ParamKernelIdeal.Gen.frame m ρ,
  fun m ρ _ => Cert.ParamKernelIdeal.Gen.frame m ρ,
  Param.frame_reference,
  Param.frame_reference_pre,
  fun m ρ _ => Cert.MergeKernel.Gen.frame m ρ,
  fun m ρ _ => Cert.MergeKernelIdeal.Gen.frame m ρ,
  fun m ρ _ => Cert.MergeKernelIdeal.Gen.frame m ρ,
  Merge.frame_reference,
  Merge.frame_reference_pre,
  fun m ρ _ => Loss.frame_bits m ρ trivial,
  fun m ρ _ => Loss.frame_ideal m ρ trivial,
  fun m ρ _ => Loss.frame_ideal m ρ trivial,
  Loss.frame_reference,
  Loss.frame_reference_pre,
  fun m ρ _ => Cert.FfnWKernel.Gen.frame m ρ,
  fun m ρ _ => Cert.FfnWKernelIdeal.Gen.frame m ρ,
  FfnW.frame_reference,
  fun m ρ _ => Cert.AttnFKernel.Gen.frame m ρ,
  fun m ρ _ => Cert.AttnFKernelIdeal.Gen.frame m ρ,
  fun m ρ _ => Cert.AttnFKernelIdeal.Gen.frame m ρ,
  AttnF.frame_reference,
  AttnF.frame_reference_pre,
  fun m ρ _ => Cert.MixFKernel.Gen.frame m ρ,
  fun m ρ _ => Cert.MixFKernelIdeal.Gen.frame m ρ,
  MixF.frame_reference,
  trivial,
  Gate.algebraic,
  trivial,
  Mix.algebraic,
  trivial,
  FfnIn.algebraic,
  trivial,
  FfnIn1.algebraic,
  trivial,
  Param.algebraic,
  Merge.preserves,
  Merge.algebraic,
  trivial,
  Loss.algebraic,
  trivial,
  FfnW.algebraic,
  AttnF.preserves,
  AttnF.algebraic,
  trivial,
  MixF.algebraic⟩

end Cert.Proof

end
